-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_in_order [hPre_in_order : Cert.Pre_in_order.Facts] (m : (ℓ : Loc Cert.GatesIdeal.nD Cert.GatesIdeal.τ Cert.GatesIdeal.sig) → Buf (Elt Ideal) ℓ) : Prop :=
  ∀ c : Dev Cert.GatesIdeal.nD,
    (Cert.Pre_in_order.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2))) = (fun _ => 1#1)

def Pre_LastLogScaleIdeal (m : (ℓ : Loc Cert.LastLogScaleIdeal.nD Cert.LastLogScaleIdeal.τ Cert.LastLogScaleIdeal.sig) → Buf (Elt Ideal) ℓ) : Prop :=
  True

def Pre_LastLogScaleIdeal_in_order [hPre_in_order : Cert.Pre_in_order.Facts] (m : (ℓ : Loc Cert.LastLogScaleIdeal.nD Cert.LastLogScaleIdeal.τ Cert.LastLogScaleIdeal.sig) → Buf (Elt Ideal) ℓ) : Prop :=
  ∀ c : Dev Cert.LastLogScaleIdeal.nD,
    (Cert.Pre_in_order.fn (F := Ideal) (m ((c.tc : Thread Cert.LastLogScaleIdeal.nD Cert.LastLogScaleIdeal.τ).loc Cert.LastLogScaleIdeal.main_arg0)) (m ((c.tc : Thread Cert.LastLogScaleIdeal.nD Cert.LastLogScaleIdeal.τ).loc Cert.LastLogScaleIdeal.main_arg1)) (m ((c.tc : Thread Cert.LastLogScaleIdeal.nD Cert.LastLogScaleIdeal.τ).loc Cert.LastLogScaleIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesIdeal_pre_in_order [hGatesIdeal : Cert.GatesIdeal.Facts] [hPre_in_order : Cert.Pre_in_order.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_in_order m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_LastLogScaleIdeal [hLastLogScaleIdeal : Cert.LastLogScaleIdeal.Facts] : Prop :=
  ∀ (m : (ℓ : Loc Cert.LastLogScaleIdeal.nD Cert.LastLogScaleIdeal.τ Cert.LastLogScaleIdeal.sig) → Buf (Elt Ideal) ℓ) (g : Dev Cert.LastLogScaleIdeal.nD → PrngReg), Pre_LastLogScaleIdeal m →
    θ_run (Cert.LastLogScaleIdeal.defs (F := Ideal)) (onTc (τ := Cert.LastLogScaleIdeal.τ) (Cert.LastLogScaleIdeal.main (F := Ideal))) ⟨m, fun _ => 0, g⟩ (fun r => (∀ c : Dev Cert.LastLogScaleIdeal.nD,
      r.2.mem ((c.tc : Thread Cert.LastLogScaleIdeal.nD Cert.LastLogScaleIdeal.τ).loc Cert.LastLogScaleIdeal.main_arg0) = m ((c.tc : Thread Cert.LastLogScaleIdeal.nD Cert.LastLogScaleIdeal.τ).loc Cert.LastLogScaleIdeal.main_arg0)
      ∧ r.2.mem ((c.tc : Thread Cert.LastLogScaleIdeal.nD Cert.LastLogScaleIdeal.τ).loc Cert.LastLogScaleIdeal.main_arg1) = m ((c.tc : Thread Cert.LastLogScaleIdeal.nD Cert.LastLogScaleIdeal.τ).loc Cert.LastLogScaleIdeal.main_arg1)
      ∧ r.2.mem ((c.tc : Thread Cert.LastLogScaleIdeal.nD Cert.LastLogScaleIdeal.τ).loc Cert.LastLogScaleIdeal.main_arg2) = m ((c.tc : Thread Cert.LastLogScaleIdeal.nD Cert.LastLogScaleIdeal.τ).loc Cert.LastLogScaleIdeal.main_arg2))
      ∧ r.2.sem = fun _ => 0)

def quiescent_LastLogScaleIdeal_pre_in_order [hLastLogScaleIdeal : Cert.LastLogScaleIdeal.Facts] [hPre_in_order : Cert.Pre_in_order.Facts] : Prop :=
  ∀ (m : (ℓ : Loc Cert.LastLogScaleIdeal.nD Cert.LastLogScaleIdeal.τ Cert.LastLogScaleIdeal.sig) → Buf (Elt Ideal) ℓ) (g : Dev Cert.LastLogScaleIdeal.nD → PrngReg), Pre_LastLogScaleIdeal_in_order m →
    θ_run (Cert.LastLogScaleIdeal.defs (F := Ideal)) (onTc (τ := Cert.LastLogScaleIdeal.τ) (Cert.LastLogScaleIdeal.main (F := Ideal))) ⟨m, fun _ => 0, g⟩ (fun r => (∀ c : Dev Cert.LastLogScaleIdeal.nD,
      r.2.mem ((c.tc : Thread Cert.LastLogScaleIdeal.nD Cert.LastLogScaleIdeal.τ).loc Cert.LastLogScaleIdeal.main_arg0) = m ((c.tc : Thread Cert.LastLogScaleIdeal.nD Cert.LastLogScaleIdeal.τ).loc Cert.LastLogScaleIdeal.main_arg0)
      ∧ r.2.mem ((c.tc : Thread Cert.LastLogScaleIdeal.nD Cert.LastLogScaleIdeal.τ).loc Cert.LastLogScaleIdeal.main_arg1) = m ((c.tc : Thread Cert.LastLogScaleIdeal.nD Cert.LastLogScaleIdeal.τ).loc Cert.LastLogScaleIdeal.main_arg1)
      ∧ r.2.mem ((c.tc : Thread Cert.LastLogScaleIdeal.nD Cert.LastLogScaleIdeal.τ).loc Cert.LastLogScaleIdeal.main_arg2) = m ((c.tc : Thread Cert.LastLogScaleIdeal.nD Cert.LastLogScaleIdeal.τ).loc Cert.LastLogScaleIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v112_17) = v1 c
          ∧ r.2.mem ((c.tc : Thread Cert.ReferenceIdeal.nD Cert.ReferenceIdeal.τ).loc Cert.ReferenceIdeal.main_v112_18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Gates_GatesIdeal : Prop :=
  True

def algebraic_GatesIdeal_LastLogScaleIdeal_pre_in_order [hGatesIdeal : Cert.GatesIdeal.Facts] [hLastLogScaleIdeal : Cert.LastLogScaleIdeal.Facts] [hPre_in_order : Cert.Pre_in_order.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.LastLogScaleIdeal.nD Cert.LastLogScaleIdeal.τ Cert.LastLogScaleIdeal.sig) → Buf (Elt Ideal) ℓ) (g' : Dev Cert.LastLogScaleIdeal.nD → PrngReg), Pre_GatesIdeal_in_order m →
    (∀ c : Dev Cert.GatesIdeal.nD,
      m' ((c.tc : Thread Cert.LastLogScaleIdeal.nD Cert.LastLogScaleIdeal.τ).loc Cert.LastLogScaleIdeal.main_arg0) = m ((c.tc : Thread Cert.GatesIdeal.nD Cert.GatesIdeal.τ).loc Cert.GatesIdeal.main_arg0)
      ∧ m' ((c.tc : Thread Cert.LastLogScaleIdeal.nD Cert.LastLogScaleIdeal.τ).loc Cert.LastLogScaleIdeal.main_arg1) = m ((c.tc : Thread Cert.GatesIdeal.nD Cert.GatesIdeal.τ).loc Cert.GatesIdeal.main_arg1)
      ∧ m' ((c.tc : Thread Cert.LastLogScaleIdeal.nD Cert.LastLogScaleIdeal.τ).loc Cert.LastLogScaleIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.LastLogScaleIdeal.defs (F := Ideal)) (onTc (τ := Cert.LastLogScaleIdeal.τ) (Cert.LastLogScaleIdeal.main (F := Ideal))) ⟨m', fun _ => 0, g'⟩ (fun r => ∀ c : Dev Cert.LastLogScaleIdeal.nD,
          r.2.mem ((c.tc : Thread Cert.LastLogScaleIdeal.nD Cert.LastLogScaleIdeal.τ).loc Cert.LastLogScaleIdeal.main_v34_4) = v0 c
          ∧ r.2.mem ((c.tc : Thread Cert.LastLogScaleIdeal.nD Cert.LastLogScaleIdeal.τ).loc Cert.LastLogScaleIdeal.main_arg0) = m' ((c.tc : Thread Cert.LastLogScaleIdeal.nD Cert.LastLogScaleIdeal.τ).loc Cert.LastLogScaleIdeal.main_arg0)
          ∧ r.2.mem ((c.tc : Thread Cert.LastLogScaleIdeal.nD Cert.LastLogScaleIdeal.τ).loc Cert.LastLogScaleIdeal.main_arg1) = m' ((c.tc : Thread Cert.LastLogScaleIdeal.nD Cert.LastLogScaleIdeal.τ).loc Cert.LastLogScaleIdeal.main_arg1)
          ∧ r.2.mem ((c.tc : Thread Cert.LastLogScaleIdeal.nD Cert.LastLogScaleIdeal.τ).loc Cert.LastLogScaleIdeal.main_arg2) = m' ((c.tc : Thread Cert.LastLogScaleIdeal.nD Cert.LastLogScaleIdeal.τ).loc Cert.LastLogScaleIdeal.main_arg2))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hLastLogScaleIdeal : Cert.LastLogScaleIdeal.Facts) (hPre_finite : Cert.Pre_finite.Facts) (hPre_in_order : Cert.Pre_in_order.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gates (hGates := hGates)
    ∧ quiescent_GatesIdeal (hGatesIdeal := hGatesIdeal)
    ∧ quiescent_GatesIdeal_pre_in_order (hGatesIdeal := hGatesIdeal) (hPre_in_order := hPre_in_order)
    ∧ quiescent_LastLogScaleIdeal (hLastLogScaleIdeal := hLastLogScaleIdeal)
    ∧ quiescent_LastLogScaleIdeal_pre_in_order (hLastLogScaleIdeal := hLastLogScaleIdeal) (hPre_in_order := hPre_in_order)
    ∧ preserves_Kernel_KernelIdeal
    ∧ algebraic_KernelIdeal_ReferenceIdeal_pre_finite (hKernelIdeal := hKernelIdeal) (hReferenceIdeal := hReferenceIdeal) (hPre_finite := hPre_finite)
    ∧ preserves_Gates_GatesIdeal
    ∧ algebraic_GatesIdeal_LastLogScaleIdeal_pre_in_order (hGatesIdeal := hGatesIdeal) (hLastLogScaleIdeal := hLastLogScaleIdeal) (hPre_in_order := hPre_in_order)
-- ==== Pre_finite.lean ====
abbrev S12x4x2048x96 : Shape := ⟨4, ![12, 4, 2048, 96]⟩
abbrev S12x4x2048x192 : Shape := ⟨4, ![12, 4, 2048, 192]⟩
abbrev S12x4x32 : Shape := ⟨3, ![12, 4, 32]⟩
abbrev S12x4x2048 : Shape := ⟨3, ![12, 4, 2048]⟩
abbrev S_ : Shape := ⟨0, ![]⟩

class Facts : Prop where
  natLt_8_32 : 8 < 32
  bcast_S_S12x4x2048x96 : S_.BroadcastsInDim S12x4x2048x96 (![] : Fin 0 → Fin S12x4x2048x96.rank)
  reducesTo_S12x4x2048x96_S_d0_1_2_3 : S12x4x2048x96.ReducesTo [0, 1, 2, 3] S_
  h_S_ : 0 < S_.numel
  bcast_S_S12x4x2048x192 : S_.BroadcastsInDim S12x4x2048x192 (![] : Fin 0 → Fin S12x4x2048x192.rank)
  reducesTo_S12x4x2048x192_S_d0_1_2_3 : S12x4x2048x192.ReducesTo [0, 1, 2, 3] S_
  bcast_S_S12x4x32 : S_.BroadcastsInDim S12x4x32 (![] : Fin 0 → Fin S12x4x32.rank)
  reducesTo_S12x4x32_S_d0_1_2 : S12x4x32.ReducesTo [0, 1, 2] S_
  bcast_S_S12x4x2048 : S_.BroadcastsInDim S12x4x2048 (![] : Fin 0 → Fin S12x4x2048.rank)
  reducesTo_S12x4x2048_S_d0_1_2 : S12x4x2048.ReducesTo [0, 1, 2] S_

variable [Facts]

def fn_part2 {F : FTy → Type} [FloatOps F] (main_arg8 : FVec F S12x4x2048 .f32) (main_v32 : IVec S_ 1) (main_v33 : FVec F S12x4x32 .f32) : IVec S_ 1 :=
  let main_cst_12 : FVec F S_ .f32 := constant S_ .f32 0x7F800000#32
  let main_v34 : FVec F S12x4x32 .f32 := broadcastInDim S12x4x32 ![] bcast_S_S12x4x32 main_cst_12
  let main_v35 : IVec S12x4x32 1 := cmpf .olt main_v33 main_v34
  let main_c_13 : IVec S_ 1 := constantI S_ 1 1#1
  let main_v36 : IVec S_ 1 := (fun x v => Host.reduce IntOp.andi x v reducesTo_S12x4x32_S_d0_1_2 h_S_) main_v35 main_c_13
  let main_v37 : IVec S_ 1 := andi main_v32 main_v36
  let main_cst_14 : FVec F S_ .f32 := constant S_ .f32 0x43000000#32
  let main_v38 : FVec F S12x4x2048 .f32 := broadcastInDim S12x4x2048 ![] bcast_S_S12x4x2048 main_cst_14
  let main_v39 : IVec S12x4x2048 1 := cmpf .olt main_arg8 main_v38
  let main_c_15 : IVec S_ 1 := constantI S_ 1 1#1
  let main_v40 : IVec S_ 1 := (fun x v => Host.reduce IntOp.andi x v reducesTo_S12x4x2048_S_d0_1_2 h_S_) main_v39 main_c_15
  let main_v41 : IVec S_ 1 := andi main_v37 main_v40
  main_v41

def fn_part1 {F : FTy → Type} [FloatOps F] (main_arg5 : FVec F S12x4x32 .f32) (main_arg8 : FVec F S12x4x2048 .f32) (main_arg9 : FVec F S12x4x2048 .f32) (main_arg12 : FVec F S12x4x32 .f32) (main_arg13 : FVec F S12x4x32 .f32) (main_v12 : IVec S_ 1) (main_v15 : IVec S12x4x32 1) (main_c_5 : IVec S_ 1) : IVec S_ 1 :=
  let main_v16 : IVec S_ 1 := (fun x v => Host.reduce IntOp.andi x v reducesTo_S12x4x32_S_d0_1_2 h_S_) main_v15 main_c_5
  let main_v17 : IVec S_ 1 := andi main_v12 main_v16
  let main_v18 : FVec F S12x4x32 .f32 := Host.absf main_arg5
  let main_cst_6 : FVec F S_ .f32 := constant S_ .f32 0x7F800000#32
  let main_v19 : FVec F S12x4x32 .f32 := broadcastInDim S12x4x32 ![] bcast_S_S12x4x32 main_cst_6
  let main_v20 : IVec S12x4x32 1 := cmpf .olt main_v18 main_v19
  let main_c_7 : IVec S_ 1 := constantI S_ 1 1#1
  let main_v21 : IVec S_ 1 := (fun x v => Host.reduce IntOp.andi x v reducesTo_S12x4x32_S_d0_1_2 h_S_) main_v20 main_c_7
  let main_v22 : IVec S_ 1 := andi main_v17 main_v21
  let main_v23 : FVec F S12x4x2048 .f32 := Host.absf main_arg9
  let main_cst_8 : FVec F S_ .f32 := constant S_ .f32 0x7F800000#32
  let main_v24 : FVec F S12x4x2048 .f32 := broadcastInDim S12x4x2048 ![] bcast_S_S12x4x2048 main_cst_8
  let main_v25 : IVec S12x4x2048 1 := cmpf .olt main_v23 main_v24
  let main_c_9 : IVec S_ 1 := constantI S_ 1 1#1
  let main_v26 : IVec S_ 1 := (fun x v => Host.reduce IntOp.andi x v reducesTo_S12x4x2048_S_d0_1_2 h_S_) main_v25 main_c_9
  let main_v27 : IVec S_ 1 := andi main_v22 main_v26
  let main_v28 : FVec F S12x4x32 .f32 := Host.absf main_arg12
  let main_cst_10 : FVec F S_ .f32 := constant S_ .f32 0x7F800000#32
  let main_v29 : FVec F S12x4x32 .f32 := broadcastInDim S12x4x32 ![] bcast_S_S12x4x32 main_cst_10
  let main_v30 : IVec S12x4x32 1 := cmpf .olt main_v28 main_v29
  let main_c_11 : IVec S_ 1 := constantI S_ 1 1#1
  let main_v31 : IVec S_ 1 := (fun x v => Host.reduce IntOp.andi x v reducesTo_S12x4x32_S_d0_1_2 h_S_) main_v30 main_c_11
  let main_v32 : IVec S_ 1 := andi main_v27 main_v31
  let main_v33 : FVec F S12x4x32 .f32 := Host.absf main_arg13
  fn_part2 (F := F) main_arg8 main_v32 main_v33

def fn {F : FTy → Type} [FloatOps F] (main_arg0 : IVec S12x4x2048x96 8) (main_arg1 : IVec S12x4x2048x96 8) (main_arg2 : IVec S12x4x2048x192 8) (main_arg3 : FVec F S12x4x32 .f32) (main_arg4 : FVec F S12x4x32 .f32) (main_arg5 : FVec F S12x4x32 .f32) (main_arg6 : FVec F S12x4x2048 .f32) (main_arg7 : FVec F S12x4x2048 .f32) (main_arg8 : FVec F S12x4x2048 .f32) (main_arg9 : FVec F S12x4x2048 .f32) (main_arg10 : FVec F S12x4x2048 .f32) (main_arg11 : FVec F S12x4x2048 .f32) (main_arg12 : FVec F S12x4x32 .f32) (main_arg13 : FVec F S12x4x32 .f32) : IVec S_ 1 :=
  let main_v0 : IVec S12x4x2048x96 32 := (extui 32 · natLt_8_32) main_arg1
  let main_c : IVec S_ 32 := constantI S_ 32 127#32
  let main_v1 : IVec S12x4x2048x96 32 := broadcastInDim S12x4x2048x96 ![] bcast_S_S12x4x2048x96 main_c
  let main_v2 : IVec S12x4x2048x96 32 := andi main_v0 main_v1
  let main_c_0 : IVec S_ 32 := constantI S_ 32 127#32
  let main_v3 : IVec S12x4x2048x96 32 := broadcastInDim S12x4x2048x96 ![] bcast_S_S12x4x2048x96 main_c_0
  let main_v4 : IVec S12x4x2048x96 1 := cmpi .ne main_v2 main_v3
  let main_c_1 : IVec S_ 1 := constantI S_ 1 1#1
  let main_v5 : IVec S_ 1 := (fun x v => Host.reduce IntOp.andi x v reducesTo_S12x4x2048x96_S_d0_1_2_3 h_S_) main_v4 main_c_1
  let main_v6 : IVec S12x4x2048x192 32 := (extui 32 · natLt_8_32) main_arg2
  let main_c_2 : IVec S_ 32 := constantI S_ 32 127#32
  let main_v7 : IVec S12x4x2048x192 32 := broadcastInDim S12x4x2048x192 ![] bcast_S_S12x4x2048x192 main_c_2
  let main_v8 : IVec S12x4x2048x192 32 := andi main_v6 main_v7
  let main_c_3 : IVec S_ 32 := constantI S_ 32 127#32
  let main_v9 : IVec S12x4x2048x192 32 := broadcastInDim S12x4x2048x192 ![] bcast_S_S12x4x2048x192 main_c_3
  let main_v10 : IVec S12x4x2048x192 1 := cmpi .ne main_v8 main_v9
  let main_c_4 : IVec S_ 1 := constantI S_ 1 1#1
  let main_v11 : IVec S_ 1 := (fun x v => Host.reduce IntOp.andi x v reducesTo_S12x4x2048x192_S_d0_1_2_3 h_S_) main_v10 main_c_4
  let main_v12 : IVec S_ 1 := andi main_v5 main_v11
  let main_v13 : FVec F S12x4x32 .f32 := Host.absf main_arg4
  let main_cst : FVec F S_ .f32 := constant S_ .f32 0x7F800000#32
  let main_v14 : FVec F S12x4x32 .f32 := broadcastInDim S12x4x32 ![] bcast_S_S12x4x32 main_cst
  let main_v15 : IVec S12x4x32 1 := cmpf .olt main_v13 main_v14
  let main_c_5 : IVec S_ 1 := constantI S_ 1 1#1
  fn_part1 (F := F) main_arg5 main_arg8 main_arg9 main_arg12 main_arg13 main_v12 main_v15 main_c_5
-- ==== Pre_in_order.lean ====
abbrev S12x4x2048 : Shape := ⟨3, ![12, 4, 2048]⟩
abbrev S12x2048 : Shape := ⟨2, ![12, 2048]⟩
abbrev S12x2047 : Shape := ⟨2, ![12, 2047]⟩
abbrev S_ : Shape := ⟨0, ![]⟩

class Facts : Prop where
  slices_S12x2048_S12x2047_0_1 : S12x2048.Slices ![0, 1] S12x2047
  slices_S12x2048_S12x2047_0_0 : S12x2048.Slices ![0, 0] S12x2047
  reducesTo_S12x2047_S_d0_1 : S12x2047.ReducesTo [0, 1] S_
  h_S_ : 0 < S_.numel

variable [Facts]

def fn {F : FTy → Type} [FloatOps F] (main_arg0 : FVec F S12x4x2048 .f32) (main_arg1 : FVec F S12x4x2048 .f32) (main_arg2 : IVec S12x2048 32) : IVec S_ 1 :=
  let main_v0 : IVec S12x2047 32 := (extractStridedSlice S12x2047 ![0, 1] · slices_S12x2048_S12x2047_0_1) main_arg2
  let main_v1 : IVec S12x2047 32 := (extractStridedSlice S12x2047 ![0, 0] · slices_S12x2048_S12x2047_0_0) main_arg2
  let main_v2 : IVec S12x2047 1 := cmpi .sge main_v0 main_v1
  let main_c : IVec S_ 1 := constantI S_ 1 1#1
  let main_v3 : IVec S_ 1 := (fun x v => Host.reduce IntOp.andi x v reducesTo_S12x2047_S_d0_1 h_S_) main_v2 main_c
  main_v3
-- ==== Kernel.lean ====
abbrev S12x4x2048x96 : Shape := ⟨4, ![12, 4, 2048, 96]⟩
abbrev S12x4x2048x192 : Shape := ⟨4, ![12, 4, 2048, 192]⟩
abbrev S12x4x32 : Shape := ⟨3, ![12, 4, 32]⟩
abbrev S12x4x2048 : Shape := ⟨3, ![12, 4, 2048]⟩
abbrev S_ : Shape := ⟨0, ![]⟩
abbrev S12x4x32x64 : Shape := ⟨4, ![12, 4, 32, 64]⟩
abbrev S12x8x2048 : Shape := ⟨3, ![12, 8, 2048]⟩
abbrev S12x12x2048 : Shape := ⟨3, ![12, 12, 2048]⟩
abbrev S12x16x2048 : Shape := ⟨3, ![12, 16, 2048]⟩
abbrev S12x32x4x128 : Shape := ⟨4, ![12, 32, 4, 128]⟩
abbrev S12x32x8x128 : Shape := ⟨4, ![12, 32, 8, 128]⟩
abbrev S12x32x16x128 : Shape := ⟨4, ![12, 32, 16, 128]⟩
abbrev S12x4x96x192 : Shape := ⟨4, ![12, 4, 96, 192]⟩
abbrev S12x4x96 : Shape := ⟨3, ![12, 4, 96]⟩
abbrev S1x4x2048x96 : Shape := ⟨4, ![1, 4, 2048, 96]⟩
abbrev S1x4x2048x192 : Shape := ⟨4, ![1, 4, 2048, 192]⟩
abbrev S1x4x96x192 : Shape := ⟨4, ![1, 4, 96, 192]⟩
abbrev S1x4x96 : Shape := ⟨3, ![1, 4, 96]⟩
abbrev S4x96x256 : Shape := ⟨3, ![4, 96, 256]⟩
abbrev S64x128 : Shape := ⟨2, ![64, 128]⟩
abbrev S96x96 : Shape := ⟨2, ![96, 96]⟩
abbrev S96x128 : Shape := ⟨2, ![96, 128]⟩
abbrev S1x16x128 : Shape := ⟨3, ![1, 16, 128]⟩
abbrev S16x128 : Shape := ⟨2, ![16, 128]⟩
abbrev S128x16 : Shape := ⟨2, ![128, 16]⟩
abbrev S1x1x128x96 : Shape := ⟨4, ![1, 1, 128, 96]⟩
abbrev S128x96 : Shape := ⟨2, ![128, 96]⟩
abbrev S1x1x128x192 : Shape := ⟨4, ![1, 1, 128, 192]⟩
abbrev S128x192 : Shape := ⟨2, ![128, 192]⟩
abbrev S224x96 : Shape := ⟨2, ![224, 96]⟩
abbrev S224x128 : Shape := ⟨2, ![224, 128]⟩
abbrev S1x1x128 : Shape := ⟨3, ![1, 1, 128]⟩
abbrev S1x128 : Shape := ⟨2, ![1, 128]⟩
abbrev S128x1 : Shape := ⟨2, ![128, 1]⟩
abbrev S64x1 : Shape := ⟨2, ![64, 1]⟩
abbrev S64x192 : Shape := ⟨2, ![64, 192]⟩
abbrev S64x32 : Shape := ⟨2, ![64, 32]⟩
abbrev S32x256 : Shape := ⟨2, ![32, 256]⟩
abbrev S64 : Shape := ⟨1, ![64]⟩
abbrev S96x192 : Shape := ⟨2, ![96, 192]⟩
abbrev S96 : Shape := ⟨1, ![96]⟩
abbrev S96x1 : Shape := ⟨2, ![96, 1]⟩
abbrev S1x96x256 : Shape := ⟨3, ![1, 96, 256]⟩
abbrev S96x256 : Shape := ⟨2, ![96, 256]⟩
abbrev S64x96 : Shape := ⟨2, ![64, 96]⟩
abbrev S64x384 : Shape := ⟨2, ![64, 384]⟩
abbrev S384x256 : Shape := ⟨2, ![384, 256]⟩
abbrev S64x256 : Shape := ⟨2, ![64, 256]⟩
abbrev S1x1x1x1 : Shape := ⟨4, ![1, 1, 1, 1]⟩
abbrev S1x1 : Shape := ⟨2, ![1, 1]⟩
abbrev S1x1x64x192 : Shape := ⟨4, ![1, 1, 64, 192]⟩
abbrev S1x1x1x128 : Shape := ⟨4, ![1, 1, 1, 128]⟩
abbrev S1x96x128 : Shape := ⟨3, ![1, 96, 128]⟩
abbrev S96x64 : Shape := ⟨2, ![96, 64]⟩
abbrev S1x96x192 : Shape := ⟨3, ![1, 96, 192]⟩
abbrev S1x1x96x192 : Shape := ⟨4, ![1, 1, 96, 192]⟩
abbrev S1x96 : Shape := ⟨2, ![1, 96]⟩
abbrev S1x1x96 : Shape := ⟨3, ![1, 1, 96]⟩

abbrev nBuf : Space → Nat
  | .hbm => 46
  | .vmem => 16
  | .smem => 0
  | _ => 0

abbrev bufTy : (tb : Table) → Fin (tcTables nBuf tb) → BufTy
  | .hbm, ⟨0, _⟩ => ⟨S12x4x2048x96, .i8⟩
  | .hbm, ⟨1, _⟩ => ⟨S12x4x2048x96, .i8⟩
  | .hbm, ⟨2, _⟩ => ⟨S12x4x2048x192, .i8⟩
  | .hbm, ⟨3, _⟩ => ⟨S12x4x32, .f32⟩
  | .hbm, ⟨4, _⟩ => ⟨S12x4x32, .f32⟩
  | .hbm, ⟨5, _⟩ => ⟨S12x4x32, .f32⟩
  | .hbm, ⟨6, _⟩ => ⟨S12x4x2048, .f32⟩
  | .hbm, ⟨7, _⟩ => ⟨S12x4x2048, .f32⟩
  | .hbm, ⟨8, _⟩ => ⟨S12x4x2048, .f32⟩
  | .hbm, ⟨9, _⟩ => ⟨S12x4x2048, .f32⟩
  | .hbm, ⟨10, _⟩ => ⟨S12x4x2048, .f32⟩
  | .hbm, ⟨11, _⟩ => ⟨S12x4x2048, .f32⟩
  | .hbm, ⟨12, _⟩ => ⟨S12x4x32, .f32⟩
  | .hbm, ⟨13, _⟩ => ⟨S12x4x32, .f32⟩
  | .hbm, ⟨14, _⟩ => ⟨S12x4x2048x96, .fp8e4m3⟩
  | .hbm, ⟨15, _⟩ => ⟨S12x4x2048x96, .fp8e4m3⟩
  | .hbm, ⟨16, _⟩ => ⟨S12x4x2048x192, .fp8e4m3⟩
  | .hbm, ⟨17, _⟩ => ⟨S12x4x32, .f32⟩
  | .hbm, ⟨18, _⟩ => ⟨S_, .f32⟩
  | .hbm, ⟨19, _⟩ => ⟨S12x4x32, .f32⟩
  | .hbm, ⟨20, _⟩ => ⟨S12x4x32, .f32⟩
  | .hbm, ⟨21, _⟩ => ⟨S12x4x32x64, .f32⟩
  | .hbm, ⟨22, _⟩ => ⟨S12x4x2048, .f32⟩
  | .hbm, ⟨23, _⟩ => ⟨S12x8x2048, .f32⟩
  | .hbm, ⟨24, _⟩ => ⟨S12x12x2048, .f32⟩
  | .hbm, ⟨25, _⟩ => ⟨S12x8x2048, .f32⟩
  | .hbm, ⟨26, _⟩ => ⟨S12x8x2048, .f32⟩
  | .hbm, ⟨27, _⟩ => ⟨S12x16x2048, .f32⟩
  | .hbm, ⟨28, _⟩ => ⟨S12x4x32, .f32⟩
  | .hbm, ⟨29, _⟩ => ⟨S12x4x32, .f32⟩
  | .hbm, ⟨30, _⟩ => ⟨S12x32x4x128, .f32⟩
  | .hbm, ⟨31, _⟩ => ⟨S12x32x4x128, .i32⟩
  | .hbm, ⟨32, _⟩ => ⟨S_, .i32⟩
  | .hbm, ⟨33, _⟩ => ⟨S12x32x4x128, .i32⟩
  | .hbm, ⟨34, _⟩ => ⟨S12x32x4x128, .i1⟩
  | .hbm, ⟨35, _⟩ => ⟨S12x4x32, .f32⟩
  | .hbm, ⟨36, _⟩ => ⟨S12x32x4x128, .f32⟩
  | .hbm, ⟨37, _⟩ => ⟨S12x32x4x128, .f32⟩
  | .hbm, ⟨38, _⟩ => ⟨S12x32x4x128, .f32⟩
  | .hbm, ⟨39, _⟩ => ⟨S12x32x8x128, .f32⟩
  | .hbm, ⟨40, _⟩ => ⟨S12x32x4x128, .f32⟩
  | .hbm, ⟨41, _⟩ => ⟨S12x32x8x128, .f32⟩
  | .hbm, ⟨42, _⟩ => ⟨S12x32x16x128, .f32⟩
  | .hbm, ⟨43, _⟩ => ⟨S12x4x2048x192, .bf16⟩
  | .hbm, ⟨44, _⟩ => ⟨S12x4x96x192, .f32⟩
  | .hbm, ⟨45, _⟩ => ⟨S12x4x96, .f32⟩
  | .local _ .vmem, ⟨0, _⟩ => ⟨S1x4x2048x96, .fp8e4m3⟩
  | .local _ .vmem, ⟨1, _⟩ => ⟨S1x4x2048x96, .fp8e4m3⟩
  | .local _ .vmem, ⟨2, _⟩ => ⟨S1x4x2048x96, .fp8e4m3⟩
  | .local _ .vmem, ⟨3, _⟩ => ⟨S1x4x2048x96, .fp8e4m3⟩
  | .local _ .vmem, ⟨4, _⟩ => ⟨S1x4x2048x192, .fp8e4m3⟩
  | .local _ .vmem, ⟨5, _⟩ => ⟨S1x4x2048x192, .fp8e4m3⟩
  | .local _ .vmem, ⟨6, _⟩ => ⟨S12x12x2048, .f32⟩
  | .local _ .vmem, ⟨7, _⟩ => ⟨S12x16x2048, .f32⟩
  | .local _ .vmem, ⟨8, _⟩ => ⟨S12x32x16x128, .f32⟩
  | .local _ .vmem, ⟨9, _⟩ => ⟨S1x4x2048x192, .bf16⟩
  | .local _ .vmem, ⟨10, _⟩ => ⟨S1x4x2048x192, .bf16⟩
  | .local _ .vmem, ⟨11, _⟩ => ⟨S1x4x96x192, .f32⟩
  | .local _ .vmem, ⟨12, _⟩ => ⟨S1x4x96x192, .f32⟩
  | .local _ .vmem, ⟨13, _⟩ => ⟨S1x4x96, .f32⟩
  | .local _ .vmem, ⟨14, _⟩ => ⟨S1x4x96, .f32⟩
  | .local _ .vmem, ⟨15, _⟩ => ⟨S4x96x256, .f32⟩
  | _, _ => ⟨S12x4x2048x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32_11 : BitVec 32 := 0#32
  let c16_i32 : BitVec 32 := 16#32
  let v43 : BitVec 32 := Scalar.addi c0_i32_11 c16_i32
  let c1_i32_12 : BitVec 32 := 1#32
  ⟨c0_i32_11, v43, c1_i32_12⟩
def k0_mult1 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  v92
def k0_off1 (i : grid0.Coords) (k0_t1 : Fin k0_t1_loop.trips) : Fin 3 → Nat :=
  let arg0 : BitVec 32 := BitVec.ofNat 32 (i 0).val
  let v94 : Index := Scalar.indexCast arg0
  let c0_63 : Index := 0#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v95 : Index := Scalar.indexCast v93
  ![v94.toNat, 0, v95.toNat]
def k0_off2 (k0_t1 : Fin k0_t1_loop.trips) : Fin 4 → Nat :=
  let c0_64 : Index := 0#32
  let c0_65 : Index := 0#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v99 : Index := Scalar.indexCast v93
  let c0_66 : Index := 0#32
  ![0, 0, v99.toNat, 0]
def k0_off3 (k0_t1 : Fin k0_t1_loop.trips) : Fin 4 → Nat :=
  let c0_70 : Index := 0#32
  let c0_71 : Index := 0#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v105 : Index := Scalar.indexCast v93
  let c0_72 : Index := 0#32
  ![0, 0, v105.toNat, 0]
def k0_off4 (i : grid0.Coords) (k0_t1 : Fin k0_t1_loop.trips) : Fin 3 → Nat :=
  let arg0 : BitVec 32 := BitVec.ofNat 32 (i 0).val
  let v116 : Index := Scalar.indexCast arg0
  let c0_74 : Index := 0#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v117 : Index := Scalar.indexCast v93
  ![v116.toNat, 0, v117.toNat]
def k0_off5 (i : grid0.Coords) (k0_t1 : Fin k0_t1_loop.trips) : Fin 3 → Nat :=
  let arg0 : BitVec 32 := BitVec.ofNat 32 (i 0).val
  let v122 : Index := Scalar.indexCast arg0
  let c4 : Index := 4#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v123 : Index := Scalar.indexCast v93
  ![v122.toNat, 4, v123.toNat]
def k0_off6 (i : grid0.Coords) (k0_t1 : Fin k0_t1_loop.trips) : Fin 3 → Nat :=
  let arg0 : BitVec 32 := BitVec.ofNat 32 (i 0).val
  let v126 : Index := Scalar.indexCast arg0
  let c8 : Index := 8#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v127 : Index := Scalar.indexCast v93
  ![v126.toNat, 8, v127.toNat]
def k0_off7 (i : grid0.Coords) (k0_t1 : Fin k0_t1_loop.trips) (c0_i32_81 : BitVec 32) : Fin 4 → Nat :=
  let arg0 : BitVec 32 := BitVec.ofNat 32 (i 0).val
  let v201 : Index := Scalar.indexCast arg0
  let c0_i32_11 : BitVec 32 := 0#32
  let c1_i32_12 : BitVec 32 := 1#32
  let arg11 : BitVec 32 := Scf.iv c0_i32_11 c1_i32_12 k0_t1
  let c2_i32 : BitVec 32 := 2#32
  let v164 : BitVec 32 := Scalar.muli arg11 c2_i32
  let v165 : BitVec 32 := Scalar.addi v164 c0_i32_81
  let v202 : Index := Scalar.indexCast v165
  let c12 : Index := 12#32
  let c0_92 : Index := 0#32
  ![v201.toNat, v202.toNat, 12, 0]
def k0_mult2 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_93 : BitVec 32 := 128#32
  let v214 : BitVec 32 := Scalar.muli arg11 c128_i32_93
  let c0_i32_94 : BitVec 32 := 0#32
  let v215 : BitVec 32 := Scalar.addi v214 c0_i32_94
  v215
def k0_off8 (k0_t1 : Fin k0_t1_loop.trips) (c0_i32_94 : BitVec 32) : Fin 4 → Nat :=
  let c0_95 : Index := 0#32
  let c0_96 : Index := 0#32
  let c0_i32_11 : BitVec 32 := 0#32
  let c1_i32_12 : BitVec 32 := 1#32
  let arg11 : BitVec 32 := Scf.iv c0_i32_11 c1_i32_12 k0_t1
  let c128_i32_93 : BitVec 32 := 128#32
  let v214 : BitVec 32 := Scalar.muli arg11 c128_i32_93
  let v215 : BitVec 32 := Scalar.addi v214 c0_i32_94
  let v216 : BitVec 32 := v215
  let v217 : Index := Scalar.indexCast v216
  let c0_97 : Index := 0#32
  ![0, 0, v217.toNat, 0]
def k0_off9 (i : grid0.Coords) (k0_t1 : Fin k0_t1_loop.trips) (c0_i32_81 : BitVec 32) : Fin 4 → Nat :=
  let arg0 : BitVec 32 := BitVec.ofNat 32 (i 0).val
  let v221 : Index := Scalar.indexCast arg0
  let c0_i32_11 : BitVec 32 := 0#32
  let c1_i32_12 : BitVec 32 := 1#32
  let arg11 : BitVec 32 := Scf.iv c0_i32_11 c1_i32_12 k0_t1
  let c2_i32 : BitVec 32 := 2#32
  let v164 : BitVec 32 := Scalar.muli arg11 c2_i32
  let v165 : BitVec 32 := Scalar.addi v164 c0_i32_81
  let v222 : Index := Scalar.indexCast v165
  let c0_98 : Index := 0#32
  let c0_99 : Index := 0#32
  ![v221.toNat, v222.toNat, 0, 0]
def k0_off10 (i : grid0.Coords) (k0_t1 : Fin k0_t1_loop.trips) (c0_i32_81 : BitVec 32) : Fin 4 → Nat :=
  let arg0 : BitVec 32 := BitVec.ofNat 32 (i 0).val
  let v225 : Index := Scalar.indexCast arg0
  let c0_i32_11 : BitVec 32 := 0#32
  let c1_i32_12 : BitVec 32 := 1#32
  let arg11 : BitVec 32 := Scf.iv c0_i32_11 c1_i32_12 k0_t1
  let c2_i32 : BitVec 32 := 2#32
  let v164 : BitVec 32 := Scalar.muli arg11 c2_i32
  let v165 : BitVec 32 := Scalar.addi v164 c0_i32_81
  let v226 : Index := Scalar.indexCast v165
  let c4_100 : Index := 4#32
  let c0_101 : Index := 0#32
  ![v225.toNat, v226.toNat, 4, 0]
def k0_off11 (i : grid0.Coords) (k0_t1 : Fin k0_t1_loop.trips) (c0_i32_81 : BitVec 32) : Fin 4 → Nat :=
  let arg0 : BitVec 32 := BitVec.ofNat 32 (i 0).val
  let v229 : Index := Scalar.indexCast arg0
  let c0_i32_11 : BitVec 32 := 0#32
  let c1_i32_12 : BitVec 32 := 1#32
  let arg11 : BitVec 32 := Scf.iv c0_i32_11 c1_i32_12 k0_t1
  let c2_i32 : BitVec 32 := 2#32
  let v164 : BitVec 32 := Scalar.muli arg11 c2_i32
  let v165 : BitVec 32 := Scalar.addi v164 c0_i32_81
  let v230 : Index := Scalar.indexCast v165
  let c8_102 : Index := 8#32
  let c0_103 : Index := 0#32
  ![v229.toNat, v230.toNat, 8, 0]
def k0_mult3 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_127 : BitVec 32 := 128#32
  let v310 : BitVec 32 := Scalar.muli arg11 c128_i32_127
  let c64_i32_128 : BitVec 32 := 64#32
  let v311 : BitVec 32 := Scalar.addi v310 c64_i32_128
  v311
def k0_off12 (k0_t1 : Fin k0_t1_loop.trips) : Fin 4 → Nat :=
  let c0_145 : Index := 0#32
  let c1_146 : Index := 1#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v354 : Index := Scalar.indexCast v93
  let c0_147 : Index := 0#32
  ![0, 1, v354.toNat, 0]
def k0_off13 (k0_t1 : Fin k0_t1_loop.trips) : Fin 4 → Nat :=
  let c0_151 : Index := 0#32
  let c1_152 : Index := 1#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v360 : Index := Scalar.indexCast v93
  let c0_153 : Index := 0#32
  ![0, 1, v360.toNat, 0]
def k0_off14 (i : grid0.Coords) (k0_t1 : Fin k0_t1_loop.trips) : Fin 3 → Nat :=
  let arg0 : BitVec 32 := BitVec.ofNat 32 (i 0).val
  let v371 : Index := Scalar.indexCast arg0
  let c1_155 : Index := 1#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v372 : Index := Scalar.indexCast v93
  ![v371.toNat, 1, v372.toNat]
def k0_off15 (i : grid0.Coords) (k0_t1 : Fin k0_t1_loop.trips) : Fin 3 → Nat :=
  let arg0 : BitVec 32 := BitVec.ofNat 32 (i 0).val
  let v377 : Index := Scalar.indexCast arg0
  let c5 : Index := 5#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v378 : Index := Scalar.indexCast v93
  ![v377.toNat, 5, v378.toNat]
def k0_off16 (i : grid0.Coords) (k0_t1 : Fin k0_t1_loop.trips) : Fin 3 → Nat :=
  let arg0 : BitVec 32 := BitVec.ofNat 32 (i 0).val
  let v381 : Index := Scalar.indexCast arg0
  let c9 : Index := 9#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v382 : Index := Scalar.indexCast v93
  ![v381.toNat, 9, v382.toNat]
def k0_off17 (i : grid0.Coords) (k0_t1 : Fin k0_t1_loop.trips) (c0_i32_163 : BitVec 32) : Fin 4 → Nat :=
  let arg0 : BitVec 32 := BitVec.ofNat 32 (i 0).val
  let v456 : Index := Scalar.indexCast arg0
  let c0_i32_11 : BitVec 32 := 0#32
  let c1_i32_12 : BitVec 32 := 1#32
  let arg11 : BitVec 32 := Scf.iv c0_i32_11 c1_i32_12 k0_t1
  let c2_i32_162 : BitVec 32 := 2#32
  let v419 : BitVec 32 := Scalar.muli arg11 c2_i32_162
  let v420 : BitVec 32 := Scalar.addi v419 c0_i32_163
  let v457 : Index := Scalar.indexCast v420
  let c13 : Index := 13#32
  let c0_174 : Index := 0#32
  ![v456.toNat, v457.toNat, 13, 0]
def k0_mult4 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_175 : BitVec 32 := 128#32
  let v469 : BitVec 32 := Scalar.muli arg11 c128_i32_175
  let c0_i32_176 : BitVec 32 := 0#32
  let v470 : BitVec 32 := Scalar.addi v469 c0_i32_176
  v470
def k0_off18 (k0_t1 : Fin k0_t1_loop.trips) (c0_i32_176 : BitVec 32) : Fin 4 → Nat :=
  let c0_177 : Index := 0#32
  let c1_178 : Index := 1#32
  let c0_i32_11 : BitVec 32 := 0#32
  let c1_i32_12 : BitVec 32 := 1#32
  let arg11 : BitVec 32 := Scf.iv c0_i32_11 c1_i32_12 k0_t1
  let c128_i32_175 : BitVec 32 := 128#32
  let v469 : BitVec 32 := Scalar.muli arg11 c128_i32_175
  let v470 : BitVec 32 := Scalar.addi v469 c0_i32_176
  let v471 : BitVec 32 := v470
  let v472 : Index := Scalar.indexCast v471
  let c0_179 : Index := 0#32
  ![0, 1, v472.toNat, 0]
def k0_off19 (i : grid0.Coords) (k0_t1 : Fin k0_t1_loop.trips) (c0_i32_163 : BitVec 32) : Fin 4 → Nat :=
  let arg0 : BitVec 32 := BitVec.ofNat 32 (i 0).val
  let v476 : Index := Scalar.indexCast arg0
  let c0_i32_11 : BitVec 32 := 0#32
  let c1_i32_12 : BitVec 32 := 1#32
  let arg11 : BitVec 32 := Scf.iv c0_i32_11 c1_i32_12 k0_t1
  let c2_i32_162 : BitVec 32 := 2#32
  let v419 : BitVec 32 := Scalar.muli arg11 c2_i32_162
  let v420 : BitVec 32 := Scalar.addi v419 c0_i32_163
  let v477 : Index := Scalar.indexCast v420
  let c1_180 : Index := 1#32
  let c0_181 : Index := 0#32
  ![v476.toNat, v477.toNat, 1, 0]
def k0_off20 (i : grid0.Coords) (k0_t1 : Fin k0_t1_loop.trips) (c0_i32_163 : BitVec 32) : Fin 4 → Nat :=
  let arg0 : BitVec 32 := BitVec.ofNat 32 (i 0).val
  let v480 : Index := Scalar.indexCast arg0
  let c0_i32_11 : BitVec 32 := 0#32
  let c1_i32_12 : BitVec 32 := 1#32
  let arg11 : BitVec 32 := Scf.iv c0_i32_11 c1_i32_12 k0_t1
  let c2_i32_162 : BitVec 32 := 2#32
  let v419 : BitVec 32 := Scalar.muli arg11 c2_i32_162
  let v420 : BitVec 32 := Scalar.addi v419 c0_i32_163
  let v481 : Index := Scalar.indexCast v420
  let c5_182 : Index := 5#32
  let c0_183 : Index := 0#32
  ![v480.toNat, v481.toNat, 5, 0]
def k0_off21 (i : grid0.Coords) (k0_t1 : Fin k0_t1_loop.trips) (c0_i32_163 : BitVec 32) : Fin 4 → Nat :=
  let arg0 : BitVec 32 := BitVec.ofNat 32 (i 0).val
  let v484 : Index := Scalar.indexCast arg0
  let c0_i32_11 : BitVec 32 := 0#32
  let c1_i32_12 : BitVec 32 := 1#32
  let arg11 : BitVec 32 := Scf.iv c0_i32_11 c1_i32_12 k0_t1
  let c2_i32_162 : BitVec 32 := 2#32
  let v419 : BitVec 32 := Scalar.muli arg11 c2_i32_162
  let v420 : BitVec 32 := Scalar.addi v419 c0_i32_163
  let v485 : Index := Scalar.indexCast v420
  let c9_184 : Index := 9#32
  let c0_185 : Index := 0#32
  ![v484.toNat, v485.toNat, 9, 0]
def k0_mult5 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_209 : BitVec 32 := 128#32
  let v565 : BitVec 32 := Scalar.muli arg11 c128_i32_209
  let c64_i32_210 : BitVec 32 := 64#32
  let v566 : BitVec 32 := Scalar.addi v565 c64_i32_210
  v566
def k0_off22 (k0_t1 : Fin k0_t1_loop.trips) : Fin 4 → Nat :=
  let c0_227 : Index := 0#32
  let c2_228 : Index := 2#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v609 : Index := Scalar.indexCast v93
  let c0_229 : Index := 0#32
  ![0, 2, v609.toNat, 0]
def k0_off23 (k0_t1 : Fin k0_t1_loop.trips) : Fin 4 → Nat :=
  let c0_233 : Index := 0#32
  let c2_234 : Index := 2#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v615 : Index := Scalar.indexCast v93
  let c0_235 : Index := 0#32
  ![0, 2, v615.toNat, 0]
def k0_off24 (i : grid0.Coords) (k0_t1 : Fin k0_t1_loop.trips) : Fin 3 → Nat :=
  let arg0 : BitVec 32 := BitVec.ofNat 32 (i 0).val
  let v626 : Index := Scalar.indexCast arg0
  let c2_237 : Index := 2#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v627 : Index := Scalar.indexCast v93
  ![v626.toNat, 2, v627.toNat]
def k0_off25 (i : grid0.Coords) (k0_t1 : Fin k0_t1_loop.trips) : Fin 3 → Nat :=
  let arg0 : BitVec 32 := BitVec.ofNat 32 (i 0).val
  let v632 : Index := Scalar.indexCast arg0
  let c6 : Index := 6#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v633 : Index := Scalar.indexCast v93
  ![v632.toNat, 6, v633.toNat]
def k0_off26 (i : grid0.Coords) (k0_t1 : Fin k0_t1_loop.trips) : Fin 3 → Nat :=
  let arg0 : BitVec 32 := BitVec.ofNat 32 (i 0).val
  let v636 : Index := Scalar.indexCast arg0
  let c10 : Index := 10#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v637 : Index := Scalar.indexCast v93
  ![v636.toNat, 10, v637.toNat]
def k0_off27 (i : grid0.Coords) (k0_t1 : Fin k0_t1_loop.trips) (c0_i32_245 : BitVec 32) : Fin 4 → Nat :=
  let arg0 : BitVec 32 := BitVec.ofNat 32 (i 0).val
  let v711 : Index := Scalar.indexCast arg0
  let c0_i32_11 : BitVec 32 := 0#32
  let c1_i32_12 : BitVec 32 := 1#32
  let arg11 : BitVec 32 := Scf.iv c0_i32_11 c1_i32_12 k0_t1
  let c2_i32_244 : BitVec 32 := 2#32
  let v674 : BitVec 32 := Scalar.muli arg11 c2_i32_244
  let v675 : BitVec 32 := Scalar.addi v674 c0_i32_245
  let v712 : Index := Scalar.indexCast v675
  let c14 : Index := 14#32
  let c0_256 : Index := 0#32
  ![v711.toNat, v712.toNat, 14, 0]
def k0_mult6 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_257 : BitVec 32 := 128#32
  let v724 : BitVec 32 := Scalar.muli arg11 c128_i32_257
  let c0_i32_258 : BitVec 32 := 0#32
  let v725 : BitVec 32 := Scalar.addi v724 c0_i32_258
  v725
def k0_off28 (k0_t1 : Fin k0_t1_loop.trips) (c0_i32_258 : BitVec 32) : Fin 4 → Nat :=
  let c0_259 : Index := 0#32
  let c2_260 : Index := 2#32
  let c0_i32_11 : BitVec 32 := 0#32
  let c1_i32_12 : BitVec 32 := 1#32
  let arg11 : BitVec 32 := Scf.iv c0_i32_11 c1_i32_12 k0_t1
  let c128_i32_257 : BitVec 32 := 128#32
  let v724 : BitVec 32 := Scalar.muli arg11 c128_i32_257
  let v725 : BitVec 32 := Scalar.addi v724 c0_i32_258
  let v726 : BitVec 32 := v725
  let v727 : Index := Scalar.indexCast v726
  let c0_261 : Index := 0#32
  ![0, 2, v727.toNat, 0]
def k0_off29 (i : grid0.Coords) (k0_t1 : Fin k0_t1_loop.trips) (c0_i32_245 : BitVec 32) : Fin 4 → Nat :=
  let arg0 : BitVec 32 := BitVec.ofNat 32 (i 0).val
  let v731 : Index := Scalar.indexCast arg0
  let c0_i32_11 : BitVec 32 := 0#32
  let c1_i32_12 : BitVec 32 := 1#32
  let arg11 : BitVec 32 := Scf.iv c0_i32_11 c1_i32_12 k0_t1
  let c2_i32_244 : BitVec 32 := 2#32
  let v674 : BitVec 32 := Scalar.muli arg11 c2_i32_244
  let v675 : BitVec 32 := Scalar.addi v674 c0_i32_245
  let v732 : Index := Scalar.indexCast v675
  let c2_262 : Index := 2#32
  let c0_263 : Index := 0#32
  ![v731.toNat, v732.toNat, 2, 0]
def k0_off30 (i : grid0.Coords) (k0_t1 : Fin k0_t1_loop.trips) (c0_i32_245 : BitVec 32) : Fin 4 → Nat :=
  let arg0 : BitVec 32 := BitVec.ofNat 32 (i 0).val
  let v735 : Index := Scalar.indexCast arg0
  let c0_i32_11 : BitVec 32 := 0#32
  let c1_i32_12 : BitVec 32 := 1#32
  let arg11 : BitVec 32 := Scf.iv c0_i32_11 c1_i32_12 k0_t1
  let c2_i32_244 : BitVec 32 := 2#32
  let v674 : BitVec 32 := Scalar.muli arg11 c2_i32_244
  let v675 : BitVec 32 := Scalar.addi v674 c0_i32_245
  let v736 : Index := Scalar.indexCast v675
  let c6_264 : Index := 6#32
  let c0_265 : Index := 0#32
  ![v735.toNat, v736.toNat, 6, 0]
def k0_off31 (i : grid0.Coords) (k0_t1 : Fin k0_t1_loop.trips) (c0_i32_245 : BitVec 32) : Fin 4 → Nat :=
  let arg0 : BitVec 32 := BitVec.ofNat 32 (i 0).val
  let v739 : Index := Scalar.indexCast arg0
  let c0_i32_11 : BitVec 32 := 0#32
  let c1_i32_12 : BitVec 32 := 1#32
  let arg11 : BitVec 32 := Scf.iv c0_i32_11 c1_i32_12 k0_t1
  let c2_i32_244 : BitVec 32 := 2#32
  let v674 : BitVec 32 := Scalar.muli arg11 c2_i32_244
  let v675 : BitVec 32 := Scalar.addi v674 c0_i32_245
  let v740 : Index := Scalar.indexCast v675
  let c10_266 : Index := 10#32
  let c0_267 : Index := 0#32
  ![v739.toNat, v740.toNat, 10, 0]
def k0_mult7 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_291 : BitVec 32 := 128#32
  let v820 : BitVec 32 := Scalar.muli arg11 c128_i32_291
  let c64_i32_292 : BitVec 32 := 64#32
  let v821 : BitVec 32 := Scalar.addi v820 c64_i32_292
  v821
def k0_off32 (k0_t1 : Fin k0_t1_loop.trips) : Fin 4 → Nat :=
  let c0_309 : Index := 0#32
  let c3_310 : Index := 3#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v864 : Index := Scalar.indexCast v93
  let c0_311 : Index := 0#32
  ![0, 3, v864.toNat, 0]
def k0_off33 (k0_t1 : Fin k0_t1_loop.trips) : Fin 4 → Nat :=
  let c0_315 : Index := 0#32
  let c3_316 : Index := 3#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v870 : Index := Scalar.indexCast v93
  let c0_317 : Index := 0#32
  ![0, 3, v870.toNat, 0]
def k0_off34 (i : grid0.Coords) (k0_t1 : Fin k0_t1_loop.trips) : Fin 3 → Nat :=
  let arg0 : BitVec 32 := BitVec.ofNat 32 (i 0).val
  let v881 : Index := Scalar.indexCast arg0
  let c3_319 : Index := 3#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v882 : Index := Scalar.indexCast v93
  ![v881.toNat, 3, v882.toNat]
def k0_off35 (i : grid0.Coords) (k0_t1 : Fin k0_t1_loop.trips) : Fin 3 → Nat :=
  let arg0 : BitVec 32 := BitVec.ofNat 32 (i 0).val
  let v887 : Index := Scalar.indexCast arg0
  let c7 : Index := 7#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v888 : Index := Scalar.indexCast v93
  ![v887.toNat, 7, v888.toNat]
def k0_off36 (i : grid0.Coords) (k0_t1 : Fin k0_t1_loop.trips) : Fin 3 → Nat :=
  let arg0 : BitVec 32 := BitVec.ofNat 32 (i 0).val
  let v891 : Index := Scalar.indexCast arg0
  let c11 : Index := 11#32
  let c0_i32_11 : BitVec 32 := 0#32
  let c1_i32_12 : BitVec 32 := 1#32
  let arg11 : BitVec 32 := Scf.iv c0_i32_11 c1_i32_12 k0_t1
  let c128_i32_62 : BitVec 32 := 128#32
  let v92 : BitVec 32 := Scalar.muli arg11 c128_i32_62
  let v93 : BitVec 32 := v92
  let v892 : Index := Scalar.indexCast v93
  ![v891.toNat, 11, v892.toNat]
def k0_off37 (i : grid0.Coords) (k0_t1 : Fin k0_t1_loop.trips) (c0_i32_327 : BitVec 32) : Fin 4 → Nat :=
  let arg0 : BitVec 32 := BitVec.ofNat 32 (i 0).val
  let v966 : Index := Scalar.indexCast arg0
  let c0_i32_11 : BitVec 32 := 0#32
  let c1_i32_12 : BitVec 32 := 1#32
  let arg11 : BitVec 32 := Scf.iv c0_i32_11 c1_i32_12 k0_t1
  let c2_i32_326 : BitVec 32 := 2#32
  let v929 : BitVec 32 := Scalar.muli arg11 c2_i32_326
  let v930 : BitVec 32 := Scalar.addi v929 c0_i32_327
  let v967 : Index := Scalar.indexCast v930
  let c15 : Index := 15#32
  let c0_338 : Index := 0#32
  ![v966.toNat, v967.toNat, 15, 0]
def k0_mult8 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_339 : BitVec 32 := 128#32
  let v979 : BitVec 32 := Scalar.muli arg11 c128_i32_339
  let c0_i32_340 : BitVec 32 := 0#32
  let v980 : BitVec 32 := Scalar.addi v979 c0_i32_340
  v980
def k0_off38 (k0_t1 : Fin k0_t1_loop.trips) (c0_i32_340 : BitVec 32) : Fin 4 → Nat :=
  let c0_341 : Index := 0#32
  let c3_342 : Index := 3#32
  let c0_i32_11 : BitVec 32 := 0#32
  let c1_i32_12 : BitVec 32 := 1#32
  let arg11 : BitVec 32 := Scf.iv c0_i32_11 c1_i32_12 k0_t1
  let c128_i32_339 : BitVec 32 := 128#32
  let v979 : BitVec 32 := Scalar.muli arg11 c128_i32_339
  let v980 : BitVec 32 := Scalar.addi v979 c0_i32_340
  let v981 : BitVec 32 := v980
  let v982 : Index := Scalar.indexCast v981
  let c0_343 : Index := 0#32
  ![0, 3, v982.toNat, 0]
def k0_off39 (i : grid0.Coords) (k0_t1 : Fin k0_t1_loop.trips) (c0_i32_327 : BitVec 32) : Fin 4 → Nat :=
  let arg0 : BitVec 32 := BitVec.ofNat 32 (i 0).val
  let v986 : Index := Scalar.indexCast arg0
  let c0_i32_11 : BitVec 32 := 0#32
  let c1_i32_12 : BitVec 32 := 1#32
  let arg11 : BitVec 32 := Scf.iv c0_i32_11 c1_i32_12 k0_t1
  let c2_i32_326 : BitVec 32 := 2#32
  let v929 : BitVec 32 := Scalar.muli arg11 c2_i32_326
  let v930 : BitVec 32 := Scalar.addi v929 c0_i32_327
  let v987 : Index := Scalar.indexCast v930
  let c3_344 : Index := 3#32
  let c0_345 : Index := 0#32
  ![v986.toNat, v987.toNat, 3, 0]
def k0_off40 (i : grid0.Coords) (k0_t1 : Fin k0_t1_loop.trips) (c0_i32_327 : BitVec 32) : Fin 4 → Nat :=
  let arg0 : BitVec 32 := BitVec.ofNat 32 (i 0).val
  let v990 : Index := Scalar.indexCast arg0
  let c0_i32_11 : BitVec 32 := 0#32
  let c1_i32_12 : BitVec 32 := 1#32
  let arg11 : BitVec 32 := Scf.iv c0_i32_11 c1_i32_12 k0_t1
  let c2_i32_326 : BitVec 32 := 2#32
  let v929 : BitVec 32 := Scalar.muli arg11 c2_i32_326
  let v930 : BitVec 32 := Scalar.addi v929 c0_i32_327
  let v991 : Index := Scalar.indexCast v930
  let c7_346 : Index := 7#32
  let c0_347 : Index := 0#32
  ![v990.toNat, v991.toNat, 7, 0]
def k0_off41 (i : grid0.Coords) (k0_t1 : Fin k0_t1_loop.trips) (c0_i32_327 : BitVec 32) : Fin 4 → Nat :=
  let arg0 : BitVec 32 := BitVec.ofNat 32 (i 0).val
  let v994 : Index := Scalar.indexCast arg0
  let c0_i32_11 : BitVec 32 := 0#32
  let c1_i32_12 : BitVec 32 := 1#32
  let arg11 : BitVec 32 := Scf.iv c0_i32_11 c1_i32_12 k0_t1
  let c2_i32_326 : BitVec 32 := 2#32
  let v929 : BitVec 32 := Scalar.muli arg11 c2_i32_326
  let v930 : BitVec 32 := Scalar.addi v929 c0_i32_327
  let v995 : Index := Scalar.indexCast v930
  let c11_348 : Index := 11#32
  let c0_349 : Index := 0#32
  ![v994.toNat, v995.toNat, 11, 0]
def k0_mult9 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c128_i32_373 : BitVec 32 := 128#32
  let v1075 : BitVec 32 := Scalar.muli arg11 c128_i32_373
  let c64_i32_374 : BitVec 32 := 64#32
  let v1076 : BitVec 32 := Scalar.addi v1075 c64_i32_374
  v1076
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x2048x96 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2048x96 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x2048x192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x12x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x32x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x2048x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x96x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S12x4x2048x96 : Shape := ⟨4, ![12, 4, 2048, 96]⟩
abbrev S12x4x2048x192 : Shape := ⟨4, ![12, 4, 2048, 192]⟩
abbrev S12x4x32 : Shape := ⟨3, ![12, 4, 32]⟩
abbrev S12x4x2048 : Shape := ⟨3, ![12, 4, 2048]⟩
abbrev S_ : Shape := ⟨0, ![]⟩
abbrev S12x4x32x64x96 : Shape := ⟨5, ![12, 4, 32, 64, 96]⟩
abbrev S12x4x32x64x192 : Shape := ⟨5, ![12, 4, 32, 64, 192]⟩
abbrev S12x4x32x64 : Shape := ⟨4, ![12, 4, 32, 64]⟩
abbrev S64x64 : Shape := ⟨2, ![64, 64]⟩
abbrev S12x4x96x192 : Shape := ⟨4, ![12, 4, 96, 192]⟩
abbrev S12x4x96 : Shape := ⟨3, ![12, 4, 96]⟩
abbrev S32x12x4x64x96 : Shape := ⟨5, ![32, 12, 4, 64, 96]⟩
abbrev S32x12x4x64x192 : Shape := ⟨5, ![32, 12, 4, 64, 192]⟩
abbrev S32x12x4 : Shape := ⟨3, ![32, 12, 4]⟩
abbrev S32x12x4x64 : Shape := ⟨4, ![32, 12, 4, 64]⟩
abbrev S1x12x4x64x96 : Shape := ⟨5, ![1, 12, 4, 64, 96]⟩
abbrev S12x4x64x96 : Shape := ⟨4, ![12, 4, 64, 96]⟩
abbrev S1x12x4x64x192 : Shape := ⟨5, ![1, 12, 4, 64, 192]⟩
abbrev S12x4x64x192 : Shape := ⟨4, ![12, 4, 64, 192]⟩
abbrev S1x12x4 : Shape := ⟨3, ![1, 12, 4]⟩
abbrev S12x4 : Shape := ⟨2, ![12, 4]⟩
abbrev S1x12x4x64 : Shape := ⟨4, ![1, 12, 4, 64]⟩
abbrev S12x4x64 : Shape := ⟨3, ![12, 4, 64]⟩
abbrev S12x4x64x1 : Shape := ⟨4, ![12, 4, 64, 1]⟩
abbrev S1x1x64x64 : Shape := ⟨4, ![1, 1, 64, 64]⟩
abbrev S12x4x64x64 : Shape := ⟨4, ![12, 4, 64, 64]⟩
abbrev S12x4x1x1 : Shape := ⟨4, ![12, 4, 1, 1]⟩
abbrev S12x4x1x64 : Shape := ⟨4, ![12, 4, 1, 64]⟩
abbrev S12x4x1 : Shape := ⟨3, ![12, 4, 1]⟩

abbrev nBuf : Space → Nat
  | .hbm => 345
  | .vmem => 0
  | .smem => 0
  | _ => 0

abbrev hbmTy0_0 (i : Nat) : BufTy := match i % 128 with
  | 0 => ⟨S12x4x2048x96, .i8⟩
  | 1 => ⟨S12x4x2048x96, .i8⟩
  | 2 => ⟨S12x4x2048x192, .i8⟩
  | 3 => ⟨S12x4x32, .f32⟩
  | 4 => ⟨S12x4x32, .f32⟩
  | 5 => ⟨S12x4x32, .f32⟩
  | 6 => ⟨S12x4x2048, .f32⟩
  | 7 => ⟨S12x4x2048, .f32⟩
  | 8 => ⟨S12x4x2048, .f32⟩
  | 9 => ⟨S12x4x2048, .f32⟩
  | 10 => ⟨S12x4x2048, .f32⟩
  | 11 => ⟨S12x4x2048, .f32⟩
  | 12 => ⟨S12x4x32, .f32⟩
  | 13 => ⟨S12x4x32, .f32⟩
  | 14 => ⟨S12x4x2048x96, .i32⟩
  | 15 => ⟨S_, .i32⟩
  | 16 => ⟨S12x4x2048x96, .i32⟩
  | 17 => ⟨S12x4x2048x96, .i32⟩
  | 18 => ⟨S_, .i32⟩
  | 19 => ⟨S12x4x2048x96, .i32⟩
  | 20 => ⟨S12x4x2048x96, .i32⟩
  | 21 => ⟨S_, .i32⟩
  | 22 => ⟨S12x4x2048x96, .i32⟩
  | 23 => ⟨S12x4x2048x96, .i32⟩
  | 24 => ⟨S_, .i32⟩
  | 25 => ⟨S12x4x2048x96, .i32⟩
  | 26 => ⟨S12x4x2048x96, .i1⟩
  | 27 => ⟨S_, .i32⟩
  | 28 => ⟨S12x4x2048x96, .i32⟩
  | 29 => ⟨S12x4x2048x96, .i32⟩
  | 30 => ⟨S_, .i32⟩
  | 31 => ⟨S12x4x2048x96, .i32⟩
  | 32 => ⟨S12x4x2048x96, .i32⟩
  | 33 => ⟨S12x4x2048x96, .i32⟩
  | 34 => ⟨S12x4x2048x96, .i32⟩
  | 35 => ⟨S12x4x2048x96, .f32⟩
  | 36 => ⟨S_, .f32⟩
  | 37 => ⟨S12x4x2048x96, .f32⟩
  | 38 => ⟨S12x4x2048x96, .f32⟩
  | 39 => ⟨S_, .i32⟩
  | 40 => ⟨S12x4x2048x96, .i32⟩
  | 41 => ⟨S12x4x2048x96, .i32⟩
  | 42 => ⟨S_, .i32⟩
  | 43 => ⟨S12x4x2048x96, .i32⟩
  | 44 => ⟨S12x4x2048x96, .i1⟩
  | 45 => ⟨S_, .i32⟩
  | 46 => ⟨S12x4x2048x96, .i32⟩
  | 47 => ⟨S12x4x2048x96, .i1⟩
  | 48 => ⟨S12x4x2048x96, .f32⟩
  | 49 => ⟨S12x4x2048x96, .f32⟩
  | 50 => ⟨S_, .f32⟩
  | 51 => ⟨S_, .f32⟩
  | 52 => ⟨S12x4x2048x96, .f32⟩
  | 53 => ⟨S12x4x2048x96, .f32⟩
  | 54 => ⟨S12x4x32x64x96, .f32⟩
  | 55 => ⟨S12x4x2048x96, .i32⟩
  | 56 => ⟨S_, .i32⟩
  | 57 => ⟨S12x4x2048x96, .i32⟩
  | 58 => ⟨S12x4x2048x96, .i32⟩
  | 59 => ⟨S_, .i32⟩
  | 60 => ⟨S12x4x2048x96, .i32⟩
  | 61 => ⟨S12x4x2048x96, .i32⟩
  | 62 => ⟨S_, .i32⟩
  | 63 => ⟨S12x4x2048x96, .i32⟩
  | 64 => ⟨S12x4x2048x96, .i32⟩
  | 65 => ⟨S_, .i32⟩
  | 66 => ⟨S12x4x2048x96, .i32⟩
  | 67 => ⟨S12x4x2048x96, .i1⟩
  | 68 => ⟨S_, .i32⟩
  | 69 => ⟨S12x4x2048x96, .i32⟩
  | 70 => ⟨S12x4x2048x96, .i32⟩
  | 71 => ⟨S_, .i32⟩
  | 72 => ⟨S12x4x2048x96, .i32⟩
  | 73 => ⟨S12x4x2048x96, .i32⟩
  | 74 => ⟨S12x4x2048x96, .i32⟩
  | 75 => ⟨S12x4x2048x96, .i32⟩
  | 76 => ⟨S12x4x2048x96, .f32⟩
  | 77 => ⟨S_, .f32⟩
  | 78 => ⟨S12x4x2048x96, .f32⟩
  | 79 => ⟨S12x4x2048x96, .f32⟩
  | 80 => ⟨S_, .i32⟩
  | 81 => ⟨S12x4x2048x96, .i32⟩
  | 82 => ⟨S12x4x2048x96, .i32⟩
  | 83 => ⟨S_, .i32⟩
  | 84 => ⟨S12x4x2048x96, .i32⟩
  | 85 => ⟨S12x4x2048x96, .i1⟩
  | 86 => ⟨S_, .i32⟩
  | 87 => ⟨S12x4x2048x96, .i32⟩
  | 88 => ⟨S12x4x2048x96, .i1⟩
  | 89 => ⟨S12x4x2048x96, .f32⟩
  | 90 => ⟨S12x4x2048x96, .f32⟩
  | 91 => ⟨S_, .f32⟩
  | 92 => ⟨S_, .f32⟩
  | 93 => ⟨S12x4x2048x96, .f32⟩
  | 94 => ⟨S12x4x2048x96, .f32⟩
  | 95 => ⟨S12x4x32x64x96, .f32⟩
  | 96 => ⟨S12x4x2048x192, .i32⟩
  | 97 => ⟨S_, .i32⟩
  | 98 => ⟨S12x4x2048x192, .i32⟩
  | 99 => ⟨S12x4x2048x192, .i32⟩
  | 100 => ⟨S_, .i32⟩
  | 101 => ⟨S12x4x2048x192, .i32⟩
  | 102 => ⟨S12x4x2048x192, .i32⟩
  | 103 => ⟨S_, .i32⟩
  | 104 => ⟨S12x4x2048x192, .i32⟩
  | 105 => ⟨S12x4x2048x192, .i32⟩
  | 106 => ⟨S_, .i32⟩
  | 107 => ⟨S12x4x2048x192, .i32⟩
  | 108 => ⟨S12x4x2048x192, .i1⟩
  | 109 => ⟨S_, .i32⟩
  | 110 => ⟨S12x4x2048x192, .i32⟩
  | 111 => ⟨S12x4x2048x192, .i32⟩
  | 112 => ⟨S_, .i32⟩
  | 113 => ⟨S12x4x2048x192, .i32⟩
  | 114 => ⟨S12x4x2048x192, .i32⟩
  | 115 => ⟨S12x4x2048x192, .i32⟩
  | 116 => ⟨S12x4x2048x192, .i32⟩
  | 117 => ⟨S12x4x2048x192, .f32⟩
  | 118 => ⟨S_, .f32⟩
  | 119 => ⟨S12x4x2048x192, .f32⟩
  | 120 => ⟨S12x4x2048x192, .f32⟩
  | 121 => ⟨S_, .i32⟩
  | 122 => ⟨S12x4x2048x192, .i32⟩
  | 123 => ⟨S12x4x2048x192, .i32⟩
  | 124 => ⟨S_, .i32⟩
  | 125 => ⟨S12x4x2048x192, .i32⟩
  | 126 => ⟨S12x4x2048x192, .i1⟩
  | 127 => ⟨S_, .i32⟩
  | _ => ⟨S12x4x2048x96, .i8⟩

abbrev hbmTy0_1 (i : Nat) : BufTy := match i % 128 with
  | 0 => ⟨S12x4x2048x192, .i32⟩
  | 1 => ⟨S12x4x2048x192, .i1⟩
  | 2 => ⟨S12x4x2048x192, .f32⟩
  | 3 => ⟨S12x4x2048x192, .f32⟩
  | 4 => ⟨S_, .f32⟩
  | 5 => ⟨S_, .f32⟩
  | 6 => ⟨S12x4x2048x192, .f32⟩
  | 7 => ⟨S12x4x2048x192, .f32⟩
  | 8 => ⟨S12x4x32x64x192, .f32⟩
  | 9 => ⟨S12x4x32x64, .f32⟩
  | 10 => ⟨S12x4x32x64, .f32⟩
  | 11 => ⟨S12x4x32x64, .f32⟩
  | 12 => ⟨S12x4x32x64, .f32⟩
  | 13 => ⟨S12x4x32x64, .f32⟩
  | 14 => ⟨S12x4x32x64, .f32⟩
  | 15 => ⟨S64x64, .i32⟩
  | 16 => ⟨S64x64, .i32⟩
  | 17 => ⟨S64x64, .i1⟩
  | 18 => ⟨S64x64, .i32⟩
  | 19 => ⟨S64x64, .f32⟩
  | 20 => ⟨S_, .f32⟩
  | 21 => ⟨S12x4x96x192, .f32⟩
  | 22 => ⟨S_, .f32⟩
  | 23 => ⟨S12x4x96, .f32⟩
  | 24 => ⟨S32x12x4x64x96, .f32⟩
  | 25 => ⟨S32x12x4x64x96, .f32⟩
  | 26 => ⟨S32x12x4x64x192, .f32⟩
  | 27 => ⟨S32x12x4, .f32⟩
  | 28 => ⟨S32x12x4, .f32⟩
  | 29 => ⟨S32x12x4, .f32⟩
  | 30 => ⟨S32x12x4x64, .f32⟩
  | 31 => ⟨S32x12x4x64, .f32⟩
  | 32 => ⟨S32x12x4x64, .f32⟩
  | 33 => ⟨S32x12x4x64, .f32⟩
  | 34 => ⟨S32x12x4x64, .f32⟩
  | 35 => ⟨S32x12x4x64, .f32⟩
  | 36 => ⟨S32x12x4, .f32⟩
  | 37 => ⟨S32x12x4, .f32⟩
  | 38 => ⟨S_, .bf16⟩
  | 39 => ⟨S32x12x4x64x192, .bf16⟩
  | 40 => ⟨S_, .i32⟩
  | 41 => ⟨S32x12x4x64x96, .f32⟩
  | 42 => ⟨S32x12x4x64x96, .f32⟩
  | 43 => ⟨S32x12x4x64x192, .f32⟩
  | 44 => ⟨S32x12x4, .f32⟩
  | 45 => ⟨S32x12x4, .f32⟩
  | 46 => ⟨S32x12x4, .f32⟩
  | 47 => ⟨S32x12x4x64, .f32⟩
  | 48 => ⟨S32x12x4x64, .f32⟩
  | 49 => ⟨S32x12x4x64, .f32⟩
  | 50 => ⟨S32x12x4x64, .f32⟩
  | 51 => ⟨S32x12x4x64, .f32⟩
  | 52 => ⟨S32x12x4x64, .f32⟩
  | 53 => ⟨S32x12x4, .f32⟩
  | 54 => ⟨S32x12x4, .f32⟩
  | 55 => ⟨S64x64, .f32⟩
  | 56 => ⟨S64x64, .i1⟩
  | 57 => ⟨S_, .i32⟩
  | 58 => ⟨S12x4x96x192, .f32⟩
  | 59 => ⟨S12x4x96, .f32⟩
  | 60 => ⟨S32x12x4x64x192, .bf16⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x12x4x64x96, .f32⟩
  | 68 => ⟨S12x4x64x96, .f32⟩
  | 69 => ⟨S_, .i32⟩
  | 70 => ⟨S_, .i32⟩
  | 71 => ⟨S_, .i32⟩
  | 72 => ⟨S_, .i32⟩
  | 73 => ⟨S1x12x4x64x96, .f32⟩
  | 74 => ⟨S12x4x64x96, .f32⟩
  | 75 => ⟨S_, .i32⟩
  | 76 => ⟨S_, .i32⟩
  | 77 => ⟨S_, .i32⟩
  | 78 => ⟨S_, .i32⟩
  | 79 => ⟨S1x12x4x64x192, .f32⟩
  | 80 => ⟨S12x4x64x192, .f32⟩
  | 81 => ⟨S_, .i32⟩
  | 82 => ⟨S_, .i32⟩
  | 83 => ⟨S1x12x4, .f32⟩
  | 84 => ⟨S12x4, .f32⟩
  | 85 => ⟨S_, .i32⟩
  | 86 => ⟨S_, .i32⟩
  | 87 => ⟨S1x12x4, .f32⟩
  | 88 => ⟨S12x4, .f32⟩
  | 89 => ⟨S_, .i32⟩
  | 90 => ⟨S_, .i32⟩
  | 91 => ⟨S1x12x4, .f32⟩
  | 92 => ⟨S12x4, .f32⟩
  | 93 => ⟨S_, .i32⟩
  | 94 => ⟨S_, .i32⟩
  | 95 => ⟨S_, .i32⟩
  | 96 => ⟨S1x12x4x64, .f32⟩
  | 97 => ⟨S12x4x64, .f32⟩
  | 98 => ⟨S_, .i32⟩
  | 99 => ⟨S_, .i32⟩
  | 100 => ⟨S_, .i32⟩
  | 101 => ⟨S1x12x4x64, .f32⟩
  | 102 => ⟨S12x4x64, .f32⟩
  | 103 => ⟨S_, .i32⟩
  | 104 => ⟨S_, .i32⟩
  | 105 => ⟨S_, .i32⟩
  | 106 => ⟨S1x12x4x64, .f32⟩
  | 107 => ⟨S12x4x64, .f32⟩
  | 108 => ⟨S_, .i32⟩
  | 109 => ⟨S_, .i32⟩
  | 110 => ⟨S_, .i32⟩
  | 111 => ⟨S1x12x4x64, .f32⟩
  | 112 => ⟨S12x4x64, .f32⟩
  | 113 => ⟨S_, .i32⟩
  | 114 => ⟨S_, .i32⟩
  | 115 => ⟨S_, .i32⟩
  | 116 => ⟨S1x12x4x64, .f32⟩
  | 117 => ⟨S12x4x64, .f32⟩
  | 118 => ⟨S_, .i32⟩
  | 119 => ⟨S_, .i32⟩
  | 120 => ⟨S_, .i32⟩
  | 121 => ⟨S1x12x4x64, .f32⟩
  | 122 => ⟨S12x4x64, .f32⟩
  | 123 => ⟨S_, .i32⟩
  | 124 => ⟨S_, .i32⟩
  | 125 => ⟨S1x12x4, .f32⟩
  | 126 => ⟨S12x4, .f32⟩
  | 127 => ⟨S_, .i32⟩
  | _ => ⟨S12x4x2048x96, .i8⟩

abbrev hbmTy0_2 (i : Nat) : BufTy := match i % 128 with
  | 0 => ⟨S_, .i32⟩
  | 1 => ⟨S1x12x4, .f32⟩
  | 2 => ⟨S12x4, .f32⟩
  | 3 => ⟨S12x4x64x192, .bf16⟩
  | 4 => ⟨S12x4x64x1, .f32⟩
  | 5 => ⟨S12x4x64x192, .f32⟩
  | 6 => ⟨S12x4x64x192, .f32⟩
  | 7 => ⟨S12x4x64x192, .f32⟩
  | 8 => ⟨S12x4x64, .f32⟩
  | 9 => ⟨S12x4x64, .f32⟩
  | 10 => ⟨S12x4x64x1, .f32⟩
  | 11 => ⟨S1x1x64x64, .f32⟩
  | 12 => ⟨S12x4x64x64, .f32⟩
  | 13 => ⟨S12x4x64x64, .f32⟩
  | 14 => ⟨S12x4x64x64, .i1⟩
  | 15 => ⟨S1x1x64x64, .i1⟩
  | 16 => ⟨S12x4x64x64, .i1⟩
  | 17 => ⟨S12x4x64x64, .i1⟩
  | 18 => ⟨S12x4x64x64, .f32⟩
  | 19 => ⟨S12x4, .f32⟩
  | 20 => ⟨S_, .f32⟩
  | 21 => ⟨S12x4, .f32⟩
  | 22 => ⟨S12x4, .f32⟩
  | 23 => ⟨S12x4x1x1, .f32⟩
  | 24 => ⟨S12x4x64x64, .f32⟩
  | 25 => ⟨S12x4x64x64, .f32⟩
  | 26 => ⟨S12x4x1x64, .f32⟩
  | 27 => ⟨S12x4x64x1, .f32⟩
  | 28 => ⟨S12x4x64x64, .f32⟩
  | 29 => ⟨S12x4x64x64, .f32⟩
  | 30 => ⟨S12x4x64x64, .f32⟩
  | 31 => ⟨S12x4x64x64, .f32⟩
  | 32 => ⟨S12x4x64x64, .f32⟩
  | 33 => ⟨S_, .f32⟩
  | 34 => ⟨S_, .f32⟩
  | 35 => ⟨S12x4x64x64, .f32⟩
  | 36 => ⟨S12x4x64x64, .f32⟩
  | 37 => ⟨S12x4x64x64, .bf16⟩
  | 38 => ⟨S12x4x64x192, .f32⟩
  | 39 => ⟨S12x4x1x1, .f32⟩
  | 40 => ⟨S12x4x64x192, .f32⟩
  | 41 => ⟨S12x4x64x192, .f32⟩
  | 42 => ⟨S_, .f32⟩
  | 43 => ⟨S12x4x64, .f32⟩
  | 44 => ⟨S12x4x64, .f32⟩
  | 45 => ⟨S12x4x64, .f32⟩
  | 46 => ⟨S12x4x64, .f32⟩
  | 47 => ⟨S12x4x64x192, .f32⟩
  | 48 => ⟨S12x4x64x1, .f32⟩
  | 49 => ⟨S12x4x64x192, .f32⟩
  | 50 => ⟨S12x4x64x192, .f32⟩
  | 51 => ⟨S12x4x64x192, .bf16⟩
  | 52 => ⟨S12x4x64x1, .f32⟩
  | 53 => ⟨S12x4x64x96, .f32⟩
  | 54 => ⟨S12x4x64x96, .f32⟩
  | 55 => ⟨S12x4x64x96, .bf16⟩
  | 56 => ⟨S12x4x96x192, .f32⟩
  | 57 => ⟨S12x4, .f32⟩
  | 58 => ⟨S12x4x1x1, .f32⟩
  | 59 => ⟨S12x4x96x192, .f32⟩
  | 60 => ⟨S12x4x96x192, .f32⟩
  | 61 => ⟨S12x4x96, .f32⟩
  | 62 => ⟨S12x4x1, .f32⟩
  | 63 => ⟨S12x4x96, .f32⟩
  | 64 => ⟨S12x4x96, .f32⟩
  | 65 => ⟨S12x4x1x1, .f32⟩
  | 66 => ⟨S12x4x96x192, .f32⟩
  | 67 => ⟨S12x4x96x192, .f32⟩
  | 68 => ⟨S12x4x1x1, .f32⟩
  | 69 => ⟨S12x4x96x192, .f32⟩
  | 70 => ⟨S12x4x96x192, .f32⟩
  | 71 => ⟨S12x4x96x192, .f32⟩
  | 72 => ⟨S12x4x1, .f32⟩
  | 73 => ⟨S12x4x96, .f32⟩
  | 74 => ⟨S12x4x96, .f32⟩
  | 75 => ⟨S12x4x1, .f32⟩
  | 76 => ⟨S12x4x96, .f32⟩
  | 77 => ⟨S12x4x96, .f32⟩
  | 78 => ⟨S12x4x96, .f32⟩
  | 79 => ⟨S1x12x4x64x192, .bf16⟩
  | 80 => ⟨S_, .i32⟩
  | 81 => ⟨S_, .i32⟩
  | 82 => ⟨S_, .i32⟩
  | 83 => ⟨S_, .i32⟩
  | 84 => ⟨S32x12x4x64x192, .bf16⟩
  | 85 => ⟨S_, .i32⟩
  | 86 => ⟨S_, .i32⟩
  | 87 => ⟨S12x4x32x64x192, .bf16⟩
  | 88 => ⟨S12x4x2048x192, .bf16⟩
  | _ => ⟨S12x4x2048x96, .i8⟩

abbrev hbmTy (i : Nat) : BufTy := match i / 128 with
  | 0 => hbmTy0_0 i
  | 1 => hbmTy0_1 i
  | 2 => hbmTy0_2 i
  | _ => ⟨S12x4x2048x96, .i8⟩

abbrev bufTy : (tb : Table) → Fin (tcTables nBuf tb) → BufTy
  | .hbm, ⟨i, _⟩ => hbmTy i
  | _, _ => ⟨S12x4x2048x96, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_v6 : Ref sig .tc := ⟨.hbm, 23, rfl⟩
abbrev main_c_2 : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_c_6 : Ref sig .tc := ⟨.hbm, 42, rfl⟩
abbrev main_v20 : Ref sig .tc := ⟨.hbm, 43, rfl⟩
abbrev main_v21 : Ref sig .tc := ⟨.hbm, 44, rfl⟩
abbrev main_c_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_call2_v0 : Ref sig .tc := ⟨.hbm, 51, rfl⟩
abbrev main_call2_v1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_9 : Ref sig .tc := ⟨.hbm, 56, rfl⟩
abbrev main_v29 : Ref sig .tc := ⟨.hbm, 57, rfl⟩
abbrev main_v30 : Ref sig .tc := ⟨.hbm, 58, rfl⟩
abbrev main_c_10 : Ref sig .tc := ⟨.hbm, 59, rfl⟩
abbrev main_v31 : Ref sig .tc := ⟨.hbm, 60, rfl⟩
abbrev main_v32 : Ref sig .tc := ⟨.hbm, 61, rfl⟩
abbrev main_c_11 : Ref sig .tc := ⟨.hbm, 62, rfl⟩
abbrev main_v33 : Ref sig .tc := ⟨.hbm, 63, rfl⟩
abbrev main_v34 : Ref sig .tc := ⟨.hbm, 64, rfl⟩
abbrev main_c_12 : Ref sig .tc := ⟨.hbm, 65, rfl⟩
abbrev main_v35 : Ref sig .tc := ⟨.hbm, 66, rfl⟩
abbrev main_v36 : Ref sig .tc := ⟨.hbm, 67, rfl⟩
abbrev main_c_13 : Ref sig .tc := ⟨.hbm, 68, rfl⟩
abbrev main_v37 : Ref sig .tc := ⟨.hbm, 69, rfl⟩
abbrev main_v38 : Ref sig .tc := ⟨.hbm, 70, rfl⟩
abbrev main_c_14 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_15 : Ref sig .tc := ⟨.hbm, 77, rfl⟩
abbrev main_v44 : Ref sig .tc := ⟨.hbm, 78, rfl⟩
abbrev main_v45 : Ref sig .tc := ⟨.hbm, 79, rfl⟩
abbrev main_c_16 : Ref sig .tc := ⟨.hbm, 80, rfl⟩
abbrev main_v46 : Ref sig .tc := ⟨.hbm, 81, rfl⟩
abbrev main_v47 : Ref sig .tc := ⟨.hbm, 82, rfl⟩
abbrev main_c_17 : Ref sig .tc := ⟨.hbm, 83, rfl⟩
abbrev main_v48 : Ref sig .tc := ⟨.hbm, 84, rfl⟩
abbrev main_v49 : Ref sig .tc := ⟨.hbm, 85, rfl⟩
abbrev main_c_18 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_19 : Ref sig .tc := ⟨.hbm, 91, rfl⟩
abbrev main_call5_v0 : Ref sig .tc := ⟨.hbm, 92, rfl⟩
abbrev main_call5_v1 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_20 : Ref sig .tc := ⟨.hbm, 97, rfl⟩
abbrev main_v57 : Ref sig .tc := ⟨.hbm, 98, rfl⟩
abbrev main_v58 : Ref sig .tc := ⟨.hbm, 99, rfl⟩
abbrev main_c_21 : Ref sig .tc := ⟨.hbm, 100, rfl⟩
abbrev main_v59 : Ref sig .tc := ⟨.hbm, 101, rfl⟩
abbrev main_v60 : Ref sig .tc := ⟨.hbm, 102, rfl⟩
abbrev main_c_22 : Ref sig .tc := ⟨.hbm, 103, rfl⟩
abbrev main_v61 : Ref sig .tc := ⟨.hbm, 104, rfl⟩
abbrev main_v62 : Ref sig .tc := ⟨.hbm, 105, rfl⟩
abbrev main_c_23 : Ref sig .tc := ⟨.hbm, 106, rfl⟩
abbrev main_v63 : Ref sig .tc := ⟨.hbm, 107, rfl⟩
abbrev main_v64 : Ref sig .tc := ⟨.hbm, 108, rfl⟩
abbrev main_c_24 : Ref sig .tc := ⟨.hbm, 109, rfl⟩
abbrev main_v65 : Ref sig .tc := ⟨.hbm, 110, rfl⟩
abbrev main_v66 : Ref sig .tc := ⟨.hbm, 111, rfl⟩
abbrev main_c_25 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_26 : Ref sig .tc := ⟨.hbm, 118, rfl⟩
abbrev main_v72 : Ref sig .tc := ⟨.hbm, 119, rfl⟩
abbrev main_v73 : Ref sig .tc := ⟨.hbm, 120, rfl⟩
abbrev main_c_27 : Ref sig .tc := ⟨.hbm, 121, rfl⟩
abbrev main_v74 : Ref sig .tc := ⟨.hbm, 122, rfl⟩
abbrev main_v75 : Ref sig .tc := ⟨.hbm, 123, rfl⟩
abbrev main_c_28 : Ref sig .tc := ⟨.hbm, 124, rfl⟩
abbrev main_v76 : Ref sig .tc := ⟨.hbm, 125, rfl⟩
abbrev main_v77 : Ref sig .tc := ⟨.hbm, 126, rfl⟩
abbrev main_c_29 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_30 : Ref sig .tc := ⟨.hbm, 132, rfl⟩
abbrev main_call8_v0 : Ref sig .tc := ⟨.hbm, 133, rfl⟩
abbrev main_call8_v1 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_31 : Ref sig .tc := ⟨.hbm, 148, rfl⟩
abbrev main_v95 : Ref sig .tc := ⟨.hbm, 149, rfl⟩
abbrev main_cst_32 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_33 : Ref sig .tc := ⟨.hbm, 166, rfl⟩
abbrev main_v111 : Ref sig .tc := ⟨.hbm, 167, rfl⟩
abbrev main_c_34 : Ref sig .tc := ⟨.hbm, 168, rfl⟩
abbrev main_v112_0 : Ref sig .tc := ⟨.hbm, 169, rfl⟩
abbrev main_v112_1 : Ref sig .tc := ⟨.hbm, 170, rfl⟩
abbrev main_v112_2 : Ref sig .tc := ⟨.hbm, 171, rfl⟩
abbrev main_v112_3 : Ref sig .tc := ⟨.hbm, 172, rfl⟩
abbrev main_v112_4 : Ref sig .tc := ⟨.hbm, 173, rfl⟩
abbrev main_v112_5 : Ref sig .tc := ⟨.hbm, 174, rfl⟩
abbrev main_v112_6 : Ref sig .tc := ⟨.hbm, 175, rfl⟩
abbrev main_v112_7 : Ref sig .tc := ⟨.hbm, 176, rfl⟩
abbrev main_v112_8 : Ref sig .tc := ⟨.hbm, 177, rfl⟩
abbrev main_v112_9 : Ref sig .tc := ⟨.hbm, 178, rfl⟩
abbrev main_v112_10 : Ref sig .tc := ⟨.hbm, 179, rfl⟩
abbrev main_v112_11 : Ref sig .tc := ⟨.hbm, 180, rfl⟩
abbrev main_v112_12 : Ref sig .tc := ⟨.hbm, 181, rfl⟩
abbrev main_v112_13 : Ref sig .tc := ⟨.hbm, 182, rfl⟩
abbrev main_v112_14 : Ref sig .tc := ⟨.hbm, 183, rfl⟩
abbrev main_v112_15 : Ref sig .tc := ⟨.hbm, 184, rfl⟩
abbrev main_v112_16 : Ref sig .tc := ⟨.hbm, 185, rfl⟩
abbrev main_v112_17 : Ref sig .tc := ⟨.hbm, 186, rfl⟩
abbrev main_v112_18 : Ref sig .tc := ⟨.hbm, 187, rfl⟩
abbrev main_v112_19 : Ref sig .tc := ⟨.hbm, 188, rfl⟩
abbrev main_while0c_c_54 : Ref sig .tc := ⟨.hbm, 189, rfl⟩
abbrev main_while0c_v115 : Ref sig .tc := ⟨.hbm, 190, rfl⟩
abbrev main_while0b_call9_c : Ref sig .tc := ⟨.hbm, 191, rfl⟩
abbrev main_while0b_call9_c_0 : Ref sig .tc := ⟨.hbm, 192, rfl⟩
abbrev main_while0b_call9_c_1 : Ref sig .tc := ⟨.hbm, 193, rfl⟩
abbrev main_while0b_call9_c_2 : Ref sig .tc := ⟨.hbm, 194, rfl⟩
abbrev main_while0b_call9_v0 : Ref sig .tc := ⟨.hbm, 195, rfl⟩
abbrev main_while0b_v115 : Ref sig .tc := ⟨.hbm, 196, rfl⟩
abbrev main_while0b_call10_c : Ref sig .tc := ⟨.hbm, 197, rfl⟩
abbrev main_while0b_call10_c_0 : Ref sig .tc := ⟨.hbm, 198, rfl⟩
abbrev main_while0b_call10_c_1 : Ref sig .tc := ⟨.hbm, 199, rfl⟩
abbrev main_while0b_call10_c_2 : Ref sig .tc := ⟨.hbm, 200, rfl⟩
abbrev main_while0b_call10_v0 : Ref sig .tc := ⟨.hbm, 201, rfl⟩
abbrev main_while0b_v116 : Ref sig .tc := ⟨.hbm, 202, rfl⟩
abbrev main_while0b_call11_c : Ref sig .tc := ⟨.hbm, 203, rfl⟩
abbrev main_while0b_call11_c_0 : Ref sig .tc := ⟨.hbm, 204, rfl⟩
abbrev main_while0b_call11_c_1 : Ref sig .tc := ⟨.hbm, 205, rfl⟩
abbrev main_while0b_call11_c_2 : Ref sig .tc := ⟨.hbm, 206, rfl⟩
abbrev main_while0b_call11_v0 : Ref sig .tc := ⟨.hbm, 207, rfl⟩
abbrev main_while0b_v117 : Ref sig .tc := ⟨.hbm, 208, rfl⟩
abbrev main_while0b_call12_c : Ref sig .tc := ⟨.hbm, 209, rfl⟩
abbrev main_while0b_call12_c_0 : Ref sig .tc := ⟨.hbm, 210, rfl⟩
abbrev main_while0b_call12_v0 : Ref sig .tc := ⟨.hbm, 211, rfl⟩
abbrev main_while0b_v118 : Ref sig .tc := ⟨.hbm, 212, rfl⟩
abbrev main_while0b_call13_c : Ref sig .tc := ⟨.hbm, 213, rfl⟩
abbrev main_while0b_call13_c_0 : Ref sig .tc := ⟨.hbm, 214, rfl⟩
abbrev main_while0b_call13_v0 : Ref sig .tc := ⟨.hbm, 215, rfl⟩
abbrev main_while0b_v119 : Ref sig .tc := ⟨.hbm, 216, rfl⟩
abbrev main_while0b_call14_c : Ref sig .tc := ⟨.hbm, 217, rfl⟩
abbrev main_while0b_call14_c_0 : Ref sig .tc := ⟨.hbm, 218, rfl⟩
abbrev main_while0b_call14_v0 : Ref sig .tc := ⟨.hbm, 219, rfl⟩
abbrev main_while0b_v120 : Ref sig .tc := ⟨.hbm, 220, rfl⟩
abbrev main_while0b_call15_c : Ref sig .tc := ⟨.hbm, 221, rfl⟩
abbrev main_while0b_call15_c_0 : Ref sig .tc := ⟨.hbm, 222, rfl⟩
abbrev main_while0b_call15_c_1 : Ref sig .tc := ⟨.hbm, 223, rfl⟩
abbrev main_while0b_call15_v0 : Ref sig .tc := ⟨.hbm, 224, rfl⟩
abbrev main_while0b_v121 : Ref sig .tc := ⟨.hbm, 225, rfl⟩
abbrev main_while0b_call16_c : Ref sig .tc := ⟨.hbm, 226, rfl⟩
abbrev main_while0b_call16_c_0 : Ref sig .tc := ⟨.hbm, 227, rfl⟩
abbrev main_while0b_call16_c_1 : Ref sig .tc := ⟨.hbm, 228, rfl⟩
abbrev main_while0b_call16_v0 : Ref sig .tc := ⟨.hbm, 229, rfl⟩
abbrev main_while0b_v122 : Ref sig .tc := ⟨.hbm, 230, rfl⟩
abbrev main_while0b_call17_c : Ref sig .tc := ⟨.hbm, 231, rfl⟩
abbrev main_while0b_call17_c_0 : Ref sig .tc := ⟨.hbm, 232, rfl⟩
abbrev main_while0b_call17_c_1 : Ref sig .tc := ⟨.hbm, 233, rfl⟩
abbrev main_while0b_call17_v0 : Ref sig .tc := ⟨.hbm, 234, rfl⟩
abbrev main_while0b_v123 : Ref sig .tc := ⟨.hbm, 235, rfl⟩
abbrev main_while0b_call18_c : Ref sig .tc := ⟨.hbm, 236, rfl⟩
abbrev main_while0b_call18_c_0 : Ref sig .tc := ⟨.hbm, 237, rfl⟩
abbrev main_while0b_call18_c_1 : Ref sig .tc := ⟨.hbm, 238, rfl⟩
abbrev main_while0b_call18_v0 : Ref sig .tc := ⟨.hbm, 239, rfl⟩
abbrev main_while0b_v124 : Ref sig .tc := ⟨.hbm, 240, rfl⟩
abbrev main_while0b_call19_c : Ref sig .tc := ⟨.hbm, 241, rfl⟩
abbrev main_while0b_call19_c_0 : Ref sig .tc := ⟨.hbm, 242, rfl⟩
abbrev main_while0b_call19_c_1 : Ref sig .tc := ⟨.hbm, 243, rfl⟩
abbrev main_while0b_call19_v0 : Ref sig .tc := ⟨.hbm, 244, rfl⟩
abbrev main_while0b_v125 : Ref sig .tc := ⟨.hbm, 245, rfl⟩
abbrev main_while0b_call20_c : Ref sig .tc := ⟨.hbm, 246, rfl⟩
abbrev main_while0b_call20_c_0 : Ref sig .tc := ⟨.hbm, 247, rfl⟩
abbrev main_while0b_call20_c_1 : Ref sig .tc := ⟨.hbm, 248, rfl⟩
abbrev main_while0b_call20_v0 : Ref sig .tc := ⟨.hbm, 249, rfl⟩
abbrev main_while0b_v126 : Ref sig .tc := ⟨.hbm, 250, rfl⟩
abbrev main_while0b_call21_c : Ref sig .tc := ⟨.hbm, 251, rfl⟩
abbrev main_while0b_call21_c_0 : Ref sig .tc := ⟨.hbm, 252, rfl⟩
abbrev main_while0b_call21_v0 : Ref sig .tc := ⟨.hbm, 253, rfl⟩
abbrev main_while0b_v127 : Ref sig .tc := ⟨.hbm, 254, rfl⟩
abbrev main_while0b_call22_c : Ref sig .tc := ⟨.hbm, 255, rfl⟩
abbrev main_while0b_call22_c_0 : Ref sig .tc := ⟨.hbm, 256, rfl⟩
abbrev main_while0b_call22_v0 : Ref sig .tc := ⟨.hbm, 257, rfl⟩
abbrev main_while0b_v128 : Ref sig .tc := ⟨.hbm, 258, rfl⟩
abbrev main_while0b_v129 : Ref sig .tc := ⟨.hbm, 259, rfl⟩
abbrev main_while0b_v130 : Ref sig .tc := ⟨.hbm, 260, rfl⟩
abbrev main_while0b_v131 : Ref sig .tc := ⟨.hbm, 261, rfl⟩
abbrev main_while0b_v132 : Ref sig .tc := ⟨.hbm, 262, rfl⟩
abbrev main_while0b_v133 : Ref sig .tc := ⟨.hbm, 263, rfl⟩
abbrev main_while0b_v134 : Ref sig .tc := ⟨.hbm, 264, rfl⟩
abbrev main_while0b_v135 : Ref sig .tc := ⟨.hbm, 265, rfl⟩
abbrev main_while0b_v136 : Ref sig .tc := ⟨.hbm, 266, rfl⟩
abbrev main_while0b_v137 : Ref sig .tc := ⟨.hbm, 267, rfl⟩
abbrev main_while0b_v138 : Ref sig .tc := ⟨.hbm, 268, rfl⟩
abbrev main_while0b_v139 : Ref sig .tc := ⟨.hbm, 269, rfl⟩
abbrev main_while0b_v140 : Ref sig .tc := ⟨.hbm, 270, rfl⟩
abbrev main_while0b_v141 : Ref sig .tc := ⟨.hbm, 271, rfl⟩
abbrev main_while0b_v142 : Ref sig .tc := ⟨.hbm, 272, rfl⟩
abbrev main_while0b_v143 : Ref sig .tc := ⟨.hbm, 273, rfl⟩
abbrev main_while0b_v144 : Ref sig .tc := ⟨.hbm, 274, rfl⟩
abbrev main_while0b_v145 : Ref sig .tc := ⟨.hbm, 275, rfl⟩
abbrev main_while0b_cst_54 : Ref sig .tc := ⟨.hbm, 276, rfl⟩
abbrev main_while0b_v146 : Ref sig .tc := ⟨.hbm, 277, rfl⟩
abbrev main_while0b_v147 : Ref sig .tc := ⟨.hbm, 278, rfl⟩
abbrev main_while0b_v148 : Ref sig .tc := ⟨.hbm, 279, rfl⟩
abbrev main_while0b_v149 : Ref sig .tc := ⟨.hbm, 280, rfl⟩
abbrev main_while0b_v150 : Ref sig .tc := ⟨.hbm, 281, rfl⟩
abbrev main_while0b_v151 : Ref sig .tc := ⟨.hbm, 282, rfl⟩
abbrev main_while0b_v152 : Ref sig .tc := ⟨.hbm, 283, rfl⟩
abbrev main_while0b_v153 : Ref sig .tc := ⟨.hbm, 284, rfl⟩
abbrev main_while0b_v154 : Ref sig .tc := ⟨.hbm, 285, rfl⟩
abbrev main_while0b_v155 : Ref sig .tc := ⟨.hbm, 286, rfl⟩
abbrev main_while0b_v156 : Ref sig .tc := ⟨.hbm, 287, rfl⟩
abbrev main_while0b_v157 : Ref sig .tc := ⟨.hbm, 288, rfl⟩
abbrev main_while0b_cst_55 : Ref sig .tc := ⟨.hbm, 289, rfl⟩
abbrev main_while0b_call23_v0 : Ref sig .tc := ⟨.hbm, 290, rfl⟩
abbrev main_while0b_call23_v1 : Ref sig .tc := ⟨.hbm, 291, rfl⟩
abbrev main_while0b_v158 : Ref sig .tc := ⟨.hbm, 292, rfl⟩
abbrev main_while0b_v159 : Ref sig .tc := ⟨.hbm, 293, rfl⟩
abbrev main_while0b_v160 : Ref sig .tc := ⟨.hbm, 294, rfl⟩
abbrev main_while0b_v161 : Ref sig .tc := ⟨.hbm, 295, rfl⟩
abbrev main_while0b_v162 : Ref sig .tc := ⟨.hbm, 296, rfl⟩
abbrev main_while0b_v163 : Ref sig .tc := ⟨.hbm, 297, rfl⟩
abbrev main_while0b_cst_56 : Ref sig .tc := ⟨.hbm, 298, rfl⟩
abbrev main_while0b_v164 : Ref sig .tc := ⟨.hbm, 299, rfl⟩
abbrev main_while0b_v165 : Ref sig .tc := ⟨.hbm, 300, rfl⟩
abbrev main_while0b_v166 : Ref sig .tc := ⟨.hbm, 301, rfl⟩
abbrev main_while0b_v167 : Ref sig .tc := ⟨.hbm, 302, rfl⟩
abbrev main_while0b_v168 : Ref sig .tc := ⟨.hbm, 303, rfl⟩
abbrev main_while0b_v169 : Ref sig .tc := ⟨.hbm, 304, rfl⟩
abbrev main_while0b_v170 : Ref sig .tc := ⟨.hbm, 305, rfl⟩
abbrev main_while0b_v171 : Ref sig .tc := ⟨.hbm, 306, rfl⟩
abbrev main_while0b_v172 : Ref sig .tc := ⟨.hbm, 307, rfl⟩
abbrev main_while0b_v173 : Ref sig .tc := ⟨.hbm, 308, rfl⟩
abbrev main_while0b_v174 : Ref sig .tc := ⟨.hbm, 309, rfl⟩
abbrev main_while0b_v175 : Ref sig .tc := ⟨.hbm, 310, rfl⟩
abbrev main_while0b_v176 : Ref sig .tc := ⟨.hbm, 311, rfl⟩
abbrev main_while0b_v177 : Ref sig .tc := ⟨.hbm, 312, rfl⟩
abbrev main_while0b_v178 : Ref sig .tc := ⟨.hbm, 313, rfl⟩
abbrev main_while0b_v179 : Ref sig .tc := ⟨.hbm, 314, rfl⟩
abbrev main_while0b_v180 : Ref sig .tc := ⟨.hbm, 315, rfl⟩
abbrev main_while0b_v181 : Ref sig .tc := ⟨.hbm, 316, rfl⟩
abbrev main_while0b_v182 : Ref sig .tc := ⟨.hbm, 317, rfl⟩
abbrev main_while0b_v183 : Ref sig .tc := ⟨.hbm, 318, rfl⟩
abbrev main_while0b_v184 : Ref sig .tc := ⟨.hbm, 319, rfl⟩
abbrev main_while0b_v185 : Ref sig .tc := ⟨.hbm, 320, rfl⟩
abbrev main_while0b_v186 : Ref sig .tc := ⟨.hbm, 321, rfl⟩
abbrev main_while0b_v187 : Ref sig .tc := ⟨.hbm, 322, rfl⟩
abbrev main_while0b_v188 : Ref sig .tc := ⟨.hbm, 323, rfl⟩
abbrev main_while0b_v189 : Ref sig .tc := ⟨.hbm, 324, rfl⟩
abbrev main_while0b_v190 : Ref sig .tc := ⟨.hbm, 325, rfl⟩
abbrev main_while0b_v191 : Ref sig .tc := ⟨.hbm, 326, rfl⟩
abbrev main_while0b_v192 : Ref sig .tc := ⟨.hbm, 327, rfl⟩
abbrev main_while0b_v193 : Ref sig .tc := ⟨.hbm, 328, rfl⟩
abbrev main_while0b_v194 : Ref sig .tc := ⟨.hbm, 329, rfl⟩
abbrev main_while0b_v195 : Ref sig .tc := ⟨.hbm, 330, rfl⟩
abbrev main_while0b_v196 : Ref sig .tc := ⟨.hbm, 331, rfl⟩
abbrev main_while0b_v197 : Ref sig .tc := ⟨.hbm, 332, rfl⟩
abbrev main_while0b_v198 : Ref sig .tc := ⟨.hbm, 333, rfl⟩
abbrev main_while0b_v199 : Ref sig .tc := ⟨.hbm, 334, rfl⟩
abbrev main_while0b_call24_v0 : Ref sig .tc := ⟨.hbm, 335, rfl⟩
abbrev main_while0b_call24_c : Ref sig .tc := ⟨.hbm, 336, rfl⟩
abbrev main_while0b_call24_c_0 : Ref sig .tc := ⟨.hbm, 337, rfl⟩
abbrev main_while0b_call24_c_1 : Ref sig .tc := ⟨.hbm, 338, rfl⟩
abbrev main_while0b_call24_c_2 : Ref sig .tc := ⟨.hbm, 339, rfl⟩
abbrev main_while0b_v200 : Ref sig .tc := ⟨.hbm, 340, rfl⟩
abbrev main_while0b_c_57 : Ref sig .tc := ⟨.hbm, 341, rfl⟩
abbrev main_while0b_v201 : Ref sig .tc := ⟨.hbm, 342, rfl⟩
abbrev main_v113 : Ref sig .tc := ⟨.hbm, 343, rfl⟩
abbrev main_v114 : Ref sig .tc := ⟨.hbm, 344, rfl⟩

abbrev nD : Nat := 1
abbrev τ : Topo := Topo.v7x

variable {F : FTy → Type} [FloatOps F]

abbrev main_while0_count : Scf.Loop 32 := ⟨0#32, 32#32, 1#32⟩
-- ==== Gates.lean ====
abbrev S12x4x2048 : Shape := ⟨3, ![12, 4, 2048]⟩
abbrev S12x2048 : Shape := ⟨2, ![12, 2048]⟩
abbrev S12x4 : Shape := ⟨2, ![12, 4]⟩
abbrev S1x4x2048 : Shape := ⟨3, ![1, 4, 2048]⟩
abbrev S4x2048 : Shape := ⟨2, ![4, 2048]⟩
abbrev S48x2048 : Shape := ⟨2, ![48, 2048]⟩
abbrev S48x128 : Shape := ⟨2, ![48, 128]⟩
abbrev S768x128 : Shape := ⟨2, ![768, 128]⟩
abbrev S1x2048 : Shape := ⟨2, ![1, 2048]⟩
abbrev S768x1 : Shape := ⟨2, ![768, 1]⟩
abbrev S4x4 : Shape := ⟨2, ![4, 4]⟩
abbrev S4 : Shape := ⟨1, ![4]⟩
abbrev S1x4 : Shape := ⟨2, ![1, 4]⟩

abbrev nBuf : Space → Nat
  | .hbm => 4
  | .vmem => 4
  | .smem => 0
  | _ => 0

abbrev bufTy : (tb : Table) → Fin (tcTables nBuf tb) → BufTy
  | .hbm, ⟨0, _⟩ => ⟨S12x4x2048, .f32⟩
  | .hbm, ⟨1, _⟩ => ⟨S12x4x2048, .f32⟩
  | .hbm, ⟨2, _⟩ => ⟨S12x2048, .i32⟩
  | .hbm, ⟨3, _⟩ => ⟨S12x4, .f32⟩
  | .local _ .vmem, ⟨0, _⟩ => ⟨S12x4x2048, .f32⟩
  | .local _ .vmem, ⟨1, _⟩ => ⟨S12x4x2048, .f32⟩
  | .local _ .vmem, ⟨2, _⟩ => ⟨S12x2048, .i32⟩
  | .local _ .vmem, ⟨3, _⟩ => ⟨S12x4, .f32⟩
  | _, _ => ⟨S12x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LastLogScaleIdeal.lean ====
abbrev S12x4x2048 : Shape := ⟨3, ![12, 4, 2048]⟩
abbrev S12x2048 : Shape := ⟨2, ![12, 2048]⟩
abbrev S12x4x32x64 : Shape := ⟨4, ![12, 4, 32, 64]⟩
abbrev S_ : Shape := ⟨0, ![]⟩
abbrev S64x64 : Shape := ⟨2, ![64, 64]⟩
abbrev S12x4x32x1x64 : Shape := ⟨5, ![12, 4, 32, 1, 64]⟩
abbrev S12x4x32x64x64 : Shape := ⟨5, ![12, 4, 32, 64, 64]⟩
abbrev S12x4x32x1 : Shape := ⟨4, ![12, 4, 32, 1]⟩
abbrev S12x4x32 : Shape := ⟨3, ![12, 4, 32]⟩
abbrev S12x32x64 : Shape := ⟨3, ![12, 32, 64]⟩
abbrev S12x2047 : Shape := ⟨2, ![12, 2047]⟩
abbrev S12x32 : Shape := ⟨2, ![12, 32]⟩
abbrev S12x32x1 : Shape := ⟨3, ![12, 32, 1]⟩
abbrev S12x1x32x64 : Shape := ⟨4, ![12, 1, 32, 64]⟩
abbrev S12x4 : Shape := ⟨2, ![12, 4]⟩
abbrev S32x12x4 : Shape := ⟨3, ![32, 12, 4]⟩
abbrev S32x12 : Shape := ⟨2, ![32, 12]⟩
abbrev S32x12x1 : Shape := ⟨3, ![32, 12, 1]⟩
abbrev S1x12x4 : Shape := ⟨3, ![1, 12, 4]⟩
abbrev S1x12x1 : Shape := ⟨3, ![1, 12, 1]⟩
abbrev S12x1 : Shape := ⟨2, ![12, 1]⟩

abbrev nBuf : Space → Nat
  | .hbm => 91
  | .vmem => 0
  | .smem => 0
  | _ => 0

abbrev bufTy : (tb : Table) → Fin (tcTables nBuf tb) → BufTy
  | .hbm, ⟨0, _⟩ => ⟨S12x4x2048, .f32⟩
  | .hbm, ⟨1, _⟩ => ⟨S12x4x2048, .f32⟩
  | .hbm, ⟨2, _⟩ => ⟨S12x2048, .i32⟩
  | .hbm, ⟨3, _⟩ => ⟨S12x4x32x64, .f32⟩
  | .hbm, ⟨4, _⟩ => ⟨S12x4x2048, .f32⟩
  | .hbm, ⟨5, _⟩ => ⟨S_, .f32⟩
  | .hbm, ⟨6, _⟩ => ⟨S12x4x2048, .f32⟩
  | .hbm, ⟨7, _⟩ => ⟨S12x4x2048, .f32⟩
  | .hbm, ⟨8, _⟩ => ⟨S12x4x2048, .f32⟩
  | .hbm, ⟨9, _⟩ => ⟨S12x4x2048, .f32⟩
  | .hbm, ⟨10, _⟩ => ⟨S12x4x2048, .i1⟩
  | .hbm, ⟨11, _⟩ => ⟨S12x4x2048, .f32⟩
  | .hbm, ⟨12, _⟩ => ⟨S12x4x2048, .f32⟩
  | .hbm, ⟨13, _⟩ => ⟨S12x4x2048, .f32⟩
  | .hbm, ⟨14, _⟩ => ⟨S12x4x2048, .f32⟩
  | .hbm, ⟨15, _⟩ => ⟨S12x4x2048, .f32⟩
  | .hbm, ⟨16, _⟩ => ⟨S12x4x2048, .f32⟩
  | .hbm, ⟨17, _⟩ => ⟨S12x4x2048, .f32⟩
  | .hbm, ⟨18, _⟩ => ⟨S12x4x2048, .f32⟩
  | .hbm, ⟨19, _⟩ => ⟨S12x4x32x64, .f32⟩
  | .hbm, ⟨20, _⟩ => ⟨S12x4x32x64, .f32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S12x4x32x1x64, .f32⟩
  | .hbm, ⟨25, _⟩ => ⟨S_, .f32⟩
  | .hbm, ⟨26, _⟩ => ⟨S_, .f32⟩
  | .hbm, ⟨27, _⟩ => ⟨S12x4x32x64x64, .i1⟩
  | .hbm, ⟨28, _⟩ => ⟨S12x4x32x64x64, .f32⟩
  | .hbm, ⟨29, _⟩ => ⟨S12x4x32x64x64, .f32⟩
  | .hbm, ⟨30, _⟩ => ⟨S12x4x32x64x64, .f32⟩
  | .hbm, ⟨31, _⟩ => ⟨S_, .f32⟩
  | .hbm, ⟨32, _⟩ => ⟨S12x4x32x64, .f32⟩
  | .hbm, ⟨33, _⟩ => ⟨S12x4x32x1, .f32⟩
  | .hbm, ⟨34, _⟩ => ⟨S12x4x32, .f32⟩
  | .hbm, ⟨35, _⟩ => ⟨S12x32x64, .i32⟩
  | .hbm, ⟨36, _⟩ => ⟨S12x2047, .i32⟩
  | .hbm, ⟨37, _⟩ => ⟨S_, .i32⟩
  | .hbm, ⟨38, _⟩ => ⟨S_, .i32⟩
  | .hbm, ⟨39, _⟩ => ⟨S12x2048, .i32⟩
  | .hbm, ⟨40, _⟩ => ⟨S12x32x64, .i32⟩
  | .hbm, ⟨41, _⟩ => ⟨S12x32x64, .i1⟩
  | .hbm, ⟨42, _⟩ => ⟨S_, .i1⟩
  | .hbm, ⟨43, _⟩ => ⟨S12x32, .i1⟩
  | .hbm, ⟨44, _⟩ => ⟨S12x32x1, .i32⟩
  | .hbm, ⟨45, _⟩ => ⟨S12x32x64, .i32⟩
  | .hbm, ⟨46, _⟩ => ⟨S12x32x64, .i1⟩
  | .hbm, ⟨47, _⟩ => ⟨S12x1x32x64, .i1⟩
  | .hbm, ⟨48, _⟩ => ⟨S12x4x32x1, .f32⟩
  | .hbm, ⟨49, _⟩ => ⟨S12x4x32x64, .f32⟩
  | .hbm, ⟨50, _⟩ => ⟨S12x4x32x64, .f32⟩
  | .hbm, ⟨51, _⟩ => ⟨S12x4x32x64, .f32⟩
  | .hbm, ⟨52, _⟩ => ⟨S_, .f32⟩
  | .hbm, ⟨53, _⟩ => ⟨S_, .f32⟩
  | .hbm, ⟨54, _⟩ => ⟨S12x4x32x64, .i1⟩
  | .hbm, ⟨55, _⟩ => ⟨S12x4x32x64, .f32⟩
  | .hbm, ⟨56, _⟩ => ⟨S12x4x32x64, .f32⟩
  | .hbm, ⟨57, _⟩ => ⟨S_, .f32⟩
  | .hbm, ⟨58, _⟩ => ⟨S12x4x32, .f32⟩
  | .hbm, ⟨59, _⟩ => ⟨S_, .f32⟩
  | .hbm, ⟨60, _⟩ => ⟨S12x4, .f32⟩
  | .hbm, ⟨61, _⟩ => ⟨S32x12x4, .f32⟩
  | .hbm, ⟨62, _⟩ => ⟨S32x12x4, .f32⟩
  | .hbm, ⟨63, _⟩ => ⟨S32x12, .i1⟩
  | .hbm, ⟨64, _⟩ => ⟨S32x12x1, .i1⟩
  | .hbm, ⟨65, _⟩ => ⟨S_, .i32⟩
  | .hbm, ⟨66, _⟩ => ⟨S32x12x4, .f32⟩
  | .hbm, ⟨67, _⟩ => ⟨S32x12x4, .f32⟩
  | .hbm, ⟨68, _⟩ => ⟨S32x12x1, .i1⟩
  | .hbm, ⟨69, _⟩ => ⟨S_, .i32⟩
  | .hbm, ⟨70, _⟩ => ⟨S12x4, .f32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S1x12x4, .f32⟩
  | .hbm, ⟨76, _⟩ => ⟨S12x4, .f32⟩
  | .hbm, ⟨77, _⟩ => ⟨S_, .i32⟩
  | .hbm, ⟨78, _⟩ => ⟨S_, .i32⟩
  | .hbm, ⟨79, _⟩ => ⟨S1x12x4, .f32⟩
  | .hbm, ⟨80, _⟩ => ⟨S12x4, .f32⟩
  | .hbm, ⟨81, _⟩ => ⟨S_, .i32⟩
  | .hbm, ⟨82, _⟩ => ⟨S_, .i32⟩
  | .hbm, ⟨83, _⟩ => ⟨S1x12x1, .i1⟩
  | .hbm, ⟨84, _⟩ => ⟨S12x1, .i1⟩
  | .hbm, ⟨85, _⟩ => ⟨S12x4, .f32⟩
  | .hbm, ⟨86, _⟩ => ⟨S12x4, .f32⟩
  | .hbm, ⟨87, _⟩ => ⟨S12x4, .i1⟩
  | .hbm, ⟨88, _⟩ => ⟨S12x4, .f32⟩
  | .hbm, ⟨89, _⟩ => ⟨S_, .i32⟩
  | .hbm, ⟨90, _⟩ => ⟨S_, .i32⟩
  | _, _ => ⟨S12x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_call2_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_2 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_5 : Ref sig .tc := ⟨.hbm, 65, rfl⟩
abbrev main_v34_0 : Ref sig .tc := ⟨.hbm, 66, rfl⟩
abbrev main_v34_1 : Ref sig .tc := ⟨.hbm, 67, rfl⟩
abbrev main_v34_2 : Ref sig .tc := ⟨.hbm, 68, rfl⟩
abbrev main_v34_3 : Ref sig .tc := ⟨.hbm, 69, rfl⟩
abbrev main_v34_4 : Ref sig .tc := ⟨.hbm, 70, rfl⟩
abbrev main_while0c_c_10 : Ref sig .tc := ⟨.hbm, 71, rfl⟩
abbrev main_while0c_v35 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_v0 : Ref sig .tc := ⟨.hbm, 75, rfl⟩
abbrev main_while0b_v35 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_v0 : Ref sig .tc := ⟨.hbm, 79, rfl⟩
abbrev main_while0b_v36 : Ref sig .tc := ⟨.hbm, 80, rfl⟩
abbrev main_while0b_call6_c : Ref sig .tc := ⟨.hbm, 81, rfl⟩
abbrev main_while0b_call6_c_0 : Ref sig .tc := ⟨.hbm, 82, rfl⟩
abbrev main_while0b_call6_v0 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_call7_v0 : Ref sig .tc := ⟨.hbm, 87, rfl⟩
abbrev main_while0b_v40 : Ref sig .tc := ⟨.hbm, 88, rfl⟩
abbrev main_while0b_c_10 : Ref sig .tc := ⟨.hbm, 89, rfl⟩
abbrev main_while0b_v41 : Ref sig .tc := ⟨.hbm, 90, rfl⟩

abbrev nD : Nat := 1
abbrev τ : Topo := Topo.v7x

variable {F : FTy → Type} [FloatOps F]

abbrev main_while0_count : Scf.Loop 32 := ⟨0#32, 32#32, 1#32⟩
-- ==== Proof.KerFrame.lean ====
/- The frame of the kernel: it runs without fault, leaves its arguments and its semaphores end at zero. What the body leaves in
   its three outputs is not named here: the ideal kernel, for which it is, has its own run (Run.lean, Blocks.lean). -/
module

public import proofs.«01_k».proof.Proof.Gen.Kernel.Frame.Runs
public import Idealize.ShloMosaic.Lib.Claim

@[expose] public section

set_option maxRecDepth 16384

noncomputable section

namespace Cert.Kernel.Keep

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run after which the inputs' arrays and every other buffer are as the region found them leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body -/

set_option maxHeartbeats 1000000 in
/-- The body's triple: on whole staging memrefs — the inputs' at their contents,
    the FORGOTTEN outputs' (6, 7, 8) at anything, handed back at some contents nothing names —
    the body runs to the continuation holding the inputs' as they were, the scratch at some contents: the printed functions are their skeletons (`*_eq_skeleton`),
    which `sl_exec` runs (Lib/Exec.lean). -/
theorem body_kept (c : Dev nD) (i : grid0.Coords) (arg1 : Memref sig .tc .vmem S1x4x2048x96 .fp8e4m3) (harg1 : arg1.IsWhole) (arg2 : Memref sig .tc .vmem S1x4x2048x96 .fp8e4m3) (harg2 : arg2.IsWhole) (arg3 : Memref sig .tc .vmem S1x4x2048x192 .fp8e4m3) (harg3 : arg3.IsWhole) (arg4 : Memref sig .tc .vmem S12x12x2048 .f32) (harg4 : arg4.IsWhole) (arg5 : Memref sig .tc .vmem S12x16x2048 .f32) (harg5 : arg5.IsWhole) (arg6 : Memref sig .tc .vmem S12x32x16x128 .f32) (harg6 : arg6.IsWhole) (arg7 : Memref sig .tc .vmem S1x4x2048x192 .bf16) (harg7 : arg7.IsWhole) (arg8 : Memref sig .tc .vmem S1x4x96x192 .f32) (harg8 : arg8.IsWhole) (arg9 : Memref sig .tc .vmem S1x4x96 .f32) (harg9 : arg9.IsWhole) (arg10 : Memref sig .tc .vmem S4x96x256 .f32) (harg10 : arg10.IsWhole)
    (x0 : Vec F S1x4x2048x96 .fp8e4m3) (x1 : Vec F S1x4x2048x96 .fp8e4m3) (x2 : Vec F S1x4x2048x192 .fp8e4m3) (x3 : Vec F S12x12x2048 .f32) (x4 : Vec F S12x16x2048 .f32) (x5 : Vec F S12x32x16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mlstm_chunkwise i arg1 harg1 arg2 harg2 arg3 harg3 arg4 harg4 arg5 harg5 arg6 harg6 arg7 harg7 arg8 harg8 arg9 harg9 arg10 harg10) K := by
    intro E K
    simp only [cc0_mlstm_chunkwise_eq_skeleton]; unfold cc0_mlstm_chunkwise_skel
    simp only [k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_kept c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

/-- The frame claim's statement, for any values: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel.Keep

end
-- ==== Proof.Spec.lean ====
/-
  What one head of one batch element computes, over the extended reals: the state after each chunk, and the results of a chunk's
  tokens. Both programs are shown to compute this.
-/
module

public import Idealize.ShloMosaic.PureOps.Ideal.Laws
public import Mathlib.Analysis.SpecialFunctions.Pow.Real

@[expose] public section

noncomputable section

namespace Cert.Spec

open Idealize.ShloMosaic

/-- One head's tables: per token, and per chunk. -/
structure Seq where
  q : Fin 2048 → Fin 96 → EReal
  k : Fin 2048 → Fin 96 → EReal
  v : Fin 2048 → Fin 192 → EReal
  c : Fin 2048 → EReal
  m : Fin 2048 → EReal
  seg : Fin 2048 → EReal
  w : Fin 2048 → EReal
  iw : Fin 2048 → EReal
  fl : Fin 2048 → EReal
  psc : Fin 32 → EReal
  ks : Fin 32 → EReal
  vs : Fin 32 → EReal
  dec : Fin 32 → EReal
  gain : Fin 32 → EReal

/-- Token `t` of chunk `i`. -/
def tk (i : Fin 32) (t : Fin 64) : Fin 2048 := ⟨64 * i.val + t.val, by omega⟩

variable (S : Seq)

/-- The matrix after one more chunk. -/
def stepC (i : Fin 32) (C : EReal) (d : Fin 96) (e : Fin 192) : EReal :=
  S.dec i * C + S.gain i * ((∑ s : Fin 64, S.k (tk i s) d * S.w (tk i s) * S.v (tk i s) e) * (S.ks i * S.vs i))

/-- The normaliser after one more chunk. -/
def stepN (i : Fin 32) (n : EReal) (d : Fin 96) : EReal :=
  S.dec i * n + S.gain i * ((∑ s : Fin 64, S.k (tk i s) d * S.w (tk i s)) * S.ks i)

/-- The matrix before chunk `i`. -/
def C : ℕ → Fin 96 → Fin 192 → EReal
  | 0, _, _ => 0
  | i + 1, d, e => if h : i < 32 then stepC S ⟨i, h⟩ (C i d e) d e else C i d e

/-- The normaliser before chunk `i`. -/
def N : ℕ → Fin 96 → EReal
  | 0, _ => 0
  | i + 1, d => if h : i < 32 then stepN S ⟨i, h⟩ (N i d) d else N i d

/-- The weight of token `s` of a chunk for its token `t`. -/
def P (i : Fin 32) (t s : Fin 64) : EReal :=
  if s.val ≤ t.val ∧ ((((t.val : ℤ) - (s.val : ℤ) : ℤ) : ℝ) : EReal) ≤ S.seg (tk i t) then
    ((∑ d : Fin 96, S.q (tk i t) d * S.k (tk i s) d) * S.psc i) * Ideal.exp (S.c (tk i s) - S.m (tk i t))
  else 0

/-- The result at token `t` of chunk `i`, lane `e`. -/
def H (i : Fin 32) (t : Fin 64) (e : Fin 192) : EReal :=
  Ideal.div
    (S.iw (tk i t) * (∑ d : Fin 96, S.q (tk i t) d * C S i.val d e) + S.vs i * (∑ s : Fin 64, P S i t s * S.v (tk i s) e))
    (max (FloatOps.absf (F := Ideal) (φ := .f32)
      (S.iw (tk i t) * (∑ d : Fin 96, S.q (tk i t) d * N S i.val d) + ∑ s : Fin 64, P S i t s)) (S.fl (tk i t)))

/-! ## Finite values -/

/-- A value that is a real number. -/
def Fin' (x : EReal) : Prop := ∃ r : ℝ, x = (r : EReal)

theorem Fin'.zero : Fin' 0 := ⟨0, rfl⟩
theorem Fin'.add {x y : EReal} : Fin' x → Fin' y → Fin' (x + y)
  | ⟨a, ha⟩, ⟨b, hb⟩ => ⟨a + b, by rw [ha, hb, EReal.coe_add]⟩
theorem Fin'.mul {x y : EReal} : Fin' x → Fin' y → Fin' (x * y)
  | ⟨a, ha⟩, ⟨b, hb⟩ => ⟨a * b, by rw [ha, hb, EReal.coe_mul]⟩
theorem Fin'.sum {n : ℕ} (f : Fin n → EReal) (h : ∀ s, Fin' (f s)) : Fin' (∑ s, f s) := by
  classical
  refine Finset.sum_induction f Fin' (fun _ _ => Fin'.add) Fin'.zero (fun s _ => h s)
theorem Fin'.sub_self {x : EReal} : Fin' x → x - x = 0
  | ⟨a, ha⟩ => by rw [ha, ← EReal.coe_sub, _root_.sub_self, EReal.coe_zero]

/-- What the state is made of is finite. -/
structure Finite : Prop where
  k : ∀ t d, Fin' (S.k t d)
  v : ∀ t e, Fin' (S.v t e)
  w : ∀ t, Fin' (S.w t)
  ks : ∀ i, Fin' (S.ks i)
  vs : ∀ i, Fin' (S.vs i)
  dec : ∀ i, Fin' (S.dec i)
  gain : ∀ i, Fin' (S.gain i)

variable {S}

theorem Finite.C (h : Finite S) : ∀ i d e, Fin' (Spec.C S i d e)
  | 0, _, _ => Fin'.zero
  | i + 1, d, e => by
    have ih := h.C i d e
    unfold Spec.C
    split
    · exact ((h.dec _).mul ih).add ((h.gain _).mul ((Fin'.sum _ fun s => ((h.k _ _).mul (h.w _)).mul (h.v _ _)).mul
        ((h.ks _).mul (h.vs _))))
    · exact ih

theorem Finite.N (h : Finite S) : ∀ i d, Fin' (Spec.N S i d)
  | 0, _ => Fin'.zero
  | i + 1, d => by
    have ih := h.N i d
    unfold Spec.N
    split
    · exact ((h.dec _).mul ih).add ((h.gain _).mul ((Fin'.sum _ fun s => (h.k _ _).mul (h.w _)).mul (h.ks _)))
    · exact ih

theorem C_succ (i : Fin 32) (d : Fin 96) (e : Fin 192) : C S (i.val + 1) d e = stepC S i (C S i.val d e) d e := by
  show dite _ _ _ = _
  rw [dif_pos i.isLt]

theorem N_succ (i : Fin 32) (d : Fin 96) : N S (i.val + 1) d = stepN S i (N S i.val d) d := by
  show dite _ _ _ = _
  rw [dif_pos i.isLt]

/-! ## The exponential in base 2 -/

theorem exp2_log2e (c m : EReal) :
    Ideal.exp2 (c * (((Real.log 2)⁻¹ : ℝ) : EReal) - m * (((Real.log 2)⁻¹ : ℝ) : EReal)) = Ideal.exp (c - m) := by
  have hL : (0 : ℝ) < (Real.log 2)⁻¹ := inv_pos.mpr (Real.log_pos (by norm_num))
  have ht : (⊤ : EReal) * (((Real.log 2)⁻¹ : ℝ) : EReal) = ⊤ := EReal.top_mul_coe_of_pos hL
  have hb : (⊥ : EReal) * (((Real.log 2)⁻¹ : ℝ) : EReal) = ⊥ := EReal.bot_mul_coe_of_pos hL
  induction c with
  | bot => rw [hb]; simp [sub_eq_add_neg]
  | top =>
    rw [ht]
    induction m with
    | bot => rw [hb]; simp [sub_eq_add_neg]
    | top => rw [ht]; simp [sub_eq_add_neg]
    | coe b =>
      rw [← EReal.coe_mul, EReal.top_sub_coe, EReal.top_sub_coe]; rfl
  | coe a =>
    induction m with
    | bot => rw [hb, ← EReal.coe_mul, EReal.coe_sub_bot, EReal.coe_sub_bot]; rfl
    | top => rw [ht, ← EReal.coe_mul]; simp [sub_eq_add_neg]
    | coe b =>
      rw [← EReal.coe_mul, ← EReal.coe_mul, ← EReal.coe_sub, ← EReal.coe_sub, Ideal.exp2_coe, Ideal.exp_coe]
      congr 1
      refine (Real.rpow_def_of_pos (by norm_num : (0 : ℝ) < 2) _).trans ?_
      congr 1
      have : Real.log 2 ≠ 0 := ne_of_gt (Real.log_pos (by norm_num))
      field_simp

end Cert.Spec

end
-- ==== Proof.Args.lean ====
/-
  The arguments both programs take, as plain tables, and the value of a byte that holds an `e4m3fn` number.
-/
module

public import proofs.«01_k».proof.Proof.Spec
public import Idealize.ShloMosaic.Lib.Pointwise

@[expose] public section

noncomputable section

namespace Cert.Spec

open Idealize.ShloMosaic

/-! ## A byte's value -/

/-- Exponent and fraction of a byte. -/
def ex (u : BitVec 8) : ℕ := (u.extractLsb' 3 4).toNat
def fr (u : BitVec 8) : ℕ := (u.extractLsb' 0 3).toNat

/-- The value the byte `u` holds. -/
def code (u : BitVec 8) : EReal := FloatOps.ofBits (F := Ideal) .fp8e4m3 u

/-- The magnitude, in units of `2⁻¹⁰`, as the integers make it. -/
def magnitude (u : BitVec 8) : BitVec 32 :=
  Scalar.select
    (IntOp.cmpi CmpIPredicate.eq (IntOp.andi (IntOp.shrsi ArithUnit.host (BitVec.setWidth 32 u) 3#32) 15#32) 0#32)
    (IntOp.shli ArithUnit.host (IntOp.andi (BitVec.setWidth 32 u) 7#32) 1#32)
    (IntOp.shli ArithUnit.host (IntOp.addi (IntOp.andi (BitVec.setWidth 32 u) 7#32) 8#32)
      (IntOp.andi (IntOp.shrsi ArithUnit.host (BitVec.setWidth 32 u) 3#32) 15#32))

set_option maxRecDepth 100000 in
theorem magnitude_toInt : ∀ u, (magnitude u).toInt = if ex u = 0 then 2 * (fr u : ℤ) else (8 + (fr u : ℤ)) * 2 ^ ex u := by
  decide +kernel

set_option maxRecDepth 100000 in
theorem nan_word : ∀ u : BitVec 8, IntOp.cmpi CmpIPredicate.eq (IntOp.andi (BitVec.setWidth 32 u) 127#32) 127#32
    = BitVec.ofBool (decide (ex u = 15 ∧ fr u = 7)) := by
  decide +kernel

set_option maxRecDepth 100000 in
theorem sign_word : ∀ u : BitVec 8, IntOp.cmpi CmpIPredicate.sge (BitVec.setWidth 32 u) 128#32
    = BitVec.ofBool (u.extractLsb' 7 1 == 1#1) := by
  decide +kernel

theorem unit_value : Ideal.ofBits FTy.f32 981467136#32 = (((2 : ℝ) ^ (-10 : ℤ) : ℝ) : EReal) := by
  simp [Ideal.ofBits, Ideal.ieee, -EReal.coe_mul]
  norm_num

theorem nan_value : Ideal.ofBits FTy.f32 2143289344#32 = ⊥ := by
  simp [Ideal.ofBits, Ideal.ieee]

theorem select_ofBool {α : Type} (p : Bool) (x y : α) : Scalar.select (BitVec.ofBool p) x y = if p = true then x else y := by
  cases p <;> rfl

/-- The value as the integers make it is the byte's value. -/
theorem code_eq (u : BitVec 8) :
    Scalar.select (IntOp.cmpi CmpIPredicate.eq (IntOp.andi (BitVec.setWidth 32 u) 127#32) 127#32)
      (Ideal.ofBits FTy.f32 2143289344#32)
      (Scalar.select (IntOp.cmpi CmpIPredicate.sge (BitVec.setWidth 32 u) 128#32)
        (-((FloatOps.sitofp (F := Ideal) FTy.f32 (magnitude u) : EReal) * Ideal.ofBits FTy.f32 981467136#32))
        ((FloatOps.sitofp (F := Ideal) FTy.f32 (magnitude u) : EReal) * Ideal.ofBits FTy.f32 981467136#32))
      = code u := by
  have hm : (FloatOps.sitofp (F := Ideal) FTy.f32 (magnitude u) : EReal) = (((magnitude u).toInt : ℝ) : EReal) := rfl
  rw [nan_word, sign_word, select_ofBool, select_ofBool, nan_value, unit_value, hm, magnitude_toInt]
  show _ = Ideal.e4m3fn u
  unfold Ideal.e4m3fn
  show _ = ite (ex u = 15 ∧ fr u = 7) _ (ite (ex u = 0) _ _)
  simp only [decide_eq_true_eq, ← EReal.coe_mul, ← EReal.coe_neg]
  by_cases h : ex u = 15 ∧ fr u = 7
  · rw [if_pos h, if_pos h]
  · rw [if_neg h, if_neg h]
    by_cases h0 : ex u = 0
    · rw [if_pos h0, if_pos h0]
      split
      · congr 1
        show _ = -1 * (fr u : ℝ) * _
        push_cast
        norm_num
        ring
      · congr 1
        show _ = 1 * (fr u : ℝ) * _
        push_cast
        norm_num
        ring
    · rw [if_neg h0, if_neg h0]
      have hp : (2 : ℝ) ^ ((ex u : ℤ) - 10) = 2 ^ ex u * 2 ^ (-10 : ℤ) := by
        rw [sub_eq_add_neg, zpow_add₀ (by norm_num), zpow_natCast]
      split
      · congr 1
        show _ = -1 * ((8 + fr u : ℕ) : ℝ) * (2 : ℝ) ^ ((ex u : ℤ) - 10)
        rw [hp]
        push_cast
        ring
      · congr 1
        show _ = 1 * ((8 + fr u : ℕ) : ℝ) * (2 : ℝ) ^ ((ex u : ℤ) - 10)
        rw [hp]
        push_cast
        ring

/-- A byte that is no NaN holds a real number. -/
theorem code_finite (u : BitVec 8) (h : IntOp.cmpi CmpIPredicate.eq (IntOp.andi (BitVec.setWidth 32 u) 127#32) 127#32 ≠ 1#1) :
    Fin' (code u) := by
  rw [nan_word] at h
  have hn : ¬ (ex u = 15 ∧ fr u = 7) := fun hn => h (by rw [decide_eq_true hn]; rfl)
  show Fin' (Ideal.e4m3fn u)
  unfold Ideal.e4m3fn
  show Fin' (ite (ex u = 15 ∧ fr u = 7) _ (ite (ex u = 0) _ _))
  rw [if_neg hn]
  split
  · exact ⟨_, rfl⟩
  · exact ⟨_, rfl⟩

/-! ## The arguments -/

/-- The arguments, by batch element and head. -/
structure Args where
  q : Fin 12 → Fin 4 → Fin 2048 → Fin 96 → BitVec 8
  k : Fin 12 → Fin 4 → Fin 2048 → Fin 96 → BitVec 8
  v : Fin 12 → Fin 4 → Fin 2048 → Fin 192 → BitVec 8
  qs : Fin 12 → Fin 4 → Fin 32 → EReal
  ks : Fin 12 → Fin 4 → Fin 32 → EReal
  vs : Fin 12 → Fin 4 → Fin 32 → EReal
  c : Fin 12 → Fin 4 → Fin 2048 → EReal
  m : Fin 12 → Fin 4 → Fin 2048 → EReal
  seg : Fin 12 → Fin 4 → Fin 2048 → EReal
  w : Fin 12 → Fin 4 → Fin 2048 → EReal
  iw : Fin 12 → Fin 4 → Fin 2048 → EReal
  fl : Fin 12 → Fin 4 → Fin 2048 → EReal
  dec : Fin 12 → Fin 4 → Fin 32 → EReal
  gain : Fin 12 → Fin 4 → Fin 32 → EReal

/-- A head's tables. The scores' scale is the key's and the query's times the constant `96 ^ -½`. -/
def Args.seq (A : Args) (b : Fin 12) (h : Fin 4) : Seq where
  q t d := code (A.q b h t d)
  k t d := code (A.k b h t d)
  v t e := code (A.v b h t e)
  c := A.c b h
  m := A.m b h
  seg := A.seg b h
  w := A.w b h
  iw := A.iw b h
  fl := A.fl b h
  psc i := A.qs b h i * A.ks b h i * Ideal.ofBits FTy.f32 1037108716#32
  ks := A.ks b h
  vs := A.vs b h
  dec := A.dec b h
  gain := A.gain b h

end Cert.Spec

end
-- ==== Proof.Tables.lean ====
/-
  The tables of a head, from the argument arrays.
-/
module

public import proofs.«01_k».proof.Proof.Args

@[expose] public section

noncomputable section

namespace Cert.Spec

open Idealize.ShloMosaic

/-- The arguments as tables: queries, keys, values; their scales by chunk; the gate tables by token, and by chunk. -/
def argsOf (a0 a1 : IVec ⟨4, ![12, 4, 2048, 96]⟩ 8) (a2 : IVec ⟨4, ![12, 4, 2048, 192]⟩ 8)
    (a3 a4 a5 : FVec Ideal ⟨3, ![12, 4, 32]⟩ .f32) (a6 a7 a8 a9 a10 a11 : FVec Ideal ⟨3, ![12, 4, 2048]⟩ .f32)
    (a12 a13 : FVec Ideal ⟨3, ![12, 4, 32]⟩ .f32) : Args where
  q b h t d := a0 (ix4 b h t d)
  k b h t d := a1 (ix4 b h t d)
  v b h t d := a2 (ix4 b h t d)
  qs b h i := a3 (ix3 b h i)
  ks b h i := a4 (ix3 b h i)
  vs b h i := a5 (ix3 b h i)
  c b h t := a6 (ix3 b h t)
  m b h t := a7 (ix3 b h t)
  seg b h t := a8 (ix3 b h t)
  w b h t := a9 (ix3 b h t)
  iw b h t := a10 (ix3 b h t)
  fl b h t := a11 (ix3 b h t)
  dec b h i := a12 (ix3 b h i)
  gain b h i := a13 (ix3 b h i)

end Cert.Spec

end
-- ==== Proof.Host.lean ====
/-
  The arrays the host prepares for the kernel, element by element.
-/
module

public import proofs.«01_k».proof.Proof.Gen.KernelIdeal.Frame.Runs
public import proofs.«01_k».proof.Proof.Tables
public import Idealize.ShloMosaic.Lib.Pointwise
public import Idealize.ShloMosaic.Lib.StableHlo.RunRead
public import Idealize.ShloMosaic.Lib.Tactic.CleanTypes

@[expose] public section

set_option maxRecDepth 65536

noncomputable section

namespace Cert.KernelIdeal.Val

open Idealize.ShloMosaic Idealize.ShloMosaic.TcCoe Idealize.SL.Sem Cert.KernelIdeal Cert.KernelIdeal.Gen

/-! ## The concatenations -/

variable (m : (ℓ : Loc nD τ sig) → Buf (Elt Ideal) ℓ) (c : Dev nD)

def catT (x : FVec Ideal S12x4x2048 .f32) (y : FVec Ideal S12x4x2048 .f32) : FVec Ideal S12x8x2048 .f32 :=
  concatenate S12x8x2048 1 [⟨S12x4x2048, x⟩, ⟨S12x4x2048, y⟩] concatenates_S12x4x2048_S12x4x2048_S12x8x2048_d1
theorem catT_def : (fun a b => concatenate S12x8x2048 1 [⟨S12x4x2048, a⟩, ⟨S12x4x2048, b⟩] concatenates_S12x4x2048_S12x4x2048_S12x8x2048_d1 : (⟨S12x4x2048, .f32⟩ : BufTy).Contents (Elt Ideal) → (⟨S12x4x2048, .f32⟩ : BufTy).Contents (Elt Ideal) → (⟨S12x8x2048, .f32⟩ : BufTy).Contents (Elt Ideal)) = catT := rfl

def catRow (x : FVec Ideal S12x8x2048 .f32) (y : FVec Ideal S12x4x2048 .f32) : FVec Ideal S12x12x2048 .f32 :=
  concatenate S12x12x2048 1 [⟨S12x8x2048, x⟩, ⟨S12x4x2048, y⟩] concatenates_S12x8x2048_S12x4x2048_S12x12x2048_d1
theorem catRow_def : (fun a b => concatenate S12x12x2048 1 [⟨S12x8x2048, a⟩, ⟨S12x4x2048, b⟩] concatenates_S12x8x2048_S12x4x2048_S12x12x2048_d1 : (⟨S12x8x2048, .f32⟩ : BufTy).Contents (Elt Ideal) → (⟨S12x4x2048, .f32⟩ : BufTy).Contents (Elt Ideal) → (⟨S12x12x2048, .f32⟩ : BufTy).Contents (Elt Ideal)) = catRow := rfl

def catCol (x : FVec Ideal S12x8x2048 .f32) (y : FVec Ideal S12x8x2048 .f32) : FVec Ideal S12x16x2048 .f32 :=
  concatenate S12x16x2048 1 [⟨S12x8x2048, x⟩, ⟨S12x8x2048, y⟩] concatenates_S12x8x2048_S12x8x2048_S12x16x2048_d1
theorem catCol_def : (fun a b => concatenate S12x16x2048 1 [⟨S12x8x2048, a⟩, ⟨S12x8x2048, b⟩] concatenates_S12x8x2048_S12x8x2048_S12x16x2048_d1 : (⟨S12x8x2048, .f32⟩ : BufTy).Contents (Elt Ideal) → (⟨S12x8x2048, .f32⟩ : BufTy).Contents (Elt Ideal) → (⟨S12x16x2048, .f32⟩ : BufTy).Contents (Elt Ideal)) = catCol := rfl

def catS (x : FVec Ideal S12x32x4x128 .f32) (y : FVec Ideal S12x32x4x128 .f32) : FVec Ideal S12x32x8x128 .f32 :=
  concatenate S12x32x8x128 2 [⟨S12x32x4x128, x⟩, ⟨S12x32x4x128, y⟩] concatenates_S12x32x4x128_S12x32x4x128_S12x32x8x128_d2
theorem catS_def : (fun a b => concatenate S12x32x8x128 2 [⟨S12x32x4x128, a⟩, ⟨S12x32x4x128, b⟩] concatenates_S12x32x4x128_S12x32x4x128_S12x32x8x128_d2 : (⟨S12x32x4x128, .f32⟩ : BufTy).Contents (Elt Ideal) → (⟨S12x32x4x128, .f32⟩ : BufTy).Contents (Elt Ideal) → (⟨S12x32x8x128, .f32⟩ : BufTy).Contents (Elt Ideal)) = catS := rfl

def catSc (x : FVec Ideal S12x32x8x128 .f32) (y : FVec Ideal S12x32x8x128 .f32) : FVec Ideal S12x32x16x128 .f32 :=
  concatenate S12x32x16x128 2 [⟨S12x32x8x128, x⟩, ⟨S12x32x8x128, y⟩] concatenates_S12x32x8x128_S12x32x8x128_S12x32x16x128_d2
theorem catSc_def : (fun a b => concatenate S12x32x16x128 2 [⟨S12x32x8x128, a⟩, ⟨S12x32x8x128, b⟩] concatenates_S12x32x8x128_S12x32x8x128_S12x32x16x128_d2 : (⟨S12x32x8x128, .f32⟩ : BufTy).Contents (Elt Ideal) → (⟨S12x32x8x128, .f32⟩ : BufTy).Contents (Elt Ideal) → (⟨S12x32x16x128, .f32⟩ : BufTy).Contents (Elt Ideal)) = catSc := rfl

/-- The arguments, as tables. -/
def argsK : Spec.Args := Spec.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## The arrays -/

theorem V_q (b : Fin 12) (h : Fin 4) (t : Fin 2048) (d : Fin 96) (X) (hX : X = V m c main_v0) :
    X (ix4 b h t d) = Spec.code ((argsK m c).q b h t d) := by
  subst hX
  unfold V
  simp only [hostOps0, List.flatten_cons, List.flatten_nil, List.append_nil, List.cons_append, List.nil_append, catT_def, catRow_def, catCol_def, catS_def, catSc_def]
  after_reads_simp
  clean_types
  rfl
theorem V_k (b : Fin 12) (h : Fin 4) (t : Fin 2048) (d : Fin 96) (X) (hX : X = V m c main_v1) :
    X (ix4 b h t d) = Spec.code ((argsK m c).k b h t d) := by
  subst hX
  unfold V
  simp only [hostOps0, List.flatten_cons, List.flatten_nil, List.append_nil, List.cons_append, List.nil_append, catT_def, catRow_def, catCol_def, catS_def, catSc_def]
  after_reads_simp
  clean_types
  rfl
theorem V_v (b : Fin 12) (h : Fin 4) (t : Fin 2048) (d : Fin 192) (X) (hX : X = V m c main_v2) :
    X (ix4 b h t d) = Spec.code ((argsK m c).v b h t d) := by
  subst hX
  unfold V
  simp only [hostOps0, List.flatten_cons, List.flatten_nil, List.append_nil, List.cons_append, List.nil_append, catT_def, catRow_def, catCol_def, catS_def, catSc_def]
  after_reads_simp
  clean_types
  rfl
theorem V_c (b : Fin 12) (h : Fin 4) (t : Fin 2048) (X) (hX : X = V m c main_v9) :
    X (ix3 b ⟨h.val, by omega⟩ t) = (argsK m c).c b h t := by
  subst hX
  unfold V
  simp only [hostOps0, List.flatten_cons, List.flatten_nil, List.append_nil, List.cons_append, List.nil_append, catT_def, catRow_def, catCol_def, catS_def, catSc_def]
  after_reads_simp
  clean_types
  unfold catRow
  unfold catT
  pointwise
  exact dif_pos (by omega)
theorem V_w (b : Fin 12) (h : Fin 4) (t : Fin 2048) (X) (hX : X = V m c main_v9) :
    X (ix3 b ⟨4 + h.val, by omega⟩ t) = (argsK m c).w b h t := by
  subst hX
  unfold V
  simp only [hostOps0, List.flatten_cons, List.flatten_nil, List.append_nil, List.cons_append, List.nil_append, catT_def, catRow_def, catCol_def, catS_def, catSc_def]
  after_reads_simp
  clean_types
  unfold catRow
  unfold catT
  pointwise
  exact dif_pos (by omega)
theorem V_p (b : Fin 12) (h : Fin 4) (i : Fin 32) (t : Fin 64) (X) (hX : X = V m c main_v9) :
    X (ix3 b ⟨8 + h.val, by omega⟩ (Spec.tk i t)) = (argsK m c).qs b h i * (argsK m c).ks b h i * Ideal.ofBits FTy.f32 1037108716#32 := by
  subst hX
  unfold V
  simp only [hostOps0, List.flatten_cons, List.flatten_nil, List.append_nil, List.cons_append, List.nil_append, catT_def, catRow_def, catCol_def, catS_def, catSc_def]
  after_reads_simp
  clean_types
  unfold catRow
  unfold catT
  pointwise
  have e : (⟨(Spec.tk i t).val / 64, by have := (Spec.tk i t).isLt; omega⟩ : Fin 32) = i := Fin.ext (by
    show (64 * i.val + t.val) / 64 = i.val
    omega)
  simp only [e]
  rfl
theorem V_m (b : Fin 12) (h : Fin 4) (t : Fin 2048) (X) (hX : X = V m c main_v12) :
    X (ix3 b ⟨h.val, by omega⟩ t) = (argsK m c).m b h t := by
  subst hX
  unfold V
  simp only [hostOps0, List.flatten_cons, List.flatten_nil, List.append_nil, List.cons_append, List.nil_append, catT_def, catRow_def, catCol_def, catS_def, catSc_def]
  after_reads_simp
  clean_types
  unfold catCol
  unfold catT
  pointwise
  exact dif_pos (by omega)
theorem V_seg (b : Fin 12) (h : Fin 4) (t : Fin 2048) (X) (hX : X = V m c main_v12) :
    X (ix3 b ⟨4 + h.val, by omega⟩ t) = (argsK m c).seg b h t := by
  subst hX
  unfold V
  simp only [hostOps0, List.flatten_cons, List.flatten_nil, List.append_nil, List.cons_append, List.nil_append, catT_def, catRow_def, catCol_def, catS_def, catSc_def]
  after_reads_simp
  clean_types
  unfold catCol
  unfold catT
  pointwise
  exact dif_pos (by omega)
theorem V_iw (b : Fin 12) (h : Fin 4) (t : Fin 2048) (X) (hX : X = V m c main_v12) :
    X (ix3 b ⟨8 + h.val, by omega⟩ t) = (argsK m c).iw b h t := by
  subst hX
  unfold V
  simp only [hostOps0, List.flatten_cons, List.flatten_nil, List.append_nil, List.cons_append, List.nil_append, catT_def, catRow_def, catCol_def, catS_def, catSc_def]
  after_reads_simp
  clean_types
  unfold catCol
  unfold catT
  pointwise
  rfl
theorem V_fl (b : Fin 12) (h : Fin 4) (t : Fin 2048) (X) (hX : X = V m c main_v12) :
    X (ix3 b ⟨12 + h.val, by omega⟩ t) = (argsK m c).fl b h t := by
  subst hX
  unfold V
  simp only [hostOps0, List.flatten_cons, List.flatten_nil, List.append_nil, List.cons_append, List.nil_append, catT_def, catRow_def, catCol_def, catS_def, catSc_def]
  after_reads_simp
  clean_types
  unfold catCol
  unfold catT
  pointwise
  have e : (⟨12 + h.val - 8 - 4, by omega⟩ : Fin 4) = h := Fin.ext (by
    show 12 + h.val - 8 - 4 = h.val
    omega)
  rw [dif_neg (by omega), dif_neg (by omega)]
  simp only [e]
  rfl
theorem V_dec (b : Fin 12) (h : Fin 4) (i : Fin 32) (l : Fin 128) (X) (hX : X = V m c main_v26) :
    X (ix4 b i ⟨h.val, by omega⟩ l) = (argsK m c).dec b h i := by
  subst hX
  unfold V
  simp only [hostOps0, List.flatten_cons, List.flatten_nil, List.append_nil, List.cons_append, List.nil_append, catT_def, catRow_def, catCol_def, catS_def, catSc_def]
  after_reads_simp
  clean_types
  unfold catSc
  unfold catS
  pointwise
  exact dif_pos (by omega)
theorem V_gain (b : Fin 12) (h : Fin 4) (i : Fin 32) (l : Fin 128) (X) (hX : X = V m c main_v26) :
    X (ix4 b i ⟨4 + h.val, by omega⟩ l) = (argsK m c).gain b h i * ((argsK m c).ks b h i * (argsK m c).vs b h i) := by
  subst hX
  unfold V
  simp only [hostOps0, List.flatten_cons, List.flatten_nil, List.append_nil, List.cons_append, List.nil_append, catT_def, catRow_def, catCol_def, catS_def, catSc_def]
  after_reads_simp
  clean_types
  unfold catSc
  unfold catS
  pointwise
  exact dif_pos (by omega)
theorem V_tail (b : Fin 12) (h : Fin 4) (i : Fin 32) (l : Fin 128) (X) (hX : X = V m c main_v26) :
    X (ix4 b i ⟨8 + h.val, by omega⟩ l) = if l.val < 64 then (argsK m c).gain b h i * ((argsK m c).ks b h i * (argsK m c).vs b h i) else (argsK m c).gain b h i * (argsK m c).ks b h i := by
  subst hX
  unfold V
  simp only [hostOps0, List.flatten_cons, List.flatten_nil, List.append_nil, List.cons_append, List.nil_append, catT_def, catRow_def, catCol_def, catS_def, catSc_def]
  after_reads_simp
  clean_types
  unfold catSc
  unfold catS
  pointwise
  rw [show IntOp.cmpi CmpIPredicate.slt (BitVec.ofNat 32 l.val) 64#32 = BitVec.ofBool (decide (l.val < 64)) by
    revert l; decide +kernel, Spec.select_ofBool]
  by_cases hl : l.val < 64
  · rw [if_pos hl, if_pos (decide_eq_true hl)]; rfl
  · rw [if_neg hl, if_neg (by simp [hl])]; rfl
theorem V_vsc (b : Fin 12) (h : Fin 4) (i : Fin 32) (l : Fin 128) (X) (hX : X = V m c main_v26) :
    X (ix4 b i ⟨12 + h.val, by omega⟩ l) = (argsK m c).vs b h i := by
  subst hX
  unfold V
  simp only [hostOps0, List.flatten_cons, List.flatten_nil, List.append_nil, List.cons_append, List.nil_append, catT_def, catRow_def, catCol_def, catS_def, catSc_def]
  after_reads_simp
  clean_types
  unfold catSc
  unfold catS
  pointwise
  have e : (⟨12 + h.val - 8 - 4, by omega⟩ : Fin 4) = h := Fin.ext (by
    show 12 + h.val - 8 - 4 = h.val
    omega)
  rw [dif_neg (by omega), dif_neg (by omega)]
  simp only [e]
  rfl

end Cert.KernelIdeal.Val

end
-- ==== Proof.Head.lean ====
/-
  One head of one trip, as functions of what the trip loads. The loop body does the same for each of the four heads, twice:
  once for the first chunk of the pair, once for the second. The definitions here say it once, over any float
  interpretation; `Proof.Trip` shows that the trip's stores are these, head by head.
-/
module

public import proofs.«01_k».proof.Proof.Gen.KernelIdeal.Loops

@[expose] public section

noncomputable section

namespace Cert.KernelIdeal.Head

open Idealize.ShloMosaic Cert.KernelIdeal Cert.KernelIdeal.Gen

variable {F : FTy → Type} [FloatOps F] [Named F]

/-- The masks and the identity matrix that the body makes before its loop. -/
structure Consts (F : FTy → Type) where
  lo : IVec S64x128 1
  dist : FVec F S64x128 .f32
  eye : FVec F S96x96 .fp8e4m3
  lo96 : IVec S96x128 1
  nlane : IVec S96x128 1

/-- What a trip loads for one head and both chunks of its pair. -/
structure Loads (F : FTy → Type) [FloatOps F] where
  q : Vec F S1x1x128x96 .fp8e4m3
  k : Vec F S1x1x128x96 .fp8e4m3
  v : Vec F S1x1x128x192 .fp8e4m3
  c : Vec F S1x1x128 .f32
  w : Vec F S1x1x128 .f32
  psc : Vec F S1x1x128 .f32
  m : FVec F S128x1 .f32
  seg : FVec F S128x1 .f32
  iw : FVec F S128x1 .f32
  fl : FVec F S128x1 .f32

/-- What a trip loads for one head and one chunk. -/
structure Scales (F : FTy → Type) [FloatOps F] where
  vsc : Vec F S1x1x1x1 .f32
  dec : Vec F S1x1x1x128 .f32
  gain : Vec F S1x1x1x128 .f32
  tail : Vec F S1x1x1x128 .f32

/-- Column `o` of the sixteen per-token columns. -/
def column (x : Vec F S1x16x128 .f32) (o : ℕ) (h : S128x16.Slices ![0, o] S128x1) : FVec F S128x1 .f32 :=
  extractStridedSlice S128x1 ![0, o]
    (transpose S128x16 [1, 0] (shapeCast S16x128 x shapeCasts_S1x16x128_S16x128) transposes_S16x128_p1_0_S128x16) h

def half0 (x : FVec F S128x1 .f32) : FVec F S64x1 .f32 := extractStridedSlice S64x1 ![0, 0] x slices_S128x1_o0_0_S64x1
def half1 (x : FVec F S128x1 .f32) : FVec F S64x1 .f32 := extractStridedSlice S64x1 ![64, 0] x slices_S128x1_o64_0_S64x1

/-- A column over its chunk's 64 lanes: row `t` of chunk 0 in the low lanes, of chunk 1 in the high ones. -/
def packed (g : Consts F) (x : FVec F S128x1 .f32) : FVec F S64x128 .f32 :=
  select g.lo (broadcastTo S64x128 (shapeCast S64x1 (half0 x) shapeCasts_S64x1_S64x1) broadcasts_S64x1_S64x128)
    (broadcastTo S64x128 (shapeCast S64x1 (half1 x) shapeCasts_S64x1_S64x1) broadcasts_S64x1_S64x128)

/-- `[q; 1] kᵀ`: the scores, and below them the keys transposed. -/
def scores (g : Consts F) (x : Loads F) : FVec F S224x128 .f32 :=
  matmul dot_S224x96_S128x96_S224x128_1_1_0_0_n_n none
    (concatenate S224x96 0 [⟨S128x96, shapeCast S128x96 x.q shapeCasts_S1x1x128x96_S128x96⟩, ⟨S96x96, g.eye⟩]
      concatenates_S128x96_S96x96_S224x96_d0)
    (shapeCast S128x96 x.k shapeCasts_S1x1x128x96_S128x96) (constant S224x128 .f32 0x00000000#32)

/-- The weights of the tokens of a chunk for its tokens, both chunks side by side. -/
def weights (g : Consts F) (x : Loads F) : FVec F S64x128 .f32 :=
  have qk : FVec F S64x128 .f32 := select g.lo (extractStridedSlice S64x128 ![0, 0] (scores g x) slices_S224x128_o0_0_S64x128)
    (extractStridedSlice S64x128 ![64, 0] (scores g x) slices_S224x128_o64_0_S64x128)
  have l2e : F .f32 := Named.named κ "log2e" 0x3FB8AA3B#32
  have c2 : FVec F S1x128 .f32 := mulf (shapeCast S1x128 x.c shapeCasts_S1x1x128_S1x128) (broadcast S1x128 l2e)
  select (cmpf .ole g.dist (packed g x.seg))
    (mulf (mulf qk (broadcastTo S64x128 (shapeCast S1x128 x.psc shapeCasts_S1x1x128_S1x128) broadcasts_S1x128_S64x128))
      (exp2 (subf (broadcastTo S64x128 c2 broadcasts_S1x128_S64x128) (mulf (packed g x.m) (broadcast S64x128 l2e)))))
    (broadcast S64x128 (Scalar.ofBits .f32 0x00000000#32))

/-- The keys transposed, each weighted. -/
def keys (g : Consts F) (x : Loads F) : FVec F S96x128 .f32 :=
  mulf (extractStridedSlice S96x128 ![128, 0] (scores g x) slices_S224x128_o128_0_S96x128)
    (broadcastTo S96x128 (shapeCast S1x128 x.w shapeCasts_S1x1x128_S1x128) broadcasts_S1x128_S96x128)

def values (x : Loads F) : FVec F S128x192 .bf16 :=
  extf .bf16 (shapeCast S128x192 x.v shapeCasts_S1x1x128x192_S128x192) bitsLt_fp8e4m3_bf16

/-- The values of one chunk, zeros for the other's. -/
def values0 (x : Loads F) : FVec F S128x192 .bf16 :=
  concatenate S128x192 0 [⟨S64x192, extractStridedSlice S64x192 ![0, 0] (values x) slices_S128x192_o0_0_S64x192⟩,
    ⟨S64x192, broadcast S64x192 (Scalar.ofBits .bf16 0x0000#16 : F .bf16)⟩] concatenates_S64x192_S64x192_S128x192_d0
def values1 (x : Loads F) : FVec F S128x192 .bf16 :=
  concatenate S128x192 0 [⟨S64x192, broadcast S64x192 (Scalar.ofBits .bf16 0x0000#16 : F .bf16)⟩,
    ⟨S64x192, extractStridedSlice S64x192 ![64, 0] (values x) slices_S128x192_o64_0_S64x192⟩] concatenates_S64x192_S64x192_S128x192_d0

/-- The weights over the values of one chunk. -/
def mix (g : Consts F) (x : Loads F) (vals : FVec F S128x192 .bf16) : FVec F S64x192 .f32 :=
  matmul dot_S64x128_S128x192_S64x192_1_0_0_1_n_n none (truncf .bf16 (weights g x) bitsLt_bf16_f32) vals
    (constant S64x192 .f32 0x00000000#32)

/-- The weighted keys over the values of one chunk: what the chunk adds to the state. -/
def dstate (g : Consts F) (x : Loads F) (vals : FVec F S128x192 .bf16) : FVec F S96x192 .f32 :=
  matmul dot_S96x128_S128x192_S96x192_1_0_0_1_n_n none (truncf .bf16 (keys g x) bitsLt_bf16_f32) vals
    (constant S96x192 .f32 0x00000000#32)

/-- The sum of a chunk's weights, per token. -/
def wsum (x : FVec F S64x128 .f32) (mask : IVec S64x128 1) : FVec F S64x1 .f32 :=
  shapeCast S64x1 (multiReduction .add [1] S64
    (select mask x (broadcast S64x128 (Scalar.ofBits .f32 0x00000000#32))) 0x00000000#32
    reduces_S64x128_S64 (.inl rfl) rfl) shapeCasts_S64_S64x1

/-- The sum of a chunk's weighted keys. -/
def ksum (x : FVec F S96x128 .f32) (mask : IVec S96x128 1) : FVec F S96x1 .f32 :=
  shapeCast S96x1 (multiReduction .add [1] S96
    (select mask x (broadcast S96x128 (Scalar.ofBits .f32 0x00000000#32))) 0x00000000#32
    reduces_S96x128_S96 (.inl rfl) rfl) shapeCasts_S96_S96x1

def not64 (g : Consts F) : IVec S64x128 1 := xori g.lo (constantI S64x128 1 1#1)
def not96 (g : Consts F) : IVec S96x128 1 := xori g.lo96 (constantI S96x128 1 1#1)

/-- The queries of a chunk over the state, which is split in three parts that add up to it. -/
def recall (q : FVec F S64x96 .bf16) (st : Vec F S1x96x256 .f32) : FVec F S64x256 .f32 :=
  have s : FVec F S96x256 .f32 := shapeCast S96x256 st shapeCasts_S1x96x256_S96x256
  have p1 : FVec F S96x256 .bf16 := truncf .bf16 s bitsLt_bf16_f32
  have r1 : FVec F S96x256 .f32 := subf s (extf .f32 p1 bitsLt_bf16_f32)
  have p2 : FVec F S96x256 .bf16 := truncf .bf16 r1 bitsLt_bf16_f32
  have r2 : FVec F S96x256 .f32 := subf r1 (extf .f32 p2 bitsLt_bf16_f32)
  have p3 : FVec F S96x256 .bf16 := truncf .bf16 r2 bitsLt_bf16_f32
  have z : FVec F S64x32 .bf16 := broadcast S64x32 (Scalar.ofBits .bf16 0x0000#16 : F .bf16)
  have zc : FVec F S32x256 .bf16 := broadcast S32x256 (Scalar.ofBits .bf16 0x0000#16 : F .bf16)
  have qz : FVec F S64x128 .bf16 := concatenate S64x128 1 [⟨S64x96, q⟩, ⟨S64x32, z⟩] concatenates_S64x96_S64x32_S64x128_d1
  matmul dot_S64x384_S384x256_S64x256_1_0_0_1_n_n none
    (concatenate S64x384 1 [⟨S64x128, qz⟩, ⟨S64x128, qz⟩, ⟨S64x128, qz⟩] concatenates_S64x128_S64x128_S64x128_S64x384_d1)
    (concatenate S384x256 0 [⟨S96x256, p1⟩, ⟨S32x256, zc⟩, ⟨S96x256, p2⟩, ⟨S32x256, zc⟩, ⟨S96x256, p3⟩, ⟨S32x256, zc⟩]
      concatenates_S96x256_S32x256_S96x256_S32x256_S96x256_S32x256_S384x256_d0)
    (constant S64x256 .f32 0x00000000#32)

def queries0 (x : Loads F) : FVec F S64x96 .bf16 :=
  extractStridedSlice S64x96 ![0, 0] (extf .bf16 (shapeCast S128x96 x.q shapeCasts_S1x1x128x96_S128x96 : FVec F S128x96 .fp8e4m3)
    bitsLt_fp8e4m3_bf16) slices_S128x96_o0_0_S64x96
def queries1 (x : Loads F) : FVec F S64x96 .bf16 :=
  extractStridedSlice S64x96 ![64, 0] (extf .bf16 (shapeCast S128x96 x.q shapeCasts_S1x1x128x96_S128x96 : FVec F S128x96 .fp8e4m3)
    bitsLt_fp8e4m3_bf16) slices_S128x96_o64_0_S64x96

/-- A chunk's result for one head. -/
def result (num : FVec F S64x256 .f32) (iw fl den : FVec F S64x1 .f32) (pv : FVec F S64x192 .f32) (y : Scales F) :
    FVec F S1x1x64x192 .bf16 :=
  have qn : FVec F S64x1 .f32 := extractStridedSlice S64x1 ![0, 192] num slices_S64x256_o0_192_S64x1
  have d : FVec F S64x1 .f32 := maximumf (absf (addf (mulf iw qn) den)) fl
  have inter : FVec F S64x192 .f32 := mulf (broadcastTo S64x192 iw broadcasts_S64x1_S64x192)
    (extractStridedSlice S64x192 ![0, 0] num slices_S64x256_o0_0_S64x192)
  have intra : FVec F S64x192 .f32 := mulf (broadcastTo S64x192
    (shapeCast S1x1 y.vsc shapeCasts_S1x1x1x1_S1x1) broadcasts_S1x1_S64x192) pv
  shapeCast S1x1x64x192 (truncf .bf16 (divf (addf inter intra) (broadcastTo S64x192 d broadcasts_S64x1_S64x192))
    bitsLt_bf16_f32) shapeCasts_S64x192_S1x1x64x192

/-- Lanes 0 to 127 of the next state. -/
def left (dc : FVec F S96x192 .f32) (st : Vec F S1x96x256 .f32) (y : Scales F) : FVec F S1x96x128 .f32 :=
  have s : FVec F S96x256 .f32 := shapeCast S96x256 st shapeCasts_S1x96x256_S96x256
  shapeCast S1x96x128 (addf
    (mulf (broadcastTo S96x128 (shapeCast S1x128 y.dec shapeCasts_S1x1x1x128_S1x128) broadcasts_S1x128_S96x128)
      (extractStridedSlice S96x128 ![0, 0] s slices_S96x256_o0_0_S96x128))
    (mulf (broadcastTo S96x128 (shapeCast S1x128 y.gain shapeCasts_S1x1x1x128_S1x128) broadcasts_S1x128_S96x128)
      (extractStridedSlice S96x128 ![0, 0] dc slices_S96x192_o0_0_S96x128))) shapeCasts_S96x128_S1x96x128

/-- Lanes 128 to 255 of the next state: the rest of the matrix, then the normaliser's column. -/
def right (g : Consts F) (dc : FVec F S96x192 .f32) (dn : FVec F S96x1 .f32) (st : Vec F S1x96x256 .f32) (y : Scales F) :
    FVec F S1x96x128 .f32 :=
  have s : FVec F S96x256 .f32 := shapeCast S96x256 st shapeCasts_S1x96x256_S96x256
  have rest : FVec F S96x128 .f32 := concatenate S96x128 1
    [⟨S96x64, extractStridedSlice S96x64 ![0, 128] dc slices_S96x192_o0_128_S96x64⟩,
      ⟨S96x64, broadcast S96x64 (Scalar.ofBits .f32 0x00000000#32 : F .f32)⟩] concatenates_S96x64_S96x64_S96x128_d1
  have col : FVec F S96x128 .f32 := broadcastTo S96x128 (shapeCast S96x1 dn shapeCasts_S96x1_S96x1) broadcasts_S96x1_S96x128
  shapeCast S1x96x128 (addf
    (mulf (broadcastTo S96x128 (shapeCast S1x128 y.dec shapeCasts_S1x1x1x128_S1x128) broadcasts_S1x128_S96x128)
      (extractStridedSlice S96x128 ![0, 128] s slices_S96x256_o0_128_S96x128))
    (mulf (broadcastTo S96x128 (shapeCast S1x128 y.tail shapeCasts_S1x1x1x128_S1x128) broadcasts_S1x128_S96x128)
      (select g.nlane col rest))) shapeCasts_S96x128_S1x96x128

/-! The two chunks of a pair. -/

def out0 (g : Consts F) (x : Loads F) (y : Scales F) (st : Vec F S1x96x256 .f32) : FVec F S1x1x64x192 .bf16 :=
  result (recall (queries0 x) st) (half0 x.iw) (half0 x.fl) (wsum (weights g x) g.lo) (mix g x (values0 x)) y
def out1 (g : Consts F) (x : Loads F) (y : Scales F) (st : Vec F S1x96x256 .f32) : FVec F S1x1x64x192 .bf16 :=
  result (recall (queries1 x) st) (half1 x.iw) (half1 x.fl) (wsum (weights g x) (not64 g)) (mix g x (values1 x)) y
def left0 (g : Consts F) (x : Loads F) (y : Scales F) (st : Vec F S1x96x256 .f32) : FVec F S1x96x128 .f32 :=
  left (dstate g x (values0 x)) st y
def left1 (g : Consts F) (x : Loads F) (y : Scales F) (st : Vec F S1x96x256 .f32) : FVec F S1x96x128 .f32 :=
  left (dstate g x (values1 x)) st y
def right0 (g : Consts F) (x : Loads F) (y : Scales F) (st : Vec F S1x96x256 .f32) : FVec F S1x96x128 .f32 :=
  right g (dstate g x (values0 x)) (ksum (keys g x) g.lo96) st y
def right1 (g : Consts F) (x : Loads F) (y : Scales F) (st : Vec F S1x96x256 .f32) : FVec F S1x96x128 .f32 :=
  right g (dstate g x (values1 x)) (ksum (keys g x) (not96 g)) st y

end Cert.KernelIdeal.Head

end
-- ==== Proof.Trip.lean ====
/-
  One trip of the loop: what it stores is `Head.out0 … right1` of what it loads, head by head.
-/
module

public import proofs.«01_k».proof.Proof.Head

@[expose] public section

set_option maxRecDepth 65536
set_option maxHeartbeats 40000000

noncomputable section

namespace Cert.KernelIdeal.Trip

open Idealize.ShloMosaic Idealize.ShloMosaic.TcCoe Idealize.SL.Sem Cert.KernelIdeal Cert.KernelIdeal.Gen Cert.KernelIdeal.Head

variable {F : FTy → Type} [FloatOps F] [Named F]
  (𝒱 : Variants) (c : Dev nD) (bd : Option 𝒱.V) (i : grid0.Coords)
  (arg1 : Memref sig .tc .vmem S1x4x2048x96 .fp8e4m3) (harg1 : arg1.IsWhole)
  (arg2 : Memref sig .tc .vmem S1x4x2048x96 .fp8e4m3) (harg2 : arg2.IsWhole)
  (arg3 : Memref sig .tc .vmem S1x4x2048x192 .fp8e4m3) (harg3 : arg3.IsWhole)
  (arg4 : Memref sig .tc .vmem S12x12x2048 .f32) (harg4 : arg4.IsWhole)
  (arg5 : Memref sig .tc .vmem S12x16x2048 .f32) (harg5 : arg5.IsWhole)
  (arg6 : Memref sig .tc .vmem S12x32x16x128 .f32) (harg6 : arg6.IsWhole)
  (arg7 : Memref sig .tc .vmem S1x4x2048x192 .bf16) (harg7 : arg7.IsWhole)
  (arg8 : Memref sig .tc .vmem S1x4x96x192 .f32) (harg8 : arg8.IsWhole)
  (arg9 : Memref sig .tc .vmem S1x4x96 .f32) (harg9 : arg9.IsWhole)
  (arg10 : Memref sig .tc .vmem S4x96x256 .f32) (harg10 : arg10.IsWhole)
  (arg0 : BitVec 32) (v6 : IVec S64x128 1) (v29 : FVec F S64x128 .f32) (v36 : FVec F S96x96 .fp8e4m3) (v39 : IVec S96x128 1) (v40 : IVec S96x128 32) (c64_i32_10 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips)
  (f7 : BufTy.Contents (Elt F) arg7.view.ty) (f10 : BufTy.Contents (Elt F) arg10.view.ty)

/-- The masks and the identity, as the trip is given them. -/
abbrev consts (v6 : IVec S64x128 1) (v29 : FVec F S64x128 .f32) (v36 : FVec F S96x96 .fp8e4m3) (v39 : IVec S96x128 1)
    (v40 : IVec S96x128 32) (c64_i32_10 : BitVec 32) : Consts F := ⟨v6, v29, v36, v39, k0_pay176 v40 c64_i32_10⟩

/-- The sixteen columns of the trip's tokens. -/
abbrev cols (i : grid0.Coords) (arg5 : Memref sig .tc .vmem S12x16x2048 .f32) (X_arg5 : BufTy.Contents (Elt F) arg5.view.ty)
    (k : Fin k0_t1_loop.trips) : Vec F S1x16x128 .f32 :=
  View.readAt (Elt F) arg5.view (Rect.unit (s := S12x16x2048) (k0_off1 i k) S1x16x128.size (k0_off1_inb i k)).toLoadRect X_arg5

/-- What the trip loads for head 0. -/
abbrev loads0 (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips) : Loads F where
  q := View.readAt (Elt F) arg1.view (Rect.unit (s := S1x4x2048x96) (k0_off2 k) S1x1x128x96.size (k0_off2_inb k)).toLoadRect X_arg1
  k := View.readAt (Elt F) arg2.view (Rect.unit (s := S1x4x2048x96) (k0_off2 k) S1x1x128x96.size (k0_off2_inb k)).toLoadRect X_arg2
  v := View.readAt (Elt F) arg3.view (Rect.unit (s := S1x4x2048x192) (k0_off3 k) S1x1x128x192.size (k0_off3_inb k)).toLoadRect X_arg3
  c := View.readAt (Elt F) arg4.view (Rect.unit (s := S12x12x2048) (k0_off4 i k) S1x1x128.size (k0_off4_inb i k)).toLoadRect X_arg4
  w := View.readAt (Elt F) arg4.view (Rect.unit (s := S12x12x2048) (k0_off5 i k) S1x1x128.size (k0_off5_inb i k)).toLoadRect X_arg4
  psc := View.readAt (Elt F) arg4.view (Rect.unit (s := S12x12x2048) (k0_off6 i k) S1x1x128.size (k0_off6_inb i k)).toLoadRect X_arg4
  m := column (cols i arg5 X_arg5 k) 0 slices_S128x16_o0_0_S128x1
  seg := column (cols i arg5 X_arg5 k) 4 slices_S128x16_o0_4_S128x1
  iw := column (cols i arg5 X_arg5 k) 8 slices_S128x16_o0_8_S128x1
  fl := column (cols i arg5 X_arg5 k) 12 slices_S128x16_o0_12_S128x1

/-- The scales of head 0 and chunk `r` of the pair. -/
abbrev scales0 (i : grid0.Coords) (arg6 : Memref sig .tc .vmem S12x32x16x128 .f32) (X_arg6 : BufTy.Contents (Elt F) arg6.view.ty)
    (k : Fin k0_t1_loop.trips) (r : Fin 2) : Scales F where
  vsc := View.readAt (Elt F) arg6.view (Rect.unit (s := S12x32x16x128) (k0_off7 i k (BitVec.ofNat 32 r.val)) S1x1x1x1.size (k0_off7_inb i k r)).toLoadRect X_arg6
  dec := View.readAt (Elt F) arg6.view (Rect.unit (s := S12x32x16x128) (k0_off9 i k (BitVec.ofNat 32 r.val)) S1x1x1x128.size (k0_off9_inb i k r)).toLoadRect X_arg6
  gain := View.readAt (Elt F) arg6.view (Rect.unit (s := S12x32x16x128) (k0_off10 i k (BitVec.ofNat 32 r.val)) S1x1x1x128.size (k0_off10_inb i k r)).toLoadRect X_arg6
  tail := View.readAt (Elt F) arg6.view (Rect.unit (s := S12x32x16x128) (k0_off11 i k (BitVec.ofNat 32 r.val)) S1x1x1x128.size (k0_off11_inb i k r)).toLoadRect X_arg6

/-- What the trip loads for head 1. -/
abbrev loads1 (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips) : Loads F where
  q := View.readAt (Elt F) arg1.view (Rect.unit (s := S1x4x2048x96) (k0_off12 k) S1x1x128x96.size (k0_off12_inb k)).toLoadRect X_arg1
  k := View.readAt (Elt F) arg2.view (Rect.unit (s := S1x4x2048x96) (k0_off12 k) S1x1x128x96.size (k0_off12_inb k)).toLoadRect X_arg2
  v := View.readAt (Elt F) arg3.view (Rect.unit (s := S1x4x2048x192) (k0_off13 k) S1x1x128x192.size (k0_off13_inb k)).toLoadRect X_arg3
  c := View.readAt (Elt F) arg4.view (Rect.unit (s := S12x12x2048) (k0_off14 i k) S1x1x128.size (k0_off14_inb i k)).toLoadRect X_arg4
  w := View.readAt (Elt F) arg4.view (Rect.unit (s := S12x12x2048) (k0_off15 i k) S1x1x128.size (k0_off15_inb i k)).toLoadRect X_arg4
  psc := View.readAt (Elt F) arg4.view (Rect.unit (s := S12x12x2048) (k0_off16 i k) S1x1x128.size (k0_off16_inb i k)).toLoadRect X_arg4
  m := column (cols i arg5 X_arg5 k) 1 slices_S128x16_o0_1_S128x1
  seg := column (cols i arg5 X_arg5 k) 5 slices_S128x16_o0_5_S128x1
  iw := column (cols i arg5 X_arg5 k) 9 slices_S128x16_o0_9_S128x1
  fl := column (cols i arg5 X_arg5 k) 13 slices_S128x16_o0_13_S128x1

/-- The scales of head 1 and chunk `r` of the pair. -/
abbrev scales1 (i : grid0.Coords) (arg6 : Memref sig .tc .vmem S12x32x16x128 .f32) (X_arg6 : BufTy.Contents (Elt F) arg6.view.ty)
    (k : Fin k0_t1_loop.trips) (r : Fin 2) : Scales F where
  vsc := View.readAt (Elt F) arg6.view (Rect.unit (s := S12x32x16x128) (k0_off17 i k (BitVec.ofNat 32 r.val)) S1x1x1x1.size (k0_off17_inb i k r)).toLoadRect X_arg6
  dec := View.readAt (Elt F) arg6.view (Rect.unit (s := S12x32x16x128) (k0_off19 i k (BitVec.ofNat 32 r.val)) S1x1x1x128.size (k0_off19_inb i k r)).toLoadRect X_arg6
  gain := View.readAt (Elt F) arg6.view (Rect.unit (s := S12x32x16x128) (k0_off20 i k (BitVec.ofNat 32 r.val)) S1x1x1x128.size (k0_off20_inb i k r)).toLoadRect X_arg6
  tail := View.readAt (Elt F) arg6.view (Rect.unit (s := S12x32x16x128) (k0_off21 i k (BitVec.ofNat 32 r.val)) S1x1x1x128.size (k0_off21_inb i k r)).toLoadRect X_arg6

/-- What the trip loads for head 2. -/
abbrev loads2 (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips) : Loads F where
  q := View.readAt (Elt F) arg1.view (Rect.unit (s := S1x4x2048x96) (k0_off22 k) S1x1x128x96.size (k0_off22_inb k)).toLoadRect X_arg1
  k := View.readAt (Elt F) arg2.view (Rect.unit (s := S1x4x2048x96) (k0_off22 k) S1x1x128x96.size (k0_off22_inb k)).toLoadRect X_arg2
  v := View.readAt (Elt F) arg3.view (Rect.unit (s := S1x4x2048x192) (k0_off23 k) S1x1x128x192.size (k0_off23_inb k)).toLoadRect X_arg3
  c := View.readAt (Elt F) arg4.view (Rect.unit (s := S12x12x2048) (k0_off24 i k) S1x1x128.size (k0_off24_inb i k)).toLoadRect X_arg4
  w := View.readAt (Elt F) arg4.view (Rect.unit (s := S12x12x2048) (k0_off25 i k) S1x1x128.size (k0_off25_inb i k)).toLoadRect X_arg4
  psc := View.readAt (Elt F) arg4.view (Rect.unit (s := S12x12x2048) (k0_off26 i k) S1x1x128.size (k0_off26_inb i k)).toLoadRect X_arg4
  m := column (cols i arg5 X_arg5 k) 2 slices_S128x16_o0_2_S128x1
  seg := column (cols i arg5 X_arg5 k) 6 slices_S128x16_o0_6_S128x1
  iw := column (cols i arg5 X_arg5 k) 10 slices_S128x16_o0_10_S128x1
  fl := column (cols i arg5 X_arg5 k) 14 slices_S128x16_o0_14_S128x1

/-- The scales of head 2 and chunk `r` of the pair. -/
abbrev scales2 (i : grid0.Coords) (arg6 : Memref sig .tc .vmem S12x32x16x128 .f32) (X_arg6 : BufTy.Contents (Elt F) arg6.view.ty)
    (k : Fin k0_t1_loop.trips) (r : Fin 2) : Scales F where
  vsc := View.readAt (Elt F) arg6.view (Rect.unit (s := S12x32x16x128) (k0_off27 i k (BitVec.ofNat 32 r.val)) S1x1x1x1.size (k0_off27_inb i k r)).toLoadRect X_arg6
  dec := View.readAt (Elt F) arg6.view (Rect.unit (s := S12x32x16x128) (k0_off29 i k (BitVec.ofNat 32 r.val)) S1x1x1x128.size (k0_off29_inb i k r)).toLoadRect X_arg6
  gain := View.readAt (Elt F) arg6.view (Rect.unit (s := S12x32x16x128) (k0_off30 i k (BitVec.ofNat 32 r.val)) S1x1x1x128.size (k0_off30_inb i k r)).toLoadRect X_arg6
  tail := View.readAt (Elt F) arg6.view (Rect.unit (s := S12x32x16x128) (k0_off31 i k (BitVec.ofNat 32 r.val)) S1x1x1x128.size (k0_off31_inb i k r)).toLoadRect X_arg6

/-- What the trip loads for head 3. -/
abbrev loads3 (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips) : Loads F where
  q := View.readAt (Elt F) arg1.view (Rect.unit (s := S1x4x2048x96) (k0_off32 k) S1x1x128x96.size (k0_off32_inb k)).toLoadRect X_arg1
  k := View.readAt (Elt F) arg2.view (Rect.unit (s := S1x4x2048x96) (k0_off32 k) S1x1x128x96.size (k0_off32_inb k)).toLoadRect X_arg2
  v := View.readAt (Elt F) arg3.view (Rect.unit (s := S1x4x2048x192) (k0_off33 k) S1x1x128x192.size (k0_off33_inb k)).toLoadRect X_arg3
  c := View.readAt (Elt F) arg4.view (Rect.unit (s := S12x12x2048) (k0_off34 i k) S1x1x128.size (k0_off34_inb i k)).toLoadRect X_arg4
  w := View.readAt (Elt F) arg4.view (Rect.unit (s := S12x12x2048) (k0_off35 i k) S1x1x128.size (k0_off35_inb i k)).toLoadRect X_arg4
  psc := View.readAt (Elt F) arg4.view (Rect.unit (s := S12x12x2048) (k0_off36 i k) S1x1x128.size (k0_off36_inb i k)).toLoadRect X_arg4
  m := column (cols i arg5 X_arg5 k) 3 slices_S128x16_o0_3_S128x1
  seg := column (cols i arg5 X_arg5 k) 7 slices_S128x16_o0_7_S128x1
  iw := column (cols i arg5 X_arg5 k) 11 slices_S128x16_o0_11_S128x1
  fl := column (cols i arg5 X_arg5 k) 15 slices_S128x16_o0_15_S128x1

/-- The scales of head 3 and chunk `r` of the pair. -/
abbrev scales3 (i : grid0.Coords) (arg6 : Memref sig .tc .vmem S12x32x16x128 .f32) (X_arg6 : BufTy.Contents (Elt F) arg6.view.ty)
    (k : Fin k0_t1_loop.trips) (r : Fin 2) : Scales F where
  vsc := View.readAt (Elt F) arg6.view (Rect.unit (s := S12x32x16x128) (k0_off37 i k (BitVec.ofNat 32 r.val)) S1x1x1x1.size (k0_off37_inb i k r)).toLoadRect X_arg6
  dec := View.readAt (Elt F) arg6.view (Rect.unit (s := S12x32x16x128) (k0_off39 i k (BitVec.ofNat 32 r.val)) S1x1x1x128.size (k0_off39_inb i k r)).toLoadRect X_arg6
  gain := View.readAt (Elt F) arg6.view (Rect.unit (s := S12x32x16x128) (k0_off40 i k (BitVec.ofNat 32 r.val)) S1x1x1x128.size (k0_off40_inb i k r)).toLoadRect X_arg6
  tail := View.readAt (Elt F) arg6.view (Rect.unit (s := S12x32x16x128) (k0_off41 i k (BitVec.ofNat 32 r.val)) S1x1x1x128.size (k0_off41_inb i k r)).toLoadRect X_arg6

abbrev leftR (h : ℕ) (p : ∀ a, (![h, 0, 0] : Fin 3 → ℕ) a + S1x96x128.size a ≤ S4x96x256.size a) : Rect S4x96x256 :=
  Rect.unit (s := S4x96x256) ![h, 0, 0] S1x96x128.size p
abbrev rightR (h : ℕ) (p : ∀ a, (![h, 0, 128] : Fin 3 → ℕ) a + S1x96x128.size a ≤ S4x96x256.size a) : Rect S4x96x256 :=
  Rect.unit (s := S4x96x256) ![h, 0, 128] S1x96x128.size p

/-- The state of a head as the trip finds it, and as its first chunk leaves it. -/
abbrev found (arg10 : Memref sig .tc .vmem S4x96x256 .f32) (f10 : BufTy.Contents (Elt F) arg10.view.ty) (h : ℕ)
    (p : ∀ a, (![h, 0, 0] : Fin 3 → ℕ) a + S1x96x256.size a ≤ S4x96x256.size a) : Vec F S1x96x256 .f32 :=
  View.readAt (Elt F) arg10.view (Rect.unit (s := S4x96x256) ![h, 0, 0] S1x96x256.size p).toLoadRect f10
abbrev between (arg10 : Memref sig .tc .vmem S4x96x256 .f32) (L : List (View.Piece (Elt F) S4x96x256 .f32)) (h : ℕ)
    (p : ∀ a, (![h, 0, 0] : Fin 3 → ℕ) a + S1x96x256.size a ≤ S4x96x256.size a) : Vec F S1x96x256 .f32 :=
  arg10.view.readCov L (Rect.unit (s := S4x96x256) ![h, 0, 0] S1x96x256.size p).toLoadRect

/-- The pieces that one head's first chunk, and its second, puts before those of the heads before it. -/
abbrev first (g : Consts F) (x : Loads F) (y : Scales F) (st : Vec F S1x96x256 .f32) (h : ℕ)
    (p : ∀ a, (![h, 0, 0] : Fin 3 → ℕ) a + S1x96x128.size a ≤ S4x96x256.size a)
    (p' : ∀ a, (![h, 0, 128] : Fin 3 → ℕ) a + S1x96x128.size a ≤ S4x96x256.size a) (L : List (View.Piece (Elt F) S4x96x256 .f32)) :
    List (View.Piece (Elt F) S4x96x256 .f32) :=
  ⟨rightR h p', right0 g x y st⟩ :: ⟨leftR h p, left0 g x y st⟩ :: L
abbrev second (g : Consts F) (x : Loads F) (y : Scales F) (st : Vec F S1x96x256 .f32) (h : ℕ)
    (p : ∀ a, (![h, 0, 0] : Fin 3 → ℕ) a + S1x96x128.size a ≤ S4x96x256.size a)
    (p' : ∀ a, (![h, 0, 128] : Fin 3 → ℕ) a + S1x96x128.size a ≤ S4x96x256.size a) (L : List (View.Piece (Elt F) S4x96x256 .f32)) :
    List (View.Piece (Elt F) S4x96x256 .f32) :=
  ⟨rightR h p', right1 g x y st⟩ :: ⟨leftR h p, left1 g x y st⟩ :: L

/-- The state pieces once head 0 is through its first chunk; the head's state then; the pieces after its second chunk. -/
abbrev mid0 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  first g (loads0 i arg1 arg2 arg3 arg4 arg5 X_arg1 X_arg2 X_arg3 X_arg4 X_arg5 k) (scales0 i arg6 X_arg6 k 0) (found arg10 f10 0 inb_S4x96x256_S1x96x256_0_0_0) 0 inb_S4x96x256_S1x96x128_0_0_0 inb_S4x96x256_S1x96x128_0_0_128
    []
abbrev st0 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : Vec F S1x96x256 .f32 :=
  between arg10 (mid0 g i arg1 arg2 arg3 arg4 arg5 X_arg1 X_arg2 X_arg3 X_arg4 X_arg5 k arg6 X_arg6 arg10 f10) 0 inb_S4x96x256_S1x96x256_0_0_0
abbrev done0 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  second g (loads0 i arg1 arg2 arg3 arg4 arg5 X_arg1 X_arg2 X_arg3 X_arg4 X_arg5 k) (scales0 i arg6 X_arg6 k 1) (st0 g i arg1 arg2 arg3 arg4 arg5 X_arg1 X_arg2 X_arg3 X_arg4 X_arg5 k arg6 X_arg6 arg10 f10) 0 inb_S4x96x256_S1x96x128_0_0_0 inb_S4x96x256_S1x96x128_0_0_128
    (mid0 g i arg1 arg2 arg3 arg4 arg5 X_arg1 X_arg2 X_arg3 X_arg4 X_arg5 k arg6 X_arg6 arg10 f10)

/-- The state pieces once head 1 is through its first chunk; the head's state then; the pieces after its second chunk. -/
abbrev mid1 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  first g (loads1 i arg1 arg2 arg3 arg4 arg5 X_arg1 X_arg2 X_arg3 X_arg4 X_arg5 k) (scales1 i arg6 X_arg6 k 0) (found arg10 f10 1 inb_S4x96x256_S1x96x256_1_0_0) 1 inb_S4x96x256_S1x96x128_1_0_0 inb_S4x96x256_S1x96x128_1_0_128
    (done0 g i arg1 arg2 arg3 arg4 arg5 X_arg1 X_arg2 X_arg3 X_arg4 X_arg5 k arg6 X_arg6 arg10 f10)
abbrev st1 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : Vec F S1x96x256 .f32 :=
  between arg10 (mid1 g i arg1 arg2 arg3 arg4 arg5 X_arg1 X_arg2 X_arg3 X_arg4 X_arg5 k arg6 X_arg6 arg10 f10) 1 inb_S4x96x256_S1x96x256_1_0_0
abbrev done1 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  second g (loads1 i arg1 arg2 arg3 arg4 arg5 X_arg1 X_arg2 X_arg3 X_arg4 X_arg5 k) (scales1 i arg6 X_arg6 k 1) (st1 g i arg1 arg2 arg3 arg4 arg5 X_arg1 X_arg2 X_arg3 X_arg4 X_arg5 k arg6 X_arg6 arg10 f10) 1 inb_S4x96x256_S1x96x128_1_0_0 inb_S4x96x256_S1x96x128_1_0_128
    (mid1 g i arg1 arg2 arg3 arg4 arg5 X_arg1 X_arg2 X_arg3 X_arg4 X_arg5 k arg6 X_arg6 arg10 f10)

/-- The state pieces once head 2 is through its first chunk; the head's state then; the pieces after its second chunk. -/
abbrev mid2 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  first g (loads2 i arg1 arg2 arg3 arg4 arg5 X_arg1 X_arg2 X_arg3 X_arg4 X_arg5 k) (scales2 i arg6 X_arg6 k 0) (found arg10 f10 2 inb_S4x96x256_S1x96x256_2_0_0) 2 inb_S4x96x256_S1x96x128_2_0_0 inb_S4x96x256_S1x96x128_2_0_128
    (done1 g i arg1 arg2 arg3 arg4 arg5 X_arg1 X_arg2 X_arg3 X_arg4 X_arg5 k arg6 X_arg6 arg10 f10)
abbrev st2 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : Vec F S1x96x256 .f32 :=
  between arg10 (mid2 g i arg1 arg2 arg3 arg4 arg5 X_arg1 X_arg2 X_arg3 X_arg4 X_arg5 k arg6 X_arg6 arg10 f10) 2 inb_S4x96x256_S1x96x256_2_0_0
abbrev done2 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  second g (loads2 i arg1 arg2 arg3 arg4 arg5 X_arg1 X_arg2 X_arg3 X_arg4 X_arg5 k) (scales2 i arg6 X_arg6 k 1) (st2 g i arg1 arg2 arg3 arg4 arg5 X_arg1 X_arg2 X_arg3 X_arg4 X_arg5 k arg6 X_arg6 arg10 f10) 2 inb_S4x96x256_S1x96x128_2_0_0 inb_S4x96x256_S1x96x128_2_0_128
    (mid2 g i arg1 arg2 arg3 arg4 arg5 X_arg1 X_arg2 X_arg3 X_arg4 X_arg5 k arg6 X_arg6 arg10 f10)

/-- The state pieces once head 3 is through its first chunk; the head's state then; the pieces after its second chunk. -/
abbrev mid3 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  first g (loads3 i arg1 arg2 arg3 arg4 arg5 X_arg1 X_arg2 X_arg3 X_arg4 X_arg5 k) (scales3 i arg6 X_arg6 k 0) (found arg10 f10 3 inb_S4x96x256_S1x96x256_3_0_0) 3 inb_S4x96x256_S1x96x128_3_0_0 inb_S4x96x256_S1x96x128_3_0_128
    (done2 g i arg1 arg2 arg3 arg4 arg5 X_arg1 X_arg2 X_arg3 X_arg4 X_arg5 k arg6 X_arg6 arg10 f10)
abbrev st3 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : Vec F S1x96x256 .f32 :=
  between arg10 (mid3 g i arg1 arg2 arg3 arg4 arg5 X_arg1 X_arg2 X_arg3 X_arg4 X_arg5 k arg6 X_arg6 arg10 f10) 3 inb_S4x96x256_S1x96x256_3_0_0
abbrev done3 (g : Consts F) (i : grid0.Coords) (arg1 arg2 : Memref sig .tc .vmem S1x4x2048x96 .fp8e4m3) (arg3 : Memref sig .tc .vmem S1x4x2048x192 .fp8e4m3)
    (arg4 : Memref sig .tc .vmem S12x12x2048 .f32) (arg5 : Memref sig .tc .vmem S12x16x2048 .f32)
    (X_arg1 : BufTy.Contents (Elt F) arg1.view.ty) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips)
    (arg6 : Memref sig .tc .vmem S12x32x16x128 .f32) (X_arg6 : BufTy.Contents (Elt F) arg6.view.ty)
    (arg10 : Memref sig .tc .vmem S4x96x256 .f32) (f10 : BufTy.Contents (Elt F) arg10.view.ty) : List (View.Piece (Elt F) S4x96x256 .f32) :=
  second g (loads3 i arg1 arg2 arg3 arg4 arg5 X_arg1 X_arg2 X_arg3 X_arg4 X_arg5 k) (scales3 i arg6 X_arg6 k 1) (st3 g i arg1 arg2 arg3 arg4 arg5 X_arg1 X_arg2 X_arg3 X_arg4 X_arg5 k arg6 X_arg6 arg10 f10) 3 inb_S4x96x256_S1x96x128_3_0_0 inb_S4x96x256_S1x96x128_3_0_128
    (mid3 g i arg1 arg2 arg3 arg4 arg5 X_arg1 X_arg2 X_arg3 X_arg4 X_arg5 k arg6 X_arg6 arg10 f10)

/-- The state pieces of a trip. -/
theorem state_pieces : (trip_k0_t1 (F := F) 𝒱 c bd i arg1 harg1 arg2 harg2 arg3 harg3 arg4 harg4 arg5 harg5 arg6 harg6 arg7 harg7 arg8 harg8 arg9 harg9 arg10 harg10 arg0 v6 v29 v36 v39 v40 c64_i32_10 X_arg1 X_arg2 X_arg3 X_arg4 X_arg5 X_arg6 k).2.1 f7 f10
    = done3 (consts v6 v29 v36 v39 v40 c64_i32_10) i arg1 arg2 arg3 arg4 arg5 X_arg1 X_arg2 X_arg3 X_arg4 X_arg5 k arg6 X_arg6 arg10 f10 := by
  unfold trip_k0_t1
  rfl

/-- The result pieces of a trip. -/
theorem result_pieces : (trip_k0_t1 (F := F) 𝒱 c bd i arg1 harg1 arg2 harg2 arg3 harg3 arg4 harg4 arg5 harg5 arg6 harg6 arg7 harg7 arg8 harg8 arg9 harg9 arg10 harg10 arg0 v6 v29 v36 v39 v40 c64_i32_10 X_arg1 X_arg2 X_arg3 X_arg4 X_arg5 X_arg6 k).1 f7 f10
    = [⟨Rect.unit (s := S1x4x2048x192) (k0_off38 k 64#32) S1x1x64x192.size (k0_off38_inb k 1), out1 (consts v6 v29 v36 v39 v40 c64_i32_10) (loads3 i arg1 arg2 arg3 arg4 arg5 X_arg1 X_arg2 X_arg3 X_arg4 X_arg5 k) (scales3 i arg6 X_arg6 k 1) (st3 (consts v6 v29 v36 v39 v40 c64_i32_10) i arg1 arg2 arg3 arg4 arg5 X_arg1 X_arg2 X_arg3 X_arg4 X_arg5 k arg6 X_arg6 arg10 f10)⟩,
      ⟨Rect.unit (s := S1x4x2048x192) (k0_off38 k 0#32) S1x1x64x192.size (k0_off38_inb k 0), out0 (consts v6 v29 v36 v39 v40 c64_i32_10) (loads3 i arg1 arg2 arg3 arg4 arg5 X_arg1 X_arg2 X_arg3 X_arg4 X_arg5 k) (scales3 i arg6 X_arg6 k 0) (found arg10 f10 3 inb_S4x96x256_S1x96x256_3_0_0)⟩,
      ⟨Rect.unit (s := S1x4x2048x192) (k0_off28 k 64#32) S1x1x64x192.size (k0_off28_inb k 1), out1 (consts v6 v29 v36 v39 v40 c64_i32_10) (loads2 i arg1 arg2 arg3 arg4 arg5 X_arg1 X_arg2 X_arg3 X_arg4 X_arg5 k) (scales2 i arg6 X_arg6 k 1) (st2 (consts v6 v29 v36 v39 v40 c64_i32_10) i arg1 arg2 arg3 arg4 arg5 X_arg1 X_arg2 X_arg3 X_arg4 X_arg5 k arg6 X_arg6 arg10 f10)⟩,
      ⟨Rect.unit (s := S1x4x2048x192) (k0_off28 k 0#32) S1x1x64x192.size (k0_off28_inb k 0), out0 (consts v6 v29 v36 v39 v40 c64_i32_10) (loads2 i arg1 arg2 arg3 arg4 arg5 X_arg1 X_arg2 X_arg3 X_arg4 X_arg5 k) (scales2 i arg6 X_arg6 k 0) (found arg10 f10 2 inb_S4x96x256_S1x96x256_2_0_0)⟩,
      ⟨Rect.unit (s := S1x4x2048x192) (k0_off18 k 64#32) S1x1x64x192.size (k0_off18_inb k 1), out1 (consts v6 v29 v36 v39 v40 c64_i32_10) (loads1 i arg1 arg2 arg3 arg4 arg5 X_arg1 X_arg2 X_arg3 X_arg4 X_arg5 k) (scales1 i arg6 X_arg6 k 1) (st1 (consts v6 v29 v36 v39 v40 c64_i32_10) i arg1 arg2 arg3 arg4 arg5 X_arg1 X_arg2 X_arg3 X_arg4 X_arg5 k arg6 X_arg6 arg10 f10)⟩,
      ⟨Rect.unit (s := S1x4x2048x192) (k0_off18 k 0#32) S1x1x64x192.size (k0_off18_inb k 0), out0 (consts v6 v29 v36 v39 v40 c64_i32_10) (loads1 i arg1 arg2 arg3 arg4 arg5 X_arg1 X_arg2 X_arg3 X_arg4 X_arg5 k) (scales1 i arg6 X_arg6 k 0) (found arg10 f10 1 inb_S4x96x256_S1x96x256_1_0_0)⟩,
      ⟨Rect.unit (s := S1x4x2048x192) (k0_off8 k 64#32) S1x1x64x192.size (k0_off8_inb k 1), out1 (consts v6 v29 v36 v39 v40 c64_i32_10) (loads0 i arg1 arg2 arg3 arg4 arg5 X_arg1 X_arg2 X_arg3 X_arg4 X_arg5 k) (scales0 i arg6 X_arg6 k 1) (st0 (consts v6 v29 v36 v39 v40 c64_i32_10) i arg1 arg2 arg3 arg4 arg5 X_arg1 X_arg2 X_arg3 X_arg4 X_arg5 k arg6 X_arg6 arg10 f10)⟩,
      ⟨Rect.unit (s := S1x4x2048x192) (k0_off8 k 0#32) S1x1x64x192.size (k0_off8_inb k 0), out0 (consts v6 v29 v36 v39 v40 c64_i32_10) (loads0 i arg1 arg2 arg3 arg4 arg5 X_arg1 X_arg2 X_arg3 X_arg4 X_arg5 k) (scales0 i arg6 X_arg6 k 0) (found arg10 f10 0 inb_S4x96x256_S1x96x256_0_0_0)⟩] := by
  unfold trip_k0_t1
  rfl

end Cert.KernelIdeal.Trip

end
-- ==== Proof.Arr.lean ====
/-
  A trip as a function of the arrays: what it loads, head by head, as entries of the input blocks, and what the state and
  the results are after it, as arrays.
-/
module

public import proofs.«01_k».proof.Proof.Trip
public import Idealize.ShloMosaic.Lib.Pointwise
public import Idealize.ShloMosaic.Lib.Pipeline.Value

@[expose] public section

set_option maxRecDepth 16384
set_option maxHeartbeats 1000000

noncomputable section

namespace Cert.KernelIdeal.Arr

open Idealize.ShloMosaic Idealize.ShloMosaic.TcCoe Idealize.SL.Sem Cert.KernelIdeal Cert.KernelIdeal.Gen Cert.KernelIdeal.Head

variable {F : FTy → Type} [FloatOps F] [Named F]

/-- The input blocks of a grid point. -/
structure Blocks (F : FTy → Type) [FloatOps F] where
  q : Vec F S1x4x2048x96 .fp8e4m3
  k : Vec F S1x4x2048x96 .fp8e4m3
  v : Vec F S1x4x2048x192 .fp8e4m3
  row : Vec F S12x12x2048 .f32
  col : Vec F S12x16x2048 .f32
  sc : Vec F S12x32x16x128 .f32

/-- Token `s` of pair `k`. -/
def tok (k : Fin 16) (s : Fin 128) : Fin 2048 := ⟨128 * k.val + s.val, by omega⟩

/-- Chunk `r` of pair `k`. -/
def chunk (k : Fin 16) (r : Fin 2) : Fin 32 := ⟨2 * k.val + r.val, by omega⟩

/-- What trip `k` loads for head `h`. -/
def loads (x : Blocks F) (b : Fin 12) (k : Fin 16) (h : Fin 4) : Loads F where
  q := fun j => x.q (ix4 0 h (tok k (j 2)) (j 3))
  k := fun j => x.k (ix4 0 h (tok k (j 2)) (j 3))
  v := fun j => x.v (ix4 0 h (tok k (j 2)) (j 3))
  c := fun j => x.row (ix3 b ⟨h.val, by omega⟩ (tok k (j 2)))
  w := fun j => x.row (ix3 b ⟨4 + h.val, by omega⟩ (tok k (j 2)))
  psc := fun j => x.row (ix3 b ⟨8 + h.val, by omega⟩ (tok k (j 2)))
  m := fun j => x.col (ix3 b ⟨h.val, by omega⟩ (tok k (j 0)))
  seg := fun j => x.col (ix3 b ⟨4 + h.val, by omega⟩ (tok k (j 0)))
  iw := fun j => x.col (ix3 b ⟨8 + h.val, by omega⟩ (tok k (j 0)))
  fl := fun j => x.col (ix3 b ⟨12 + h.val, by omega⟩ (tok k (j 0)))

/-- … and for its chunk `r`. -/
def scales (x : Blocks F) (b : Fin 12) (k : Fin 16) (h : Fin 4) (r : Fin 2) : Scales F where
  vsc := fun _ => x.sc (ix4 b (chunk k r) ⟨12 + h.val, by omega⟩ 0)
  dec := fun j => x.sc (ix4 b (chunk k r) ⟨h.val, by omega⟩ (j 3))
  gain := fun j => x.sc (ix4 b (chunk k r) ⟨4 + h.val, by omega⟩ (j 3))
  tail := fun j => x.sc (ix4 b (chunk k r) ⟨8 + h.val, by omega⟩ (j 3))

/-- Lanes 0 to 127 beside lanes 128 to 255. -/
def join (L R : Vec F S1x96x128 .f32) : Vec F S1x96x256 .f32 := fun j =>
  if h : (j 2).val < 128 then L (ix3 0 (j 1) ⟨(j 2).val, h⟩)
  else R (ix3 0 (j 1) ⟨(j 2).val - 128, by have : (j 2).val < 256 := (j 2).isLt; omega⟩)

/-- A head's state. -/
def ofHead (st : Vec F S4x96x256 .f32) (h : Fin 4) : Vec F S1x96x256 .f32 := fun j => st (ix3 h (j 1) (j 2))

/-- A head's state after the first chunk of pair `k`, and after both. -/
def mid (g : Consts F) (x : Blocks F) (b : Fin 12) (k : Fin 16) (h : Fin 4) (s : Vec F S1x96x256 .f32) : Vec F S1x96x256 .f32 :=
  join (left0 g (loads x b k h) (scales x b k h 0) s) (right0 g (loads x b k h) (scales x b k h 0) s)
def next (g : Consts F) (x : Blocks F) (b : Fin 12) (k : Fin 16) (h : Fin 4) (s : Vec F S1x96x256 .f32) : Vec F S1x96x256 .f32 :=
  join (left1 g (loads x b k h) (scales x b k h 1) (mid g x b k h s)) (right1 g (loads x b k h) (scales x b k h 1) (mid g x b k h s))

/-- The state after trip `k`, of all heads. -/
def trip (g : Consts F) (x : Blocks F) (b : Fin 12) (k : Fin 16) (st : Vec F S4x96x256 .f32) : Vec F S4x96x256 .f32 := fun j =>
  next g x b k (j 0) (ofHead st (j 0)) (ix3 0 (j 1) (j 2))

/-- The results of a pair, from those of its chunks. -/
def rows (A B : FVec F S1x1x64x192 .bf16) (t : Fin 128) (e : Fin 192) : F .bf16 :=
  if h : t.val < 64 then A (ix4 0 0 ⟨t.val, h⟩ e) else B (ix4 0 0 ⟨t.val - 64, by omega⟩ e)

/-- What trip `k` stores for head `h`, token `t` of the pair, lane `e`. -/
def outs (g : Consts F) (x : Blocks F) (b : Fin 12) (k : Fin 16) (st : Vec F S4x96x256 .f32) (h : Fin 4) (t : Fin 128) (e : Fin 192) :
    F .bf16 :=
  rows (out0 g (loads x b k h) (scales x b k h 0) (ofHead st h))
    (out1 g (loads x b k h) (scales x b k h 1) (mid g x b k h (ofHead st h))) t e

/-! ## Reading -/

/-- A load of a whole buffer's contents, entry by entry. -/
theorem rd {s : Shape} {e : EltTy} (M : Memref sig .tc .vmem s e) (hM : M.IsWhole) (X : s.Idx → Elt F e) (off off' size : Fin s.rank → ℕ)
    (p : ∀ a, off a + size a ≤ s.size a) (h : off = off') (j : (Rect.unit off size p).shape.Idx) (y : s.Idx)
    (hy : ∀ a, (y a).val = off' a + (j a).val) :
    View.readAt (Elt F) M.view (Rect.unit off size p).toLoadRect (hM.unread X) j = X y := by
  subst h
  rw [View.readAt_apply, hM.read_unread]
  refine congrArg X ?_
  funext a
  refine Fin.ext ?_
  rw [hy a]
  show off a + 1 * (j a).val = _
  omega

/-- A column of the trip's tokens, entry by entry. -/
theorem column_apply (x : Vec F S1x16x128 .f32) (o : ℕ) (ho : o < 16) (h : S128x16.Slices ![0, o] S128x1) (j : S128x1.Idx) :
    column x o h j = x (ix3 0 ⟨o, ho⟩ (j 0)) := by
  obtain ⟨a, b, rfl⟩ : ∃ a b, j = ix2 a b := ⟨j 0, j 1, (ix2_eta j).symm⟩
  obtain rfl : b = 0 := Subsingleton.elim _ _
  unfold column
  pointwise

variable (arg1 : Memref sig .tc .vmem S1x4x2048x96 .fp8e4m3) (harg1 : arg1.IsWhole)
  (arg2 : Memref sig .tc .vmem S1x4x2048x96 .fp8e4m3) (harg2 : arg2.IsWhole)
  (arg3 : Memref sig .tc .vmem S1x4x2048x192 .fp8e4m3) (harg3 : arg3.IsWhole)
  (arg4 : Memref sig .tc .vmem S12x12x2048 .f32) (harg4 : arg4.IsWhole)
  (arg5 : Memref sig .tc .vmem S12x16x2048 .f32) (harg5 : arg5.IsWhole)
  (arg6 : Memref sig .tc .vmem S12x32x16x128 .f32) (harg6 : arg6.IsWhole)
  (x : Blocks F) (i : grid0.Coords) (k : Fin k0_t1_loop.trips)

/-- The trip's number, below 16. -/
def num (k : Fin k0_t1_loop.trips) : Fin 16 := ⟨k.val, k.isLt.trans_le (by decide)⟩

/-- What the trip loads for head 0, from the arrays. -/
theorem loads0_eq : Trip.loads0 i arg1 arg2 arg3 arg4 arg5 (harg1.unread x.q) (harg2.unread x.k) (harg3.unread x.v) (harg4.unread x.row) (harg5.unread x.col) k
    = loads x (i 0) (num k) 0 := by
  unfold Trip.loads0 loads
  congr 1
  · funext j; exact rd arg1 harg1 _ _ _ _ _ (k0_off2_eq k) j _ (by intro a; fin_cases a <;> simp [tok, num, ix4, ix3] <;> omega)
  · funext j; exact rd arg2 harg2 _ _ _ _ _ (k0_off2_eq k) j _ (by intro a; fin_cases a <;> simp [tok, num, ix4, ix3] <;> omega)
  · funext j; exact rd arg3 harg3 _ _ _ _ _ (k0_off3_eq k) j _ (by intro a; fin_cases a <;> simp [tok, num, ix4, ix3] <;> omega)
  · funext j; exact rd arg4 harg4 _ _ _ _ _ (k0_off4_eq i k) j _ (by intro a; fin_cases a <;> simp [tok, num, ix4, ix3] <;> omega)
  · funext j; exact rd arg4 harg4 _ _ _ _ _ (k0_off5_eq i k) j _ (by intro a; fin_cases a <;> simp [tok, num, ix4, ix3] <;> omega)
  · funext j; exact rd arg4 harg4 _ _ _ _ _ (k0_off6_eq i k) j _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)

theorem scales0_eq (r : Fin 2) : Trip.scales0 i arg6 (harg6.unread x.sc) k r = scales x (i 0) (num k) 0 r := by
  unfold Trip.scales0 scales
  congr 1
  · funext j; exact rd arg6 harg6 _ _ _ _ _ (k0_off7_eq i k r) j _ (by intro a; fin_cases a <;> simp [chunk, num, ix4, ix3] <;> omega)
  · funext j; exact rd arg6 harg6 _ _ _ _ _ (k0_off9_eq i k r) j _ (by intro a; fin_cases a <;> simp [chunk, num, ix4, ix3] <;> omega)
  · funext j; exact rd arg6 harg6 _ _ _ _ _ (k0_off10_eq i k r) j _ (by intro a; fin_cases a <;> simp [chunk, num, ix4, ix3] <;> omega)
  · funext j; exact rd arg6 harg6 _ _ _ _ _ (k0_off11_eq i k r) j _ (by intro a; fin_cases a <;> simp [chunk, num, ix4, ix3] <;> omega)

/-- What the trip loads for head 1, from the arrays. -/
theorem loads1_eq : Trip.loads1 i arg1 arg2 arg3 arg4 arg5 (harg1.unread x.q) (harg2.unread x.k) (harg3.unread x.v) (harg4.unread x.row) (harg5.unread x.col) k
    = loads x (i 0) (num k) 1 := by
  unfold Trip.loads1 loads
  congr 1
  · funext j; exact rd arg1 harg1 _ _ _ _ _ (k0_off12_eq k) j _ (by intro a; fin_cases a <;> simp [tok, num, ix4, ix3] <;> omega)
  · funext j; exact rd arg2 harg2 _ _ _ _ _ (k0_off12_eq k) j _ (by intro a; fin_cases a <;> simp [tok, num, ix4, ix3] <;> omega)
  · funext j; exact rd arg3 harg3 _ _ _ _ _ (k0_off13_eq k) j _ (by intro a; fin_cases a <;> simp [tok, num, ix4, ix3] <;> omega)
  · funext j; exact rd arg4 harg4 _ _ _ _ _ (k0_off14_eq i k) j _ (by intro a; fin_cases a <;> simp [tok, num, ix4, ix3] <;> omega)
  · funext j; exact rd arg4 harg4 _ _ _ _ _ (k0_off15_eq i k) j _ (by intro a; fin_cases a <;> simp [tok, num, ix4, ix3] <;> omega)
  · funext j; exact rd arg4 harg4 _ _ _ _ _ (k0_off16_eq i k) j _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)

theorem scales1_eq (r : Fin 2) : Trip.scales1 i arg6 (harg6.unread x.sc) k r = scales x (i 0) (num k) 1 r := by
  unfold Trip.scales1 scales
  congr 1
  · funext j; exact rd arg6 harg6 _ _ _ _ _ (k0_off17_eq i k r) j _ (by intro a; fin_cases a <;> simp [chunk, num, ix4, ix3] <;> omega)
  · funext j; exact rd arg6 harg6 _ _ _ _ _ (k0_off19_eq i k r) j _ (by intro a; fin_cases a <;> simp [chunk, num, ix4, ix3] <;> omega)
  · funext j; exact rd arg6 harg6 _ _ _ _ _ (k0_off20_eq i k r) j _ (by intro a; fin_cases a <;> simp [chunk, num, ix4, ix3] <;> omega)
  · funext j; exact rd arg6 harg6 _ _ _ _ _ (k0_off21_eq i k r) j _ (by intro a; fin_cases a <;> simp [chunk, num, ix4, ix3] <;> omega)

/-- What the trip loads for head 2, from the arrays. -/
theorem loads2_eq : Trip.loads2 i arg1 arg2 arg3 arg4 arg5 (harg1.unread x.q) (harg2.unread x.k) (harg3.unread x.v) (harg4.unread x.row) (harg5.unread x.col) k
    = loads x (i 0) (num k) 2 := by
  unfold Trip.loads2 loads
  congr 1
  · funext j; exact rd arg1 harg1 _ _ _ _ _ (k0_off22_eq k) j _ (by intro a; fin_cases a <;> simp [tok, num, ix4, ix3] <;> omega)
  · funext j; exact rd arg2 harg2 _ _ _ _ _ (k0_off22_eq k) j _ (by intro a; fin_cases a <;> simp [tok, num, ix4, ix3] <;> omega)
  · funext j; exact rd arg3 harg3 _ _ _ _ _ (k0_off23_eq k) j _ (by intro a; fin_cases a <;> simp [tok, num, ix4, ix3] <;> omega)
  · funext j; exact rd arg4 harg4 _ _ _ _ _ (k0_off24_eq i k) j _ (by intro a; fin_cases a <;> simp [tok, num, ix4, ix3] <;> omega)
  · funext j; exact rd arg4 harg4 _ _ _ _ _ (k0_off25_eq i k) j _ (by intro a; fin_cases a <;> simp [tok, num, ix4, ix3] <;> omega)
  · funext j; exact rd arg4 harg4 _ _ _ _ _ (k0_off26_eq i k) j _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)

theorem scales2_eq (r : Fin 2) : Trip.scales2 i arg6 (harg6.unread x.sc) k r = scales x (i 0) (num k) 2 r := by
  unfold Trip.scales2 scales
  congr 1
  · funext j; exact rd arg6 harg6 _ _ _ _ _ (k0_off27_eq i k r) j _ (by intro a; fin_cases a <;> simp [chunk, num, ix4, ix3] <;> omega)
  · funext j; exact rd arg6 harg6 _ _ _ _ _ (k0_off29_eq i k r) j _ (by intro a; fin_cases a <;> simp [chunk, num, ix4, ix3] <;> omega)
  · funext j; exact rd arg6 harg6 _ _ _ _ _ (k0_off30_eq i k r) j _ (by intro a; fin_cases a <;> simp [chunk, num, ix4, ix3] <;> omega)
  · funext j; exact rd arg6 harg6 _ _ _ _ _ (k0_off31_eq i k r) j _ (by intro a; fin_cases a <;> simp [chunk, num, ix4, ix3] <;> omega)

/-- What the trip loads for head 3, from the arrays. -/
theorem loads3_eq : Trip.loads3 i arg1 arg2 arg3 arg4 arg5 (harg1.unread x.q) (harg2.unread x.k) (harg3.unread x.v) (harg4.unread x.row) (harg5.unread x.col) k
    = loads x (i 0) (num k) 3 := by
  unfold Trip.loads3 loads
  congr 1
  · funext j; exact rd arg1 harg1 _ _ _ _ _ (k0_off32_eq k) j _ (by intro a; fin_cases a <;> simp [tok, num, ix4, ix3] <;> omega)
  · funext j; exact rd arg2 harg2 _ _ _ _ _ (k0_off32_eq k) j _ (by intro a; fin_cases a <;> simp [tok, num, ix4, ix3] <;> omega)
  · funext j; exact rd arg3 harg3 _ _ _ _ _ (k0_off33_eq k) j _ (by intro a; fin_cases a <;> simp [tok, num, ix4, ix3] <;> omega)
  · funext j; exact rd arg4 harg4 _ _ _ _ _ (k0_off34_eq i k) j _ (by intro a; fin_cases a <;> simp [tok, num, ix4, ix3] <;> omega)
  · funext j; exact rd arg4 harg4 _ _ _ _ _ (k0_off35_eq i k) j _ (by intro a; fin_cases a <;> simp [tok, num, ix4, ix3] <;> omega)
  · funext j; exact rd arg4 harg4 _ _ _ _ _ (k0_off36_eq i k) j _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)
  · funext j; rw [column_apply _ _ (by norm_num)]; exact rd arg5 harg5 _ _ _ _ _ (k0_off1_eq i k) _ _ (by intro a; fin_cases a <;> simp [tok, num, ix4, ix3] <;> omega)

theorem scales3_eq (r : Fin 2) : Trip.scales3 i arg6 (harg6.unread x.sc) k r = scales x (i 0) (num k) 3 r := by
  unfold Trip.scales3 scales
  congr 1
  · funext j; exact rd arg6 harg6 _ _ _ _ _ (k0_off37_eq i k r) j _ (by intro a; fin_cases a <;> simp [chunk, num, ix4, ix3] <;> omega)
  · funext j; exact rd arg6 harg6 _ _ _ _ _ (k0_off39_eq i k r) j _ (by intro a; fin_cases a <;> simp [chunk, num, ix4, ix3] <;> omega)
  · funext j; exact rd arg6 harg6 _ _ _ _ _ (k0_off40_eq i k r) j _ (by intro a; fin_cases a <;> simp [chunk, num, ix4, ix3] <;> omega)
  · funext j; exact rd arg6 harg6 _ _ _ _ _ (k0_off41_eq i k r) j _ (by intro a; fin_cases a <;> simp [chunk, num, ix4, ix3] <;> omega)

end Cert.KernelIdeal.Arr

end
-- ==== Proof.Layer.lean ====
/-
  The contents after a trip: the state is `Arr.trip` of the state before, the results of the pair's tokens are `Arr.outs`.
-/
module

public import proofs.«01_k».proof.Proof.Arr

@[expose] public section

set_option maxRecDepth 16384
set_option maxHeartbeats 1000000

noncomputable section

namespace Cert.KernelIdeal.Arr

open Idealize.ShloMosaic Idealize.ShloMosaic.TcCoe Idealize.SL.Sem Cert.KernelIdeal Cert.KernelIdeal.Gen Cert.KernelIdeal.Head

variable {F : FTy → Type} [FloatOps F] [Named F]

/-- One head's two stores: below them the head's lanes are theirs, the other heads' what they were. -/
theorem read_layer (v : View sig .tc .vmem S4x96x256 .f32) (f : v.ty.Contents (Elt F)) (h : ℕ)
    (p : ∀ a, (![h, 0, 0] : Fin 3 → ℕ) a + S1x96x128.size a ≤ S4x96x256.size a)
    (p' : ∀ a, (![h, 0, 128] : Fin 3 → ℕ) a + S1x96x128.size a ≤ S4x96x256.size a) (L R : Vec F S1x96x128 .f32)
    (rest : List (View.Piece (Elt F) S4x96x256 .f32)) (j : S4x96x256.Idx) :
    v.read (Elt F) (v.writes (Elt F) f (⟨Trip.rightR h p', R⟩ :: ⟨Trip.leftR h p, L⟩ :: rest)) j
      = if (j 0).val = h then join L R (ix3 0 (j 1) (j 2)) else v.read (Elt F) (v.writes (Elt F) f rest) j := by
  have h0 : (j 0).val < 4 := (j 0).isLt
  have h2 : (j 2).val < 256 := (j 2).isLt
  by_cases hj : (j 0).val = h
  · rw [if_pos hj]
    by_cases he : (j 2).val < 128
    · rw [View.read_writes_cons_miss_of_axis v f _ _ j (2 : Fin 3) 128 128 rfl rfl rfl (.inl he)]
      have e : j = (Trip.leftR h p).emb (ix3 (0 : Fin 1) (j 1) (⟨(j 2).val, he⟩ : Fin 128)) := by
        funext a; refine Fin.ext ?_
        rw [Rect.emb_apply]
        fin_cases a <;> simp [ix3, hj]
      refine (congrArg _ e).trans ((View.read_writes_cons_emb v f _ _ _ _).trans ?_)
      simp [join, ix3, he]
    · have e : j = (Trip.rightR h p').emb (ix3 (0 : Fin 1) (j 1) (⟨(j 2).val - 128, by omega⟩ : Fin 128)) := by
        funext a; refine Fin.ext ?_
        rw [Rect.emb_apply]
        fin_cases a <;> simp [ix3, hj]
        omega
      refine (congrArg _ e).trans ((View.read_writes_cons_emb v f _ _ _ _).trans ?_)
      simp [join, ix3, he]
  · rw [if_neg hj,
      View.read_writes_cons_miss_of_axis v f _ _ j (0 : Fin 3) h 1 rfl rfl rfl (by omega),
      View.read_writes_cons_miss_of_axis v f _ _ j (0 : Fin 3) h 1 rfl rfl rfl (by omega)]

/-- The state of a head between its chunks is what the first chunk's stores hold. -/
theorem between_layer (arg10 : Memref sig .tc .vmem S4x96x256 .f32) (h : ℕ)
    (p : ∀ a, (![h, 0, 0] : Fin 3 → ℕ) a + S1x96x128.size a ≤ S4x96x256.size a)
    (p' : ∀ a, (![h, 0, 128] : Fin 3 → ℕ) a + S1x96x128.size a ≤ S4x96x256.size a) (L R : Vec F S1x96x128 .f32)
    (rest : List (View.Piece (Elt F) S4x96x256 .f32))
    (q : ∀ a, (![h, 0, 0] : Fin 3 → ℕ) a + S1x96x256.size a ≤ S4x96x256.size a) :
    Trip.between arg10 (⟨Trip.rightR h p', R⟩ :: ⟨Trip.leftR h p, L⟩ :: rest) h q = join L R := by
  funext j
  have hj0 : (j 0).val < 1 := (j 0).isLt
  have e0 : ((Rect.unit (s := S4x96x256) ![h, 0, 0] S1x96x256.size q).toLoadRect.idx j 0).val = h := by
    show h + 1 * (j 0).val = h; omega
  refine (read_layer arg10.view arg10.view.junk h p p' L R rest _).trans ?_
  rw [if_pos e0]
  congr 1
  funext a
  refine Fin.ext ?_
  fin_cases a
  · show 0 = (j 0).val; omega
  · show 0 + 1 * (j 1).val = (j 1).val; omega
  · show 0 + 1 * (j 2).val = (j 2).val; omega

/-- The state of a head as found. -/
theorem found_eq (arg10 : Memref sig .tc .vmem S4x96x256 .f32) (f10 : BufTy.Contents (Elt F) arg10.view.ty) (h : ℕ) (h4 : h < 4)
    (q : ∀ a, (![h, 0, 0] : Fin 3 → ℕ) a + S1x96x256.size a ≤ S4x96x256.size a) :
    Trip.found arg10 f10 h q = ofHead (arg10.view.read (Elt F) f10) ⟨h, h4⟩ := by
  funext j
  have hj0 : (j 0).val < 1 := (j 0).isLt
  refine congrArg (arg10.view.read (Elt F) f10)
    (?_ : (Rect.unit (s := S4x96x256) ![h, 0, 0] S1x96x256.size q).toLoadRect.idx j = ix3 ⟨h, h4⟩ (j 1) (j 2))
  funext a
  refine Fin.ext ?_
  fin_cases a
  · show h + 1 * (j 0).val = h; omega
  · show 0 + 1 * (j 1).val = (j 1).val; omega
  · show 0 + 1 * (j 2).val = (j 2).val; omega

/-- One head's two result stores. -/
theorem read_rows (v : View sig .tc .vmem S1x4x2048x192 .bf16) (f : v.ty.Contents (Elt F)) (h k : ℕ)
    (oA oB : Fin 4 → ℕ) (hA : oA = ![0, h, 128 * k, 0]) (hB : oB = ![0, h, 128 * k + 64, 0])
    (p : ∀ a, oA a + S1x1x64x192.size a ≤ S1x4x2048x192.size a) (p' : ∀ a, oB a + S1x1x64x192.size a ≤ S1x4x2048x192.size a)
    (A B : FVec F S1x1x64x192 .bf16) (rest : List (View.Piece (Elt F) S1x4x2048x192 .bf16)) (j : S1x4x2048x192.Idx) :
    v.read (Elt F) (v.writes (Elt F) f (⟨Rect.unit (s := S1x4x2048x192) oB S1x1x64x192.size p', B⟩
        :: ⟨Rect.unit (s := S1x4x2048x192) oA S1x1x64x192.size p, A⟩ :: rest)) j
      = if hj : (j 1).val = h ∧ 128 * k ≤ (j 2).val ∧ (j 2).val < 128 * k + 128
          then rows A B ⟨(j 2).val - 128 * k, by omega⟩ (j 3) else v.read (Elt F) (v.writes (Elt F) f rest) j := by
  subst hA hB
  have h0 : (j 0).val < 1 := (j 0).isLt
  by_cases hj : (j 1).val = h ∧ 128 * k ≤ (j 2).val ∧ (j 2).val < 128 * k + 128
  · rw [dif_pos hj]
    obtain ⟨hh, hl, hu⟩ := hj
    by_cases he : (j 2).val < 128 * k + 64
    · rw [View.read_writes_cons_miss_of_axis v f _ _ j (2 : Fin 4) (128 * k + 64) 64 rfl rfl rfl (.inl he)]
      have e : j = (Rect.unit (s := S1x4x2048x192) ![0, h, 128 * k, 0] S1x1x64x192.size p).emb
          (ix4 (0 : Fin 1) (0 : Fin 1) (⟨(j 2).val - 128 * k, by omega⟩ : Fin 64) (j 3)) := by
        funext a; refine Fin.ext ?_
        rw [Rect.emb_apply]
        fin_cases a
        · show (j 0).val = 0 + 1 * 0; omega
        · show (j 1).val = h + 1 * 0; omega
        · show (j 2).val = 128 * k + 1 * ((j 2).val - 128 * k); omega
        · show (j 3).val = 0 + 1 * (j 3).val; omega
      refine (congrArg _ e).trans ((View.read_writes_cons_emb v f _ _ _ _).trans ?_)
      unfold rows
      rw [dif_pos (show (j 2).val - 128 * k < 64 by omega)]
    · have e : j = (Rect.unit (s := S1x4x2048x192) ![0, h, 128 * k + 64, 0] S1x1x64x192.size p').emb
          (ix4 (0 : Fin 1) (0 : Fin 1) (⟨(j 2).val - 128 * k - 64, by omega⟩ : Fin 64) (j 3)) := by
        funext a; refine Fin.ext ?_
        rw [Rect.emb_apply]
        fin_cases a
        · show (j 0).val = 0 + 1 * 0; omega
        · show (j 1).val = h + 1 * 0; omega
        · show (j 2).val = 128 * k + 64 + 1 * ((j 2).val - 128 * k - 64); omega
        · show (j 3).val = 0 + 1 * (j 3).val; omega
      refine (congrArg _ e).trans ((View.read_writes_cons_emb v f _ _ _ _).trans ?_)
      unfold rows
      rw [dif_neg (show ¬ (j 2).val - 128 * k < 64 by omega)]
  · rw [dif_neg hj]
    by_cases hh : (j 1).val = h
    · rw [View.read_writes_cons_miss_of_axis v f _ _ j (2 : Fin 4) (128 * k + 64) 64 rfl rfl rfl (by omega),
        View.read_writes_cons_miss_of_axis v f _ _ j (2 : Fin 4) (128 * k) 64 rfl rfl rfl (by omega)]
    · rw [View.read_writes_cons_miss_of_axis v f _ _ j (1 : Fin 4) h 1 rfl rfl rfl (by omega),
        View.read_writes_cons_miss_of_axis v f _ _ j (1 : Fin 4) h 1 rfl rfl rfl (by omega)]

variable (𝒱 : Variants) (c : Dev nD) (bd : Option 𝒱.V) (i : grid0.Coords)
  (arg1 : Memref sig .tc .vmem S1x4x2048x96 .fp8e4m3) (harg1 : arg1.IsWhole)
  (arg2 : Memref sig .tc .vmem S1x4x2048x96 .fp8e4m3) (harg2 : arg2.IsWhole)
  (arg3 : Memref sig .tc .vmem S1x4x2048x192 .fp8e4m3) (harg3 : arg3.IsWhole)
  (arg4 : Memref sig .tc .vmem S12x12x2048 .f32) (harg4 : arg4.IsWhole)
  (arg5 : Memref sig .tc .vmem S12x16x2048 .f32) (harg5 : arg5.IsWhole)
  (arg6 : Memref sig .tc .vmem S12x32x16x128 .f32) (harg6 : arg6.IsWhole)
  (arg7 : Memref sig .tc .vmem S1x4x2048x192 .bf16) (harg7 : arg7.IsWhole)
  (arg8 : Memref sig .tc .vmem S1x4x96x192 .f32) (harg8 : arg8.IsWhole)
  (arg9 : Memref sig .tc .vmem S1x4x96 .f32) (harg9 : arg9.IsWhole)
  (arg10 : Memref sig .tc .vmem S4x96x256 .f32) (harg10 : arg10.IsWhole) (arg0 : BitVec 32)
  (v6 : IVec S64x128 1) (v29 : FVec F S64x128 .f32) (v36 : FVec F S96x96 .fp8e4m3) (v39 : IVec S96x128 1) (v40 : IVec S96x128 32)
  (c64_i32_10 : BitVec 32) (x : Blocks F) (k : Fin k0_t1_loop.trips)
  (f7 : BufTy.Contents (Elt F) arg7.view.ty) (f10 : BufTy.Contents (Elt F) arg10.view.ty)

/-- A trip takes the state to `Arr.trip` of it. -/
theorem state_trip : arg10.view.read (Elt F) (arg10.view.writes (Elt F) f10 ((trip_k0_t1 (F := F) 𝒱 c bd i arg1 harg1 arg2 harg2 arg3
      harg3 arg4 harg4 arg5 harg5 arg6 harg6 arg7 harg7 arg8 harg8 arg9 harg9 arg10 harg10 arg0 v6 v29 v36 v39 v40 c64_i32_10
      (harg1.unread x.q) (harg2.unread x.k) (harg3.unread x.v) (harg4.unread x.row) (harg5.unread x.col) (harg6.unread x.sc) k).2.1 f7 f10))
    = trip (Trip.consts v6 v29 v36 v39 v40 c64_i32_10) x (i 0) (num k) (arg10.view.read (Elt F) f10) := by
  funext j
  rw [Trip.state_pieces]
  unfold Trip.done3 Trip.second Trip.mid3 Trip.first Trip.done2 Trip.second Trip.mid2 Trip.first Trip.done1 Trip.second Trip.mid1
    Trip.first Trip.done0 Trip.second Trip.mid0 Trip.first
  simp only [read_layer]
  unfold Trip.st0 Trip.st1 Trip.st2 Trip.st3 Trip.mid0 Trip.mid1 Trip.mid2 Trip.mid3 Trip.first
  simp only [between_layer, found_eq _ _ 0 (by norm_num), found_eq _ _ 1 (by norm_num), found_eq _ _ 2 (by norm_num),
    found_eq _ _ 3 (by norm_num), loads0_eq, loads1_eq, loads2_eq, loads3_eq, scales0_eq, scales1_eq, scales2_eq, scales3_eq]
  have h0 : (j 0).val < 4 := (j 0).isLt
  unfold trip
  generalize hh : j 0 = h at *
  fin_cases h <;> simp <;> rfl

/-- A trip's results. -/
theorem result_trip (j : S1x4x2048x192.Idx) : arg7.view.read (Elt F) (arg7.view.writes (Elt F) f7 ((trip_k0_t1 (F := F) 𝒱 c bd i arg1 harg1 arg2 harg2 arg3
      harg3 arg4 harg4 arg5 harg5 arg6 harg6 arg7 harg7 arg8 harg8 arg9 harg9 arg10 harg10 arg0 v6 v29 v36 v39 v40 c64_i32_10
      (harg1.unread x.q) (harg2.unread x.k) (harg3.unread x.v) (harg4.unread x.row) (harg5.unread x.col) (harg6.unread x.sc) k).1 f7 f10)) j
    = if hj : 128 * k.val ≤ (j 2).val ∧ (j 2).val < 128 * k.val + 128 then
        outs (Trip.consts v6 v29 v36 v39 v40 c64_i32_10) x (i 0) (num k) (arg10.view.read (Elt F) f10) (j 1) ⟨(j 2).val - 128 * k.val, by omega⟩ (j 3)
      else arg7.view.read (Elt F) f7 j := by
  rw [Trip.result_pieces]
  have eA3 : k0_off38 k 0#32 = ![0, 3, 128 * k.val, 0] := k0_off38_eq k 0
  have eB3 : k0_off38 k 64#32 = ![0, 3, 128 * k.val + 64, 0] := k0_off38_eq k 1
  have eA2 : k0_off28 k 0#32 = ![0, 2, 128 * k.val, 0] := k0_off28_eq k 0
  have eB2 : k0_off28 k 64#32 = ![0, 2, 128 * k.val + 64, 0] := k0_off28_eq k 1
  have eA1 : k0_off18 k 0#32 = ![0, 1, 128 * k.val, 0] := k0_off18_eq k 0
  have eB1 : k0_off18 k 64#32 = ![0, 1, 128 * k.val + 64, 0] := k0_off18_eq k 1
  have eA0 : k0_off8 k 0#32 = ![0, 0, 128 * k.val, 0] := k0_off8_eq k 0
  have eB0 : k0_off8 k 64#32 = ![0, 0, 128 * k.val + 64, 0] := k0_off8_eq k 1
  refine (read_rows arg7.view _ 3 k.val _ _ eA3 eB3 _ _ _ _ _ _).trans ?_
  rw [read_rows arg7.view _ 2 k.val _ _ eA2 eB2]
  rw [read_rows arg7.view _ 1 k.val _ _ eA1 eB1]
  rw [read_rows arg7.view _ 0 k.val _ _ eA0 eB0]
  unfold Trip.st0 Trip.st1 Trip.st2 Trip.st3 Trip.mid0 Trip.mid1 Trip.mid2 Trip.mid3 Trip.first
  simp only [between_layer, found_eq _ _ 0 (by norm_num), found_eq _ _ 1 (by norm_num), found_eq _ _ 2 (by norm_num),
    found_eq _ _ 3 (by norm_num), loads0_eq, loads1_eq, loads2_eq, loads3_eq, scales0_eq, scales1_eq, scales2_eq, scales3_eq]
  have h0 : (j 1).val < 4 := (j 1).isLt
  by_cases hj : 128 * k.val ≤ (j 2).val ∧ (j 2).val < 128 * k.val + 128
  · rw [dif_pos hj]
    obtain h | h | h | h : (j 1).val = 3 ∨ (j 1).val = 2 ∨ (j 1).val = 1 ∨ (j 1).val = 0 := by omega
    · have e : j 1 = (3 : Fin 4) := Fin.ext h
      rw [dif_pos ⟨h, hj⟩]

      conv_rhs => rw [e]
      rfl
    · have e : j 1 = (2 : Fin 4) := Fin.ext h
      rw [dif_neg (by omega), dif_pos ⟨h, hj⟩]

      conv_rhs => rw [e]
      rfl
    · have e : j 1 = (1 : Fin 4) := Fin.ext h
      rw [dif_neg (by omega), dif_neg (by omega), dif_pos ⟨h, hj⟩]

      conv_rhs => rw [e]
      rfl
    · have e : j 1 = (0 : Fin 4) := Fin.ext h
      rw [dif_neg (by omega), dif_neg (by omega), dif_neg (by omega), dif_pos ⟨h, hj⟩]

      conv_rhs => rw [e]
      rfl
  · rw [dif_neg hj, dif_neg (fun q => hj q.2), dif_neg (fun q => hj q.2), dif_neg (fun q => hj q.2), dif_neg (fun q => hj q.2)]
    rfl

end Cert.KernelIdeal.Arr

end
-- ==== Proof.Loop.lean ====
/-
  The loop: after `n` trips the state is `Arr.state … n`, and the results of the first `128 n` tokens are `Arr.res`.
-/
module

public import proofs.«01_k».proof.Proof.Layer

@[expose] public section

set_option maxRecDepth 16384
set_option maxHeartbeats 1000000

noncomputable section

namespace Cert.KernelIdeal.Arr

open Idealize.ShloMosaic Idealize.ShloMosaic.TcCoe Idealize.SL.Sem Cert.KernelIdeal Cert.KernelIdeal.Gen Cert.KernelIdeal.Head

variable {F : FTy → Type} [FloatOps F] [Named F]

/-- The state after `n` trips, from zeros. -/
def state (g : Consts F) (x : Blocks F) (b : Fin 12) : ℕ → Vec F S4x96x256 .f32
  | 0 => k0_pay171
  | n + 1 => if h : n < 16 then trip g x b ⟨n, h⟩ (state g x b n) else state g x b n

/-- The results of a grid point. -/
def res (g : Consts F) (x : Blocks F) (b : Fin 12) : Vec F S1x4x2048x192 .bf16 := fun j =>
  outs g x b ⟨(j 2).val / 128, by have : (j 2).val < 2048 := (j 2).isLt; omega⟩ (state g x b ((j 2).val / 128)) (j 1)
    ⟨(j 2).val % 128, by omega⟩ (j 3)

variable (𝒱 : Variants) (c : Dev nD) (bd : Option 𝒱.V) (i : grid0.Coords)
  (arg1 : Memref sig .tc .vmem S1x4x2048x96 .fp8e4m3) (harg1 : arg1.IsWhole)
  (arg2 : Memref sig .tc .vmem S1x4x2048x96 .fp8e4m3) (harg2 : arg2.IsWhole)
  (arg3 : Memref sig .tc .vmem S1x4x2048x192 .fp8e4m3) (harg3 : arg3.IsWhole)
  (arg4 : Memref sig .tc .vmem S12x12x2048 .f32) (harg4 : arg4.IsWhole)
  (arg5 : Memref sig .tc .vmem S12x16x2048 .f32) (harg5 : arg5.IsWhole)
  (arg6 : Memref sig .tc .vmem S12x32x16x128 .f32) (harg6 : arg6.IsWhole)
  (arg7 : Memref sig .tc .vmem S1x4x2048x192 .bf16) (harg7 : arg7.IsWhole)
  (arg8 : Memref sig .tc .vmem S1x4x96x192 .f32) (harg8 : arg8.IsWhole)
  (arg9 : Memref sig .tc .vmem S1x4x96 .f32) (harg9 : arg9.IsWhole)
  (arg10 : Memref sig .tc .vmem S4x96x256 .f32) (harg10 : arg10.IsWhole) (arg0 : BitVec 32)
  (v6 : IVec S64x128 1) (v29 : FVec F S64x128 .f32) (v36 : FVec F S96x96 .fp8e4m3) (v39 : IVec S96x128 1) (v40 : IVec S96x128 32)
  (c64_i32_10 : BitVec 32) (x : Blocks F) (G7 : BufTy.Contents (Elt F) arg7.view.ty) (G10 : BufTy.Contents (Elt F) arg10.view.ty)

/-- The loop's invariant, as arrays. -/
theorem loop (h10 : arg10.view.read (Elt F) G10 = k0_pay171) (n : ℕ) (hn : n ≤ 16) :
    arg10.view.read (Elt F) (arg10.view.writes (Elt F) G10 (pb_k0_t1 (F := F) 𝒱 c bd i arg1 harg1 arg2 harg2 arg3 harg3 arg4 harg4 arg5 harg5 arg6 harg6 arg7 harg7
      arg8 harg8 arg9 harg9 arg10 harg10 arg0 v6 v29 v36 v39 v40 c64_i32_10 (harg1.unread x.q) (harg2.unread x.k) (harg3.unread x.v)
      (harg4.unread x.row) (harg5.unread x.col) (harg6.unread x.sc) G7 G10 n).2)
        = state (Trip.consts v6 v29 v36 v39 v40 c64_i32_10) x (i 0) n
      ∧ ∀ j : S1x4x2048x192.Idx, (j 2).val < 128 * n →
        arg7.view.read (Elt F) (arg7.view.writes (Elt F) G7 (pb_k0_t1 (F := F) 𝒱 c bd i arg1 harg1 arg2 harg2 arg3 harg3 arg4 harg4 arg5 harg5 arg6 harg6 arg7 harg7
      arg8 harg8 arg9 harg9 arg10 harg10 arg0 v6 v29 v36 v39 v40 c64_i32_10 (harg1.unread x.q) (harg2.unread x.k) (harg3.unread x.v)
      (harg4.unread x.row) (harg5.unread x.col) (harg6.unread x.sc) G7 G10 n).1) j
          = res (Trip.consts v6 v29 v36 v39 v40 c64_i32_10) x (i 0) j := by
  induction n with
  | zero => exact ⟨h10, fun j hj => absurd hj (by omega)⟩
  | succ n ih =>
    obtain ⟨ih10, ih7⟩ := ih (by omega)
    have hlt : n < k0_t1_loop.trips := lt_of_lt_of_le (by omega : n < 16) (by decide)
    have hs := pb_k0_t1_succ (F := F) 𝒱 c bd i arg1 harg1 arg2 harg2 arg3 harg3 arg4 harg4 arg5 harg5 arg6 harg6 arg7 harg7
      arg8 harg8 arg9 harg9 arg10 harg10 arg0 v6 v29 v36 v39 v40 c64_i32_10 (harg1.unread x.q) (harg2.unread x.k) (harg3.unread x.v)
      (harg4.unread x.row) (harg5.unread x.col) (harg6.unread x.sc) G7 G10 ⟨n, hlt⟩
    constructor
    · refine (congrArg (fun p => arg10.view.read (Elt F) (arg10.view.writes (Elt F) G10 p.2)) hs).trans ?_
      dsimp only
      rw [View.writes_append]
      refine (state_trip (F := F) 𝒱 c bd i arg1 harg1 arg2 harg2 arg3 harg3 arg4 harg4 arg5 harg5 arg6 harg6 arg7 harg7
        arg8 harg8 arg9 harg9 arg10 harg10 arg0 v6 v29 v36 v39 v40 c64_i32_10 x ⟨n, hlt⟩ _ _).trans ?_
      rw [ih10]
      show _ = dite _ _ _
      rw [dif_pos (show n < 16 by omega)]
      rfl
    · intro j hj
      refine (congrArg (fun p => arg7.view.read (Elt F) (arg7.view.writes (Elt F) G7 p.1) j) hs).trans ?_
      dsimp only
      rw [View.writes_append]
      refine (result_trip (F := F) 𝒱 c bd i arg1 harg1 arg2 harg2 arg3 harg3 arg4 harg4 arg5 harg5 arg6 harg6 arg7 harg7
        arg8 harg8 arg9 harg9 arg10 harg10 arg0 v6 v29 v36 v39 v40 c64_i32_10 x ⟨n, hlt⟩ _ _ j).trans ?_
      by_cases hl : 128 * n ≤ (j 2).val
      · rw [dif_pos ⟨hl, by show (j 2).val < 128 * n + 128; omega⟩, ih10]
        have e : (j 2).val / 128 = n := by omega
        have e' : (j 2).val % 128 = (j 2).val - 128 * n := by omega
        unfold res
        simp only [e, e']
        rfl
      · rw [dif_neg (fun h => hl h.1)]
        exact ih7 j (by omega)

end Cert.KernelIdeal.Arr

end
-- ==== Proof.Run.lean ====
/-
  The body's run, with what it leaves in the output buffers: the results `Arr.res`, and the matrices and vectors of the state after
  sixteen trips.
-/
module

public import proofs.«01_k».proof.Proof.Gen.KernelIdeal.Frame.Runs
public import proofs.«01_k».proof.Proof.Loop
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen Cert.KernelIdeal.Head Cert.KernelIdeal.Arr Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The constants the loop is given. -/
def consts0 : Consts F :=
  Trip.consts k0_pay172 k0_pay173 k0_pay174 k0_pay175 (iota .tc S96x128 32 [1] iota_S96x128_d1_w32) 64#32

/-- One head's matrix of a state, and its tile of the last lanes. -/
def layerC (S : Vec F S4x96x256 .f32) (h : Fin 4) : Vec F S1x96x192 .f32 := fun j =>
  S (ix3 h (j 1) ⟨(j 2).val, by have : (j 2).val < 192 := (j 2).isLt; omega⟩)
def layerN (S : Vec F S4x96x256 .f32) (h : Fin 4) : Vec F S1x96x128 .f32 := fun j =>
  S (ix3 h (j 1) ⟨128 + (j 2).val, by have : (j 2).val < 128 := (j 2).isLt; omega⟩)

/-- The block of the final matrices, and of the final vectors, of the state after the loop. -/
def matrices (S : Vec F S4x96x256 .f32) : Vec F S1x4x96x192 .f32 := fun j =>
  S (ix3 (j 1) (j 2) ⟨(j 3).val, by have : (j 3).val < 192 := (j 3).isLt; omega⟩)
def vectors (S : Vec F S4x96x256 .f32) : Vec F S1x4x96 .f32 := fun j => S (ix3 (j 1) (j 2) ⟨192, by omega⟩)

theorem readC (v : View sig .tc .vmem S4x96x256 .f32) (f : v.ty.Contents (Elt F)) (S : Vec F S4x96x256 .f32)
    (hS : v.read (Elt F) f = S) (h : ℕ) (h4 : h < 4)
    (q : ∀ a, (![h, 0, 0] : Fin 3 → ℕ) a + S1x96x192.size a ≤ S4x96x256.size a) :
    v.readAt (Elt F) (Rect.unit (s := S4x96x256) ![h, 0, 0] S1x96x192.size q).toLoadRect f = layerC S ⟨h, h4⟩ := by
  funext j
  rw [View.readAt_apply, hS]
  refine congrArg S (?_ : (Rect.unit (s := S4x96x256) ![h, 0, 0] S1x96x192.size q).toLoadRect.idx j = _)
  funext a
  apply Fin.ext
  fin_cases a
  · show h + 1 * (j 0).val = h
    have : (j 0).val < 1 := (j 0).isLt
    omega
  · show 0 + 1 * (j 1).val = (j 1).val
    omega
  · show 0 + 1 * (j 2).val = (j 2).val
    omega

theorem readN (v : View sig .tc .vmem S4x96x256 .f32) (f : v.ty.Contents (Elt F)) (S : Vec F S4x96x256 .f32)
    (hS : v.read (Elt F) f = S) (h : ℕ) (h4 : h < 4)
    (q : ∀ a, (![h, 0, 128] : Fin 3 → ℕ) a + S1x96x128.size a ≤ S4x96x256.size a) :
    v.readAt (Elt F) (Rect.unit (s := S4x96x256) ![h, 0, 128] S1x96x128.size q).toLoadRect f = layerN S ⟨h, h4⟩ := by
  funext j
  rw [View.readAt_apply, hS]
  refine congrArg S (?_ : (Rect.unit (s := S4x96x256) ![h, 0, 128] S1x96x128.size q).toLoadRect.idx j = _)
  funext a
  apply Fin.ext
  fin_cases a
  · show h + 1 * (j 0).val = h
    have : (j 0).val < 1 := (j 0).isLt
    omega
  · show 0 + 1 * (j 1).val = (j 1).val
    omega
  · show 128 + 1 * (j 2).val = 128 + (j 2).val
    omega

/-- The state's buffer just zeroed. -/
theorem read_zeros (v : View sig .tc .vmem S4x96x256 .f32) (f : v.ty.Contents (Elt F))
    (q : ∀ a, (![0, 0, 0] : Fin 3 → ℕ) a + S4x96x256.size a ≤ S4x96x256.size a) :
    v.read (Elt F) (v.writes (Elt F) f [⟨Rect.unit (s := S4x96x256) ![0, 0, 0] S4x96x256.size q, k0_pay171⟩]) = k0_pay171 := by
  funext j
  have e : (Rect.unit (s := S4x96x256) ![0, 0, 0] S4x96x256.size q).emb j = j := by
    funext a
    apply Fin.ext
    rw [Rect.emb_apply]
    fin_cases a
    · show 0 + 1 * (j 0).val = (j 0).val
      omega
    · show 0 + 1 * (j 1).val = (j 1).val
      omega
    · show 0 + 1 * (j 2).val = (j 2).val
      omega
  have r := View.read_writes_cons_emb v f (Rect.unit (s := S4x96x256) ![0, 0, 0] S4x96x256.size q) k0_pay171 [] j
  rw [e] at r
  exact r

theorem pay_C (S : Vec F S4x96x256 .f32) (h : Fin 4) (j : S1x1x96x192.Idx) :
    k0_pay178 (layerC S h) j = S (ix3 h (j 2) ⟨(j 3).val, by have : (j 3).val < 192 := (j 3).isLt; omega⟩) := by
  idx_vars j
  unfold k0_pay178 layerC
  pointwise

theorem pay_N (S : Vec F S4x96x256 .f32) (h : Fin 4) (j : S1x1x96.Idx) :
    k0_pay179 (layerN S h) j = S (ix3 h (j 2) ⟨192, by omega⟩) := by
  idx_vars j
  unfold k0_pay179 layerN
  pointwise

/-- The four heads' stores of a matrix. -/
theorem read_matrices (v : View sig .tc .vmem S1x4x96x192 .f32) (f : v.ty.Contents (Elt F)) (S : Vec F S4x96x256 .f32)
    (q0 : ∀ a, (![0, 0, 0, 0] : Fin 4 → ℕ) a + S1x1x96x192.size a ≤ S1x4x96x192.size a)
    (q1 : ∀ a, (![0, 1, 0, 0] : Fin 4 → ℕ) a + S1x1x96x192.size a ≤ S1x4x96x192.size a)
    (q2 : ∀ a, (![0, 2, 0, 0] : Fin 4 → ℕ) a + S1x1x96x192.size a ≤ S1x4x96x192.size a)
    (q3 : ∀ a, (![0, 3, 0, 0] : Fin 4 → ℕ) a + S1x1x96x192.size a ≤ S1x4x96x192.size a)
    (p0 : Vec F S1x1x96x192 .f32) (e0 : p0 = k0_pay178 (layerC S 0))
    (p1 : Vec F S1x1x96x192 .f32) (e1 : p1 = k0_pay178 (layerC S 1))
    (p2 : Vec F S1x1x96x192 .f32) (e2 : p2 = k0_pay178 (layerC S 2))
    (p3 : Vec F S1x1x96x192 .f32) (e3 : p3 = k0_pay178 (layerC S 3))
    : v.read (Elt F) (v.writes (Elt F) f [⟨Rect.unit (s := S1x4x96x192) ![0, 3, 0, 0] S1x1x96x192.size q3, p3⟩,
      ⟨Rect.unit (s := S1x4x96x192) ![0, 2, 0, 0] S1x1x96x192.size q2, p2⟩,
      ⟨Rect.unit (s := S1x4x96x192) ![0, 1, 0, 0] S1x1x96x192.size q1, p1⟩,
      ⟨Rect.unit (s := S1x4x96x192) ![0, 0, 0, 0] S1x1x96x192.size q0, p0⟩]) = matrices S := by
  subst e0 e1 e2 e3
  funext j
  have hj : (j 1).val < 4 := (j 1).isLt
  have hj0 : (j 0).val < 1 := (j 0).isLt
  by_cases c3 : (j 1).val = 3
  · have e : (Rect.unit (s := S1x4x96x192) ![0, 3, 0, 0] S1x1x96x192.size q3).emb (ix4 0 0 (j 2) (j 3)) = j := by
      funext a
      apply Fin.ext
      rw [Rect.emb_apply]
      fin_cases a
      · show 0 + 1 * 0 = (j 0).val
        omega
      · show 3 + 1 * 0 = (j 1).val
        omega
      · show 0 + 1 * (j 2).val = (j 2).val
        omega
      · show 0 + 1 * (j 3).val = (j 3).val
        omega
    refine (View.read_writes_cons_hit v f _ _ _ _ j e).trans ?_
    refine (pay_C S 3 _).trans ?_
    unfold matrices
    have e1 : j 1 = (3 : Fin 4) := Fin.ext c3
    rw [e1]
    rfl
  rw [View.read_writes_cons_miss_of_axis v f _ _ j 1 3 1 rfl rfl rfl (by omega)]
  by_cases c2 : (j 1).val = 2
  · have e : (Rect.unit (s := S1x4x96x192) ![0, 2, 0, 0] S1x1x96x192.size q2).emb (ix4 0 0 (j 2) (j 3)) = j := by
      funext a
      apply Fin.ext
      rw [Rect.emb_apply]
      fin_cases a
      · show 0 + 1 * 0 = (j 0).val
        omega
      · show 2 + 1 * 0 = (j 1).val
        omega
      · show 0 + 1 * (j 2).val = (j 2).val
        omega
      · show 0 + 1 * (j 3).val = (j 3).val
        omega
    refine (View.read_writes_cons_hit v f _ _ _ _ j e).trans ?_
    refine (pay_C S 2 _).trans ?_
    unfold matrices
    have e1 : j 1 = (2 : Fin 4) := Fin.ext c2
    rw [e1]
    rfl
  rw [View.read_writes_cons_miss_of_axis v f _ _ j 1 2 1 rfl rfl rfl (by omega)]
  by_cases c1 : (j 1).val = 1
  · have e : (Rect.unit (s := S1x4x96x192) ![0, 1, 0, 0] S1x1x96x192.size q1).emb (ix4 0 0 (j 2) (j 3)) = j := by
      funext a
      apply Fin.ext
      rw [Rect.emb_apply]
      fin_cases a
      · show 0 + 1 * 0 = (j 0).val
        omega
      · show 1 + 1 * 0 = (j 1).val
        omega
      · show 0 + 1 * (j 2).val = (j 2).val
        omega
      · show 0 + 1 * (j 3).val = (j 3).val
        omega
    refine (View.read_writes_cons_hit v f _ _ _ _ j e).trans ?_
    refine (pay_C S 1 _).trans ?_
    unfold matrices
    have e1 : j 1 = (1 : Fin 4) := Fin.ext c1
    rw [e1]
    rfl
  rw [View.read_writes_cons_miss_of_axis v f _ _ j 1 1 1 rfl rfl rfl (by omega)]
  have c0 : (j 1).val = 0 := by omega
  have e : (Rect.unit (s := S1x4x96x192) ![0, 0, 0, 0] S1x1x96x192.size q0).emb (ix4 0 0 (j 2) (j 3)) = j := by
    funext a
    apply Fin.ext
    rw [Rect.emb_apply]
    fin_cases a
    · show 0 + 1 * 0 = (j 0).val
      omega
    · show 0 + 1 * 0 = (j 1).val
      omega
    · show 0 + 1 * (j 2).val = (j 2).val
      omega
    · show 0 + 1 * (j 3).val = (j 3).val
      omega
  refine (View.read_writes_cons_hit v f _ _ _ _ j e).trans ?_
  refine (pay_C S 0 _).trans ?_
  unfold matrices
  have e1 : j 1 = (0 : Fin 4) := Fin.ext c0
  rw [e1]
  rfl

/-- The four heads' stores of a vector. -/
theorem read_vectors (v : View sig .tc .vmem S1x4x96 .f32) (f : v.ty.Contents (Elt F)) (S : Vec F S4x96x256 .f32)
    (q0 : ∀ a, (![0, 0, 0] : Fin 3 → ℕ) a + S1x1x96.size a ≤ S1x4x96.size a)
    (q1 : ∀ a, (![0, 1, 0] : Fin 3 → ℕ) a + S1x1x96.size a ≤ S1x4x96.size a)
    (q2 : ∀ a, (![0, 2, 0] : Fin 3 → ℕ) a + S1x1x96.size a ≤ S1x4x96.size a)
    (q3 : ∀ a, (![0, 3, 0] : Fin 3 → ℕ) a + S1x1x96.size a ≤ S1x4x96.size a)
    (p0 : Vec F S1x1x96 .f32) (e0 : p0 = k0_pay179 (layerN S 0))
    (p1 : Vec F S1x1x96 .f32) (e1 : p1 = k0_pay179 (layerN S 1))
    (p2 : Vec F S1x1x96 .f32) (e2 : p2 = k0_pay179 (layerN S 2))
    (p3 : Vec F S1x1x96 .f32) (e3 : p3 = k0_pay179 (layerN S 3))
    : v.read (Elt F) (v.writes (Elt F) f [⟨Rect.unit (s := S1x4x96) ![0, 3, 0] S1x1x96.size q3, p3⟩,
      ⟨Rect.unit (s := S1x4x96) ![0, 2, 0] S1x1x96.size q2, p2⟩,
      ⟨Rect.unit (s := S1x4x96) ![0, 1, 0] S1x1x96.size q1, p1⟩,
      ⟨Rect.unit (s := S1x4x96) ![0, 0, 0] S1x1x96.size q0, p0⟩]) = vectors S := by
  subst e0 e1 e2 e3
  funext j
  have hj : (j 1).val < 4 := (j 1).isLt
  have hj0 : (j 0).val < 1 := (j 0).isLt
  by_cases c3 : (j 1).val = 3
  · have e : (Rect.unit (s := S1x4x96) ![0, 3, 0] S1x1x96.size q3).emb (ix3 0 0 (j 2)) = j := by
      funext a
      apply Fin.ext
      rw [Rect.emb_apply]
      fin_cases a
      · show 0 + 1 * 0 = (j 0).val
        omega
      · show 3 + 1 * 0 = (j 1).val
        omega
      · show 0 + 1 * (j 2).val = (j 2).val
        omega
    refine (View.read_writes_cons_hit v f _ _ _ _ j e).trans ?_
    refine (pay_N S 3 _).trans ?_
    unfold vectors
    have e1 : j 1 = (3 : Fin 4) := Fin.ext c3
    rw [e1]
    rfl
  rw [View.read_writes_cons_miss_of_axis v f _ _ j 1 3 1 rfl rfl rfl (by omega)]
  by_cases c2 : (j 1).val = 2
  · have e : (Rect.unit (s := S1x4x96) ![0, 2, 0] S1x1x96.size q2).emb (ix3 0 0 (j 2)) = j := by
      funext a
      apply Fin.ext
      rw [Rect.emb_apply]
      fin_cases a
      · show 0 + 1 * 0 = (j 0).val
        omega
      · show 2 + 1 * 0 = (j 1).val
        omega
      · show 0 + 1 * (j 2).val = (j 2).val
        omega
    refine (View.read_writes_cons_hit v f _ _ _ _ j e).trans ?_
    refine (pay_N S 2 _).trans ?_
    unfold vectors
    have e1 : j 1 = (2 : Fin 4) := Fin.ext c2
    rw [e1]
    rfl
  rw [View.read_writes_cons_miss_of_axis v f _ _ j 1 2 1 rfl rfl rfl (by omega)]
  by_cases c1 : (j 1).val = 1
  · have e : (Rect.unit (s := S1x4x96) ![0, 1, 0] S1x1x96.size q1).emb (ix3 0 0 (j 2)) = j := by
      funext a
      apply Fin.ext
      rw [Rect.emb_apply]
      fin_cases a
      · show 0 + 1 * 0 = (j 0).val
        omega
      · show 1 + 1 * 0 = (j 1).val
        omega
      · show 0 + 1 * (j 2).val = (j 2).val
        omega
    refine (View.read_writes_cons_hit v f _ _ _ _ j e).trans ?_
    refine (pay_N S 1 _).trans ?_
    unfold vectors
    have e1 : j 1 = (1 : Fin 4) := Fin.ext c1
    rw [e1]
    rfl
  rw [View.read_writes_cons_miss_of_axis v f _ _ j 1 1 1 rfl rfl rfl (by omega)]
  have c0 : (j 1).val = 0 := by omega
  have e : (Rect.unit (s := S1x4x96) ![0, 0, 0] S1x1x96.size q0).emb (ix3 0 0 (j 2)) = j := by
    funext a
    apply Fin.ext
    rw [Rect.emb_apply]
    fin_cases a
    · show 0 + 1 * 0 = (j 0).val
      omega
    · show 0 + 1 * 0 = (j 1).val
      omega
    · show 0 + 1 * (j 2).val = (j 2).val
      omega
  refine (View.read_writes_cons_hit v f _ _ _ _ j e).trans ?_
  refine (pay_N S 0 _).trans ?_
  unfold vectors
  have e1 : j 1 = (0 : Fin 4) := Fin.ext c0
  rw [e1]
  rfl

set_option maxHeartbeats 4000000 in
/-- The body on whole staging buffers: the inputs' are kept, the outputs' end as the loop's arrays say. -/
theorem run_body (c : Dev nD) (i : grid0.Coords) (arg1 : Memref sig .tc .vmem S1x4x2048x96 .fp8e4m3) (harg1 : arg1.IsWhole) (arg2 : Memref sig .tc .vmem S1x4x2048x96 .fp8e4m3) (harg2 : arg2.IsWhole) (arg3 : Memref sig .tc .vmem S1x4x2048x192 .fp8e4m3) (harg3 : arg3.IsWhole) (arg4 : Memref sig .tc .vmem S12x12x2048 .f32) (harg4 : arg4.IsWhole) (arg5 : Memref sig .tc .vmem S12x16x2048 .f32) (harg5 : arg5.IsWhole) (arg6 : Memref sig .tc .vmem S12x32x16x128 .f32) (harg6 : arg6.IsWhole) (arg7 : Memref sig .tc .vmem S1x4x2048x192 .bf16) (harg7 : arg7.IsWhole) (arg8 : Memref sig .tc .vmem S1x4x96x192 .f32) (harg8 : arg8.IsWhole) (arg9 : Memref sig .tc .vmem S1x4x96 .f32) (harg9 : arg9.IsWhole) (arg10 : Memref sig .tc .vmem S4x96x256 .f32) (harg10 : arg10.IsWhole)
    (x0 : Vec F S1x4x2048x96 .fp8e4m3) (x1 : Vec F S1x4x2048x96 .fp8e4m3) (x2 : Vec F S1x4x2048x192 .fp8e4m3) (x3 : Vec F S12x12x2048 .f32) (x4 : Vec F S12x16x2048 .f32) (x5 : Vec F S12x32x16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (res consts0 (⟨x0, x1, x2, x3, x4, x5⟩ : Blocks F) (i 0)) ∗ owns (c : Thread nD τ) arg8 fullShare (matrices (state consts0 (⟨x0, x1, x2, x3, x4, x5⟩ : Blocks F) (i 0) 16)) ∗ owns (c : Thread nD τ) arg9 fullShare (vectors (state consts0 (⟨x0, x1, x2, x3, x4, x5⟩ : Blocks F) (i 0) 16)) ∗ (∃ d, owns (c : Thread nD τ) arg10 fullShare d)) -∗ K ⟨⟩))
          ⊢ wp frame (wpE (defs₀ (F := F)) Variants.none c none) E (cc0_mlstm_chunkwise i arg1 harg1 arg2 harg2 arg3 harg3 arg4 harg4 arg5 harg5 arg6 harg6 arg7 harg7 arg8 harg8 arg9 harg9 arg10 harg10) K := by
  intro E K
  simp only [cc0_mlstm_chunkwise_eq_skeleton]; unfold cc0_mlstm_chunkwise_skel
  simp only [k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  have h10 := read_zeros (F := F) arg10.view arg10.view.junk inb_S4x96x256_S4x96x256_0_0_0
  have hl := loop (F := F) Variants.none c none i arg1 harg1 arg2 harg2 arg3 harg3 arg4 harg4 arg5 harg5 arg6 harg6 arg7 harg7 arg8 harg8 arg9 harg9 arg10 harg10 (BitVec.ofNat 32 (i 0).val) k0_pay172 k0_pay173 k0_pay174 k0_pay175
    (iota .tc S96x128 32 [1] iota_S96x128_d1_w32) 64#32 (⟨x0, x1, x2, x3, x4, x5⟩ : Blocks F) f6 _ h10 16 le_rfl
  have hst := hl.1
  rw [← View.writes_append] at hst
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; funext j; exact hl.2 j (j 2).isLt
  isplitl [H7]
  · iexists _; isplitr; swap; · iexact H7
    ipureintro
    exact read_matrices arg8.view _ _ _ _ _ _ _ (congrArg k0_pay178 (readC arg10.view _ _ hst 0 (by omega) _)) _ (congrArg k0_pay178 (readC arg10.view _ _ hst 1 (by omega) _))
      _ (congrArg k0_pay178 (readC arg10.view _ _ hst 2 (by omega) _)) _ (congrArg k0_pay178 (readC arg10.view _ _ hst 3 (by omega) _))
  isplitl [H8]
  · iexists _; isplitr; swap; · iexact H8
    ipureintro
    exact read_vectors arg9.view _ _ _ _ _ _ _ (congrArg k0_pay179 (readN arg10.view _ _ hst 0 (by omega) _)) _ (congrArg k0_pay179 (readN arg10.view _ _ hst 1 (by omega) _))
      _ (congrArg k0_pay179 (readN arg10.view _ _ hst 2 (by omega) _)) _ (congrArg k0_pay179 (readN arg10.view _ _ hst 3 (by omega) _))
  iexists _, _; isplitr; swap; · iexact HS0
  ipureintro; rfl

end Cert.KernelIdeal.Val

end
-- ==== Proof.Blocks.lean ====
/-
  The kernel's run with each output array named: the pipeline's proof data with what `run_body` leaves in the output buffers, the
  launch, and the final arrays block by block.
-/
module

public import proofs.«01_k».proof.Proof.Run
public import Idealize.ShloMosaic.Lib.Pipeline.Value
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen Cert.KernelIdeal.Head Cert.KernelIdeal.Arr Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The blocks the body is given at point `t`. -/
def blks (c : Dev nD) (t : Fin cfg0.N) : Blocks F :=
  ⟨iblk m c 0 t, iblk m c 1 t, iblk m c 2 t, iblk m c 3 t, iblk m c 4 t, iblk m c 5 t⟩

/-- What the outputs' staging buffers hold after the body at point `t`. -/
def outsAt0 (c : Dev nD) (t : Fin cfg0.N) : Vec F S1x4x2048x192 .bf16 × Vec F S1x4x96x192 .f32 × Vec F S1x4x96 .f32 :=
  (res consts0 (blks m c t) (grid0.coords t 0), matrices (state consts0 (blks m c t) (grid0.coords t 0) 16),
    vectors (state consts0 (blks m c t) (grid0.coords t 0) 16))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2.1
    | ⟨8, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2.1 := by dsimp only [dats]
theorem after0_8 (c : Dev nD) (t : Fin cfg0.N) : (dats m 0 c).after 8 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold blks; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

open Idealize.ShloMosaic.Pipeline (Dat)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t).1) := by
  show (cfg0.win 6).cut (grid0.coords t) ((dats m 0 c).after 6 t) = _
  rw [after0_6]

/-- The index map sends distinct grid points to distinct block indices (decided over the 12 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S12x4x2048x192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t).2.1) := by
  show (cfg0.win 7).cut (grid0.coords t) ((dats m 0 c).after 7 t) = _
  rw [after0_7]

/-- The index map sends distinct grid points to distinct block indices (decided over the 12 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S12x4x96x192.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 2), read through the window's block. -/
theorem flushed8 (c : Dev nD) (t : Fin cfg0.N) :
    (dats m 0 c).flushed 8 t = (cfg0.win 8).cut (grid0.coords t) ((outsAt0 m c t).2.2) := by
  show (cfg0.win 8).cut (grid0.coords t) ((dats m 0 c).after 8 t) = _
  rw [after0_8]

/-- The index map sends distinct grid points to distinct block indices (decided over the 12 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S12x4x96.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v27_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v27_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v27_2) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v27_0) = (dats m 0 c).arrAt 6 cfg0.N
      ∧ r.2.mem ((c : Thread nD τ).loc main_v27_1) = (dats m 0 c).arrAt 7 cfg0.N
      ∧ r.2.mem ((c : Thread nD τ).loc main_v27_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.KernelIdeal.Val

end
-- ==== Proof.Eval.lean ====
/-
  The functions of `Proof.Head` over the extended reals, entry by entry.
-/
module

public import proofs.«01_k».proof.Proof.Blocks
public import proofs.«01_k».proof.Proof.Spec
public import Idealize.ShloMosaic.Lib.Pointwise

@[expose] public section

set_option maxRecDepth 16384

noncomputable section

namespace Cert.KernelIdeal.Eval

open Idealize.ShloMosaic Idealize.ShloMosaic.TcCoe Idealize.SL.Sem Cert.KernelIdeal Cert.KernelIdeal.Gen Cert.KernelIdeal.Head
open Cert.KernelIdeal.Arr Cert.KernelIdeal.Val

/-! ## The constants -/

theorem lo_word : ∀ l : Fin 128, IntOp.cmpi CmpIPredicate.slt (BitVec.ofNat 32 l.val) 64#32 = if l.val < 64 then 1#1 else 0#1 := by
  decide +kernel

theorem lo_apply (t : Fin 64) (l : Fin 128) : (consts0 (F := Ideal)).lo (ix2 t l) = if l.val < 64 then 1#1 else 0#1 := by
  unfold consts0 Trip.consts k0_pay172
  pointwise
  exact lo_word l

theorem lo96_apply (t : Fin 96) (l : Fin 128) : (consts0 (F := Ideal)).lo96 (ix2 t l) = if l.val < 64 then 1#1 else 0#1 := by
  unfold consts0 Trip.consts k0_pay175
  pointwise
  exact lo_word l

theorem tail_word : ∀ l : Fin 128, IntOp.cmpi CmpIPredicate.eq (BitVec.ofNat 32 l.val) 64#32 = if l.val = 64 then 1#1 else 0#1 := by
  decide +kernel

theorem nlane_apply (t : Fin 96) (l : Fin 128) : (consts0 (F := Ideal)).nlane (ix2 t l) = if l.val = 64 then 1#1 else 0#1 := by
  unfold consts0 Trip.consts k0_pay176
  pointwise
  exact tail_word l

theorem eye_word : ∀ t l : Fin 96, IntOp.cmpi CmpIPredicate.eq (BitVec.ofNat 32 t.val) (BitVec.ofNat 32 l.val) = if t = l then 1#1 else 0#1 := by
  decide +kernel

theorem eye_apply (t : Fin 96) (l : Fin 96) : (consts0 (F := Ideal)).eye (ix2 t l) = if t = l then 1 else 0 := by
  unfold consts0 Trip.consts k0_pay174
  pointwise
  rw [eye_word]
  split <;> rfl

/-- The distance of a lane's token from a row's, as the word the body makes. -/
def distWord (t : Fin 64) (l : Fin 128) : BitVec 32 :=
  if l.val % 64 ≤ t.val then BitVec.ofNat 32 (t.val - l.val % 64) else 128#32

theorem dist_word : ∀ (t : Fin 64) (l : Fin 128), Scalar.select
        (IntOp.cmpi CmpIPredicate.sge
          (IntOp.subi (BitVec.ofNat 32 t.val)
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32))))
          0#32)
        (IntOp.subi (BitVec.ofNat 32 t.val)
          (Scalar.select
            (IntOp.andi
              (IntOp.xori
                (IntOp.cmpi CmpIPredicate.slt
                  (IntOp.remsi ArithUnit.vector (BitVec.ofNat 32 l.val)
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (IntOp.cmpi CmpIPredicate.ne
                (IntOp.remsi ArithUnit.vector (BitVec.ofNat 32 l.val)
                  (Scalar.select (Scalar.cmpi CmpIPredicate.eq 64#32 0#32) 1#32 64#32))
                0#32))
            (IntOp.addi
              (IntOp.remsi ArithUnit.vector (BitVec.ofNat 32 l.val)
                (Scalar.select (Scalar.cmpi CmpIPredicate.eq 64#32 0#32) 1#32 64#32))
              (Scalar.select (Scalar.cmpi CmpIPredicate.eq 64#32 0#32) 1#32 64#32))
            (IntOp.remsi ArithUnit.vector (BitVec.ofNat 32 l.val)
              (Scalar.select (Scalar.cmpi CmpIPredicate.eq 64#32 0#32) 1#32 64#32))))
        128#32 = distWord t l := by
  decide +kernel

theorem distWord_toInt : ∀ (t : Fin 64) (l : Fin 128),
    (distWord t l).toInt = if l.val % 64 ≤ t.val then (t.val : ℤ) - ((l.val % 64 : ℕ) : ℤ) else 128 := by
  decide +kernel

theorem dist_apply (t : Fin 64) (l : Fin 128) : (consts0 (F := Ideal)).dist (ix2 t l)
    = (((if l.val % 64 ≤ t.val then (t.val : ℤ) - ((l.val % 64 : ℕ) : ℤ) else 128 : ℤ) : ℝ) : EReal) := by
  unfold consts0 Trip.consts k0_pay173
  pointwise
  rw [dist_word, ← distWord_toInt]
  rfl

/-! ## Scores, weights, keys -/

theorem scores_low (g : Consts Ideal) (x : Loads Ideal) (r : Fin 128) (l : Fin 128) :
    scores g x (ix2 ⟨r.val, by omega⟩ l) = ∑ d : Fin 96, x.q (ix4 0 0 r d) * x.k (ix4 0 0 l d) := by
  unfold scores
  pointwise

theorem scores_high (x : Loads Ideal) (d : Fin 96) (l : Fin 128) :
    scores consts0 x (ix2 ⟨128 + d.val, by omega⟩ l) = x.k (ix4 0 0 l d) := by
  unfold scores
  pointwise
  rw [Finset.sum_eq_single d]
  · rw [eye_apply, if_pos rfl, one_mul]
  · intro d' _ hd
    rw [eye_apply, if_neg (fun h => hd h.symm), zero_mul]
  · intro h
    exact absurd (Finset.mem_univ d) h

theorem keys_apply (x : Loads Ideal) (d : Fin 96) (l : Fin 128) :
    keys consts0 x (ix2 d l) = x.k (ix4 0 0 l d) * x.w (ix3 0 0 l) := by
  unfold keys
  pointwise
  rw [scores_high]

theorem log2e : (Named.named (F := Ideal) (φ := .f32) κ "log2e" 0x3FB8AA3B#32) = (((Real.log 2)⁻¹ : ℝ) : EReal) :=
  IdealRules.named_const.ideal_named_scalar _ _ _ _ rfl

theorem weights_apply (x : Loads Ideal) (r : Fin 2) (t s : Fin 64) (R L : Fin 128) (hR : R.val = 64 * r.val + t.val)
    (hL : L.val = 64 * r.val + s.val) (hseg : x.seg (ix2 R 0) < ((128 : ℝ) : EReal)) :
    weights consts0 x (ix2 t L)
      = if s.val ≤ t.val ∧ ((((t.val : ℤ) - (s.val : ℤ) : ℤ) : ℝ) : EReal) ≤ x.seg (ix2 R 0) then
          ((∑ d : Fin 96, x.q (ix4 0 0 R d) * x.k (ix4 0 0 L d)) * x.psc (ix3 0 0 L))
            * Ideal.exp (x.c (ix3 0 0 L) - x.m (ix2 R 0))
        else 0 := by
  have hmod : L.val % 64 = s.val := by omega
  have hsel : ∀ {α : Type} (f : Fin 128 → α),
      Scalar.select ((consts0 (F := Ideal)).lo (ix2 t L)) (f ⟨t.val, by omega⟩) (f ⟨64 + t.val, by omega⟩) = f R := by
    intro α f
    rw [lo_apply]
    fin_cases r
    · have e : R = ⟨t.val, by omega⟩ := Fin.ext (by simpa using hR)
      rw [if_pos (by simp at hL; omega), e]
      rfl
    · have e : R = ⟨64 + t.val, by omega⟩ := Fin.ext (by simpa using hR)
      rw [if_neg (by simp at hL; omega), e]
      rfl
  unfold weights packed half0 half1
  pointwise
  rw [hsel fun a => x.seg (ix2 a 0), hsel fun a => x.m (ix2 a 0)]
  have hq := hsel fun a => scores (consts0 (F := Ideal)) x (ix2 ⟨a.val, by omega⟩ L)
  rw [show Scalar.select ((consts0 (F := Ideal)).lo (ix2 t L)) (scores (consts0 (F := Ideal)) x (ix2 ⟨t.val, by omega⟩ L))
    (scores (consts0 (F := Ideal)) x (ix2 ⟨64 + t.val, by omega⟩ L)) = _ from hq, scores_low, log2e, dist_apply, hmod]
  by_cases hc : s.val ≤ t.val
  · rw [if_pos hc]
    simp only [hc, true_and]
    split
    · congr 1
      exact Spec.exp2_log2e _ _
    · rfl
  · rw [if_neg hc]
    refine (if_neg ?_).trans (if_neg (fun h => hc h.1)).symm
    intro h
    have := lt_of_le_of_lt h hseg
    rw [EReal.coe_lt_coe_iff] at this
    norm_num at this

/-! ## A chunk's sums -/

theorem sum_low (f : Fin 128 → EReal) : (∑ l : Fin 128, if l.val < 64 then f l else 0) = ∑ s : Fin 64, f ⟨s.val, by omega⟩ := by
  rw [Fin.sum_univ_two_halves 64 64 rfl]
  have h1 : (∑ s : Fin 64, (fun l : Fin 128 => if l.val < 64 then f l else 0) ⟨64 + s.val, by omega⟩) = 0 :=
    Finset.sum_eq_zero fun s _ => if_neg (by show ¬ 64 + s.val < 64; omega)
  have h0 : (∑ s : Fin 64, (fun l : Fin 128 => if l.val < 64 then f l else 0) ⟨s.val, by omega⟩) = ∑ s : Fin 64, f ⟨s.val, by omega⟩ :=
    Finset.sum_congr rfl fun s _ => if_pos s.isLt
  exact (congrArg₂ (· + ·) h0 h1).trans (add_zero _)

theorem sum_high (f : Fin 128 → EReal) : (∑ l : Fin 128, if l.val < 64 then 0 else f l) = ∑ s : Fin 64, f ⟨64 + s.val, by omega⟩ := by
  rw [Fin.sum_univ_two_halves 64 64 rfl]
  have h1 : (∑ s : Fin 64, (fun l : Fin 128 => if l.val < 64 then 0 else f l) ⟨64 + s.val, by omega⟩) = ∑ s : Fin 64, f ⟨64 + s.val, by omega⟩ :=
    Finset.sum_congr rfl fun s _ => if_neg (by show ¬ 64 + s.val < 64; omega)
  have h0 : (∑ s : Fin 64, (fun l : Fin 128 => if l.val < 64 then 0 else f l) ⟨s.val, by omega⟩) = 0 :=
    Finset.sum_eq_zero fun s _ => if_pos s.isLt
  exact (congrArg₂ (· + ·) h0 h1).trans (zero_add _)

theorem values0_apply (x : Loads Ideal) (l : Fin 128) (e : Fin 192) :
    values0 x (ix2 l e) = if l.val < 64 then x.v (ix4 0 0 l e) else 0 := by
  unfold values0 values
  pointwise
  split <;> rfl

theorem values1_apply (x : Loads Ideal) (l : Fin 128) (e : Fin 192) :
    values1 x (ix2 l e) = if l.val < 64 then 0 else x.v (ix4 0 0 l e) := by
  unfold values1 values
  pointwise
  split
  · rfl
  · congr 1
    exact congrArg (fun a => ix4 0 0 a e) (Fin.ext (by show 64 + (l.val - 64) = l.val; omega))

theorem dstate_apply (g : Consts Ideal) (x : Loads Ideal) (v : FVec Ideal S128x192 .bf16) (d : Fin 96) (e : Fin 192) :
    dstate g x v (ix2 d e) = ∑ l : Fin 128, keys g x (ix2 d l) * v (ix2 l e) := by
  unfold dstate
  pointwise

theorem mix_apply (g : Consts Ideal) (x : Loads Ideal) (v : FVec Ideal S128x192 .bf16) (t : Fin 64) (e : Fin 192) :
    mix g x v (ix2 t e) = ∑ l : Fin 128, weights g x (ix2 t l) * v (ix2 l e) := by
  unfold mix
  pointwise

theorem ksum_apply (x : FVec Ideal S96x128 .f32) (mask : IVec S96x128 1) (d : Fin 96) :
    ksum x mask (ix2 d 0) = ∑ l : Fin 128, Scalar.select (mask (ix2 d l)) (x (ix2 d l)) 0 := by
  unfold ksum
  pointwise

theorem wsum_apply (x : FVec Ideal S64x128 .f32) (mask : IVec S64x128 1) (d : Fin 64) :
    wsum x mask (ix2 d 0) = ∑ l : Fin 128, Scalar.select (mask (ix2 d l)) (x (ix2 d l)) 0 := by
  unfold wsum
  pointwise

theorem not96_apply (d : Fin 96) (l : Fin 128) : not96 (consts0 (F := Ideal)) (ix2 d l) = if l.val < 64 then 0#1 else 1#1 := by
  unfold not96
  pointwise
  rw [lo96_apply]
  split <;> rfl

theorem not64_apply (d : Fin 64) (l : Fin 128) : not64 (consts0 (F := Ideal)) (ix2 d l) = if l.val < 64 then 0#1 else 1#1 := by
  unfold not64
  pointwise
  rw [lo_apply]
  split <;> rfl

/-- Half `r` of a pair, its token `s`. -/
def at2 (r : Fin 2) (s : Fin 64) : Fin 128 := ⟨64 * r.val + s.val, by omega⟩

/-- The values, and the masks, of half `r`. -/
def valuesR (x : Loads Ideal) : Fin 2 → FVec Ideal S128x192 .bf16
  | 0 => values0 x
  | 1 => values1 x

theorem dstate_half (x : Loads Ideal) (r : Fin 2) (d : Fin 96) (e : Fin 192) :
    dstate consts0 x (valuesR x r) (ix2 d e)
      = ∑ s : Fin 64, x.k (ix4 0 0 (at2 r s) d) * x.w (ix3 0 0 (at2 r s)) * x.v (ix4 0 0 (at2 r s) e) := by
  rw [dstate_apply]
  fin_cases r
  · refine Eq.trans ?_ ((sum_low fun l => x.k (ix4 0 0 l d) * x.w (ix3 0 0 l) * x.v (ix4 0 0 l e)).trans ?_)
    · refine Finset.sum_congr rfl fun l _ => ?_
      show keys consts0 x (ix2 d l) * values0 x (ix2 l e) = _
      rw [keys_apply, values0_apply]
      split
      · rfl
      · exact mul_zero _
    · refine Finset.sum_congr rfl fun s _ => ?_
      have e1 : at2 0 s = ⟨s.val, by omega⟩ := Fin.ext (by show 64 * 0 + s.val = s.val; omega)
      show _ = x.k (ix4 0 0 (at2 0 s) d) * x.w (ix3 0 0 (at2 0 s)) * x.v (ix4 0 0 (at2 0 s) e)
      rw [e1]
  · refine Eq.trans ?_ ((sum_high fun l => x.k (ix4 0 0 l d) * x.w (ix3 0 0 l) * x.v (ix4 0 0 l e)).trans ?_)
    · refine Finset.sum_congr rfl fun l _ => ?_
      show keys consts0 x (ix2 d l) * values1 x (ix2 l e) = _
      rw [keys_apply, values1_apply]
      split
      · exact mul_zero _
      · rfl
    · refine Finset.sum_congr rfl fun s _ => ?_
      have e1 : at2 1 s = ⟨64 + s.val, by omega⟩ := Fin.ext (by show 64 * 1 + s.val = 64 + s.val; omega)
      show _ = x.k (ix4 0 0 (at2 1 s) d) * x.w (ix3 0 0 (at2 1 s)) * x.v (ix4 0 0 (at2 1 s) e)
      rw [e1]

theorem mix_half (x : Loads Ideal) (r : Fin 2) (t : Fin 64) (e : Fin 192) :
    mix consts0 x (valuesR x r) (ix2 t e)
      = ∑ s : Fin 64, weights consts0 x (ix2 t (at2 r s)) * x.v (ix4 0 0 (at2 r s) e) := by
  rw [mix_apply]
  fin_cases r
  · refine Eq.trans ?_ ((sum_low fun l => weights consts0 x (ix2 t l) * x.v (ix4 0 0 l e)).trans ?_)
    · refine Finset.sum_congr rfl fun l _ => ?_
      show weights consts0 x (ix2 t l) * values0 x (ix2 l e) = _
      rw [values0_apply]
      split
      · rfl
      · exact mul_zero _
    · refine Finset.sum_congr rfl fun s _ => ?_
      have e1 : at2 0 s = ⟨s.val, by omega⟩ := Fin.ext (by show 64 * 0 + s.val = s.val; omega)
      show _ = weights consts0 x (ix2 t (at2 0 s)) * x.v (ix4 0 0 (at2 0 s) e)
      rw [e1]
  · refine Eq.trans ?_ ((sum_high fun l => weights consts0 x (ix2 t l) * x.v (ix4 0 0 l e)).trans ?_)
    · refine Finset.sum_congr rfl fun l _ => ?_
      show weights consts0 x (ix2 t l) * values1 x (ix2 l e) = _
      rw [values1_apply]
      split
      · exact mul_zero _
      · rfl
    · refine Finset.sum_congr rfl fun s _ => ?_
      have e1 : at2 1 s = ⟨64 + s.val, by omega⟩ := Fin.ext (by show 64 * 1 + s.val = 64 + s.val; omega)
      show _ = weights consts0 x (ix2 t (at2 1 s)) * x.v (ix4 0 0 (at2 1 s) e)
      rw [e1]

def mask96 : Fin 2 → IVec S96x128 1
  | 0 => (consts0 (F := Ideal)).lo96
  | 1 => not96 (consts0 (F := Ideal))
def mask64 : Fin 2 → IVec S64x128 1
  | 0 => (consts0 (F := Ideal)).lo
  | 1 => not64 (consts0 (F := Ideal))

theorem ksum_half (x : FVec Ideal S96x128 .f32) (r : Fin 2) (d : Fin 96) :
    ksum x (mask96 r) (ix2 d 0) = ∑ s : Fin 64, x (ix2 d (at2 r s)) := by
  rw [ksum_apply]
  fin_cases r
  · refine Eq.trans ?_ ((sum_low fun l => x (ix2 d l)).trans ?_)
    · refine Finset.sum_congr rfl fun l _ => ?_
      show Scalar.select ((consts0 (F := Ideal)).lo96 (ix2 d l)) _ _ = _
      rw [lo96_apply]
      split <;> rfl
    · refine Finset.sum_congr rfl fun s _ => ?_
      exact congrArg (fun a => x (ix2 d a)) (Fin.ext (by show s.val = 64 * 0 + s.val; omega))
  · refine Eq.trans ?_ ((sum_high fun l => x (ix2 d l)).trans ?_)
    · refine Finset.sum_congr rfl fun l _ => ?_
      show Scalar.select (not96 (consts0 (F := Ideal)) (ix2 d l)) _ _ = _
      rw [not96_apply]
      split <;> rfl
    · refine Finset.sum_congr rfl fun s _ => ?_
      exact congrArg (fun a => x (ix2 d a)) (Fin.ext (by show 64 + s.val = 64 * 1 + s.val; omega))

theorem wsum_half (x : FVec Ideal S64x128 .f32) (r : Fin 2) (d : Fin 64) :
    wsum x (mask64 r) (ix2 d 0) = ∑ s : Fin 64, x (ix2 d (at2 r s)) := by
  rw [wsum_apply]
  fin_cases r
  · refine Eq.trans ?_ ((sum_low fun l => x (ix2 d l)).trans ?_)
    · refine Finset.sum_congr rfl fun l _ => ?_
      show Scalar.select ((consts0 (F := Ideal)).lo (ix2 d l)) _ _ = _
      rw [lo_apply]
      split <;> rfl
    · refine Finset.sum_congr rfl fun s _ => ?_
      exact congrArg (fun a => x (ix2 d a)) (Fin.ext (by show s.val = 64 * 0 + s.val; omega))
  · refine Eq.trans ?_ ((sum_high fun l => x (ix2 d l)).trans ?_)
    · refine Finset.sum_congr rfl fun l _ => ?_
      show Scalar.select (not64 (consts0 (F := Ideal)) (ix2 d l)) _ _ = _
      rw [not64_apply]
      split <;> rfl
    · refine Finset.sum_congr rfl fun s _ => ?_
      exact congrArg (fun a => x (ix2 d a)) (Fin.ext (by show 64 + s.val = 64 * 1 + s.val; omega))

end Cert.KernelIdeal.Eval

end
-- ==== Proof.Chunk.lean ====
/-
  The kernel's state and results over the extended reals are `Spec`'s, head by head.
-/
module

public import proofs.«01_k».proof.Proof.Eval

@[expose] public section

set_option maxRecDepth 16384

noncomputable section

namespace Cert.KernelIdeal.Eval

open Idealize.ShloMosaic Idealize.ShloMosaic.TcCoe Idealize.SL.Sem Cert.KernelIdeal Cert.KernelIdeal.Gen Cert.KernelIdeal.Head
open Cert.KernelIdeal.Arr Cert.KernelIdeal.Val Cert.Spec

/-- The three parts of a finite state add up to it: the queries read the state itself. -/
theorem recall_apply (q : FVec Ideal S64x96 .bf16) (st : Vec Ideal S1x96x256 .f32) (t : Fin 64) (e : Fin 256)
    (hf : ∀ d, Spec.Fin' (st (ix3 0 d e))) :
    recall q st (ix2 t e) = ∑ d : Fin 96, q (ix2 t d) * st (ix3 0 d e) := by
  have hz : ∀ d, st (ix3 0 d e) - st (ix3 0 d e) = 0 := fun d => (hf d).sub_self
  unfold recall
  pointwise
  simp only [hz, sub_zero, dite_eq_ite, ite_self]
  rw [Fin.sum_univ_two_halves 96 288 rfl]
  refine Eq.trans (congrArg₂ (· + ·) (Finset.sum_congr rfl fun d _ => ?_) (Finset.sum_eq_zero fun d _ => ?_)) (add_zero _)
  · have h1 : d.val < 128 := by omega
    rw [dif_pos d.isLt, dif_pos h1, dif_pos d.isLt]
  · exact (congrArg (_ * ·) (dif_neg (by show ¬ 96 + d.val < 96; omega))).trans (mul_zero _)

theorem left_apply (dc : FVec Ideal S96x192 .f32) (st : Vec Ideal S1x96x256 .f32) (y : Scales Ideal) (d : Fin 96) (e : Fin 128) :
    left dc st y (ix3 0 d e) = y.dec (ix4 0 0 0 e) * st (ix3 0 d ⟨e.val, by omega⟩)
      + y.gain (ix4 0 0 0 e) * dc (ix2 d ⟨e.val, by omega⟩) := by
  unfold left
  pointwise

theorem right_apply (dc : FVec Ideal S96x192 .f32) (dn : FVec Ideal S96x1 .f32) (st : Vec Ideal S1x96x256 .f32) (y : Scales Ideal)
    (d : Fin 96) (e : Fin 128) :
    right consts0 dc dn st y (ix3 0 d e) = y.dec (ix4 0 0 0 e) * st (ix3 0 d ⟨128 + e.val, by omega⟩) + y.tail (ix4 0 0 0 e) *
      (if e.val = 64 then dn (ix2 d 0) else if h : e.val < 64 then dc (ix2 d ⟨128 + e.val, by omega⟩) else 0) := by
  unfold right
  pointwise
  rw [nlane_apply]
  by_cases h : e.val = 64
  · rw [if_pos h, if_pos h]; rfl
  · rw [if_neg h, if_neg h]; rfl

theorem result_apply (num : FVec Ideal S64x256 .f32) (iw fl den : FVec Ideal S64x1 .f32) (pv : FVec Ideal S64x192 .f32)
    (y : Scales Ideal) (t : Fin 64) (e : Fin 192) :
    result num iw fl den pv y (ix4 0 0 t e)
      = Ideal.div (iw (ix2 t 0) * num (ix2 t ⟨e.val, by omega⟩) + y.vsc (ix4 0 0 0 0) * pv (ix2 t e))
          (max (FloatOps.absf (F := Ideal) (φ := .f32) (iw (ix2 t 0) * num (ix2 t ⟨192, by omega⟩) + den (ix2 t 0))) (fl (ix2 t 0))) := by
  unfold result
  pointwise

/-- The queries of half `r`, and its rows of a column. -/
def queriesR (x : Loads Ideal) : Fin 2 → FVec Ideal S64x96 .bf16
  | 0 => queries0 x
  | 1 => queries1 x
def halfR (x : FVec Ideal S128x1 .f32) : Fin 2 → FVec Ideal S64x1 .f32
  | 0 => half0 x
  | 1 => half1 x

theorem queriesR_apply (x : Loads Ideal) (r : Fin 2) (t : Fin 64) (d : Fin 96) :
    queriesR x r (ix2 t d) = x.q (ix4 0 0 (at2 r t) d) := by
  fin_cases r
  · refine Eq.trans (b := x.q (ix4 0 0 ⟨t.val, by omega⟩ d)) ?_ (congrArg (fun a => x.q (ix4 0 0 a d)) (Fin.ext (by show t.val = 64 * 0 + t.val; omega)))
    show queries0 x (ix2 t d) = _
    unfold queries0
    pointwise
  · refine Eq.trans (b := x.q (ix4 0 0 ⟨64 + t.val, by omega⟩ d)) ?_ (congrArg (fun a => x.q (ix4 0 0 a d)) (Fin.ext (by show 64 + t.val = 64 * 1 + t.val; omega)))
    show queries1 x (ix2 t d) = _
    unfold queries1
    pointwise

theorem halfR_apply (x : FVec Ideal S128x1 .f32) (r : Fin 2) (t : Fin 64) : halfR x r (ix2 t 0) = x (ix2 (at2 r t) 0) := by
  fin_cases r
  · refine Eq.trans (b := x (ix2 ⟨t.val, by omega⟩ 0)) ?_ (congrArg (fun a => x (ix2 a 0)) (Fin.ext (by show t.val = 64 * 0 + t.val; omega)))
    show half0 x (ix2 t 0) = _
    unfold half0
    pointwise
  · refine Eq.trans (b := x (ix2 ⟨64 + t.val, by omega⟩ 0)) ?_ (congrArg (fun a => x (ix2 a 0)) (Fin.ext (by show 64 + t.val = 64 * 1 + t.val; omega)))
    show half1 x (ix2 t 0) = _
    unfold half1
    pointwise

/-! ## One chunk -/

/-- The state of a head after half `r`, and its results. -/
def stepR (x : Loads Ideal) (y : Scales Ideal) (r : Fin 2) (st : Vec Ideal S1x96x256 .f32) : Vec Ideal S1x96x256 .f32 :=
  join (left (dstate consts0 x (valuesR x r)) st y)
    (right consts0 (dstate consts0 x (valuesR x r)) (ksum (keys consts0 x) (mask96 r)) st y)
def outR (x : Loads Ideal) (y : Scales Ideal) (r : Fin 2) (st : Vec Ideal S1x96x256 .f32) : FVec Ideal S1x1x64x192 .bf16 :=
  result (recall (queriesR x r) st) (halfR x.iw r) (halfR x.fl r) (wsum (weights consts0 x) (mask64 r))
    (mix consts0 x (valuesR x r)) y

/-- What half `r` of pair `k` loads is the tables of chunk `i`. -/
structure Tables (S : Seq) (i : Fin 32) (x : Loads Ideal) (y : Scales Ideal) (r : Fin 2) : Prop where
  q : ∀ t d, x.q (ix4 0 0 (at2 r t) d) = S.q (tk i t) d
  k : ∀ t d, x.k (ix4 0 0 (at2 r t) d) = S.k (tk i t) d
  v : ∀ t e, x.v (ix4 0 0 (at2 r t) e) = S.v (tk i t) e
  c : ∀ t, x.c (ix3 0 0 (at2 r t)) = S.c (tk i t)
  w : ∀ t, x.w (ix3 0 0 (at2 r t)) = S.w (tk i t)
  psc : ∀ t, x.psc (ix3 0 0 (at2 r t)) = S.psc i
  m : ∀ t, x.m (ix2 (at2 r t) 0) = S.m (tk i t)
  seg : ∀ t, x.seg (ix2 (at2 r t) 0) = S.seg (tk i t)
  iw : ∀ t, x.iw (ix2 (at2 r t) 0) = S.iw (tk i t)
  fl : ∀ t, x.fl (ix2 (at2 r t) 0) = S.fl (tk i t)
  vsc : y.vsc (ix4 0 0 0 0) = S.vs i
  dec : ∀ l, y.dec (ix4 0 0 0 l) = S.dec i
  gain : ∀ l, y.gain (ix4 0 0 0 l) = S.gain i * (S.ks i * S.vs i)
  tail : ∀ l, y.tail (ix4 0 0 0 l) = if l.val < 64 then S.gain i * (S.ks i * S.vs i) else S.gain i * S.ks i

variable {S : Seq} {i : Fin 32} {x : Loads Ideal} {y : Scales Ideal} {r : Fin 2}

theorem dstate_tables (h : Tables S i x y r) (d : Fin 96) (e : Fin 192) :
    dstate consts0 x (valuesR x r) (ix2 d e) = ∑ s : Fin 64, S.k (tk i s) d * S.w (tk i s) * S.v (tk i s) e := by
  rw [dstate_half]
  simp only [h.k, h.w, h.v]

theorem ksum_tables (h : Tables S i x y r) (d : Fin 96) :
    ksum (keys consts0 x) (mask96 r) (ix2 d 0) = ∑ s : Fin 64, S.k (tk i s) d * S.w (tk i s) := by
  rw [ksum_half]
  simp only [keys_apply, h.k, h.w]

theorem step_C (h : Tables S i x y r) (st : Vec Ideal S1x96x256 .f32) (d : Fin 96) (e : Fin 192) :
    stepR x y r st (ix3 0 d ⟨e.val, by omega⟩) = stepC S i (st (ix3 0 d ⟨e.val, by omega⟩)) d e := by
  unfold stepR stepC join
  by_cases he : e.val < 128
  · refine (dif_pos he).trans ?_
    refine (left_apply _ _ _ d ⟨e.val, he⟩).trans ?_
    rw [h.dec, h.gain]
    refine congrArg₂ (· + ·) rfl ?_
    refine (congrArg (_ * ·) (dstate_tables h d e)).trans ?_
    rw [mul_assoc, mul_comm (S.ks i * S.vs i)]
  · refine (dif_neg he).trans ?_
    refine (right_apply _ _ _ _ d ⟨e.val - 128, by omega⟩).trans ?_
    have h64 : e.val - 128 < 64 := by omega
    have e1 : 128 + (e.val - 128) = e.val := by omega
    rw [h.dec, h.tail, if_pos h64, if_neg (by show ¬ e.val - 128 = 64; omega), dif_pos h64]
    simp only [e1]
    refine congrArg₂ (· + ·) rfl ?_
    refine (congrArg (_ * ·) (dstate_tables h d e)).trans ?_
    rw [mul_assoc, mul_comm (S.ks i * S.vs i)]

theorem step_N (h : Tables S i x y r) (st : Vec Ideal S1x96x256 .f32) (d : Fin 96) :
    stepR x y r st (ix3 0 d ⟨192, by omega⟩) = stepN S i (st (ix3 0 d ⟨192, by omega⟩)) d := by
  unfold stepR stepN join
  refine (dif_neg (by show ¬ 192 < 128; omega)).trans ?_
  refine (right_apply _ _ _ _ d ⟨64, by omega⟩).trans ?_
  rw [h.dec, h.tail, if_neg (by show ¬ 64 < 64; omega), if_pos rfl]
  refine congrArg₂ (· + ·) rfl ?_
  rw [ksum_tables h, mul_assoc, mul_comm (S.ks i)]

theorem weights_tables (h : Tables S i x y r) (hseg : ∀ t, S.seg t < ((128 : ℝ) : EReal)) (t s : Fin 64) :
    weights consts0 x (ix2 t (at2 r s)) = P S i t s := by
  rw [weights_apply x r t s (at2 r t) (at2 r s) rfl rfl (by rw [h.seg]; exact hseg _)]
  unfold P
  simp only [h.q, h.k, h.c, h.m, h.seg, h.psc]

theorem out_H (h : Tables S i x y r) (hseg : ∀ t, S.seg t < ((128 : ℝ) : EReal)) (hf : Finite S) (st : Vec Ideal S1x96x256 .f32)
    (hC : ∀ d (e : Fin 192), st (ix3 0 d ⟨e.val, by omega⟩) = C S i.val d e)
    (hN : ∀ d, st (ix3 0 d ⟨192, by omega⟩) = N S i.val d) (t : Fin 64) (e : Fin 192) :
    outR x y r st (ix4 0 0 t e) = H S i t e := by
  unfold outR H
  rw [result_apply, recall_apply _ _ _ _ (fun d => by rw [hC]; exact hf.C _ _ _),
    recall_apply _ _ _ _ (fun d => by rw [hN]; exact hf.N _ _), mix_half, wsum_half, halfR_apply, halfR_apply]
  simp only [queriesR_apply, weights_tables h hseg, h.q, h.v, h.iw, h.fl, h.vsc, hC, hN]

/-! ## All chunks -/

/-- A head's blocks hold its tables. -/
structure Fits (S : Seq) (X : Blocks Ideal) (b : Fin 12) (h : Fin 4) : Prop where
  q : ∀ t d, X.q (ix4 0 h t d) = S.q t d
  k : ∀ t d, X.k (ix4 0 h t d) = S.k t d
  v : ∀ t e, X.v (ix4 0 h t e) = S.v t e
  c : ∀ t, X.row (ix3 b ⟨h.val, by omega⟩ t) = S.c t
  w : ∀ t, X.row (ix3 b ⟨4 + h.val, by omega⟩ t) = S.w t
  psc : ∀ i t, X.row (ix3 b ⟨8 + h.val, by omega⟩ (tk i t)) = S.psc i
  m : ∀ t, X.col (ix3 b ⟨h.val, by omega⟩ t) = S.m t
  seg : ∀ t, X.col (ix3 b ⟨4 + h.val, by omega⟩ t) = S.seg t
  iw : ∀ t, X.col (ix3 b ⟨8 + h.val, by omega⟩ t) = S.iw t
  fl : ∀ t, X.col (ix3 b ⟨12 + h.val, by omega⟩ t) = S.fl t
  dec : ∀ i l, X.sc (ix4 b i ⟨h.val, by omega⟩ l) = S.dec i
  gain : ∀ i l, X.sc (ix4 b i ⟨4 + h.val, by omega⟩ l) = S.gain i * (S.ks i * S.vs i)
  tail : ∀ i l, X.sc (ix4 b i ⟨8 + h.val, by omega⟩ l)
    = if l.val < 64 then S.gain i * (S.ks i * S.vs i) else S.gain i * S.ks i
  vsc : ∀ i l, X.sc (ix4 b i ⟨12 + h.val, by omega⟩ l) = S.vs i

theorem tok_at2 (k : Fin 16) (r : Fin 2) (t : Fin 64) : tok k (at2 r t) = tk (chunk k r) t :=
  Fin.ext (by show 128 * k.val + (64 * r.val + t.val) = 64 * (2 * k.val + r.val) + t.val; omega)

theorem Fits.tables {S : Seq} {X : Blocks Ideal} {b : Fin 12} {h : Fin 4} (f : Fits S X b h) (k : Fin 16) (r : Fin 2) :
    Tables S (chunk k r) (loads X b k h) (scales X b k h r) r where
  q t d := (congrArg (fun a => X.q (ix4 0 h a d)) (tok_at2 k r t)).trans (f.q _ _)
  k t d := (congrArg (fun a => X.k (ix4 0 h a d)) (tok_at2 k r t)).trans (f.k _ _)
  v t e := (congrArg (fun a => X.v (ix4 0 h a e)) (tok_at2 k r t)).trans (f.v _ _)
  c t := (congrArg (fun a => X.row (ix3 b _ a)) (tok_at2 k r t)).trans (f.c _)
  w t := (congrArg (fun a => X.row (ix3 b _ a)) (tok_at2 k r t)).trans (f.w _)
  psc t := (congrArg (fun a => X.row (ix3 b _ a)) (tok_at2 k r t)).trans (f.psc _ _)
  m t := (congrArg (fun a => X.col (ix3 b _ a)) (tok_at2 k r t)).trans (f.m _)
  seg t := (congrArg (fun a => X.col (ix3 b _ a)) (tok_at2 k r t)).trans (f.seg _)
  iw t := (congrArg (fun a => X.col (ix3 b _ a)) (tok_at2 k r t)).trans (f.iw _)
  fl t := (congrArg (fun a => X.col (ix3 b _ a)) (tok_at2 k r t)).trans (f.fl _)
  vsc := f.vsc _ _
  dec l := f.dec _ _
  gain l := f.gain _ _
  tail l := f.tail _ _

/-- A state holds a head's matrix and normaliser before chunk `i`. -/
def Holds (S : Seq) (i : ℕ) (st : Vec Ideal S1x96x256 .f32) : Prop :=
  (∀ d (e : Fin 192), st (ix3 0 d ⟨e.val, by omega⟩) = C S i d e) ∧ ∀ d, st (ix3 0 d ⟨192, by omega⟩) = N S i d

theorem Holds.step (h : Tables S i x y r) {st : Vec Ideal S1x96x256 .f32} (hs : Holds S i.val st) :
    Holds S (i.val + 1) (stepR x y r st) :=
  ⟨fun d e => by rw [step_C h, hs.1, C_succ], fun d => by rw [step_N h, hs.2, N_succ]⟩

variable {X : Blocks Ideal} {b : Fin 12} {h : Fin 4}

theorem mid_holds (f : Fits S X b h) (k : Fin 16) {st : Vec Ideal S1x96x256 .f32} (hs : Holds S (2 * k.val) st) :
    Holds S (2 * k.val + 1) (mid consts0 X b k h st) :=
  Holds.step (f.tables k 0) (i := chunk k 0) hs

theorem next_holds (f : Fits S X b h) (k : Fin 16) {st : Vec Ideal S1x96x256 .f32} (hs : Holds S (2 * k.val) st) :
    Holds S (2 * (k.val + 1)) (next consts0 X b k h st) :=
  Holds.step (f.tables k 1) (i := chunk k 1) (mid_holds f k hs)

theorem state_holds (f : Fits S X b h) : ∀ n, n ≤ 16 → Holds S (2 * n) (ofHead (state consts0 X b n) h)
  | 0, _ => by
    have hz : ∀ j, (k0_pay171 (F := Ideal)) j = 0 := by
      intro j
      idx_vars j
      unfold k0_pay171
      pointwise
    exact ⟨fun d e => hz (ix3 h d ⟨e.val, by omega⟩), fun d => hz (ix3 h d ⟨192, by omega⟩)⟩
  | n + 1, hn => by
    have ih := next_holds f ⟨n, by omega⟩ (state_holds f n (by omega))
    have e : ∀ d (l : Fin 256), ofHead (state consts0 X b (n + 1)) h (ix3 0 d l)
        = next consts0 X b ⟨n, by omega⟩ h (ofHead (state consts0 X b n) h) (ix3 0 d l) := by
      intro d l
      show state consts0 X b (n + 1) (ix3 h d l) = _
      show (dite _ _ _ : Vec Ideal S4x96x256 .f32) (ix3 h d l) = _
      rw [dif_pos (show n < 16 by omega)]
      rfl
    exact ⟨fun d e' => (e _ _).trans (ih.1 d e'), fun d => (e _ _).trans (ih.2 d)⟩

theorem res_H (f : Fits S X b h) (hseg : ∀ t, S.seg t < ((128 : ℝ) : EReal)) (hf : Finite S) (i : Fin 32) (t : Fin 64) (e : Fin 192) :
    res consts0 X b (ix4 0 h (tk i t) e) = H S i t e := by
  obtain ⟨k, r, rfl⟩ : ∃ (k : Fin 16) (r : Fin 2), i = chunk k r :=
    ⟨⟨i.val / 2, by omega⟩, ⟨i.val % 2, by omega⟩, Fin.ext (by show i.val = 2 * (i.val / 2) + i.val % 2; omega)⟩
  have hs := state_holds f k.val (by omega)
  have ek : (tk (chunk k r) t).val / 128 = k.val := by
    show (64 * (2 * k.val + r.val) + t.val) / 128 = k.val
    omega
  have er : (tk (chunk k r) t).val % 128 = 64 * r.val + t.val := by
    show (64 * (2 * k.val + r.val) + t.val) % 128 = _
    omega
  show outs consts0 X b ⟨(tk (chunk k r) t).val / 128, _⟩ (state consts0 X b ((tk (chunk k r) t).val / 128)) h
    ⟨(tk (chunk k r) t).val % 128, _⟩ e = _
  simp only [ek, er]
  unfold outs rows
  fin_cases r
  · refine (dif_pos (by show 64 * 0 + t.val < 64; omega)).trans ?_
    have := out_H (f.tables k 0) hseg hf (ofHead (state consts0 X b k.val) h) hs.1 hs.2 t e
    refine Eq.trans ?_ this
    exact congrArg (fun a => outR _ _ 0 _ (ix4 0 0 a e)) (Fin.ext (by show 64 * 0 + t.val = t.val; omega))
  · refine (dif_neg (by show ¬ 64 * 1 + t.val < 64; omega)).trans ?_
    have hm := mid_holds f k hs
    have := out_H (f.tables k 1) hseg hf (mid consts0 X b k h (ofHead (state consts0 X b k.val) h)) hm.1 hm.2 t e
    refine Eq.trans ?_ this
    exact congrArg (fun a => outR _ _ 1 _ (ix4 0 0 a e)) (Fin.ext (by show 64 * 1 + t.val - 64 = t.val; omega))

end Cert.KernelIdeal.Eval

end
-- ==== Proof.KerVal.lean ====
/-
  The kernel's final arrays, element by element: `Spec`'s values of the argument tables.
-/
module

public import proofs.«01_k».proof.Proof.Host
public import proofs.«01_k».proof.Proof.Chunk

@[expose] public section

set_option maxRecDepth 16384

noncomputable section

namespace Cert.KernelIdeal.Val

open Idealize.ShloMosaic Idealize.ShloMosaic.TcCoe Idealize.SL.Sem Cert.KernelIdeal Cert.KernelIdeal.Gen
open Cert.KernelIdeal.Arr Cert.KernelIdeal.Eval Cert.Spec

variable (m : (ℓ : Loc nD τ sig) → Buf (Elt Ideal) ℓ) (c : Dev nD)

/-- The grid point of batch element `b`. -/
def pt (b : Fin 12) : Fin cfg0.N := ⟨b.val, b.isLt⟩

theorem coords_val : ∀ b : Fin 12, (grid0.coords (pt b) 0).val = b.val := by decide +kernel

theorem coords_pt (b : Fin 12) : grid0.coords (pt b) 0 = b := Fin.ext (coords_val b)

/-! ## Where each window's block lies -/

theorem at0 : ∀ b : Fin 12, win0_0.index (pt b) 0 = b.val ∧ win0_0.index (pt b) 1 = 0 ∧ win0_0.index (pt b) 2 = 0 ∧ win0_0.index (pt b) 3 = 0 := by
  decide +kernel
theorem at1 : ∀ b : Fin 12, win0_1.index (pt b) 0 = b.val ∧ win0_1.index (pt b) 1 = 0 ∧ win0_1.index (pt b) 2 = 0 ∧ win0_1.index (pt b) 3 = 0 := by
  decide +kernel
theorem at2 : ∀ b : Fin 12, win0_2.index (pt b) 0 = b.val ∧ win0_2.index (pt b) 1 = 0 ∧ win0_2.index (pt b) 2 = 0 ∧ win0_2.index (pt b) 3 = 0 := by
  decide +kernel
theorem at6 : ∀ b : Fin 12, win0_6.index (pt b) 0 = b.val ∧ win0_6.index (pt b) 1 = 0 ∧ win0_6.index (pt b) 2 = 0 ∧ win0_6.index (pt b) 3 = 0 := by
  decide +kernel
theorem at7 : ∀ b : Fin 12, win0_7.index (pt b) 0 = b.val ∧ win0_7.index (pt b) 1 = 0 ∧ win0_7.index (pt b) 2 = 0 ∧ win0_7.index (pt b) 3 = 0 := by
  decide +kernel
theorem at8 : ∀ b : Fin 12, win0_8.index (pt b) 0 = b.val ∧ win0_8.index (pt b) 1 = 0 ∧ win0_8.index (pt b) 2 = 0 := by
  decide +kernel
theorem at3 : ∀ b : Fin 12, win0_3.index (pt b) 0 = 0 ∧ win0_3.index (pt b) 1 = 0 ∧ win0_3.index (pt b) 2 = 0 := by
  decide +kernel
theorem at4 : ∀ b : Fin 12, win0_4.index (pt b) 0 = 0 ∧ win0_4.index (pt b) 1 = 0 ∧ win0_4.index (pt b) 2 = 0 := by
  decide +kernel
theorem at5 : ∀ b : Fin 12, win0_5.index (pt b) 0 = 0 ∧ win0_5.index (pt b) 1 = 0 ∧ win0_5.index (pt b) 2 = 0 ∧ win0_5.index (pt b) 3 = 0 := by
  decide +kernel

/-! ## The blocks the body reads -/

theorem blk_q (b : Fin 12) (h : Fin 4) (t : Fin 2048) (d : Fin 96) (X) (hX : X = V m c main_v0) :
    (blks m c (pt b)).q (ix4 0 h t d) = X (ix4 b h t d) := by
  subst hX
  show (iblk m c 0 (pt b)) (ix4 0 h t d) = _
  unfold iblk
  rw [View.read_apply]
  show V m c main_v0 _ = V m c main_v0 _
  congr 1
  funext a
  apply Fin.ext
  match a with
  | ⟨0, _⟩ => show win0_0.index (pt b) 0 * 1 + 1 * 0 = b.val; rw [(at0 b).1]; omega
  | ⟨1, _⟩ => show win0_0.index (pt b) 1 * 4 + 1 * h.val = h.val; rw [(at0 b).2.1]; omega
  | ⟨2, _⟩ => show win0_0.index (pt b) 2 * 2048 + 1 * t.val = t.val; rw [(at0 b).2.2.1]; omega
  | ⟨3, _⟩ => show win0_0.index (pt b) 3 * 96 + 1 * d.val = d.val; rw [(at0 b).2.2.2]; omega

theorem blk_k (b : Fin 12) (h : Fin 4) (t : Fin 2048) (d : Fin 96) (X) (hX : X = V m c main_v1) :
    (blks m c (pt b)).k (ix4 0 h t d) = X (ix4 b h t d) := by
  subst hX
  show (iblk m c 1 (pt b)) (ix4 0 h t d) = _
  unfold iblk
  rw [View.read_apply]
  show V m c main_v1 _ = V m c main_v1 _
  congr 1
  funext a
  apply Fin.ext
  match a with
  | ⟨0, _⟩ => show win0_1.index (pt b) 0 * 1 + 1 * 0 = b.val; rw [(at1 b).1]; omega
  | ⟨1, _⟩ => show win0_1.index (pt b) 1 * 4 + 1 * h.val = h.val; rw [(at1 b).2.1]; omega
  | ⟨2, _⟩ => show win0_1.index (pt b) 2 * 2048 + 1 * t.val = t.val; rw [(at1 b).2.2.1]; omega
  | ⟨3, _⟩ => show win0_1.index (pt b) 3 * 96 + 1 * d.val = d.val; rw [(at1 b).2.2.2]; omega

theorem blk_v (b : Fin 12) (h : Fin 4) (t : Fin 2048) (d : Fin 192) (X) (hX : X = V m c main_v2) :
    (blks m c (pt b)).v (ix4 0 h t d) = X (ix4 b h t d) := by
  subst hX
  show (iblk m c 2 (pt b)) (ix4 0 h t d) = _
  unfold iblk
  rw [View.read_apply]
  show V m c main_v2 _ = V m c main_v2 _
  congr 1
  funext a
  apply Fin.ext
  match a with
  | ⟨0, _⟩ => show win0_2.index (pt b) 0 * 1 + 1 * 0 = b.val; rw [(at2 b).1]; omega
  | ⟨1, _⟩ => show win0_2.index (pt b) 1 * 4 + 1 * h.val = h.val; rw [(at2 b).2.1]; omega
  | ⟨2, _⟩ => show win0_2.index (pt b) 2 * 2048 + 1 * t.val = t.val; rw [(at2 b).2.2.1]; omega
  | ⟨3, _⟩ => show win0_2.index (pt b) 3 * 192 + 1 * d.val = d.val; rw [(at2 b).2.2.2]; omega

theorem blk_row (b b' : Fin 12) (h : Fin 12) (t : Fin 2048) (X) (hX : X = V m c main_v9) :
    (blks m c (pt b)).row (ix3 b' h t) = X (ix3 b' h t) := by
  subst hX
  show (iblk m c 3 (pt b)) (ix3 b' h t) = _
  unfold iblk
  rw [View.read_apply]
  show V m c main_v9 _ = V m c main_v9 _
  congr 1
  funext a
  apply Fin.ext
  match a with
  | ⟨0, _⟩ => show win0_3.index (pt b) 0 * 12 + 1 * b'.val = b'.val; rw [(at3 b).1]; omega
  | ⟨1, _⟩ => show win0_3.index (pt b) 1 * 12 + 1 * h.val = h.val; rw [(at3 b).2.1]; omega
  | ⟨2, _⟩ => show win0_3.index (pt b) 2 * 2048 + 1 * t.val = t.val; rw [(at3 b).2.2]; omega

theorem blk_col (b b' : Fin 12) (h : Fin 16) (t : Fin 2048) (X) (hX : X = V m c main_v12) :
    (blks m c (pt b)).col (ix3 b' h t) = X (ix3 b' h t) := by
  subst hX
  show (iblk m c 4 (pt b)) (ix3 b' h t) = _
  unfold iblk
  rw [View.read_apply]
  show V m c main_v12 _ = V m c main_v12 _
  congr 1
  funext a
  apply Fin.ext
  match a with
  | ⟨0, _⟩ => show win0_4.index (pt b) 0 * 12 + 1 * b'.val = b'.val; rw [(at4 b).1]; omega
  | ⟨1, _⟩ => show win0_4.index (pt b) 1 * 16 + 1 * h.val = h.val; rw [(at4 b).2.1]; omega
  | ⟨2, _⟩ => show win0_4.index (pt b) 2 * 2048 + 1 * t.val = t.val; rw [(at4 b).2.2]; omega

theorem blk_sc (b b' : Fin 12) (i : Fin 32) (h : Fin 16) (l : Fin 128) (X) (hX : X = V m c main_v26) :
    (blks m c (pt b)).sc (ix4 b' i h l) = X (ix4 b' i h l) := by
  subst hX
  show (iblk m c 5 (pt b)) (ix4 b' i h l) = _
  unfold iblk
  rw [View.read_apply]
  show V m c main_v26 _ = V m c main_v26 _
  congr 1
  funext a
  apply Fin.ext
  match a with
  | ⟨0, _⟩ => show win0_5.index (pt b) 0 * 12 + 1 * b'.val = b'.val; rw [(at5 b).1]; omega
  | ⟨1, _⟩ => show win0_5.index (pt b) 1 * 32 + 1 * i.val = i.val; rw [(at5 b).2.1]; omega
  | ⟨2, _⟩ => show win0_5.index (pt b) 2 * 16 + 1 * h.val = h.val; rw [(at5 b).2.2.1]; omega
  | ⟨3, _⟩ => show win0_5.index (pt b) 3 * 128 + 1 * l.val = l.val; rw [(at5 b).2.2.2]; omega

/-- The blocks hold the tables of the head. -/
theorem fits (b : Fin 12) (h : Fin 4) : Fits ((argsK m c).seq b h) (blks m c (pt b)) b h where
  q t d := (blk_q m c b h t d _ rfl).trans (V_q m c b h t d _ rfl)
  k t d := (blk_k m c b h t d _ rfl).trans (V_k m c b h t d _ rfl)
  v t e := (blk_v m c b h t e _ rfl).trans (V_v m c b h t e _ rfl)
  c t := (blk_row m c b b _ t _ rfl).trans (V_c m c b h t _ rfl)
  w t := (blk_row m c b b _ t _ rfl).trans (V_w m c b h t _ rfl)
  psc i t := (blk_row m c b b _ _ _ rfl).trans (V_p m c b h i t _ rfl)
  m t := (blk_col m c b b _ t _ rfl).trans (V_m m c b h t _ rfl)
  seg t := (blk_col m c b b _ t _ rfl).trans (V_seg m c b h t _ rfl)
  iw t := (blk_col m c b b _ t _ rfl).trans (V_iw m c b h t _ rfl)
  fl t := (blk_col m c b b _ t _ rfl).trans (V_fl m c b h t _ rfl)
  dec i l := (blk_sc m c b b i _ l _ rfl).trans (V_dec m c b h i l _ rfl)
  gain i l := (blk_sc m c b b i _ l _ rfl).trans (V_gain m c b h i l _ rfl)
  tail i l := (blk_sc m c b b i _ l _ rfl).trans (V_tail m c b h i l _ rfl)
  vsc i l := (blk_sc m c b b i _ l _ rfl).trans (V_vsc m c b h i l _ rfl)

/-! ## The final arrays -/

theorem flush6 : ∀ b : Fin 12, (cfg0.win 6).flush (pt b) = true := by decide +kernel

theorem final6 (b : Fin 12) (h : Fin 4) (t : Fin 2048) (e : Fin 192) (X) (hX : X = (dats m 0 c).arrAt 6 cfg0.N) :
    X (ix4 b h t e) = (outsAt0 m c (pt b)).1 (ix4 0 h t e) := by
  subst hX
  have hb := blocks6 m c (pt b) (flush6 b)
  rw [flushed6] at hb
  have hc := congrFun hb (ix4 0 h t e)
  rw [View.read_apply] at hc
  refine Eq.trans ?_ hc
  show (dats m 0 c).arrAt 6 cfg0.N _ = (dats m 0 c).arrAt 6 cfg0.N _
  congr 1
  funext a
  apply Fin.ext
  match a with
  | ⟨0, _⟩ => show b.val = win0_6.index (pt b) 0 * 1 + 1 * 0; rw [(at6 b).1]; omega
  | ⟨1, _⟩ => show h.val = win0_6.index (pt b) 1 * 4 + 1 * h.val; rw [(at6 b).2.1]; omega
  | ⟨2, _⟩ => show t.val = win0_6.index (pt b) 2 * 2048 + 1 * t.val; rw [(at6 b).2.2.1]; omega
  | ⟨3, _⟩ => show e.val = win0_6.index (pt b) 3 * 192 + 1 * e.val; rw [(at6 b).2.2.2]; omega

theorem flush7 : ∀ b : Fin 12, (cfg0.win 7).flush (pt b) = true := by decide +kernel

theorem final7 (b : Fin 12) (h : Fin 4) (t : Fin 96) (e : Fin 192) (X) (hX : X = (dats m 0 c).arrAt 7 cfg0.N) :
    X (ix4 b h t e) = (outsAt0 m c (pt b)).2.1 (ix4 0 h t e) := by
  subst hX
  have hb := blocks7 m c (pt b) (flush7 b)
  rw [flushed7] at hb
  have hc := congrFun hb (ix4 0 h t e)
  rw [View.read_apply] at hc
  refine Eq.trans ?_ hc
  show (dats m 0 c).arrAt 7 cfg0.N _ = (dats m 0 c).arrAt 7 cfg0.N _
  congr 1
  funext a
  apply Fin.ext
  match a with
  | ⟨0, _⟩ => show b.val = win0_7.index (pt b) 0 * 1 + 1 * 0; rw [(at7 b).1]; omega
  | ⟨1, _⟩ => show h.val = win0_7.index (pt b) 1 * 4 + 1 * h.val; rw [(at7 b).2.1]; omega
  | ⟨2, _⟩ => show t.val = win0_7.index (pt b) 2 * 96 + 1 * t.val; rw [(at7 b).2.2.1]; omega
  | ⟨3, _⟩ => show e.val = win0_7.index (pt b) 3 * 192 + 1 * e.val; rw [(at7 b).2.2.2]; omega

theorem flush8 : ∀ b : Fin 12, (cfg0.win 8).flush (pt b) = true := by decide +kernel

theorem final8 (b : Fin 12) (h : Fin 4) (t : Fin 96) (X) (hX : X = (dats m 0 c).arrAt 8 cfg0.N) :
    X (ix3 b h t) = (outsAt0 m c (pt b)).2.2 (ix3 0 h t) := by
  subst hX
  have hb := blocks8 m c (pt b) (flush8 b)
  rw [flushed8] at hb
  have hc := congrFun hb (ix3 0 h t)
  rw [View.read_apply] at hc
  refine Eq.trans ?_ hc
  show (dats m 0 c).arrAt 8 cfg0.N _ = (dats m 0 c).arrAt 8 cfg0.N _
  congr 1
  funext a
  apply Fin.ext
  match a with
  | ⟨0, _⟩ => show b.val = win0_8.index (pt b) 0 * 1 + 1 * 0; rw [(at8 b).1]; omega
  | ⟨1, _⟩ => show h.val = win0_8.index (pt b) 1 * 4 + 1 * h.val; rw [(at8 b).2.1]; omega
  | ⟨2, _⟩ => show t.val = win0_8.index (pt b) 2 * 96 + 1 * t.val; rw [(at8 b).2.2]; omega

/-- The result `h`. -/
theorem kernel_h (b : Fin 12) (h : Fin 4) (i : Fin 32) (t : Fin 64) (e : Fin 192)
    (hseg : ∀ t, ((argsK m c).seq b h).seg t < ((128 : ℝ) : EReal)) (hf : Finite ((argsK m c).seq b h))
    (X) (hX : X = (dats m 0 c).arrAt 6 cfg0.N) : X (ix4 b h (tk i t) e) = H ((argsK m c).seq b h) i t e := by
  refine (final6 m c b h (tk i t) e X hX).trans ?_
  show res consts0 (blks m c (pt b)) (grid0.coords (pt b) 0) (ix4 0 h (tk i t) e) = _
  rw [coords_pt]
  exact res_H (fits m c b h) hseg hf i t e

/-- The state's matrix. -/
theorem kernel_C (b : Fin 12) (h : Fin 4) (d : Fin 96) (e : Fin 192)
    (X) (hX : X = (dats m 0 c).arrAt 7 cfg0.N) : X (ix4 b h d e) = C ((argsK m c).seq b h) 32 d e := by
  refine (final7 m c b h d e X hX).trans ?_
  show state consts0 (blks m c (pt b)) (grid0.coords (pt b) 0) 16 (ix3 h d ⟨e.val, by omega⟩) = _
  rw [coords_pt]
  exact (state_holds (fits m c b h) 16 le_rfl).1 d e

/-- The state's normaliser. -/
theorem kernel_N (b : Fin 12) (h : Fin 4) (d : Fin 96)
    (X) (hX : X = (dats m 0 c).arrAt 8 cfg0.N) : X (ix3 b h d) = N ((argsK m c).seq b h) 32 d := by
  refine (final8 m c b h d X hX).trans ?_
  show state consts0 (blks m c (pt b)) (grid0.coords (pt b) 0) 16 (ix3 h d ⟨192, by omega⟩) = _
  rw [coords_pt]
  exact (state_holds (fits m c b h) 16 le_rfl).2 d

end Cert.KernelIdeal.Val

end
-- ==== Proof.RefRun.lean ====
/-
  The reference's run stated over the step of Gen/ReferenceIdeal/Step.lean: at a valuation that holds a state every value of
  one trip is that module's, so one application of the run's `STEP` keeps holding with `step` applied; the run's results are the
  fields of `step` iterated from `init`. (The generated module of this purpose, with the result array's step closed differently.)
-/
module

public import proofs.«01_k».proof.Proof.Gen.ReferenceIdeal.Run
public import proofs.«01_k».proof.Proof.Gen.ReferenceIdeal.Step

@[expose] public section

noncomputable section

namespace Cert.ReferenceIdeal.Iter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_17 : V0 (Proc.devRef .tc main_v112_17) = s.main_v112_17
  f_18 : V0 (Proc.devRef .tc main_v112_18) = s.main_v112_18
  f_19 : V0 (Proc.devRef .tc main_v112_19) = s.main_v112_19
  f_0 : V0 (Proc.devRef .tc main_v112_0) = s.main_v112_0
  f_1 : V0 (Proc.devRef .tc main_v112_1) = s.main_v112_1
  f_2 : V0 (Proc.devRef .tc main_v112_2) = s.main_v112_2
  f_3 : V0 (Proc.devRef .tc main_v112_3) = s.main_v112_3
  f_4 : V0 (Proc.devRef .tc main_v112_4) = s.main_v112_4
  f_5 : V0 (Proc.devRef .tc main_v112_5) = s.main_v112_5
  f_6 : V0 (Proc.devRef .tc main_v112_6) = s.main_v112_6
  f_7 : V0 (Proc.devRef .tc main_v112_7) = s.main_v112_7
  f_8 : V0 (Proc.devRef .tc main_v112_8) = s.main_v112_8
  f_9 : V0 (Proc.devRef .tc main_v112_9) = s.main_v112_9
  f_10 : V0 (Proc.devRef .tc main_v112_10) = s.main_v112_10
  f_11 : V0 (Proc.devRef .tc main_v112_11) = s.main_v112_11
  f_12 : V0 (Proc.devRef .tc main_v112_12) = s.main_v112_12
  f_13 : V0 (Proc.devRef .tc main_v112_13) = s.main_v112_13
  n_16 : V0 (Proc.devRef .tc main_v112_16) = constantI S_ 32 (BitVec.ofNat 32 j)
  k_14 : V0 (Proc.devRef .tc main_v112_14) = Cert.ReferenceIdeal.Step.K_main_v94 (F := F)
  k_15 : V0 (Proc.devRef .tc main_v112_15) = Cert.ReferenceIdeal.Step.K_main_v92 (F := F)

variable {V0 s j}

set_option maxRecDepth 8192 in
theorem al_0 (h : Holds V0 s j) : (constantI S_ 32 0#32 : (Proc.devRef .tc main_while0b_call9_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call9_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call9_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call9_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x12x4x64x96 (V0 (Proc.devRef .tc main_v112_0)) (fun k => (((![V0 (Proc.devRef .tc main_v112_16), constantI S_ 32 0#32, constantI S_ 32 0#32, constantI S_ 32 0#32, constantI S_ 32 0#32] : Fin 5 → (⟨S_, .i32⟩ : BufTy).Contents (Elt F))) k (Shape.Idx.first h_S_)).toInt) sliceFits_S32x12x4x64x96_S1x12x4x64x96 : (Proc.devRef .tc main_while0b_call9_v0 : DevRef τ sig).ty.Contents (Elt F)) = Cert.ReferenceIdeal.Step.b4 j s := by
  unfold Cert.ReferenceIdeal.Step.b4
  rw [← al_0 h, ← al_1 h, ← al_2 h, ← al_3 h, h.f_0, h.n_16]
  try rfl
set_option maxRecDepth 8192 in
theorem al_5 (h : Holds V0 s j) : (res_main_while0b_v115 V0 : (Proc.devRef .tc main_while0b_v115 : DevRef τ sig).ty.Contents (Elt F)) = Cert.ReferenceIdeal.Step.b5 j s := by
  unfold res_main_while0b_v115 Cert.ReferenceIdeal.Step.b5
  rw [← al_4 h]
  try rfl
set_option maxRecDepth 8192 in
theorem al_6 (h : Holds V0 s j) : (constantI S_ 32 0#32 : (Proc.devRef .tc main_while0b_call10_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call10_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call10_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call10_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x12x4x64x96 (V0 (Proc.devRef .tc main_v112_1)) (fun k => (((![V0 (Proc.devRef .tc main_v112_16), constantI S_ 32 0#32, constantI S_ 32 0#32, constantI S_ 32 0#32, constantI S_ 32 0#32] : Fin 5 → (⟨S_, .i32⟩ : BufTy).Contents (Elt F))) k (Shape.Idx.first h_S_)).toInt) sliceFits_S32x12x4x64x96_S1x12x4x64x96 : (Proc.devRef .tc main_while0b_call10_v0 : DevRef τ sig).ty.Contents (Elt F)) = Cert.ReferenceIdeal.Step.b10 j s := by
  unfold Cert.ReferenceIdeal.Step.b10
  rw [← al_6 h, ← al_7 h, ← al_8 h, ← al_9 h, h.f_1, h.n_16]
  try rfl
set_option maxRecDepth 8192 in
theorem al_11 (h : Holds V0 s j) : (res_main_while0b_v116 V0 : (Proc.devRef .tc main_while0b_v116 : DevRef τ sig).ty.Contents (Elt F)) = Cert.ReferenceIdeal.Step.b11 j s := by
  unfold res_main_while0b_v116 Cert.ReferenceIdeal.Step.b11
  rw [← al_10 h]
  try rfl
set_option maxRecDepth 8192 in
theorem al_12 (h : Holds V0 s j) : (constantI S_ 32 0#32 : (Proc.devRef .tc main_while0b_call11_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call11_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call11_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call11_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x12x4x64x192 (V0 (Proc.devRef .tc main_v112_2)) (fun k => (((![V0 (Proc.devRef .tc main_v112_16), constantI S_ 32 0#32, constantI S_ 32 0#32, constantI S_ 32 0#32, constantI S_ 32 0#32] : Fin 5 → (⟨S_, .i32⟩ : BufTy).Contents (Elt F))) k (Shape.Idx.first h_S_)).toInt) sliceFits_S32x12x4x64x192_S1x12x4x64x192 : (Proc.devRef .tc main_while0b_call11_v0 : DevRef τ sig).ty.Contents (Elt F)) = Cert.ReferenceIdeal.Step.b16 j s := by
  unfold Cert.ReferenceIdeal.Step.b16
  rw [← al_12 h, ← al_13 h, ← al_14 h, ← al_15 h, h.f_2, h.n_16]
  try rfl
set_option maxRecDepth 8192 in
theorem al_17 (h : Holds V0 s j) : (shapeCast S12x4x64x192 (Host.dynamicSlice S1x12x4x64x192 (V0 (Proc.devRef .tc main_v112_2)) (fun k => (((![V0 (Proc.devRef .tc main_v112_16), constantI S_ 32 0#32, constantI S_ 32 0#32, constantI S_ 32 0#32, constantI S_ 32 0#32] : Fin 5 → (⟨S_, .i32⟩ : BufTy).Contents (Elt F))) k (Shape.Idx.first h_S_)).toInt) sliceFits_S32x12x4x64x192_S1x12x4x64x192) shapeCasts_S1x12x4x64x192_S12x4x64x192 : (Proc.devRef .tc main_while0b_v117 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call12_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call12_c_0 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4 : (Proc.devRef .tc main_while0b_call12_v0 : DevRef τ sig).ty.Contents (Elt F)) = Cert.ReferenceIdeal.Step.b20 j s := by
  unfold Cert.ReferenceIdeal.Step.b20
  rw [← al_18 h, ← al_19 h, h.f_3, h.n_16]
  try rfl
set_option maxRecDepth 8192 in
theorem al_21 (h : Holds V0 s j) : (shapeCast S12x4 (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4) shapeCasts_S1x12x4_S12x4 : (Proc.devRef .tc main_while0b_v118 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constantI S_ 32 0#32 : (Proc.devRef .tc main_while0b_call13_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call13_c_0 : DevRef τ sig).ty.Contents (Elt F)) = Cert.ReferenceIdeal.Step.b23 j s := by
  unfold Cert.ReferenceIdeal.Step.b23
  rfl
set_option maxRecDepth 8192 in
theorem al_24 (h : Holds V0 s j) : (Host.dynamicSlice S1x12x4 (V0 (Proc.devRef .tc main_v112_4)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4 : (Proc.devRef .tc main_while0b_call13_v0 : DevRef τ sig).ty.Contents (Elt F)) = Cert.ReferenceIdeal.Step.b24 j s := by
  unfold Cert.ReferenceIdeal.Step.b24
  rw [← al_22 h, ← al_23 h, h.f_4, h.n_16]
  try rfl
set_option maxRecDepth 8192 in
theorem al_25 (h : Holds V0 s j) : (res_main_while0b_v119 V0 : (Proc.devRef .tc main_while0b_v119 : DevRef τ sig).ty.Contents (Elt F)) = Cert.ReferenceIdeal.Step.b25 j s := by
  unfold res_main_while0b_v119 Cert.ReferenceIdeal.Step.b25
  rw [← al_24 h]
  try rfl
set_option maxRecDepth 8192 in
theorem al_26 (h : Holds V0 s j) : (constantI S_ 32 0#32 : (Proc.devRef .tc main_while0b_call14_c : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call14_c_0 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x12x4 (V0 (Proc.devRef .tc main_v112_5)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4 : (Proc.devRef .tc main_while0b_call14_v0 : DevRef τ sig).ty.Contents (Elt F)) = Cert.ReferenceIdeal.Step.b28 j s := by
  unfold Cert.ReferenceIdeal.Step.b28
  rw [← al_26 h, ← al_27 h, h.f_5, h.n_16]
  try rfl
set_option maxRecDepth 8192 in
theorem al_29 (h : Holds V0 s j) : (res_main_while0b_v120 V0 : (Proc.devRef .tc main_while0b_v120 : DevRef τ sig).ty.Contents (Elt F)) = Cert.ReferenceIdeal.Step.b29 j s := by
  unfold res_main_while0b_v120 Cert.ReferenceIdeal.Step.b29
  rw [← al_28 h]
  try rfl
set_option maxRecDepth 8192 in
theorem al_30 (h : Holds V0 s j) : (constantI S_ 32 0#32 : (Proc.devRef .tc main_while0b_call15_c : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call15_c_0 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call15_c_1 : DevRef τ sig).ty.Contents (Elt F)) = Cert.ReferenceIdeal.Step.b32 j s := by
  unfold Cert.ReferenceIdeal.Step.b32
  rfl
set_option maxRecDepth 8192 in
theorem al_33 (h : Holds V0 s j) : (Host.dynamicSlice S1x12x4x64 (V0 (Proc.devRef .tc main_v112_6)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64 : (Proc.devRef .tc main_while0b_call15_v0 : DevRef τ sig).ty.Contents (Elt F)) = Cert.ReferenceIdeal.Step.b33 j s := by
  unfold Cert.ReferenceIdeal.Step.b33
  rw [← al_30 h, ← al_31 h, ← al_32 h, h.f_6, h.n_16]
  try rfl
set_option maxRecDepth 8192 in
theorem al_34 (h : Holds V0 s j) : (shapeCast S12x4x64 (Host.dynamicSlice S1x12x4x64 (V0 (Proc.devRef .tc main_v112_6)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64 : (Proc.devRef .tc main_while0b_v121 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (constantI S_ 32 0#32 : (Proc.devRef .tc main_while0b_call16_c : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call16_c_0 : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call16_c_1 : DevRef τ sig).ty.Contents (Elt F)) = Cert.ReferenceIdeal.Step.b37 j s := by
  unfold Cert.ReferenceIdeal.Step.b37
  rfl
set_option maxRecDepth 8192 in
theorem al_38 (h : Holds V0 s j) : (Host.dynamicSlice S1x12x4x64 (V0 (Proc.devRef .tc main_v112_7)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64 : (Proc.devRef .tc main_while0b_call16_v0 : DevRef τ sig).ty.Contents (Elt F)) = Cert.ReferenceIdeal.Step.b38 j s := by
  unfold Cert.ReferenceIdeal.Step.b38
  rw [← al_35 h, ← al_36 h, ← al_37 h, h.f_7, h.n_16]
  try rfl
set_option maxRecDepth 8192 in
theorem al_39 (h : Holds V0 s j) : (shapeCast S12x4x64 (Host.dynamicSlice S1x12x4x64 (V0 (Proc.devRef .tc main_v112_7)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64 : (Proc.devRef .tc main_while0b_v122 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (constantI S_ 32 0#32 : (Proc.devRef .tc main_while0b_call17_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call17_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call17_c_1 : DevRef τ sig).ty.Contents (Elt F)) = Cert.ReferenceIdeal.Step.b42 j s := by
  unfold Cert.ReferenceIdeal.Step.b42
  rfl
set_option maxRecDepth 8192 in
theorem al_43 (h : Holds V0 s j) : (Host.dynamicSlice S1x12x4x64 (V0 (Proc.devRef .tc main_v112_8)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64 : (Proc.devRef .tc main_while0b_call17_v0 : DevRef τ sig).ty.Contents (Elt F)) = Cert.ReferenceIdeal.Step.b43 j s := by
  unfold Cert.ReferenceIdeal.Step.b43
  rw [← al_40 h, ← al_41 h, ← al_42 h, h.f_8, h.n_16]
  try rfl
set_option maxRecDepth 8192 in
theorem al_44 (h : Holds V0 s j) : (shapeCast S12x4x64 (Host.dynamicSlice S1x12x4x64 (V0 (Proc.devRef .tc main_v112_8)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64 : (Proc.devRef .tc main_while0b_v123 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (constantI S_ 32 0#32 : (Proc.devRef .tc main_while0b_call18_c : DevRef τ sig).ty.Contents (Elt F)) = Cert.ReferenceIdeal.Step.b45 j s := by
  unfold Cert.ReferenceIdeal.Step.b45
  rfl
set_option maxRecDepth 8192 in
theorem al_46 (h : Holds V0 s j) : (constantI S_ 32 0#32 : (Proc.devRef .tc main_while0b_call18_c_0 : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call18_c_1 : DevRef τ sig).ty.Contents (Elt F)) = Cert.ReferenceIdeal.Step.b47 j s := by
  unfold Cert.ReferenceIdeal.Step.b47
  rfl
set_option maxRecDepth 8192 in
theorem al_48 (h : Holds V0 s j) : (Host.dynamicSlice S1x12x4x64 (V0 (Proc.devRef .tc main_v112_9)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64 : (Proc.devRef .tc main_while0b_call18_v0 : DevRef τ sig).ty.Contents (Elt F)) = Cert.ReferenceIdeal.Step.b48 j s := by
  unfold Cert.ReferenceIdeal.Step.b48
  rw [← al_45 h, ← al_46 h, ← al_47 h, h.f_9, h.n_16]
  try rfl
set_option maxRecDepth 8192 in
theorem al_49 (h : Holds V0 s j) : (res_main_while0b_v124 V0 : (Proc.devRef .tc main_while0b_v124 : DevRef τ sig).ty.Contents (Elt F)) = Cert.ReferenceIdeal.Step.b49 j s := by
  unfold res_main_while0b_v124 Cert.ReferenceIdeal.Step.b49
  rw [← al_48 h]
  try rfl
set_option maxRecDepth 8192 in
theorem al_50 (h : Holds V0 s j) : (constantI S_ 32 0#32 : (Proc.devRef .tc main_while0b_call19_c : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call19_c_0 : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call19_c_1 : DevRef τ sig).ty.Contents (Elt F)) = Cert.ReferenceIdeal.Step.b52 j s := by
  unfold Cert.ReferenceIdeal.Step.b52
  rfl
set_option maxRecDepth 8192 in
theorem al_53 (h : Holds V0 s j) : (Host.dynamicSlice S1x12x4x64 (V0 (Proc.devRef .tc main_v112_10)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64 : (Proc.devRef .tc main_while0b_call19_v0 : DevRef τ sig).ty.Contents (Elt F)) = Cert.ReferenceIdeal.Step.b53 j s := by
  unfold Cert.ReferenceIdeal.Step.b53
  rw [← al_50 h, ← al_51 h, ← al_52 h, h.f_10, h.n_16]
  try rfl
set_option maxRecDepth 8192 in
theorem al_54 (h : Holds V0 s j) : (res_main_while0b_v125 V0 : (Proc.devRef .tc main_while0b_v125 : DevRef τ sig).ty.Contents (Elt F)) = Cert.ReferenceIdeal.Step.b54 j s := by
  unfold res_main_while0b_v125 Cert.ReferenceIdeal.Step.b54
  rw [← al_53 h]
  try rfl
set_option maxRecDepth 8192 in
theorem al_55 (h : Holds V0 s j) : (constantI S_ 32 0#32 : (Proc.devRef .tc main_while0b_call20_c : DevRef τ sig).ty.Contents (Elt F)) = Cert.ReferenceIdeal.Step.b55 j s := by
  unfold Cert.ReferenceIdeal.Step.b55
  rfl
set_option maxRecDepth 8192 in
theorem al_56 (h : Holds V0 s j) : (constantI S_ 32 0#32 : (Proc.devRef .tc main_while0b_call20_c_0 : DevRef τ sig).ty.Contents (Elt F)) = Cert.ReferenceIdeal.Step.b56 j s := by
  unfold Cert.ReferenceIdeal.Step.b56
  rfl
set_option maxRecDepth 8192 in
theorem al_57 (h : Holds V0 s j) : (constantI S_ 32 0#32 : (Proc.devRef .tc main_while0b_call20_c_1 : DevRef τ sig).ty.Contents (Elt F)) = Cert.ReferenceIdeal.Step.b57 j s := by
  unfold Cert.ReferenceIdeal.Step.b57
  rfl
set_option maxRecDepth 8192 in
theorem al_58 (h : Holds V0 s j) : (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64 : (Proc.devRef .tc main_while0b_call20_v0 : DevRef τ sig).ty.Contents (Elt F)) = Cert.ReferenceIdeal.Step.b58 j s := by
  unfold Cert.ReferenceIdeal.Step.b58
  rw [← al_55 h, ← al_56 h, ← al_57 h, h.f_11, h.n_16]
  try rfl
set_option maxRecDepth 8192 in
theorem al_59 (h : Holds V0 s j) : (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64 : (Proc.devRef .tc main_while0b_v126 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (constantI S_ 32 0#32 : (Proc.devRef .tc main_while0b_call21_c : DevRef τ sig).ty.Contents (Elt F)) = Cert.ReferenceIdeal.Step.b60 j s := by
  unfold Cert.ReferenceIdeal.Step.b60
  rfl
set_option maxRecDepth 8192 in
theorem al_61 (h : Holds V0 s j) : (constantI S_ 32 0#32 : (Proc.devRef .tc main_while0b_call21_c_0 : DevRef τ sig).ty.Contents (Elt F)) = Cert.ReferenceIdeal.Step.b61 j s := by
  unfold Cert.ReferenceIdeal.Step.b61
  rfl
set_option maxRecDepth 8192 in
theorem al_62 (h : Holds V0 s j) : (Host.dynamicSlice S1x12x4 (V0 (Proc.devRef .tc main_v112_12)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4 : (Proc.devRef .tc main_while0b_call21_v0 : DevRef τ sig).ty.Contents (Elt F)) = Cert.ReferenceIdeal.Step.b62 j s := by
  unfold Cert.ReferenceIdeal.Step.b62
  rw [← al_60 h, ← al_61 h, h.f_12, h.n_16]
  try rfl
set_option maxRecDepth 8192 in
theorem al_63 (h : Holds V0 s j) : (res_main_while0b_v127 V0 : (Proc.devRef .tc main_while0b_v127 : DevRef τ sig).ty.Contents (Elt F)) = Cert.ReferenceIdeal.Step.b63 j s := by
  unfold res_main_while0b_v127 Cert.ReferenceIdeal.Step.b63
  rw [← al_62 h]
  try rfl
set_option maxRecDepth 8192 in
theorem al_64 (h : Holds V0 s j) : (constantI S_ 32 0#32 : (Proc.devRef .tc main_while0b_call22_c : DevRef τ sig).ty.Contents (Elt F)) = Cert.ReferenceIdeal.Step.b64 j s := by
  unfold Cert.ReferenceIdeal.Step.b64
  rfl
set_option maxRecDepth 8192 in
theorem al_65 (h : Holds V0 s j) : (constantI S_ 32 0#32 : (Proc.devRef .tc main_while0b_call22_c_0 : DevRef τ sig).ty.Contents (Elt F)) = Cert.ReferenceIdeal.Step.b65 j s := by
  unfold Cert.ReferenceIdeal.Step.b65
  rfl
set_option maxRecDepth 8192 in
theorem al_66 (h : Holds V0 s j) : (Host.dynamicSlice S1x12x4 (V0 (Proc.devRef .tc main_v112_13)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4 : (Proc.devRef .tc main_while0b_call22_v0 : DevRef τ sig).ty.Contents (Elt F)) = Cert.ReferenceIdeal.Step.b66 j s := by
  unfold Cert.ReferenceIdeal.Step.b66
  rw [← al_64 h, ← al_65 h, h.f_13, h.n_16]
  try rfl
set_option maxRecDepth 8192 in
theorem al_67 (h : Holds V0 s j) : (res_main_while0b_v128 V0 : (Proc.devRef .tc main_while0b_v128 : DevRef τ sig).ty.Contents (Elt F)) = Cert.ReferenceIdeal.Step.b67 j s := by
  unfold res_main_while0b_v128 Cert.ReferenceIdeal.Step.b67
  rw [← al_66 h]
  try rfl
set_option maxRecDepth 8192 in
theorem al_68 (h : Holds V0 s j) : (res_main_while0b_v129 V0 : (Proc.devRef .tc main_while0b_v129 : DevRef τ sig).ty.Contents (Elt F)) = Cert.ReferenceIdeal.Step.b68 j s := by
  unfold res_main_while0b_v129 Cert.ReferenceIdeal.Step.b68
  rw [← al_17 h]
  try rfl
set_option maxRecDepth 8192 in
theorem al_69 (h : Holds V0 s j) : (broadcastInDim S12x4x64x1 ![0, 1, 2] bcast_S12x4x64_S12x4x64x1_0_1_2 (res_main_while0b_v125 V0) : (Proc.devRef .tc main_while0b_v130 : DevRef τ sig).ty.Contents (Elt F)) = Cert.ReferenceIdeal.Step.b69 j s := by
  unfold Cert.ReferenceIdeal.Step.b69
  rw [← al_54 h]
  try rfl
set_option maxRecDepth 8192 in
theorem al_70 (h : Holds V0 s j) : (Host.dotGeneral dot_S12x4x64x96_S12x4x96x192_S12x4x64x192_3_2_2_3_01_01 (some .fp32) (res_main_while0b_v115 V0) (V0 (Proc.devRef .tc main_v112_17)) : (Proc.devRef .tc main_while0b_v131 : DevRef τ sig).ty.Contents (Elt F)) = Cert.ReferenceIdeal.Step.b70 j s := by
  unfold Cert.ReferenceIdeal.Step.b70
  rw [← al_5 h, h.f_17]
  try rfl
set_option maxRecDepth 8192 in
theorem al_71 (h : Holds V0 s j) : (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0)) : (Proc.devRef .tc main_while0b_v132 : DevRef τ sig).ty.Contents (Elt F)) = Cert.ReferenceIdeal.Step.b71 j s := by
  unfold Cert.ReferenceIdeal.Step.b71
  rw [← al_69 h]
  try rfl
set_option maxRecDepth 8192 in
theorem al_72 (h : Holds V0 s j) : (mulf (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0))) (Host.dotGeneral dot_S12x4x64x96_S12x4x96x192_S12x4x64x192_3_2_2_3_01_01 (some .fp32) (res_main_while0b_v115 V0) (V0 (Proc.devRef .tc main_v112_17))) : (Proc.devRef .tc main_while0b_v133 : DevRef τ sig).ty.Contents (Elt F)) = Cert.ReferenceIdeal.Step.b72 j s := by
  unfold Cert.ReferenceIdeal.Step.b72
  rw [← al_71 h, ← al_70 h]
  try rfl
set_option maxRecDepth 8192 in
theorem al_73 (h : Holds V0 s j) : (Host.dotGeneral dot_S12x4x64x96_S12x4x96_S12x4x64_3_2_2_n_01_01 (some .fp32) (res_main_while0b_v115 V0) (V0 (Proc.devRef .tc main_v112_18)) : (Proc.devRef .tc main_while0b_v134 : DevRef τ sig).ty.Contents (Elt F)) = Cert.ReferenceIdeal.Step.b73 j s := by
  unfold Cert.ReferenceIdeal.Step.b73
  rw [← al_5 h, h.f_18]
  try rfl
set_option maxRecDepth 8192 in
theorem al_74 (h : Holds V0 s j) : (mulf (res_main_while0b_v125 V0) (Host.dotGeneral dot_S12x4x64x96_S12x4x96_S12x4x64_3_2_2_n_01_01 (some .fp32) (res_main_while0b_v115 V0) (V0 (Proc.devRef .tc main_v112_18))) : (Proc.devRef .tc main_while0b_v135 : DevRef τ sig).ty.Contents (Elt F)) = Cert.ReferenceIdeal.Step.b74 j s := by
  unfold Cert.ReferenceIdeal.Step.b74
  rw [← al_54 h, ← al_73 h]
  try rfl
set_option maxRecDepth 8192 in
theorem al_75 (h : Holds V0 s j) : (broadcastInDim S12x4x64x1 ![0, 1, 2] bcast_S12x4x64_S12x4x64x1_0_1_2 (shapeCast S12x4x64 (Host.dynamicSlice S1x12x4x64 (V0 (Proc.devRef .tc main_v112_8)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64) : (Proc.devRef .tc main_while0b_v136 : DevRef τ sig).ty.Contents (Elt F)) = Cert.ReferenceIdeal.Step.b75 j s := by
  unfold Cert.ReferenceIdeal.Step.b75
  rw [← al_44 h]
  try rfl
set_option maxRecDepth 8192 in
theorem al_76 (h : Holds V0 s j) : (broadcastInDim S1x1x64x64 ![2, 3] bcast_S64x64_S1x1x64x64_2_3 (V0 (Proc.devRef .tc main_v112_14)) : (Proc.devRef .tc main_while0b_v137 : DevRef τ sig).ty.Contents (Elt F)) = Cert.ReferenceIdeal.Step.b76 j s := by
  unfold Cert.ReferenceIdeal.Step.b76
  rw [h.k_14]
  try rfl
set_option maxRecDepth 8192 in
theorem al_77 (h : Holds V0 s j) : (broadcastInDim S12x4x64x64 ![0, 1, 2, 3] bcast_S1x1x64x64_S12x4x64x64_0_1_2_3 (broadcastInDim S1x1x64x64 ![2, 3] bcast_S64x64_S1x1x64x64_2_3 (V0 (Proc.devRef .tc main_v112_14))) : (Proc.devRef .tc main_while0b_v138 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (broadcastInDim S12x4x64x64 ![0, 1, 2, 3] bcast_S12x4x64x1_S12x4x64x64_0_1_2_3 (broadcastInDim S12x4x64x1 ![0, 1, 2] bcast_S12x4x64_S12x4x64x1_0_1_2 (shapeCast S12x4x64 (Host.dynamicSlice S1x12x4x64 (V0 (Proc.devRef .tc main_v112_8)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64)) : (Proc.devRef .tc main_while0b_v139 : DevRef τ sig).ty.Contents (Elt F)) = Cert.ReferenceIdeal.Step.b78 j s := by
  unfold Cert.ReferenceIdeal.Step.b78
  rw [← al_75 h]
  try rfl
set_option maxRecDepth 8192 in
theorem al_79 (h : Holds V0 s j) : (cmpf .ole (broadcastInDim S12x4x64x64 ![0, 1, 2, 3] bcast_S1x1x64x64_S12x4x64x64_0_1_2_3 (broadcastInDim S1x1x64x64 ![2, 3] bcast_S64x64_S1x1x64x64_2_3 (V0 (Proc.devRef .tc main_v112_14)))) (broadcastInDim S12x4x64x64 ![0, 1, 2, 3] bcast_S12x4x64x1_S12x4x64x64_0_1_2_3 (broadcastInDim S12x4x64x1 ![0, 1, 2] bcast_S12x4x64_S12x4x64x1_0_1_2 (shapeCast S12x4x64 (Host.dynamicSlice S1x12x4x64 (V0 (Proc.devRef .tc main_v112_8)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))) : (Proc.devRef .tc main_while0b_v140 : DevRef τ sig).ty.Contents (Elt F)) = Cert.ReferenceIdeal.Step.b79 j s := by
  unfold Cert.ReferenceIdeal.Step.b79
  rw [← al_77 h, ← al_78 h]
  try rfl
set_option maxRecDepth 8192 in
theorem al_80 (h : Holds V0 s j) : (broadcastInDim S1x1x64x64 ![2, 3] bcast_S64x64_S1x1x64x64_2_3 (V0 (Proc.devRef .tc main_v112_15)) : (Proc.devRef .tc main_while0b_v141 : DevRef τ sig).ty.Contents (Elt F)) = Cert.ReferenceIdeal.Step.b80 j s := by
  unfold Cert.ReferenceIdeal.Step.b80
  rw [h.k_15]
  try rfl
set_option maxRecDepth 8192 in
theorem al_81 (h : Holds V0 s j) : (broadcastInDim S12x4x64x64 ![0, 1, 2, 3] bcast_S1x1x64x64_S12x4x64x64_0_1_2_3 (broadcastInDim S1x1x64x64 ![2, 3] bcast_S64x64_S1x1x64x64_2_3 (V0 (Proc.devRef .tc main_v112_15))) : (Proc.devRef .tc main_while0b_v142 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (andi (broadcastInDim S12x4x64x64 ![0, 1, 2, 3] bcast_S1x1x64x64_S12x4x64x64_0_1_2_3 (broadcastInDim S1x1x64x64 ![2, 3] bcast_S64x64_S1x1x64x64_2_3 (V0 (Proc.devRef .tc main_v112_15)))) (cmpf .ole (broadcastInDim S12x4x64x64 ![0, 1, 2, 3] bcast_S1x1x64x64_S12x4x64x64_0_1_2_3 (broadcastInDim S1x1x64x64 ![2, 3] bcast_S64x64_S1x1x64x64_2_3 (V0 (Proc.devRef .tc main_v112_14)))) (broadcastInDim S12x4x64x64 ![0, 1, 2, 3] bcast_S12x4x64x1_S12x4x64x64_0_1_2_3 (broadcastInDim S12x4x64x1 ![0, 1, 2] bcast_S12x4x64_S12x4x64x1_0_1_2 (shapeCast S12x4x64 (Host.dynamicSlice S1x12x4x64 (V0 (Proc.devRef .tc main_v112_8)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64)))) : (Proc.devRef .tc main_while0b_v143 : DevRef τ sig).ty.Contents (Elt F)) = Cert.ReferenceIdeal.Step.b82 j s := by
  unfold Cert.ReferenceIdeal.Step.b82
  rw [← al_81 h, ← al_79 h]
  try rfl
set_option maxRecDepth 8192 in
theorem al_83 (h : Holds V0 s j) : (Host.dotGeneral dot_S12x4x64x96_S12x4x64x96_S12x4x64x64_3_3_2_2_01_01 none (res_main_while0b_v115 V0) (res_main_while0b_v116 V0) : (Proc.devRef .tc main_while0b_v144 : DevRef τ sig).ty.Contents (Elt F)) = Cert.ReferenceIdeal.Step.b83 j s := by
  unfold Cert.ReferenceIdeal.Step.b83
  rw [← al_5 h, ← al_11 h]
  try rfl
set_option maxRecDepth 8192 in
theorem al_84 (h : Holds V0 s j) : (mulf (shapeCast S12x4 (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (res_main_while0b_v119 V0) : (Proc.devRef .tc main_while0b_v145 : DevRef τ sig).ty.Contents (Elt F)) = Cert.ReferenceIdeal.Step.b84 j s := by
  unfold Cert.ReferenceIdeal.Step.b84
  rw [← al_21 h, ← al_25 h]
  try rfl
set_option maxRecDepth 8192 in
theorem al_85 (h : Holds V0 s j) : (constant S_ .f32 0x3DD105EC#32 : (Proc.devRef .tc main_while0b_cst_54 : DevRef τ sig).ty.Contents (Elt F)) = Cert.ReferenceIdeal.Step.b85 j s := by
  unfold Cert.ReferenceIdeal.Step.b85
  rfl
set_option maxRecDepth 8192 in
theorem al_86 (h : Holds V0 s j) : (broadcastInDim S12x4 ![] bcast_S_S12x4 (constant S_ .f32 0x3DD105EC#32) : (Proc.devRef .tc main_while0b_v146 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (mulf (mulf (shapeCast S12x4 (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (res_main_while0b_v119 V0)) (broadcastInDim S12x4 ![] bcast_S_S12x4 (constant S_ .f32 0x3DD105EC#32)) : (Proc.devRef .tc main_while0b_v147 : DevRef τ sig).ty.Contents (Elt F)) = Cert.ReferenceIdeal.Step.b87 j s := by
  unfold Cert.ReferenceIdeal.Step.b87
  rw [← al_84 h, ← al_86 h]
  try rfl
set_option maxRecDepth 8192 in
theorem al_88 (h : Holds V0 s j) : (broadcastInDim S12x4x1x1 ![0, 1] bcast_S12x4_S12x4x1x1_0_1 (mulf (mulf (shapeCast S12x4 (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (res_main_while0b_v119 V0)) (broadcastInDim S12x4 ![] bcast_S_S12x4 (constant S_ .f32 0x3DD105EC#32))) : (Proc.devRef .tc main_while0b_v148 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (broadcastInDim S12x4x64x64 ![0, 1, 2, 3] bcast_S12x4x1x1_S12x4x64x64_0_1_2_3 (broadcastInDim S12x4x1x1 ![0, 1] bcast_S12x4_S12x4x1x1_0_1 (mulf (mulf (shapeCast S12x4 (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (res_main_while0b_v119 V0)) (broadcastInDim S12x4 ![] bcast_S_S12x4 (constant S_ .f32 0x3DD105EC#32)))) : (Proc.devRef .tc main_while0b_v149 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (mulf (Host.dotGeneral dot_S12x4x64x96_S12x4x64x96_S12x4x64x64_3_3_2_2_01_01 none (res_main_while0b_v115 V0) (res_main_while0b_v116 V0)) (broadcastInDim S12x4x64x64 ![0, 1, 2, 3] bcast_S12x4x1x1_S12x4x64x64_0_1_2_3 (broadcastInDim S12x4x1x1 ![0, 1] bcast_S12x4_S12x4x1x1_0_1 (mulf (mulf (shapeCast S12x4 (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (res_main_while0b_v119 V0)) (broadcastInDim S12x4 ![] bcast_S_S12x4 (constant S_ .f32 0x3DD105EC#32))))) : (Proc.devRef .tc main_while0b_v150 : DevRef τ sig).ty.Contents (Elt F)) = Cert.ReferenceIdeal.Step.b90 j s := by
  unfold Cert.ReferenceIdeal.Step.b90
  rw [← al_83 h, ← al_89 h]
  try rfl
set_option maxRecDepth 8192 in
theorem al_91 (h : Holds V0 s j) : (broadcastInDim S12x4x1x64 ![0, 1, 3] bcast_S12x4x64_S12x4x1x64_0_1_3 (shapeCast S12x4x64 (Host.dynamicSlice S1x12x4x64 (V0 (Proc.devRef .tc main_v112_6)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64) : (Proc.devRef .tc main_while0b_v151 : DevRef τ sig).ty.Contents (Elt F)) = Cert.ReferenceIdeal.Step.b91 j s := by
  unfold Cert.ReferenceIdeal.Step.b91
  rw [← al_34 h]
  try rfl
set_option maxRecDepth 8192 in
theorem al_92 (h : Holds V0 s j) : (broadcastInDim S12x4x64x1 ![0, 1, 2] bcast_S12x4x64_S12x4x64x1_0_1_2 (shapeCast S12x4x64 (Host.dynamicSlice S1x12x4x64 (V0 (Proc.devRef .tc main_v112_7)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64) : (Proc.devRef .tc main_while0b_v152 : DevRef τ sig).ty.Contents (Elt F)) = Cert.ReferenceIdeal.Step.b92 j s := by
  unfold Cert.ReferenceIdeal.Step.b92
  rw [← al_39 h]
  try rfl
set_option maxRecDepth 8192 in
theorem al_93 (h : Holds V0 s j) : (broadcastInDim S12x4x64x64 ![0, 1, 2, 3] bcast_S12x4x1x64_S12x4x64x64_0_1_2_3 (broadcastInDim S12x4x1x64 ![0, 1, 3] bcast_S12x4x64_S12x4x1x64_0_1_3 (shapeCast S12x4x64 (Host.dynamicSlice S1x12x4x64 (V0 (Proc.devRef .tc main_v112_6)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64)) : (Proc.devRef .tc main_while0b_v153 : DevRef τ sig).ty.Contents (Elt F)) = Cert.ReferenceIdeal.Step.b93 j s := by
  unfold Cert.ReferenceIdeal.Step.b93
  rw [← al_91 h]
  try rfl
set_option maxRecDepth 8192 in
theorem al_94 (h : Holds V0 s j) : (broadcastInDim S12x4x64x64 ![0, 1, 2, 3] bcast_S12x4x64x1_S12x4x64x64_0_1_2_3 (broadcastInDim S12x4x64x1 ![0, 1, 2] bcast_S12x4x64_S12x4x64x1_0_1_2 (shapeCast S12x4x64 (Host.dynamicSlice S1x12x4x64 (V0 (Proc.devRef .tc main_v112_7)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64)) : (Proc.devRef .tc main_while0b_v154 : DevRef τ sig).ty.Contents (Elt F)) = Cert.ReferenceIdeal.Step.b94 j s := by
  unfold Cert.ReferenceIdeal.Step.b94
  rw [← al_92 h]
  try rfl
set_option maxRecDepth 8192 in
theorem al_95 (h : Holds V0 s j) : (subf (broadcastInDim S12x4x64x64 ![0, 1, 2, 3] bcast_S12x4x1x64_S12x4x64x64_0_1_2_3 (broadcastInDim S12x4x1x64 ![0, 1, 3] bcast_S12x4x64_S12x4x1x64_0_1_3 (shapeCast S12x4x64 (Host.dynamicSlice S1x12x4x64 (V0 (Proc.devRef .tc main_v112_6)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))) (broadcastInDim S12x4x64x64 ![0, 1, 2, 3] bcast_S12x4x64x1_S12x4x64x64_0_1_2_3 (broadcastInDim S12x4x64x1 ![0, 1, 2] bcast_S12x4x64_S12x4x64x1_0_1_2 (shapeCast S12x4x64 (Host.dynamicSlice S1x12x4x64 (V0 (Proc.devRef .tc main_v112_7)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))) : (Proc.devRef .tc main_while0b_v155 : DevRef τ sig).ty.Contents (Elt F)) = Cert.ReferenceIdeal.Step.b95 j s := by
  unfold Cert.ReferenceIdeal.Step.b95
  rw [← al_93 h, ← al_94 h]
  try rfl
set_option maxRecDepth 8192 in
theorem al_96 (h : Holds V0 s j) : (Host.exp (subf (broadcastInDim S12x4x64x64 ![0, 1, 2, 3] bcast_S12x4x1x64_S12x4x64x64_0_1_2_3 (broadcastInDim S12x4x1x64 ![0, 1, 3] bcast_S12x4x64_S12x4x1x64_0_1_3 (shapeCast S12x4x64 (Host.dynamicSlice S1x12x4x64 (V0 (Proc.devRef .tc main_v112_6)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))) (broadcastInDim S12x4x64x64 ![0, 1, 2, 3] bcast_S12x4x64x1_S12x4x64x64_0_1_2_3 (broadcastInDim S12x4x64x1 ![0, 1, 2] bcast_S12x4x64_S12x4x64x1_0_1_2 (shapeCast S12x4x64 (Host.dynamicSlice S1x12x4x64 (V0 (Proc.devRef .tc main_v112_7)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64)))) : (Proc.devRef .tc main_while0b_v156 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (mulf (mulf (Host.dotGeneral dot_S12x4x64x96_S12x4x64x96_S12x4x64x64_3_3_2_2_01_01 none (res_main_while0b_v115 V0) (res_main_while0b_v116 V0)) (broadcastInDim S12x4x64x64 ![0, 1, 2, 3] bcast_S12x4x1x1_S12x4x64x64_0_1_2_3 (broadcastInDim S12x4x1x1 ![0, 1] bcast_S12x4_S12x4x1x1_0_1 (mulf (mulf (shapeCast S12x4 (Host.dynamicSlice S1x12x4 (V0 (Proc.devRef .tc main_v112_3)) (fun k => (((![V0 (Proc.devRef .tc main_v112_16), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (res_main_while0b_v119 V0)) (broadcastInDim S12x4 ![] bcast_S_S12x4 (constant S_ .f32 0x3DD105EC#32)))))) (Host.exp (subf (broadcastInDim S12x4x64x64 ![0, 1, 2, 3] bcast_S12x4x1x64_S12x4x64x64_0_1_2_3 (broadcastInDim S12x4x1x64 ![0, 1, 3] bcast_S12x4x64_S12x4x1x64_0_1_3 (shapeCast S12x4x64 (Host.dynamicSlice S1x12x4x64 (V0 (Proc.devRef .tc main_v112_6)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))) (broadcastInDim S12x4x64x64 ![0, 1, 2, 3] bcast_S12x4x64x1_S12x4x64x64_0_1_2_3 (broadcastInDim S12x4x64x1 ![0, 1, 2] bcast_S12x4x64_S12x4x64x1_0_1_2 (shapeCast S12x4x64 (Host.dynamicSlice S1x12x4x64 (V0 (Proc.devRef .tc main_v112_7)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))))) : (Proc.devRef .tc main_while0b_v157 : DevRef τ sig).ty.Contents (Elt F)) = Cert.ReferenceIdeal.Step.b97 j s := by
  unfold Cert.ReferenceIdeal.Step.b97
  rw [← al_90 h, ← al_96 h]
  try rfl
set_option maxRecDepth 8192 in
theorem al_98 (h : Holds V0 s j) : (constant S_ .f32 0x00000000#32 : (Proc.devRef .tc main_while0b_cst_55 : DevRef τ sig).ty.Contents (Elt F)) = Cert.ReferenceIdeal.Step.b98 j s := by
  unfold Cert.ReferenceIdeal.Step.b98
  rfl
set_option maxRecDepth 8192 in
theorem al_99 (h : Holds V0 s j) : (id (constant S_ .f32 0x00000000#32) : (Proc.devRef .tc main_while0b_call23_v0 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (broadcastInDim S12x4x64x64 ![] bcast_S_S12x4x64x64 (id (constant S_ .f32 0x00000000#32)) : (Proc.devRef .tc main_while0b_call23_v1 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (res_main_while0b_v158 V0 : (Proc.devRef .tc main_while0b_v158 : DevRef τ sig).ty.Contents (Elt F)) = Cert.ReferenceIdeal.Step.b101 j s := by
  unfold res_main_while0b_v158 Cert.ReferenceIdeal.Step.b101
  rw [← al_82 h, ← al_97 h, ← al_100 h]
  try rfl
set_option maxRecDepth 8192 in
theorem al_102 (h : Holds V0 s j) : (truncf .bf16 (res_main_while0b_v158 V0) bitsLt_bf16_f32 : (Proc.devRef .tc main_while0b_v159 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (Host.dotGeneral dot_S12x4x64x64_S12x4x64x192_S12x4x64x192_3_2_2_3_01_01 none (truncf .bf16 (res_main_while0b_v158 V0) bitsLt_bf16_f32) (res_main_while0b_v129 V0) : (Proc.devRef .tc main_while0b_v160 : DevRef τ sig).ty.Contents (Elt F)) = Cert.ReferenceIdeal.Step.b103 j s := by
  unfold Cert.ReferenceIdeal.Step.b103
  rw [← al_102 h, ← al_68 h]
  try rfl
set_option maxRecDepth 8192 in
theorem al_104 (h : Holds V0 s j) : (broadcastInDim S12x4x1x1 ![0, 1] bcast_S12x4_S12x4x1x1_0_1 (res_main_while0b_v120 V0) : (Proc.devRef .tc main_while0b_v161 : DevRef τ sig).ty.Contents (Elt F)) = Cert.ReferenceIdeal.Step.b104 j s := by
  unfold Cert.ReferenceIdeal.Step.b104
  rw [← al_29 h]
  try rfl
set_option maxRecDepth 8192 in
theorem al_105 (h : Holds V0 s j) : (broadcastInDim S12x4x64x192 ![0, 1, 2, 3] bcast_S12x4x1x1_S12x4x64x192_0_1_2_3 (broadcastInDim S12x4x1x1 ![0, 1] bcast_S12x4_S12x4x1x1_0_1 (res_main_while0b_v120 V0)) : (Proc.devRef .tc main_while0b_v162 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (mulf (Host.dotGeneral dot_S12x4x64x64_S12x4x64x192_S12x4x64x192_3_2_2_3_01_01 none (truncf .bf16 (res_main_while0b_v158 V0) bitsLt_bf16_f32) (res_main_while0b_v129 V0)) (broadcastInDim S12x4x64x192 ![0, 1, 2, 3] bcast_S12x4x1x1_S12x4x64x192_0_1_2_3 (broadcastInDim S12x4x1x1 ![0, 1] bcast_S12x4_S12x4x1x1_0_1 (res_main_while0b_v120 V0))) : (Proc.devRef .tc main_while0b_v163 : DevRef τ sig).ty.Contents (Elt F)) = Cert.ReferenceIdeal.Step.b106 j s := by
  unfold Cert.ReferenceIdeal.Step.b106
  rw [← al_103 h, ← al_105 h]
  try rfl
set_option maxRecDepth 8192 in
theorem al_107 (h : Holds V0 s j) : (constant S_ .f32 0x00000000#32 : (Proc.devRef .tc main_while0b_cst_56 : DevRef τ sig).ty.Contents (Elt F)) = Cert.ReferenceIdeal.Step.b107 j s := by
  unfold Cert.ReferenceIdeal.Step.b107
  rfl
set_option maxRecDepth 8192 in
theorem al_108 (h : Holds V0 s j) : (Host.reduceAdd (res_main_while0b_v158 V0) (constant S_ .f32 0x00000000#32) reducesTo_S12x4x64x64_S12x4x64_d3 h_S_ : (Proc.devRef .tc main_while0b_v164 : DevRef τ sig).ty.Contents (Elt F)) = Cert.ReferenceIdeal.Step.b108 j s := by
  unfold Cert.ReferenceIdeal.Step.b108
  rw [← al_101 h, ← al_107 h]
  try rfl
set_option maxRecDepth 8192 in
theorem al_109 (h : Holds V0 s j) : (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_) : (Proc.devRef .tc main_while0b_v165 : DevRef τ sig).ty.Contents (Elt F)) = Cert.ReferenceIdeal.Step.b109 j s := by
  unfold Cert.ReferenceIdeal.Step.b109
  rw [← al_74 h, ← al_108 h]
  try rfl
set_option maxRecDepth 8192 in
theorem al_110 (h : Holds V0 s j) : (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_)) : (Proc.devRef .tc main_while0b_v166 : DevRef τ sig).ty.Contents (Elt F)) = Cert.ReferenceIdeal.Step.b110 j s := by
  unfold Cert.ReferenceIdeal.Step.b110
  rw [← al_109 h]
  try rfl
set_option maxRecDepth 8192 in
theorem al_111 (h : Holds V0 s j) : (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64) : (Proc.devRef .tc main_while0b_v167 : DevRef τ sig).ty.Contents (Elt F)) = Cert.ReferenceIdeal.Step.b111 j s := by
  unfold Cert.ReferenceIdeal.Step.b111
  rw [← al_110 h, ← al_59 h]
  try rfl
set_option maxRecDepth 8192 in
theorem al_112 (h : Holds V0 s j) : (addf (mulf (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0))) (Host.dotGeneral dot_S12x4x64x96_S12x4x96x192_S12x4x64x192_3_2_2_3_01_01 (some .fp32) (res_main_while0b_v115 V0) (V0 (Proc.devRef .tc main_v112_17)))) (mulf (Host.dotGeneral dot_S12x4x64x64_S12x4x64x192_S12x4x64x192_3_2_2_3_01_01 none (truncf .bf16 (res_main_while0b_v158 V0) bitsLt_bf16_f32) (res_main_while0b_v129 V0)) (broadcastInDim S12x4x64x192 ![0, 1, 2, 3] bcast_S12x4x1x1_S12x4x64x192_0_1_2_3 (broadcastInDim S12x4x1x1 ![0, 1] bcast_S12x4_S12x4x1x1_0_1 (res_main_while0b_v120 V0)))) : (Proc.devRef .tc main_while0b_v168 : DevRef τ sig).ty.Contents (Elt F)) = Cert.ReferenceIdeal.Step.b112 j s := by
  unfold Cert.ReferenceIdeal.Step.b112
  rw [← al_72 h, ← al_106 h]
  try rfl
set_option maxRecDepth 8192 in
theorem al_113 (h : Holds V0 s j) : (broadcastInDim S12x4x64x1 ![0, 1, 2] bcast_S12x4x64_S12x4x64x1_0_1_2 (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64)) : (Proc.devRef .tc main_while0b_v169 : DevRef τ sig).ty.Contents (Elt F)) = Cert.ReferenceIdeal.Step.b113 j s := by
  unfold Cert.ReferenceIdeal.Step.b113
  rw [← al_111 h]
  try rfl
set_option maxRecDepth 8192 in
theorem al_114 (h : Holds V0 s j) : (broadcastInDim S12x4x64x192 ![0, 1, 2, 3] bcast_S12x4x64x1_S12x4x64x192_0_1_2_3 (broadcastInDim S12x4x64x1 ![0, 1, 2] bcast_S12x4x64_S12x4x64x1_0_1_2 (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))) : (Proc.devRef .tc main_while0b_v170 : DevRef τ sig).ty.Contents (Elt F)) = Cert.ReferenceIdeal.Step.b114 j s := by
  unfold Cert.ReferenceIdeal.Step.b114
  rw [← al_113 h]
  try rfl
set_option maxRecDepth 8192 in
theorem al_115 (h : Holds V0 s j) : (Host.divf (addf (mulf (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0))) (Host.dotGeneral dot_S12x4x64x96_S12x4x96x192_S12x4x64x192_3_2_2_3_01_01 (some .fp32) (res_main_while0b_v115 V0) (V0 (Proc.devRef .tc main_v112_17)))) (mulf (Host.dotGeneral dot_S12x4x64x64_S12x4x64x192_S12x4x64x192_3_2_2_3_01_01 none (truncf .bf16 (res_main_while0b_v158 V0) bitsLt_bf16_f32) (res_main_while0b_v129 V0)) (broadcastInDim S12x4x64x192 ![0, 1, 2, 3] bcast_S12x4x1x1_S12x4x64x192_0_1_2_3 (broadcastInDim S12x4x1x1 ![0, 1] bcast_S12x4_S12x4x1x1_0_1 (res_main_while0b_v120 V0))))) (broadcastInDim S12x4x64x192 ![0, 1, 2, 3] bcast_S12x4x64x1_S12x4x64x192_0_1_2_3 (broadcastInDim S12x4x64x1 ![0, 1, 2] bcast_S12x4x64_S12x4x64x1_0_1_2 (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64)))) : (Proc.devRef .tc main_while0b_v171 : DevRef τ sig).ty.Contents (Elt F)) = Cert.ReferenceIdeal.Step.b115 j s := by
  unfold Cert.ReferenceIdeal.Step.b115
  rw [← al_112 h, ← al_114 h]
  try rfl
set_option maxRecDepth 8192 in
theorem al_116 (h : Holds V0 s j) : (truncf .bf16 (Host.divf (addf (mulf (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0))) (Host.dotGeneral dot_S12x4x64x96_S12x4x96x192_S12x4x64x192_3_2_2_3_01_01 (some .fp32) (res_main_while0b_v115 V0) (V0 (Proc.devRef .tc main_v112_17)))) (mulf (Host.dotGeneral dot_S12x4x64x64_S12x4x64x192_S12x4x64x192_3_2_2_3_01_01 none (truncf .bf16 (res_main_while0b_v158 V0) bitsLt_bf16_f32) (res_main_while0b_v129 V0)) (broadcastInDim S12x4x64x192 ![0, 1, 2, 3] bcast_S12x4x1x1_S12x4x64x192_0_1_2_3 (broadcastInDim S12x4x1x1 ![0, 1] bcast_S12x4_S12x4x1x1_0_1 (res_main_while0b_v120 V0))))) (broadcastInDim S12x4x64x192 ![0, 1, 2, 3] bcast_S12x4x64x1_S12x4x64x192_0_1_2_3 (broadcastInDim S12x4x64x1 ![0, 1, 2] bcast_S12x4x64_S12x4x64x1_0_1_2 (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))))) bitsLt_bf16_f32 : (Proc.devRef .tc main_while0b_v172 : DevRef τ sig).ty.Contents (Elt F)) = Cert.ReferenceIdeal.Step.b116 j s := by
  unfold Cert.ReferenceIdeal.Step.b116
  rw [← al_115 h]
  try rfl
set_option maxRecDepth 8192 in
theorem al_117 (h : Holds V0 s j) : (broadcastInDim S12x4x64x1 ![0, 1, 2] bcast_S12x4x64_S12x4x64x1_0_1_2 (res_main_while0b_v124 V0) : (Proc.devRef .tc main_while0b_v173 : DevRef τ sig).ty.Contents (Elt F)) = Cert.ReferenceIdeal.Step.b117 j s := by
  unfold Cert.ReferenceIdeal.Step.b117
  rw [← al_49 h]
  try rfl
set_option maxRecDepth 8192 in
theorem al_118 (h : Holds V0 s j) : (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0)) : (Proc.devRef .tc main_while0b_v174 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (mulf (res_main_while0b_v116 V0) (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0))) : (Proc.devRef .tc main_while0b_v175 : DevRef τ sig).ty.Contents (Elt F)) = Cert.ReferenceIdeal.Step.b119 j s := by
  unfold Cert.ReferenceIdeal.Step.b119
  rw [← al_11 h, ← al_118 h]
  try rfl
set_option maxRecDepth 8192 in
theorem al_120 (h : Holds V0 s j) : (truncf .bf16 (mulf (res_main_while0b_v116 V0) (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0)))) bitsLt_bf16_f32 : (Proc.devRef .tc main_while0b_v176 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (Host.dotGeneral dot_S12x4x64x96_S12x4x64x192_S12x4x96x192_2_2_3_3_01_01 none (truncf .bf16 (mulf (res_main_while0b_v116 V0) (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0)))) bitsLt_bf16_f32) (res_main_while0b_v129 V0) : (Proc.devRef .tc main_while0b_v177 : DevRef τ sig).ty.Contents (Elt F)) = Cert.ReferenceIdeal.Step.b121 j s := by
  unfold Cert.ReferenceIdeal.Step.b121
  rw [← al_120 h, ← al_68 h]
  try rfl
set_option maxRecDepth 8192 in
theorem al_122 (h : Holds V0 s j) : (mulf (res_main_while0b_v119 V0) (res_main_while0b_v120 V0) : (Proc.devRef .tc main_while0b_v178 : DevRef τ sig).ty.Contents (Elt F)) = Cert.ReferenceIdeal.Step.b122 j s := by
  unfold Cert.ReferenceIdeal.Step.b122
  rw [← al_25 h, ← al_29 h]
  try rfl
set_option maxRecDepth 8192 in
theorem al_123 (h : Holds V0 s j) : (broadcastInDim S12x4x1x1 ![0, 1] bcast_S12x4_S12x4x1x1_0_1 (mulf (res_main_while0b_v119 V0) (res_main_while0b_v120 V0)) : (Proc.devRef .tc main_while0b_v179 : DevRef τ sig).ty.Contents (Elt F)) = Cert.ReferenceIdeal.Step.b123 j s := by
  unfold Cert.ReferenceIdeal.Step.b123
  rw [← al_122 h]
  try rfl
set_option maxRecDepth 8192 in
theorem al_124 (h : Holds V0 s j) : (broadcastInDim S12x4x96x192 ![0, 1, 2, 3] bcast_S12x4x1x1_S12x4x96x192_0_1_2_3 (broadcastInDim S12x4x1x1 ![0, 1] bcast_S12x4_S12x4x1x1_0_1 (mulf (res_main_while0b_v119 V0) (res_main_while0b_v120 V0))) : (Proc.devRef .tc main_while0b_v180 : DevRef τ sig).ty.Contents (Elt F)) = Cert.ReferenceIdeal.Step.b124 j s := by
  unfold Cert.ReferenceIdeal.Step.b124
  rw [← al_123 h]
  try rfl
set_option maxRecDepth 8192 in
theorem al_125 (h : Holds V0 s j) : (mulf (Host.dotGeneral dot_S12x4x64x96_S12x4x64x192_S12x4x96x192_2_2_3_3_01_01 none (truncf .bf16 (mulf (res_main_while0b_v116 V0) (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0)))) bitsLt_bf16_f32) (res_main_while0b_v129 V0)) (broadcastInDim S12x4x96x192 ![0, 1, 2, 3] bcast_S12x4x1x1_S12x4x96x192_0_1_2_3 (broadcastInDim S12x4x1x1 ![0, 1] bcast_S12x4_S12x4x1x1_0_1 (mulf (res_main_while0b_v119 V0) (res_main_while0b_v120 V0)))) : (Proc.devRef .tc main_while0b_v181 : DevRef τ sig).ty.Contents (Elt F)) = Cert.ReferenceIdeal.Step.b125 j s := by
  unfold Cert.ReferenceIdeal.Step.b125
  rw [← al_121 h, ← al_124 h]
  try rfl
set_option maxRecDepth 8192 in
theorem al_126 (h : Holds V0 s j) : (Host.dotGeneral dot_S12x4x64_S12x4x64x96_S12x4x96_2_2_n_3_01_01 (some .fp32) (res_main_while0b_v124 V0) (res_main_while0b_v116 V0) : (Proc.devRef .tc main_while0b_v182 : DevRef τ sig).ty.Contents (Elt F)) = Cert.ReferenceIdeal.Step.b126 j s := by
  unfold Cert.ReferenceIdeal.Step.b126
  rw [← al_49 h, ← al_11 h]
  try rfl
set_option maxRecDepth 8192 in
theorem al_127 (h : Holds V0 s j) : (broadcastInDim S12x4x1 ![0, 1] bcast_S12x4_S12x4x1_0_1 (res_main_while0b_v119 V0) : (Proc.devRef .tc main_while0b_v183 : DevRef τ sig).ty.Contents (Elt F)) = Cert.ReferenceIdeal.Step.b127 j s := by
  unfold Cert.ReferenceIdeal.Step.b127
  rw [← al_25 h]
  try rfl
set_option maxRecDepth 8192 in
theorem al_128 (h : Holds V0 s j) : (broadcastInDim S12x4x96 ![0, 1, 2] bcast_S12x4x1_S12x4x96_0_1_2 (broadcastInDim S12x4x1 ![0, 1] bcast_S12x4_S12x4x1_0_1 (res_main_while0b_v119 V0)) : (Proc.devRef .tc main_while0b_v184 : DevRef τ sig).ty.Contents (Elt F)) = Cert.ReferenceIdeal.Step.b128 j s := by
  unfold Cert.ReferenceIdeal.Step.b128
  rw [← al_127 h]
  try rfl
set_option maxRecDepth 8192 in
theorem al_129 (h : Holds V0 s j) : (mulf (Host.dotGeneral dot_S12x4x64_S12x4x64x96_S12x4x96_2_2_n_3_01_01 (some .fp32) (res_main_while0b_v124 V0) (res_main_while0b_v116 V0)) (broadcastInDim S12x4x96 ![0, 1, 2] bcast_S12x4x1_S12x4x96_0_1_2 (broadcastInDim S12x4x1 ![0, 1] bcast_S12x4_S12x4x1_0_1 (res_main_while0b_v119 V0))) : (Proc.devRef .tc main_while0b_v185 : DevRef τ sig).ty.Contents (Elt F)) = Cert.ReferenceIdeal.Step.b129 j s := by
  unfold Cert.ReferenceIdeal.Step.b129
  rw [← al_126 h, ← al_128 h]
  try rfl
set_option maxRecDepth 8192 in
theorem al_130 (h : Holds V0 s j) : (broadcastInDim S12x4x1x1 ![0, 1] bcast_S12x4_S12x4x1x1_0_1 (res_main_while0b_v127 V0) : (Proc.devRef .tc main_while0b_v186 : DevRef τ sig).ty.Contents (Elt F)) = Cert.ReferenceIdeal.Step.b130 j s := by
  unfold Cert.ReferenceIdeal.Step.b130
  rw [← al_63 h]
  try rfl
set_option maxRecDepth 8192 in
theorem al_131 (h : Holds V0 s j) : (broadcastInDim S12x4x96x192 ![0, 1, 2, 3] bcast_S12x4x1x1_S12x4x96x192_0_1_2_3 (broadcastInDim S12x4x1x1 ![0, 1] bcast_S12x4_S12x4x1x1_0_1 (res_main_while0b_v127 V0)) : (Proc.devRef .tc main_while0b_v187 : DevRef τ sig).ty.Contents (Elt F)) = Cert.ReferenceIdeal.Step.b131 j s := by
  unfold Cert.ReferenceIdeal.Step.b131
  rw [← al_130 h]
  try rfl
set_option maxRecDepth 8192 in
theorem al_132 (h : Holds V0 s j) : (mulf (broadcastInDim S12x4x96x192 ![0, 1, 2, 3] bcast_S12x4x1x1_S12x4x96x192_0_1_2_3 (broadcastInDim S12x4x1x1 ![0, 1] bcast_S12x4_S12x4x1x1_0_1 (res_main_while0b_v127 V0))) (V0 (Proc.devRef .tc main_v112_17)) : (Proc.devRef .tc main_while0b_v188 : DevRef τ sig).ty.Contents (Elt F)) = Cert.ReferenceIdeal.Step.b132 j s := by
  unfold Cert.ReferenceIdeal.Step.b132
  rw [← al_131 h, h.f_17]
  try rfl
set_option maxRecDepth 8192 in
theorem al_133 (h : Holds V0 s j) : (broadcastInDim S12x4x1x1 ![0, 1] bcast_S12x4_S12x4x1x1_0_1 (res_main_while0b_v128 V0) : (Proc.devRef .tc main_while0b_v189 : DevRef τ sig).ty.Contents (Elt F)) = Cert.ReferenceIdeal.Step.b133 j s := by
  unfold Cert.ReferenceIdeal.Step.b133
  rw [← al_67 h]
  try rfl
set_option maxRecDepth 8192 in
theorem al_134 (h : Holds V0 s j) : (broadcastInDim S12x4x96x192 ![0, 1, 2, 3] bcast_S12x4x1x1_S12x4x96x192_0_1_2_3 (broadcastInDim S12x4x1x1 ![0, 1] bcast_S12x4_S12x4x1x1_0_1 (res_main_while0b_v128 V0)) : (Proc.devRef .tc main_while0b_v190 : DevRef τ sig).ty.Contents (Elt F)) = Cert.ReferenceIdeal.Step.b134 j s := by
  unfold Cert.ReferenceIdeal.Step.b134
  rw [← al_133 h]
  try rfl
set_option maxRecDepth 8192 in
theorem al_135 (h : Holds V0 s j) : (mulf (broadcastInDim S12x4x96x192 ![0, 1, 2, 3] bcast_S12x4x1x1_S12x4x96x192_0_1_2_3 (broadcastInDim S12x4x1x1 ![0, 1] bcast_S12x4_S12x4x1x1_0_1 (res_main_while0b_v128 V0))) (mulf (Host.dotGeneral dot_S12x4x64x96_S12x4x64x192_S12x4x96x192_2_2_3_3_01_01 none (truncf .bf16 (mulf (res_main_while0b_v116 V0) (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0)))) bitsLt_bf16_f32) (res_main_while0b_v129 V0)) (broadcastInDim S12x4x96x192 ![0, 1, 2, 3] bcast_S12x4x1x1_S12x4x96x192_0_1_2_3 (broadcastInDim S12x4x1x1 ![0, 1] bcast_S12x4_S12x4x1x1_0_1 (mulf (res_main_while0b_v119 V0) (res_main_while0b_v120 V0))))) : (Proc.devRef .tc main_while0b_v191 : DevRef τ sig).ty.Contents (Elt F)) = Cert.ReferenceIdeal.Step.b135 j s := by
  unfold Cert.ReferenceIdeal.Step.b135
  rw [← al_134 h, ← al_125 h]
  try rfl
set_option maxRecDepth 8192 in
theorem al_136 (h : Holds V0 s j) : (addf (mulf (broadcastInDim S12x4x96x192 ![0, 1, 2, 3] bcast_S12x4x1x1_S12x4x96x192_0_1_2_3 (broadcastInDim S12x4x1x1 ![0, 1] bcast_S12x4_S12x4x1x1_0_1 (res_main_while0b_v127 V0))) (V0 (Proc.devRef .tc main_v112_17))) (mulf (broadcastInDim S12x4x96x192 ![0, 1, 2, 3] bcast_S12x4x1x1_S12x4x96x192_0_1_2_3 (broadcastInDim S12x4x1x1 ![0, 1] bcast_S12x4_S12x4x1x1_0_1 (res_main_while0b_v128 V0))) (mulf (Host.dotGeneral dot_S12x4x64x96_S12x4x64x192_S12x4x96x192_2_2_3_3_01_01 none (truncf .bf16 (mulf (res_main_while0b_v116 V0) (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0)))) bitsLt_bf16_f32) (res_main_while0b_v129 V0)) (broadcastInDim S12x4x96x192 ![0, 1, 2, 3] bcast_S12x4x1x1_S12x4x96x192_0_1_2_3 (broadcastInDim S12x4x1x1 ![0, 1] bcast_S12x4_S12x4x1x1_0_1 (mulf (res_main_while0b_v119 V0) (res_main_while0b_v120 V0)))))) : (Proc.devRef .tc main_while0b_v192 : DevRef τ sig).ty.Contents (Elt F)) = Cert.ReferenceIdeal.Step.b136 j s := by
  unfold Cert.ReferenceIdeal.Step.b136
  rw [← al_132 h, ← al_135 h]
  try rfl
set_option maxRecDepth 8192 in
theorem al_137 (h : Holds V0 s j) : (broadcastInDim S12x4x1 ![0, 1] bcast_S12x4_S12x4x1_0_1 (res_main_while0b_v127 V0) : (Proc.devRef .tc main_while0b_v193 : DevRef τ sig).ty.Contents (Elt F)) = Cert.ReferenceIdeal.Step.b137 j s := by
  unfold Cert.ReferenceIdeal.Step.b137
  rw [← al_63 h]
  try rfl
set_option maxRecDepth 8192 in
theorem al_138 (h : Holds V0 s j) : (broadcastInDim S12x4x96 ![0, 1, 2] bcast_S12x4x1_S12x4x96_0_1_2 (broadcastInDim S12x4x1 ![0, 1] bcast_S12x4_S12x4x1_0_1 (res_main_while0b_v127 V0)) : (Proc.devRef .tc main_while0b_v194 : DevRef τ sig).ty.Contents (Elt F)) = Cert.ReferenceIdeal.Step.b138 j s := by
  unfold Cert.ReferenceIdeal.Step.b138
  rw [← al_137 h]
  try rfl
set_option maxRecDepth 8192 in
theorem al_139 (h : Holds V0 s j) : (mulf (broadcastInDim S12x4x96 ![0, 1, 2] bcast_S12x4x1_S12x4x96_0_1_2 (broadcastInDim S12x4x1 ![0, 1] bcast_S12x4_S12x4x1_0_1 (res_main_while0b_v127 V0))) (V0 (Proc.devRef .tc main_v112_18)) : (Proc.devRef .tc main_while0b_v195 : DevRef τ sig).ty.Contents (Elt F)) = Cert.ReferenceIdeal.Step.b139 j s := by
  unfold Cert.ReferenceIdeal.Step.b139
  rw [← al_138 h, h.f_18]
  try rfl
set_option maxRecDepth 8192 in
theorem al_140 (h : Holds V0 s j) : (broadcastInDim S12x4x1 ![0, 1] bcast_S12x4_S12x4x1_0_1 (res_main_while0b_v128 V0) : (Proc.devRef .tc main_while0b_v196 : DevRef τ sig).ty.Contents (Elt F)) = Cert.ReferenceIdeal.Step.b140 j s := by
  unfold Cert.ReferenceIdeal.Step.b140
  rw [← al_67 h]
  try rfl
set_option maxRecDepth 8192 in
theorem al_141 (h : Holds V0 s j) : (broadcastInDim S12x4x96 ![0, 1, 2] bcast_S12x4x1_S12x4x96_0_1_2 (broadcastInDim S12x4x1 ![0, 1] bcast_S12x4_S12x4x1_0_1 (res_main_while0b_v128 V0)) : (Proc.devRef .tc main_while0b_v197 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (mulf (broadcastInDim S12x4x96 ![0, 1, 2] bcast_S12x4x1_S12x4x96_0_1_2 (broadcastInDim S12x4x1 ![0, 1] bcast_S12x4_S12x4x1_0_1 (res_main_while0b_v128 V0))) (mulf (Host.dotGeneral dot_S12x4x64_S12x4x64x96_S12x4x96_2_2_n_3_01_01 (some .fp32) (res_main_while0b_v124 V0) (res_main_while0b_v116 V0)) (broadcastInDim S12x4x96 ![0, 1, 2] bcast_S12x4x1_S12x4x96_0_1_2 (broadcastInDim S12x4x1 ![0, 1] bcast_S12x4_S12x4x1_0_1 (res_main_while0b_v119 V0)))) : (Proc.devRef .tc main_while0b_v198 : DevRef τ sig).ty.Contents (Elt F)) = Cert.ReferenceIdeal.Step.b142 j s := by
  unfold Cert.ReferenceIdeal.Step.b142
  rw [← al_141 h, ← al_129 h]
  try rfl
set_option maxRecDepth 8192 in
theorem al_143 (h : Holds V0 s j) : (addf (mulf (broadcastInDim S12x4x96 ![0, 1, 2] bcast_S12x4x1_S12x4x96_0_1_2 (broadcastInDim S12x4x1 ![0, 1] bcast_S12x4_S12x4x1_0_1 (res_main_while0b_v127 V0))) (V0 (Proc.devRef .tc main_v112_18))) (mulf (broadcastInDim S12x4x96 ![0, 1, 2] bcast_S12x4x1_S12x4x96_0_1_2 (broadcastInDim S12x4x1 ![0, 1] bcast_S12x4_S12x4x1_0_1 (res_main_while0b_v128 V0))) (mulf (Host.dotGeneral dot_S12x4x64_S12x4x64x96_S12x4x96_2_2_n_3_01_01 (some .fp32) (res_main_while0b_v124 V0) (res_main_while0b_v116 V0)) (broadcastInDim S12x4x96 ![0, 1, 2] bcast_S12x4x1_S12x4x96_0_1_2 (broadcastInDim S12x4x1 ![0, 1] bcast_S12x4_S12x4x1_0_1 (res_main_while0b_v119 V0))))) : (Proc.devRef .tc main_while0b_v199 : DevRef τ sig).ty.Contents (Elt F)) = Cert.ReferenceIdeal.Step.b143 j s := by
  unfold Cert.ReferenceIdeal.Step.b143
  rw [← al_139 h, ← al_142 h]
  try rfl
set_option maxRecDepth 8192 in
theorem al_144 (h : Holds V0 s j) : (broadcastInDim S1x12x4x64x192 ![1, 2, 3, 4] bcast_S12x4x64x192_S1x12x4x64x192_1_2_3_4 (truncf .bf16 (Host.divf (addf (mulf (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0))) (Host.dotGeneral dot_S12x4x64x96_S12x4x96x192_S12x4x64x192_3_2_2_3_01_01 (some .fp32) (res_main_while0b_v115 V0) (V0 (Proc.devRef .tc main_v112_17)))) (mulf (Host.dotGeneral dot_S12x4x64x64_S12x4x64x192_S12x4x64x192_3_2_2_3_01_01 none (truncf .bf16 (res_main_while0b_v158 V0) bitsLt_bf16_f32) (res_main_while0b_v129 V0)) (broadcastInDim S12x4x64x192 ![0, 1, 2, 3] bcast_S12x4x1x1_S12x4x64x192_0_1_2_3 (broadcastInDim S12x4x1x1 ![0, 1] bcast_S12x4_S12x4x1x1_0_1 (res_main_while0b_v120 V0))))) (broadcastInDim S12x4x64x192 ![0, 1, 2, 3] bcast_S12x4x64x1_S12x4x64x192_0_1_2_3 (broadcastInDim S12x4x64x1 ![0, 1, 2] bcast_S12x4x64_S12x4x64x1_0_1_2 (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))))) bitsLt_bf16_f32) : (Proc.devRef .tc main_while0b_call24_v0 : DevRef τ sig).ty.Contents (Elt F)) = Cert.ReferenceIdeal.Step.b144 j s := by
  unfold Cert.ReferenceIdeal.Step.b144
  rw [← al_116 h]
  try rfl
set_option maxRecDepth 8192 in
theorem al_145 (h : Holds V0 s j) : (constantI S_ 32 0#32 : (Proc.devRef .tc main_while0b_call24_c : DevRef τ sig).ty.Contents (Elt F)) = Cert.ReferenceIdeal.Step.b145 j s := by
  unfold Cert.ReferenceIdeal.Step.b145
  rfl
set_option maxRecDepth 8192 in
theorem al_146 (h : Holds V0 s j) : (constantI S_ 32 0#32 : (Proc.devRef .tc main_while0b_call24_c_0 : DevRef τ sig).ty.Contents (Elt F)) = Cert.ReferenceIdeal.Step.b146 j s := by
  unfold Cert.ReferenceIdeal.Step.b146
  rfl
set_option maxRecDepth 8192 in
theorem al_147 (h : Holds V0 s j) : (constantI S_ 32 0#32 : (Proc.devRef .tc main_while0b_call24_c_1 : DevRef τ sig).ty.Contents (Elt F)) = Cert.ReferenceIdeal.Step.b147 j s := by
  unfold Cert.ReferenceIdeal.Step.b147
  rfl
set_option maxRecDepth 8192 in
theorem al_148 (h : Holds V0 s j) : (constantI S_ 32 0#32 : (Proc.devRef .tc main_while0b_call24_c_2 : DevRef τ sig).ty.Contents (Elt F)) = Cert.ReferenceIdeal.Step.b148 j s := by
  unfold Cert.ReferenceIdeal.Step.b148
  rfl
set_option maxRecDepth 8192 in
theorem al_149 (h : Holds V0 s j) : (Host.dynamicUpdateSlice (V0 (Proc.devRef .tc main_v112_19)) (broadcastInDim S1x12x4x64x192 ![1, 2, 3, 4] bcast_S12x4x64x192_S1x12x4x64x192_1_2_3_4 (truncf .bf16 (Host.divf (addf (mulf (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0))) (Host.dotGeneral dot_S12x4x64x96_S12x4x96x192_S12x4x64x192_3_2_2_3_01_01 (some .fp32) (res_main_while0b_v115 V0) (V0 (Proc.devRef .tc main_v112_17)))) (mulf (Host.dotGeneral dot_S12x4x64x64_S12x4x64x192_S12x4x64x192_3_2_2_3_01_01 none (truncf .bf16 (res_main_while0b_v158 V0) bitsLt_bf16_f32) (res_main_while0b_v129 V0)) (broadcastInDim S12x4x64x192 ![0, 1, 2, 3] bcast_S12x4x1x1_S12x4x64x192_0_1_2_3 (broadcastInDim S12x4x1x1 ![0, 1] bcast_S12x4_S12x4x1x1_0_1 (res_main_while0b_v120 V0))))) (broadcastInDim S12x4x64x192 ![0, 1, 2, 3] bcast_S12x4x64x1_S12x4x64x192_0_1_2_3 (broadcastInDim S12x4x64x1 ![0, 1, 2] bcast_S12x4x64_S12x4x64x1_0_1_2 (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))))) bitsLt_bf16_f32)) (fun k => (((![V0 (Proc.devRef .tc main_v112_16), constantI S_ 32 0#32, constantI S_ 32 0#32, constantI S_ 32 0#32, constantI S_ 32 0#32] : Fin 5 → (⟨S_, .i32⟩ : BufTy).Contents (Elt F))) k (Shape.Idx.first h_S_)).toInt) updateFits_S32x12x4x64x192_S1x12x4x64x192 : (Proc.devRef .tc main_while0b_v200 : DevRef τ sig).ty.Contents (Elt F)) = Cert.ReferenceIdeal.Step.b149 j s := by
  unfold Cert.ReferenceIdeal.Step.b149
  rw [← al_144 h, ← al_145 h, ← al_146 h, ← al_147 h, ← al_148 h, h.f_19, h.n_16]
  try rfl

/-! One trip's step of the carried values is `step`, field by field; a counter steps to the next number. -/

theorem step_17 (h : Holds V0 s j) : step_main_v112_17 V0 = (step j s).main_v112_17 := by
  unfold step_main_v112_17 Cert.ReferenceIdeal.Step.step
  show id (addf (mulf (broadcastInDim S12x4x96x192 ![0, 1, 2, 3] bcast_S12x4x1x1_S12x4x96x192_0_1_2_3 (broadcastInDim S12x4x1x1 ![0, 1] bcast_S12x4_S12x4x1x1_0_1 (res_main_while0b_v127 V0))) (V0 (Proc.devRef .tc main_v112_17))) (mulf (broadcastInDim S12x4x96x192 ![0, 1, 2, 3] bcast_S12x4x1x1_S12x4x96x192_0_1_2_3 (broadcastInDim S12x4x1x1 ![0, 1] bcast_S12x4_S12x4x1x1_0_1 (res_main_while0b_v128 V0))) (mulf (Host.dotGeneral dot_S12x4x64x96_S12x4x64x192_S12x4x96x192_2_2_3_3_01_01 none (truncf .bf16 (mulf (res_main_while0b_v116 V0) (broadcastInDim S12x4x64x96 ![0, 1, 2, 3] bcast_S12x4x64x1_S12x4x64x96_0_1_2_3 (broadcastInDim S12x4x64x1 ![0, 1, 2] bcast_S12x4x64_S12x4x64x1_0_1_2 (res_main_while0b_v124 V0)))) bitsLt_bf16_f32) (res_main_while0b_v129 V0)) (broadcastInDim S12x4x96x192 ![0, 1, 2, 3] bcast_S12x4x1x1_S12x4x96x192_0_1_2_3 (broadcastInDim S12x4x1x1 ![0, 1] bcast_S12x4_S12x4x1x1_0_1 (mulf (res_main_while0b_v119 V0) (res_main_while0b_v120 V0))))))) = _
  rw [al_136 h]
  try rfl
theorem step_18 (h : Holds V0 s j) : step_main_v112_18 V0 = (step j s).main_v112_18 := by
  unfold step_main_v112_18 Cert.ReferenceIdeal.Step.step
  show id (addf (mulf (broadcastInDim S12x4x96 ![0, 1, 2] bcast_S12x4x1_S12x4x96_0_1_2 (broadcastInDim S12x4x1 ![0, 1] bcast_S12x4_S12x4x1_0_1 (res_main_while0b_v127 V0))) (V0 (Proc.devRef .tc main_v112_18))) (mulf (broadcastInDim S12x4x96 ![0, 1, 2] bcast_S12x4x1_S12x4x96_0_1_2 (broadcastInDim S12x4x1 ![0, 1] bcast_S12x4_S12x4x1_0_1 (res_main_while0b_v128 V0))) (mulf (Host.dotGeneral dot_S12x4x64_S12x4x64x96_S12x4x96_2_2_n_3_01_01 (some .fp32) (res_main_while0b_v124 V0) (res_main_while0b_v116 V0)) (broadcastInDim S12x4x96 ![0, 1, 2] bcast_S12x4x1_S12x4x96_0_1_2 (broadcastInDim S12x4x1 ![0, 1] bcast_S12x4_S12x4x1_0_1 (res_main_while0b_v119 V0)))))) = _
  rw [al_143 h]
  try rfl
theorem step_19 (h : Holds V0 s j) : step_main_v112_19 V0 = (step j s).main_v112_19 := by
  unfold step_main_v112_19 Cert.ReferenceIdeal.Step.step
  show id (Host.dynamicUpdateSlice (V0 (Proc.devRef .tc main_v112_19)) (broadcastInDim S1x12x4x64x192 ![1, 2, 3, 4] bcast_S12x4x64x192_S1x12x4x64x192_1_2_3_4 (truncf .bf16 (Host.divf (addf (mulf (broadcastInDim S12x4x64x192 ![0, 1, 2, 3] bcast_S12x4x64x1_S12x4x64x192_0_1_2_3 (broadcastInDim S12x4x64x1 ![0, 1, 2] bcast_S12x4x64_S12x4x64x1_0_1_2 (res_main_while0b_v125 V0))) (Host.dotGeneral dot_S12x4x64x96_S12x4x96x192_S12x4x64x192_3_2_2_3_01_01 (some .fp32) (res_main_while0b_v115 V0) (V0 (Proc.devRef .tc main_v112_17)))) (mulf (Host.dotGeneral dot_S12x4x64x64_S12x4x64x192_S12x4x64x192_3_2_2_3_01_01 none (truncf .bf16 (res_main_while0b_v158 V0) bitsLt_bf16_f32) (res_main_while0b_v129 V0)) (broadcastInDim S12x4x64x192 ![0, 1, 2, 3] bcast_S12x4x1x1_S12x4x64x192_0_1_2_3 (broadcastInDim S12x4x1x1 ![0, 1] bcast_S12x4_S12x4x1x1_0_1 (res_main_while0b_v120 V0))))) (broadcastInDim S12x4x64x192 ![0, 1, 2, 3] bcast_S12x4x64x1_S12x4x64x192_0_1_2_3 (broadcastInDim S12x4x64x1 ![0, 1, 2] bcast_S12x4x64_S12x4x64x1_0_1_2 (maximumf (Host.absf (addf (mulf (res_main_while0b_v125 V0) (Host.dotGeneral dot_S12x4x64x96_S12x4x96_S12x4x64_3_2_2_n_01_01 (some .fp32) (res_main_while0b_v115 V0) (V0 (Proc.devRef .tc main_v112_18)))) (Host.reduceAdd (res_main_while0b_v158 V0) (constant S_ .f32 0x00000000#32) reducesTo_S12x4x64x64_S12x4x64_d3 h_S_))) (shapeCast S12x4x64 (Host.dynamicSlice S1x12x4x64 (V0 (Proc.devRef .tc main_v112_11)) (fun k => (((![V0 (Proc.devRef .tc main_v112_16), constantI S_ 32 0#32, constantI S_ 32 0#32, constantI S_ 32 0#32] : Fin 4 → (⟨S_, .i32⟩ : BufTy).Contents (Elt F))) k (Shape.Idx.first h_S_)).toInt) sliceFits_S32x12x4x64_S1x12x4x64) shapeCasts_S1x12x4x64_S12x4x64))))) bitsLt_bf16_f32)) (fun k => (((![V0 (Proc.devRef .tc main_v112_16), constantI S_ 32 0#32, constantI S_ 32 0#32, constantI S_ 32 0#32, constantI S_ 32 0#32] : Fin 5 → (⟨S_, .i32⟩ : BufTy).Contents (Elt F))) k (Shape.Idx.first h_S_)).toInt) updateFits_S32x12x4x64x192_S1x12x4x64x192) = _
  exact al_149 h
theorem step_16 (h : Holds V0 s j) : step_main_v112_16 V0 = constantI S_ 32 (BitVec.ofNat 32 (j + 1)) := by
  unfold step_main_v112_16
  rw [h.n_16]
  funext i
  show BitVec.ofNat 32 j + 1#32 = BitVec.ofNat 32 (j + 1)
  simp only [BitVec.ofNat_add]

set_option maxRecDepth 8192 in
theorem out_main_v114_holds (h : Holds V0 s j) : out_main_v114 V0 = Cert.ReferenceIdeal.Step.R_main_v114 s := by
  unfold out_main_v114 Cert.ReferenceIdeal.Step.R_main_v114
  rw [h.f_19]
  try rfl

/-- One trip keeps the valuation holding: `step` of the state, the same set-up values, the next number. -/
theorem holds_step (h : Holds V0 s j) : Holds (STEP V0) (step j s) (j + 1) where
  f_17 := (STEP_main_v112_17 V0).trans (step_17 h)
  f_18 := (STEP_main_v112_18 V0).trans (step_18 h)
  f_19 := (STEP_main_v112_19 V0).trans (step_19 h)
  n_16 := (STEP_main_v112_16 V0).trans (step_16 h)
  k_14 := (STEP_main_v112_14 V0).trans h.k_14
  k_15 := (STEP_main_v112_15 V0).trans h.k_15
  f_0 := (STEP_main_v112_0 V0).trans h.f_0
  f_1 := (STEP_main_v112_1 V0).trans h.f_1
  f_2 := (STEP_main_v112_2 V0).trans h.f_2
  f_3 := (STEP_main_v112_3 V0).trans h.f_3
  f_4 := (STEP_main_v112_4 V0).trans h.f_4
  f_5 := (STEP_main_v112_5 V0).trans h.f_5
  f_6 := (STEP_main_v112_6 V0).trans h.f_6
  f_7 := (STEP_main_v112_7 V0).trans h.f_7
  f_8 := (STEP_main_v112_8 V0).trans h.f_8
  f_9 := (STEP_main_v112_9 V0).trans h.f_9
  f_10 := (STEP_main_v112_10 V0).trans h.f_10
  f_11 := (STEP_main_v112_11 V0).trans h.f_11
  f_12 := (STEP_main_v112_12 V0).trans h.f_12
  f_13 := (STEP_main_v112_13 V0).trans h.f_13

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

variable (m : (ℓ : Loc nD τ sig) → Buf (Elt F) ℓ) (c : Dev nD)

set_option maxRecDepth 65536 in
set_option maxHeartbeats 1400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v114) = Cert.ReferenceIdeal.Step.R_main_v114 (it c 32)
      ∧ r.2.mem ((c.tc : Thread nD τ).loc main_v112_17) = (it c 32).main_v112_17
      ∧ r.2.mem ((c.tc : Thread nD τ).loc main_v112_18) = (it c 32).main_v112_18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 32
    ⟨(h c).1.trans (out_main_v114_holds hk), (h c).2.1.trans hk.f_17, (h c).2.2.1.trans hk.f_18, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩) (Value.run m ρ)

end Cert.ReferenceIdeal.Iter

end
-- ==== Proof.RefVal.lean ====
/-
  The reference's loop, element by element: one trip is one chunk of `Spec`.
-/
module

public import proofs.«01_k».proof.Proof.Gen.ReferenceIdeal.Step
public import proofs.«01_k».proof.Proof.Tables

@[expose] public section

set_option maxRecDepth 16384

noncomputable section

namespace Cert.ReferenceIdeal.Val

open Idealize.ShloMosaic Cert.ReferenceIdeal Cert.ReferenceIdeal.Gen Cert.ReferenceIdeal.Step Cert.Spec

/-! ## Where a trip's slices lie -/

theorem word : ∀ i : Fin 32, (BitVec.ofNat 32 i.val).toInt = (i.val : ℤ) := by decide +kernel

theorem slice3 (start : Fin 3 → Int) (i : Fin 32) (h0 : start 0 = (i.val : ℤ)) (h1 : start 1 = 0) (h2 : start 2 = 0) (ht : S1x12x4.rank = S32x12x4.rank) (b : Fin 12) (h : Fin 4)
    (p0 : Host.clampedStart S32x12x4 S1x12x4 ht start 0 < 32) (p1 : Host.clampedStart S32x12x4 S1x12x4 ht start 1 + b.val < 12) (p2 : Host.clampedStart S32x12x4 S1x12x4 ht start 2 + h.val < 4) :
    (ix3 ⟨Host.clampedStart S32x12x4 S1x12x4 ht start 0, p0⟩ ⟨Host.clampedStart S32x12x4 S1x12x4 ht start 1 + b.val, p1⟩ ⟨Host.clampedStart S32x12x4 S1x12x4 ht start 2 + h.val, p2⟩ : S32x12x4.Idx) = ix3 i b h := by
  have e0 : Host.clampedStart S32x12x4 S1x12x4 ht start 0 = i.val := Host.clampedStart_of_le ht start 0 i.val h0 (by show i.val + 1 ≤ 32; omega)
  have e1 : Host.clampedStart S32x12x4 S1x12x4 ht start 1 = 0 := Host.clampedStart_of_le ht start 1 0 h1 (by show 0 + 12 ≤ 12; omega)
  have e2 : Host.clampedStart S32x12x4 S1x12x4 ht start 2 = 0 := Host.clampedStart_of_le ht start 2 0 h2 (by show 0 + 4 ≤ 4; omega)
  rw [show (⟨Host.clampedStart S32x12x4 S1x12x4 ht start 0, p0⟩ : Fin 32) = i from Fin.ext e0,
    show (⟨Host.clampedStart S32x12x4 S1x12x4 ht start 1 + b.val, p1⟩ : Fin 12) = b from Fin.ext (by show Host.clampedStart S32x12x4 S1x12x4 ht start 1 + b.val = b.val; omega),
    show (⟨Host.clampedStart S32x12x4 S1x12x4 ht start 2 + h.val, p2⟩ : Fin 4) = h from Fin.ext (by show Host.clampedStart S32x12x4 S1x12x4 ht start 2 + h.val = h.val; omega)]

theorem slice4 (start : Fin 4 → Int) (i : Fin 32) (h0 : start 0 = (i.val : ℤ)) (h1 : start 1 = 0) (h2 : start 2 = 0) (h3 : start 3 = 0) (ht : S1x12x4x64.rank = S32x12x4x64.rank) (b : Fin 12) (h : Fin 4) (t : Fin 64)
    (p0 : Host.clampedStart S32x12x4x64 S1x12x4x64 ht start 0 < 32) (p1 : Host.clampedStart S32x12x4x64 S1x12x4x64 ht start 1 + b.val < 12) (p2 : Host.clampedStart S32x12x4x64 S1x12x4x64 ht start 2 + h.val < 4) (p3 : Host.clampedStart S32x12x4x64 S1x12x4x64 ht start 3 + t.val < 64) :
    (ix4 ⟨Host.clampedStart S32x12x4x64 S1x12x4x64 ht start 0, p0⟩ ⟨Host.clampedStart S32x12x4x64 S1x12x4x64 ht start 1 + b.val, p1⟩ ⟨Host.clampedStart S32x12x4x64 S1x12x4x64 ht start 2 + h.val, p2⟩ ⟨Host.clampedStart S32x12x4x64 S1x12x4x64 ht start 3 + t.val, p3⟩ : S32x12x4x64.Idx) = ix4 i b h t := by
  have e0 : Host.clampedStart S32x12x4x64 S1x12x4x64 ht start 0 = i.val := Host.clampedStart_of_le ht start 0 i.val h0 (by show i.val + 1 ≤ 32; omega)
  have e1 : Host.clampedStart S32x12x4x64 S1x12x4x64 ht start 1 = 0 := Host.clampedStart_of_le ht start 1 0 h1 (by show 0 + 12 ≤ 12; omega)
  have e2 : Host.clampedStart S32x12x4x64 S1x12x4x64 ht start 2 = 0 := Host.clampedStart_of_le ht start 2 0 h2 (by show 0 + 4 ≤ 4; omega)
  have e3 : Host.clampedStart S32x12x4x64 S1x12x4x64 ht start 3 = 0 := Host.clampedStart_of_le ht start 3 0 h3 (by show 0 + 64 ≤ 64; omega)
  rw [show (⟨Host.clampedStart S32x12x4x64 S1x12x4x64 ht start 0, p0⟩ : Fin 32) = i from Fin.ext e0,
    show (⟨Host.clampedStart S32x12x4x64 S1x12x4x64 ht start 1 + b.val, p1⟩ : Fin 12) = b from Fin.ext (by show Host.clampedStart S32x12x4x64 S1x12x4x64 ht start 1 + b.val = b.val; omega),
    show (⟨Host.clampedStart S32x12x4x64 S1x12x4x64 ht start 2 + h.val, p2⟩ : Fin 4) = h from Fin.ext (by show Host.clampedStart S32x12x4x64 S1x12x4x64 ht start 2 + h.val = h.val; omega),
    show (⟨Host.clampedStart S32x12x4x64 S1x12x4x64 ht start 3 + t.val, p3⟩ : Fin 64) = t from Fin.ext (by show Host.clampedStart S32x12x4x64 S1x12x4x64 ht start 3 + t.val = t.val; omega)]

theorem slice5q (start : Fin 5 → Int) (i : Fin 32) (h0 : start 0 = (i.val : ℤ)) (h1 : start 1 = 0) (h2 : start 2 = 0) (h3 : start 3 = 0) (h4 : start 4 = 0) (ht : S1x12x4x64x96.rank = S32x12x4x64x96.rank) (b : Fin 12) (h : Fin 4) (t : Fin 64) (d : Fin 96)
    (p0 : Host.clampedStart S32x12x4x64x96 S1x12x4x64x96 ht start 0 < 32) (p1 : Host.clampedStart S32x12x4x64x96 S1x12x4x64x96 ht start 1 + b.val < 12) (p2 : Host.clampedStart S32x12x4x64x96 S1x12x4x64x96 ht start 2 + h.val < 4) (p3 : Host.clampedStart S32x12x4x64x96 S1x12x4x64x96 ht start 3 + t.val < 64) (p4 : Host.clampedStart S32x12x4x64x96 S1x12x4x64x96 ht start 4 + d.val < 96) :
    (ix5 ⟨Host.clampedStart S32x12x4x64x96 S1x12x4x64x96 ht start 0, p0⟩ ⟨Host.clampedStart S32x12x4x64x96 S1x12x4x64x96 ht start 1 + b.val, p1⟩ ⟨Host.clampedStart S32x12x4x64x96 S1x12x4x64x96 ht start 2 + h.val, p2⟩ ⟨Host.clampedStart S32x12x4x64x96 S1x12x4x64x96 ht start 3 + t.val, p3⟩ ⟨Host.clampedStart S32x12x4x64x96 S1x12x4x64x96 ht start 4 + d.val, p4⟩ : S32x12x4x64x96.Idx) = ix5 i b h t d := by
  have e0 : Host.clampedStart S32x12x4x64x96 S1x12x4x64x96 ht start 0 = i.val := Host.clampedStart_of_le ht start 0 i.val h0 (by show i.val + 1 ≤ 32; omega)
  have e1 : Host.clampedStart S32x12x4x64x96 S1x12x4x64x96 ht start 1 = 0 := Host.clampedStart_of_le ht start 1 0 h1 (by show 0 + 12 ≤ 12; omega)
  have e2 : Host.clampedStart S32x12x4x64x96 S1x12x4x64x96 ht start 2 = 0 := Host.clampedStart_of_le ht start 2 0 h2 (by show 0 + 4 ≤ 4; omega)
  have e3 : Host.clampedStart S32x12x4x64x96 S1x12x4x64x96 ht start 3 = 0 := Host.clampedStart_of_le ht start 3 0 h3 (by show 0 + 64 ≤ 64; omega)
  have e4 : Host.clampedStart S32x12x4x64x96 S1x12x4x64x96 ht start 4 = 0 := Host.clampedStart_of_le ht start 4 0 h4 (by show 0 + 96 ≤ 96; omega)
  rw [show (⟨Host.clampedStart S32x12x4x64x96 S1x12x4x64x96 ht start 0, p0⟩ : Fin 32) = i from Fin.ext e0,
    show (⟨Host.clampedStart S32x12x4x64x96 S1x12x4x64x96 ht start 1 + b.val, p1⟩ : Fin 12) = b from Fin.ext (by show Host.clampedStart S32x12x4x64x96 S1x12x4x64x96 ht start 1 + b.val = b.val; omega),
    show (⟨Host.clampedStart S32x12x4x64x96 S1x12x4x64x96 ht start 2 + h.val, p2⟩ : Fin 4) = h from Fin.ext (by show Host.clampedStart S32x12x4x64x96 S1x12x4x64x96 ht start 2 + h.val = h.val; omega),
    show (⟨Host.clampedStart S32x12x4x64x96 S1x12x4x64x96 ht start 3 + t.val, p3⟩ : Fin 64) = t from Fin.ext (by show Host.clampedStart S32x12x4x64x96 S1x12x4x64x96 ht start 3 + t.val = t.val; omega),
    show (⟨Host.clampedStart S32x12x4x64x96 S1x12x4x64x96 ht start 4 + d.val, p4⟩ : Fin 96) = d from Fin.ext (by show Host.clampedStart S32x12x4x64x96 S1x12x4x64x96 ht start 4 + d.val = d.val; omega)]

theorem slice5v (start : Fin 5 → Int) (i : Fin 32) (h0 : start 0 = (i.val : ℤ)) (h1 : start 1 = 0) (h2 : start 2 = 0) (h3 : start 3 = 0) (h4 : start 4 = 0) (ht : S1x12x4x64x192.rank = S32x12x4x64x192.rank) (b : Fin 12) (h : Fin 4) (t : Fin 64) (d : Fin 192)
    (p0 : Host.clampedStart S32x12x4x64x192 S1x12x4x64x192 ht start 0 < 32) (p1 : Host.clampedStart S32x12x4x64x192 S1x12x4x64x192 ht start 1 + b.val < 12) (p2 : Host.clampedStart S32x12x4x64x192 S1x12x4x64x192 ht start 2 + h.val < 4) (p3 : Host.clampedStart S32x12x4x64x192 S1x12x4x64x192 ht start 3 + t.val < 64) (p4 : Host.clampedStart S32x12x4x64x192 S1x12x4x64x192 ht start 4 + d.val < 192) :
    (ix5 ⟨Host.clampedStart S32x12x4x64x192 S1x12x4x64x192 ht start 0, p0⟩ ⟨Host.clampedStart S32x12x4x64x192 S1x12x4x64x192 ht start 1 + b.val, p1⟩ ⟨Host.clampedStart S32x12x4x64x192 S1x12x4x64x192 ht start 2 + h.val, p2⟩ ⟨Host.clampedStart S32x12x4x64x192 S1x12x4x64x192 ht start 3 + t.val, p3⟩ ⟨Host.clampedStart S32x12x4x64x192 S1x12x4x64x192 ht start 4 + d.val, p4⟩ : S32x12x4x64x192.Idx) = ix5 i b h t d := by
  have e0 : Host.clampedStart S32x12x4x64x192 S1x12x4x64x192 ht start 0 = i.val := Host.clampedStart_of_le ht start 0 i.val h0 (by show i.val + 1 ≤ 32; omega)
  have e1 : Host.clampedStart S32x12x4x64x192 S1x12x4x64x192 ht start 1 = 0 := Host.clampedStart_of_le ht start 1 0 h1 (by show 0 + 12 ≤ 12; omega)
  have e2 : Host.clampedStart S32x12x4x64x192 S1x12x4x64x192 ht start 2 = 0 := Host.clampedStart_of_le ht start 2 0 h2 (by show 0 + 4 ≤ 4; omega)
  have e3 : Host.clampedStart S32x12x4x64x192 S1x12x4x64x192 ht start 3 = 0 := Host.clampedStart_of_le ht start 3 0 h3 (by show 0 + 64 ≤ 64; omega)
  have e4 : Host.clampedStart S32x12x4x64x192 S1x12x4x64x192 ht start 4 = 0 := Host.clampedStart_of_le ht start 4 0 h4 (by show 0 + 192 ≤ 192; omega)
  rw [show (⟨Host.clampedStart S32x12x4x64x192 S1x12x4x64x192 ht start 0, p0⟩ : Fin 32) = i from Fin.ext e0,
    show (⟨Host.clampedStart S32x12x4x64x192 S1x12x4x64x192 ht start 1 + b.val, p1⟩ : Fin 12) = b from Fin.ext (by show Host.clampedStart S32x12x4x64x192 S1x12x4x64x192 ht start 1 + b.val = b.val; omega),
    show (⟨Host.clampedStart S32x12x4x64x192 S1x12x4x64x192 ht start 2 + h.val, p2⟩ : Fin 4) = h from Fin.ext (by show Host.clampedStart S32x12x4x64x192 S1x12x4x64x192 ht start 2 + h.val = h.val; omega),
    show (⟨Host.clampedStart S32x12x4x64x192 S1x12x4x64x192 ht start 3 + t.val, p3⟩ : Fin 64) = t from Fin.ext (by show Host.clampedStart S32x12x4x64x192 S1x12x4x64x192 ht start 3 + t.val = t.val; omega),
    show (⟨Host.clampedStart S32x12x4x64x192 S1x12x4x64x192 ht start 4 + d.val, p4⟩ : Fin 192) = d from Fin.ext (by show Host.clampedStart S32x12x4x64x192 S1x12x4x64x192 ht start 4 + d.val = d.val; omega)]

/-! ## The tables a trip reads -/

section
variable (s : State Ideal) (i : Fin 32) (b : Fin 12) (h : Fin 4)

theorem q_apply (t : Fin 64) (d : Fin 96) : b5 i.val s (ix4 b h t d) = s.main_v112_0 (ix5 i b h t d) := by
  unfold b5 b4 b0 b1 b2 b3
  pointwise
  exact congrArg _ (slice5q _ i (word i) rfl rfl rfl rfl _ b h t d _ _ _ _ _ )

theorem k_apply (t : Fin 64) (d : Fin 96) : b11 i.val s (ix4 b h t d) = s.main_v112_1 (ix5 i b h t d) := by
  unfold b11 b10 b6 b7 b8 b9
  pointwise
  exact congrArg _ (slice5q _ i (word i) rfl rfl rfl rfl _ b h t d _ _ _ _ _ )

theorem v_apply (t : Fin 64) (d : Fin 192) : b17 i.val s (ix4 b h t d) = s.main_v112_2 (ix5 i b h t d) := by
  unfold b17 b16 b12 b13 b14 b15
  pointwise
  exact congrArg _ (slice5v _ i (word i) rfl rfl rfl rfl _ b h t d _ _ _ _ _ )

theorem qs_apply : b21 i.val s (ix2 b h) = s.main_v112_3 (ix3 i b h) := by
  unfold b21 b20 b18 b19
  pointwise
  exact congrArg _ (slice3 _ i (word i) rfl rfl _ b h _ _ _ )

theorem ks_apply : b25 i.val s (ix2 b h) = s.main_v112_4 (ix3 i b h) := by
  unfold b25 b24 b22 b23
  pointwise
  exact congrArg _ (slice3 _ i (word i) rfl rfl _ b h _ _ _ )

theorem vs_apply : b29 i.val s (ix2 b h) = s.main_v112_5 (ix3 i b h) := by
  unfold b29 b28 b26 b27
  pointwise
  exact congrArg _ (slice3 _ i (word i) rfl rfl _ b h _ _ _ )

theorem dec_apply : b63 i.val s (ix2 b h) = s.main_v112_12 (ix3 i b h) := by
  unfold b63 b62 b60 b61
  pointwise
  exact congrArg _ (slice3 _ i (word i) rfl rfl _ b h _ _ _ )

theorem gain_apply : b67 i.val s (ix2 b h) = s.main_v112_13 (ix3 i b h) := by
  unfold b67 b66 b64 b65
  pointwise
  exact congrArg _ (slice3 _ i (word i) rfl rfl _ b h _ _ _ )

theorem c_apply (t : Fin 64) : b34 i.val s (ix3 b h t) = s.main_v112_6 (ix4 i b h t) := by
  unfold b34 b33 b30 b31 b32
  pointwise
  exact congrArg _ (slice4 _ i (word i) rfl rfl rfl _ b h t _ _ _ _ )

theorem m_apply (t : Fin 64) : b39 i.val s (ix3 b h t) = s.main_v112_7 (ix4 i b h t) := by
  unfold b39 b38 b35 b36 b37
  pointwise
  exact congrArg _ (slice4 _ i (word i) rfl rfl rfl _ b h t _ _ _ _ )

theorem seg_apply (t : Fin 64) : b44 i.val s (ix3 b h t) = s.main_v112_8 (ix4 i b h t) := by
  unfold b44 b43 b40 b41 b42
  pointwise
  exact congrArg _ (slice4 _ i (word i) rfl rfl rfl _ b h t _ _ _ _ )

theorem w_apply (t : Fin 64) : b49 i.val s (ix3 b h t) = s.main_v112_9 (ix4 i b h t) := by
  unfold b49 b48 b45 b46 b47
  pointwise
  exact congrArg _ (slice4 _ i (word i) rfl rfl rfl _ b h t _ _ _ _ )

theorem iw_apply (t : Fin 64) : b54 i.val s (ix3 b h t) = s.main_v112_10 (ix4 i b h t) := by
  unfold b54 b53 b50 b51 b52
  pointwise
  exact congrArg _ (slice4 _ i (word i) rfl rfl rfl _ b h t _ _ _ _ )

theorem fl_apply (t : Fin 64) : b59 i.val s (ix3 b h t) = s.main_v112_11 (ix4 i b h t) := by
  unfold b59 b58 b55 b56 b57
  pointwise
  exact congrArg _ (slice4 _ i (word i) rfl rfl rfl _ b h t _ _ _ _ )

/-! ## What a trip makes of them -/

theorem num_apply (t : Fin 64) (e : Fin 192) : b72 i.val s (ix4 b h t e)
    = b54 i.val s (ix3 b h t) * ∑ d : Fin 96, b5 i.val s (ix4 b h t d) * s.main_v112_17 (ix4 b h d e) := by
  unfold b72 b71 b70 b69
  pointwise

theorem den_apply (t : Fin 64) : b74 i.val s (ix3 b h t)
    = b54 i.val s (ix3 b h t) * ∑ d : Fin 96, b5 i.val s (ix4 b h t d) * s.main_v112_18 (ix3 b h d) := by
  unfold b74 b73
  pointwise

set_option maxRecDepth 100000 in
theorem causal : ∀ t r : Fin 64, IntOp.cmpi CmpIPredicate.sge (BitVec.ofNat 32 t.val) (BitVec.ofNat 32 r.val)
    = BitVec.ofBool (decide (r.val ≤ t.val)) := by
  decide +kernel

set_option maxRecDepth 100000 in
theorem gap : ∀ t r : Fin 64, (IntOp.subi (BitVec.ofNat 32 t.val) (BitVec.ofNat 32 r.val)).toInt = (t.val : ℤ) - (r.val : ℤ) := by
  decide +kernel

theorem andi_ofBool (p q : Bool) : IntOp.andi (BitVec.ofBool p) (BitVec.ofBool q) = BitVec.ofBool (p && q) := by
  cases p <;> cases q <;> rfl

theorem P_apply (t r : Fin 64) : b101 i.val s (ix4 b h t r)
    = if r.val ≤ t.val ∧ ((((t.val : ℤ) - (r.val : ℤ) : ℤ) : ℝ) : EReal) ≤ b44 i.val s (ix3 b h t) then
        ((∑ d : Fin 96, b5 i.val s (ix4 b h t d) * b11 i.val s (ix4 b h r d))
          * (b21 i.val s (ix2 b h) * b25 i.val s (ix2 b h) * Ideal.ofBits FTy.f32 1037108716#32))
          * Ideal.exp (b34 i.val s (ix3 b h r) - b39 i.val s (ix3 b h t))
      else 0 := by
  unfold b101 b100 b99 b98 b97 b96 b95 b94 b93 b92 b91 b90 b89 b88 b87 b86 b85 b84 b83 b82 b81 b80 b79 b78 b77 b76 b75 K_main_v94 K_main_v93 K_main_v92 K_main_v91 K_main_v90
  pointwise
  rw [causal]
  rw [show (FloatOps.sitofp (F := Ideal) FTy.f32 (IntOp.subi (BitVec.ofNat 32 t.val) (BitVec.ofNat 32 r.val)) : EReal)
    = ((((t.val : ℤ) - (r.val : ℤ) : ℤ) : ℝ) : EReal) from by rw [← gap t r]; rfl]
  rw [andi_ofBool, select_ofBool]
  by_cases hp : r.val ≤ t.val ∧ ((((t.val : ℤ) - (r.val : ℤ) : ℤ) : ℝ) : EReal) ≤ b44 i.val s (ix3 b h t)
  · rw [if_pos hp, if_pos (by rw [decide_eq_true hp.1, Bool.true_and]; exact decide_eq_true hp.2)]
  · rw [if_neg hp, if_neg (fun hq => hp ⟨of_decide_eq_true (Bool.and_eq_true_iff.mp hq).1, of_decide_eq_true (Bool.and_eq_true_iff.mp hq).2⟩)]

theorem C_apply (d : Fin 96) (e : Fin 192) : b136 i.val s (ix4 b h d e)
    = b63 i.val s (ix2 b h) * s.main_v112_17 (ix4 b h d e) + b67 i.val s (ix2 b h)
      * ((∑ x : Fin 64, b11 i.val s (ix4 b h x d) * b49 i.val s (ix3 b h x) * b17 i.val s (ix4 b h x e))
        * (b25 i.val s (ix2 b h) * b29 i.val s (ix2 b h))) := by
  unfold b136 b135 b134 b133 b132 b131 b130 b125 b124 b123 b122 b121 b120 b119 b118 b117 b68
  pointwise

theorem N_apply (d : Fin 96) : b143 i.val s (ix3 b h d)
    = b63 i.val s (ix2 b h) * s.main_v112_18 (ix3 b h d) + b67 i.val s (ix2 b h)
      * ((∑ x : Fin 64, b49 i.val s (ix3 b h x) * b11 i.val s (ix4 b h x d)) * b25 i.val s (ix2 b h)) := by
  unfold b143 b142 b141 b140 b139 b138 b137 b129 b128 b127 b126
  pointwise

theorem H_apply (t : Fin 64) (e : Fin 192) : b116 i.val s (ix4 b h t e)
    = Ideal.div (b72 i.val s (ix4 b h t e)
        + (∑ x : Fin 64, b101 i.val s (ix4 b h t x) * b17 i.val s (ix4 b h x e)) * b29 i.val s (ix2 b h))
      (max (FloatOps.absf (F := Ideal) (φ := .f32) (b74 i.val s (ix3 b h t) + ∑ x : Fin 64, b101 i.val s (ix4 b h t x)))
        (b59 i.val s (ix3 b h t))) := by
  unfold b116 b115 b114 b113 b112 b111 b110 b109 b108 b107 b106 b105 b104 b103 b102 b68
  pointwise

/-- The update of block `i`, at an index. -/
theorem update5 {α : Type} (x : S32x12x4x64x192.Idx → α) (u : S1x12x4x64x192.Idx → α) (start : Fin 5 → Int) (i : Fin 32)
    (h0 : start 0 = (i.val : ℤ)) (h1 : start 1 = 0) (h2 : start 2 = 0) (h3 : start 3 = 0) (h4 : start 4 = 0)
    (hu : S32x12x4x64x192.Slices (fun _ => 0) S1x12x4x64x192) (i' : Fin 32) (b : Fin 12) (h : Fin 4) (t : Fin 64) (e : Fin 192) :
    Host.dynamicUpdateSlice x u start hu (ix5 i' b h t e) = if i' = i then u (ix5 0 b h t e) else x (ix5 i' b h t e) := by
  have e0 : Host.clampedStart S32x12x4x64x192 S1x12x4x64x192 hu.1 start 0 = i.val :=
    Host.clampedStart_of_le hu.1 start 0 i.val h0 (by show i.val + 1 ≤ 32; omega)
  have e1 : Host.clampedStart S32x12x4x64x192 S1x12x4x64x192 hu.1 start 1 = 0 :=
    Host.clampedStart_of_le hu.1 start 1 0 h1 (by show 0 + 12 ≤ 12; omega)
  have e2 : Host.clampedStart S32x12x4x64x192 S1x12x4x64x192 hu.1 start 2 = 0 :=
    Host.clampedStart_of_le hu.1 start 2 0 h2 (by show 0 + 4 ≤ 4; omega)
  have e3 : Host.clampedStart S32x12x4x64x192 S1x12x4x64x192 hu.1 start 3 = 0 :=
    Host.clampedStart_of_le hu.1 start 3 0 h3 (by show 0 + 64 ≤ 64; omega)
  have e4 : Host.clampedStart S32x12x4x64x192 S1x12x4x64x192 hu.1 start 4 = 0 :=
    Host.clampedStart_of_le hu.1 start 4 0 h4 (by show 0 + 192 ≤ 192; omega)
  rw [Host.dynamicUpdateSlice_apply]
  by_cases hi : i' = i
  · subst hi
    rw [if_pos rfl, dif_pos]
    · congr 1
      funext a
      apply Fin.ext
      match a with
      | ⟨0, _⟩ => show i'.val - Host.clampedStart S32x12x4x64x192 S1x12x4x64x192 hu.1 start 0 = 0; omega
      | ⟨1, _⟩ => show b.val - Host.clampedStart S32x12x4x64x192 S1x12x4x64x192 hu.1 start 1 = b.val; omega
      | ⟨2, _⟩ => show h.val - Host.clampedStart S32x12x4x64x192 S1x12x4x64x192 hu.1 start 2 = h.val; omega
      | ⟨3, _⟩ => show t.val - Host.clampedStart S32x12x4x64x192 S1x12x4x64x192 hu.1 start 3 = t.val; omega
      | ⟨4, _⟩ => show e.val - Host.clampedStart S32x12x4x64x192 S1x12x4x64x192 hu.1 start 4 = e.val; omega
    · intro a
      match a with
      | ⟨0, _⟩ => show Host.clampedStart S32x12x4x64x192 S1x12x4x64x192 hu.1 start 0 ≤ i'.val ∧ i'.val < Host.clampedStart S32x12x4x64x192 S1x12x4x64x192 hu.1 start 0 + 1; omega
      | ⟨1, _⟩ => show Host.clampedStart S32x12x4x64x192 S1x12x4x64x192 hu.1 start 1 ≤ b.val ∧ b.val < Host.clampedStart S32x12x4x64x192 S1x12x4x64x192 hu.1 start 1 + 12; omega
      | ⟨2, _⟩ => show Host.clampedStart S32x12x4x64x192 S1x12x4x64x192 hu.1 start 2 ≤ h.val ∧ h.val < Host.clampedStart S32x12x4x64x192 S1x12x4x64x192 hu.1 start 2 + 4; omega
      | ⟨3, _⟩ => show Host.clampedStart S32x12x4x64x192 S1x12x4x64x192 hu.1 start 3 ≤ t.val ∧ t.val < Host.clampedStart S32x12x4x64x192 S1x12x4x64x192 hu.1 start 3 + 64; omega
      | ⟨4, _⟩ => show Host.clampedStart S32x12x4x64x192 S1x12x4x64x192 hu.1 start 4 ≤ e.val ∧ e.val < Host.clampedStart S32x12x4x64x192 S1x12x4x64x192 hu.1 start 4 + 192; omega
  · rw [if_neg hi, dif_neg]
    intro hin
    have := hin 0
    change Host.clampedStart S32x12x4x64x192 S1x12x4x64x192 hu.1 start 0 ≤ i'.val ∧ i'.val < Host.clampedStart S32x12x4x64x192 S1x12x4x64x192 hu.1 start 0 + 1 at this
    exact hi (Fin.ext (by omega))

theorem ys_apply (i' : Fin 32) (t : Fin 64) (e : Fin 192) : b149 i.val s (ix5 i' b h t e)
    = if i' = i then b116 i.val s (ix4 b h t e) else s.main_v112_19 (ix5 i' b h t e) := by
  unfold b149
  refine (update5 _ _ _ i (word i) rfl rfl rfl rfl _ i' b h t e).trans ?_
  unfold b144
  rw [show broadcastInDim S1x12x4x64x192 ![1, 2, 3, 4] bcast_S12x4x64x192_S1x12x4x64x192_1_2_3_4 (b116 i.val s) (ix5 0 b h t e)
    = b116 i.val s (ix4 b h t e) from by pointwise]

theorem R_apply (t : Fin 64) (e : Fin 192) : R_main_v114 s (ix4 b h (tk i t) e) = s.main_v112_19 (ix5 i b h t e) := by
  unfold R_main_v114
  unfold tk
  pointwise

end

end Cert.ReferenceIdeal.Val

end
-- ==== Proof.RefIter.lean ====
/-
  The reference's loop from its start: after `n` trips the state is `Spec`'s after `n` chunks.
-/
module

public import proofs.«01_k».proof.Proof.RefVal

@[expose] public section

set_option maxRecDepth 16384

noncomputable section

namespace Cert.ReferenceIdeal.Val

open Idealize.ShloMosaic Cert.ReferenceIdeal Cert.ReferenceIdeal.Gen Cert.ReferenceIdeal.Step Cert.Spec

section
variable (a0 a1 : (⟨S12x4x2048x96, .i8⟩ : BufTy).Contents (Elt Ideal)) (a2 : (⟨S12x4x2048x192, .i8⟩ : BufTy).Contents (Elt Ideal))
  (a3 a4 a5 : (⟨S12x4x32, .f32⟩ : BufTy).Contents (Elt Ideal))
  (a6 a7 a8 a9 a10 a11 : (⟨S12x4x2048, .f32⟩ : BufTy).Contents (Elt Ideal))
  (a12 a13 : (⟨S12x4x32, .f32⟩ : BufTy).Contents (Elt Ideal)) (i : Fin 32) (b : Fin 12) (h : Fin 4)

theorem token (t : Fin 64) (p : i.val * 64 + t.val < 2048) : (⟨i.val * 64 + t.val, p⟩ : Fin 2048) = tk i t :=
  Fin.ext (by show i.val * 64 + t.val = 64 * i.val + t.val; omega)

/-! ## The tables before the loop -/

theorem init_q (t : Fin 64) (d : Fin 96) : (init a0 a1 a2 a3 a4 a5 a6 a7 a8 a9 a10 a11 a12 a13).main_v112_0 (ix5 i b h t d) = code (a0 (ix4 b h (tk i t) d)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]
  exact code_eq (a0 (ix4 b h (tk i t) d))

theorem init_k (t : Fin 64) (d : Fin 96) : (init a0 a1 a2 a3 a4 a5 a6 a7 a8 a9 a10 a11 a12 a13).main_v112_1 (ix5 i b h t d) = code (a1 (ix4 b h (tk i t) d)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]
  exact code_eq (a1 (ix4 b h (tk i t) d))

theorem init_v (t : Fin 64) (d : Fin 192) : (init a0 a1 a2 a3 a4 a5 a6 a7 a8 a9 a10 a11 a12 a13).main_v112_2 (ix5 i b h t d) = code (a2 (ix4 b h (tk i t) d)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]
  exact code_eq (a2 (ix4 b h (tk i t) d))

theorem init_qs : (init a0 a1 a2 a3 a4 a5 a6 a7 a8 a9 a10 a11 a12 a13).main_v112_3 (ix3 i b h) = a3 (ix3 b h i) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise

theorem init_ks : (init a0 a1 a2 a3 a4 a5 a6 a7 a8 a9 a10 a11 a12 a13).main_v112_4 (ix3 i b h) = a4 (ix3 b h i) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise

theorem init_vs : (init a0 a1 a2 a3 a4 a5 a6 a7 a8 a9 a10 a11 a12 a13).main_v112_5 (ix3 i b h) = a5 (ix3 b h i) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise

theorem init_dec : (init a0 a1 a2 a3 a4 a5 a6 a7 a8 a9 a10 a11 a12 a13).main_v112_12 (ix3 i b h) = a12 (ix3 b h i) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise

theorem init_gain : (init a0 a1 a2 a3 a4 a5 a6 a7 a8 a9 a10 a11 a12 a13).main_v112_13 (ix3 i b h) = a13 (ix3 b h i) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise

theorem init_c (t : Fin 64) : (init a0 a1 a2 a3 a4 a5 a6 a7 a8 a9 a10 a11 a12 a13).main_v112_6 (ix4 i b h t) = a6 (ix3 b h (tk i t)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]

theorem init_m (t : Fin 64) : (init a0 a1 a2 a3 a4 a5 a6 a7 a8 a9 a10 a11 a12 a13).main_v112_7 (ix4 i b h t) = a7 (ix3 b h (tk i t)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]

theorem init_seg (t : Fin 64) : (init a0 a1 a2 a3 a4 a5 a6 a7 a8 a9 a10 a11 a12 a13).main_v112_8 (ix4 i b h t) = a8 (ix3 b h (tk i t)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]

theorem init_w (t : Fin 64) : (init a0 a1 a2 a3 a4 a5 a6 a7 a8 a9 a10 a11 a12 a13).main_v112_9 (ix4 i b h t) = a9 (ix3 b h (tk i t)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]

theorem init_iw (t : Fin 64) : (init a0 a1 a2 a3 a4 a5 a6 a7 a8 a9 a10 a11 a12 a13).main_v112_10 (ix4 i b h t) = a10 (ix3 b h (tk i t)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]

theorem init_fl (t : Fin 64) : (init a0 a1 a2 a3 a4 a5 a6 a7 a8 a9 a10 a11 a12 a13).main_v112_11 (ix4 i b h t) = a11 (ix3 b h (tk i t)) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise
  simp only [token]

theorem init_C (d : Fin 96) (e : Fin 192) : (init a0 a1 a2 a3 a4 a5 a6 a7 a8 a9 a10 a11 a12 a13).main_v112_17 (ix4 b h d e) = (0 : EReal) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise

theorem init_N (d : Fin 96) : (init a0 a1 a2 a3 a4 a5 a6 a7 a8 a9 a10 a11 a12 a13).main_v112_18 (ix3 b h d) = (0 : EReal) := by
  simp only [init, K_main_c, K_main_v1, K_main_c_0, K_main_v3, K_main_c_1, K_main_v5, K_main_c_2, K_main_v7, K_main_c_3, K_main_v9, K_main_c_4, K_main_v11, K_main_cst, K_main_v16, K_main_c_5, K_main_v18, K_main_c_6, K_main_v20, K_main_c_7, K_main_v22, K_main_cst_8, K_main_call2_v0, K_main_call2_v1, K_main_c_9, K_main_v29, K_main_c_10, K_main_v31, K_main_c_11, K_main_v33, K_main_c_12, K_main_v35, K_main_c_13, K_main_v37, K_main_c_14, K_main_v39, K_main_cst_15, K_main_v44, K_main_c_16, K_main_v46, K_main_c_17, K_main_v48, K_main_c_18, K_main_v50, K_main_cst_19, K_main_call5_v0, K_main_call5_v1, K_main_c_20, K_main_v57, K_main_c_21, K_main_v59, K_main_c_22, K_main_v61, K_main_c_23, K_main_v63, K_main_c_24, K_main_v65, K_main_c_25, K_main_v67, K_main_cst_26, K_main_v72, K_main_c_27, K_main_v74, K_main_c_28, K_main_v76, K_main_c_29, K_main_v78, K_main_cst_30, K_main_call8_v0, K_main_call8_v1, K_main_v90, K_main_v91, K_main_v92, K_main_v93, K_main_v94, K_main_cst_31, K_main_v95, K_main_cst_32, K_main_v96, K_main_cst_33, K_main_v111, K_main_c_34, A_main_v0, A_main_v2, A_main_v4, A_main_v6, A_main_v8, A_main_v10, A_main_v12, A_main_v13, A_main_v14, A_main_v15, A_main_v17, A_main_v19, A_main_v21, A_main_v23, A_main_v24, A_main_v25, A_main_v26, A_main_v27, A_main_v28, A_main_v30, A_main_v32, A_main_v34, A_main_v36, A_main_v38, A_main_v40, A_main_v41, A_main_v42, A_main_v43, A_main_v45, A_main_v47, A_main_v49, A_main_v51, A_main_v52, A_main_v53, A_main_v54, A_main_v55, A_main_v56, A_main_v58, A_main_v60, A_main_v62, A_main_v64, A_main_v66, A_main_v68, A_main_v69, A_main_v70, A_main_v71, A_main_v73, A_main_v75, A_main_v77, A_main_v79, A_main_v80, A_main_v81, A_main_v82, A_main_v83, A_main_v84, A_main_v85, A_main_v86, A_main_v87, A_main_v88, A_main_v89, A_main_v97, A_main_v98, A_main_v99, A_main_v100, A_main_v101, A_main_v102, A_main_v103, A_main_v104, A_main_v105, A_main_v106, A_main_v107, A_main_v108, A_main_v109, A_main_v110]
  pointwise

end

/-! ## The trips -/

/-- The state `s` holds the tables `A`. -/
structure Data (A : Args) (s : State Ideal) : Prop where
  q : ∀ (i : Fin 32) (b : Fin 12) (h : Fin 4) (t : Fin 64) (d : Fin 96), s.main_v112_0 (ix5 i b h t d) = (A.seq b h).q (tk i t) d
  k : ∀ (i : Fin 32) (b : Fin 12) (h : Fin 4) (t : Fin 64) (d : Fin 96), s.main_v112_1 (ix5 i b h t d) = (A.seq b h).k (tk i t) d
  v : ∀ (i : Fin 32) (b : Fin 12) (h : Fin 4) (t : Fin 64) (d : Fin 192), s.main_v112_2 (ix5 i b h t d) = (A.seq b h).v (tk i t) d
  qs : ∀ (i : Fin 32) (b : Fin 12) (h : Fin 4), s.main_v112_3 (ix3 i b h) = A.qs b h i
  ks : ∀ (i : Fin 32) (b : Fin 12) (h : Fin 4), s.main_v112_4 (ix3 i b h) = (A.seq b h).ks i
  vs : ∀ (i : Fin 32) (b : Fin 12) (h : Fin 4), s.main_v112_5 (ix3 i b h) = (A.seq b h).vs i
  dec : ∀ (i : Fin 32) (b : Fin 12) (h : Fin 4), s.main_v112_12 (ix3 i b h) = (A.seq b h).dec i
  gain : ∀ (i : Fin 32) (b : Fin 12) (h : Fin 4), s.main_v112_13 (ix3 i b h) = (A.seq b h).gain i
  c : ∀ (i : Fin 32) (b : Fin 12) (h : Fin 4) (t : Fin 64), s.main_v112_6 (ix4 i b h t) = (A.seq b h).c (tk i t)
  m : ∀ (i : Fin 32) (b : Fin 12) (h : Fin 4) (t : Fin 64), s.main_v112_7 (ix4 i b h t) = (A.seq b h).m (tk i t)
  seg : ∀ (i : Fin 32) (b : Fin 12) (h : Fin 4) (t : Fin 64), s.main_v112_8 (ix4 i b h t) = (A.seq b h).seg (tk i t)
  w : ∀ (i : Fin 32) (b : Fin 12) (h : Fin 4) (t : Fin 64), s.main_v112_9 (ix4 i b h t) = (A.seq b h).w (tk i t)
  iw : ∀ (i : Fin 32) (b : Fin 12) (h : Fin 4) (t : Fin 64), s.main_v112_10 (ix4 i b h t) = (A.seq b h).iw (tk i t)
  fl : ∀ (i : Fin 32) (b : Fin 12) (h : Fin 4) (t : Fin 64), s.main_v112_11 (ix4 i b h t) = (A.seq b h).fl (tk i t)

/-- The state after `n` trips: the tables, the matrix and the normaliser before chunk `n`, the results of the chunks before. -/
structure After (A : Args) (n : ℕ) (s : State Ideal) : Prop where
  data : Data A s
  C : ∀ (b : Fin 12) (h : Fin 4) (d : Fin 96) (e : Fin 192), s.main_v112_17 (ix4 b h d e) = Spec.C (A.seq b h) n d e
  N : ∀ (b : Fin 12) (h : Fin 4) (d : Fin 96), s.main_v112_18 (ix3 b h d) = Spec.N (A.seq b h) n d
  H : ∀ (i : Fin 32) (b : Fin 12) (h : Fin 4) (t : Fin 64) (e : Fin 192), i.val < n →
    s.main_v112_19 (ix5 i b h t e) = Spec.H (A.seq b h) i t e

section
variable {A : Args} {s : State Ideal} (i : Fin 32) (b : Fin 12) (h : Fin 4)

theorem trip_P (f : Data A s) (t r : Fin 64) : b101 i.val s (ix4 b h t r) = Spec.P (A.seq b h) i t r := by
  rw [P_apply, seg_apply, qs_apply, ks_apply, c_apply, m_apply, f.seg, f.qs, f.ks, f.c, f.m]
  simp only [q_apply, k_apply, f.q, f.k]
  rfl

theorem trip_C (f : After A i.val s) (d : Fin 96) (e : Fin 192) :
    b136 i.val s (ix4 b h d e) = Spec.C (A.seq b h) (i.val + 1) d e := by
  rw [C_apply, dec_apply, gain_apply, ks_apply, vs_apply, f.data.dec, f.data.gain, f.data.ks, f.data.vs, f.C, C_succ]
  simp only [k_apply, w_apply, v_apply, f.data.k, f.data.w, f.data.v]
  rfl

theorem trip_N (f : After A i.val s) (d : Fin 96) : b143 i.val s (ix3 b h d) = Spec.N (A.seq b h) (i.val + 1) d := by
  rw [N_apply, dec_apply, gain_apply, ks_apply, f.data.dec, f.data.gain, f.data.ks, f.N, N_succ]
  simp only [k_apply, w_apply, f.data.k, f.data.w]
  unfold stepN
  simp only [mul_comm]

theorem trip_H (f : After A i.val s) (t : Fin 64) (e : Fin 192) :
    b116 i.val s (ix4 b h t e) = Spec.H (A.seq b h) i t e := by
  rw [H_apply, num_apply, den_apply, iw_apply, fl_apply, vs_apply, f.data.iw, f.data.fl, f.data.vs]
  simp only [trip_P i b h f.data, q_apply, v_apply, f.data.q, f.data.v, f.C, f.N]
  rw [mul_comm (∑ x : Fin 64, Spec.P (A.seq b h) i t x * (A.seq b h).v (tk i x) e)]
  rfl

/-- One trip is one chunk. -/
theorem after_step (f : After A i.val s) : After A (i.val + 1) (step i.val s) where
  data := ⟨f.data.q, f.data.k, f.data.v, f.data.qs, f.data.ks, f.data.vs, f.data.dec, f.data.gain, f.data.c, f.data.m, f.data.seg,
    f.data.w, f.data.iw, f.data.fl⟩
  C b h d e := trip_C i b h f d e
  N b h d := trip_N i b h f d
  H i' b h t e hi := by
    rw [step_main_v112_19, ys_apply]
    by_cases he : i' = i
    · subst he
      rw [if_pos rfl]
      exact trip_H i' b h f t e
    · rw [if_neg he]
      exact f.H i' b h t e (by have : i'.val ≠ i.val := fun hv => he (Fin.ext hv); omega)

end

/-- The states one after the other. -/
def iter (s : State Ideal) : ℕ → State Ideal
  | 0 => s
  | n + 1 => step n (iter s n)

theorem after_iter {A : Args} {s : State Ideal} (f : After A 0 s) : ∀ n, n ≤ 32 → After A n (iter s n)
  | 0, _ => f
  | n + 1, hn => after_step ⟨n, hn⟩ (after_iter f n (by omega))

theorem after_init (a0 a1 : (⟨S12x4x2048x96, .i8⟩ : BufTy).Contents (Elt Ideal)) (a2 : (⟨S12x4x2048x192, .i8⟩ : BufTy).Contents (Elt Ideal))
    (a3 a4 a5 : (⟨S12x4x32, .f32⟩ : BufTy).Contents (Elt Ideal))
    (a6 a7 a8 a9 a10 a11 : (⟨S12x4x2048, .f32⟩ : BufTy).Contents (Elt Ideal))
    (a12 a13 : (⟨S12x4x32, .f32⟩ : BufTy).Contents (Elt Ideal)) :
    After (argsOf a0 a1 a2 a3 a4 a5 a6 a7 a8 a9 a10 a11 a12 a13) 0 (init a0 a1 a2 a3 a4 a5 a6 a7 a8 a9 a10 a11 a12 a13) where
  data :=
    ⟨fun i b h t d => init_q a0 a1 a2 a3 a4 a5 a6 a7 a8 a9 a10 a11 a12 a13 i b h t d,
      fun i b h t d => init_k a0 a1 a2 a3 a4 a5 a6 a7 a8 a9 a10 a11 a12 a13 i b h t d,
      fun i b h t d => init_v a0 a1 a2 a3 a4 a5 a6 a7 a8 a9 a10 a11 a12 a13 i b h t d,
      fun i b h => init_qs a0 a1 a2 a3 a4 a5 a6 a7 a8 a9 a10 a11 a12 a13 i b h,
      fun i b h => init_ks a0 a1 a2 a3 a4 a5 a6 a7 a8 a9 a10 a11 a12 a13 i b h,
      fun i b h => init_vs a0 a1 a2 a3 a4 a5 a6 a7 a8 a9 a10 a11 a12 a13 i b h,
      fun i b h => init_dec a0 a1 a2 a3 a4 a5 a6 a7 a8 a9 a10 a11 a12 a13 i b h,
      fun i b h => init_gain a0 a1 a2 a3 a4 a5 a6 a7 a8 a9 a10 a11 a12 a13 i b h,
      fun i b h t => init_c a0 a1 a2 a3 a4 a5 a6 a7 a8 a9 a10 a11 a12 a13 i b h t,
      fun i b h t => init_m a0 a1 a2 a3 a4 a5 a6 a7 a8 a9 a10 a11 a12 a13 i b h t,
      fun i b h t => init_seg a0 a1 a2 a3 a4 a5 a6 a7 a8 a9 a10 a11 a12 a13 i b h t,
      fun i b h t => init_w a0 a1 a2 a3 a4 a5 a6 a7 a8 a9 a10 a11 a12 a13 i b h t,
      fun i b h t => init_iw a0 a1 a2 a3 a4 a5 a6 a7 a8 a9 a10 a11 a12 a13 i b h t,
      fun i b h t => init_fl a0 a1 a2 a3 a4 a5 a6 a7 a8 a9 a10 a11 a12 a13 i b h t⟩
  C b h d e := init_C a0 a1 a2 a3 a4 a5 a6 a7 a8 a9 a10 a11 a12 a13 b h d e
  N b h d := init_N a0 a1 a2 a3 a4 a5 a6 a7 a8 a9 a10 a11 a12 a13 b h d
  H i b h t e hi := absurd hi (Nat.not_lt_zero _)

end Cert.ReferenceIdeal.Val

end
-- ==== Proof.PreVal.lean ====
/-
  What the precondition says of the arguments: the tables the state is made of are finite, and segments are shorter than 128.
-/
module

public import proofs.«01_k».proof.Proof.Gen.Pre_finite
public import proofs.«01_k».proof.Proof.Tables
public import Idealize.ShloMosaic.Lib.ReduceAll
public import Idealize.ShloMosaic.Lib.Affine

@[expose] public section

set_option maxRecDepth 16384

noncomputable section

namespace Cert.Spec

open Idealize.ShloMosaic Cert.Pre_finite

attribute [local instance] Cert.Pre_finite.Gen.facts

theorem inf_word : Ideal.ofBits FTy.f32 0x7F800000#32 = ⊤ := by
  simp [Ideal.ofBits, Ideal.ieee]

theorem bound_word : Ideal.ofBits FTy.f32 0x43000000#32 = ((128 : ℝ) : EReal) := by
  simp [Ideal.ofBits, Ideal.ieee, -EReal.coe_mul]
  norm_num

theorem fin_of_abs {x : EReal} (h : max x (-x) < ⊤) : Fin' x := by
  induction x with
  | bot => simp at h
  | top => simp at h
  | coe r => exact ⟨r, rfl⟩

theorem lt_of_cmpf {x y : EReal} (h : FloatOps.cmpf (F := Ideal) (φ := .f32) .olt x y = 1#1) : x < y := by
  by_contra hn
  have : FloatOps.cmpf (F := Ideal) (φ := .f32) .olt x y = 0#1 := by
    show BitVec.ofBool (decide (x < y)) = 0#1
    rw [decide_eq_false hn]; rfl
  rw [this] at h
  exact absurd h (by decide)

theorem ne_of_cmpi {x y : BitVec 32} (h : IntOp.cmpi CmpIPredicate.ne x y = 1#1) : IntOp.cmpi CmpIPredicate.eq x y ≠ 1#1 := by
  intro he
  by_cases hxy : x = y
  · subst hxy
    have : IntOp.cmpi CmpIPredicate.ne x x = 0#1 := by simp [IntOp.cmpi]
    rw [this] at h
    exact absurd h (by decide)
  · have : IntOp.cmpi CmpIPredicate.eq x y = 0#1 := by
      show BitVec.ofBool (x == y) = 0#1
      rw [beq_eq_false_iff_ne.mpr hxy]; rfl
    rw [this] at he
    exact absurd he (by decide)

section
variable (a0 a1 : IVec S12x4x2048x96 8) (a2 : IVec S12x4x2048x192 8) (a3 a4 a5 : FVec Ideal S12x4x32 .f32)
  (a6 a7 a8 a9 a10 a11 : FVec Ideal S12x4x2048 .f32) (a12 a13 : FVec Ideal S12x4x32 .f32)

/-- A table whose absolute values are all below infinity holds real numbers. -/
theorem table_finite {s : Shape} {axes : List (Fin s.rank)} (x : FVec Ideal s .f32) (init : IVec S_ 1)
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant S_ .f32 0x7F800000#32))) init h hu j = 1#1)
    (i : s.Idx) : Fin' (x i) := by
  have hsub : Subsingleton S_.Idx := ⟨fun a b => funext fun k => k.elim0⟩
  have h1 := Host.reduce_andi_all _ _ _ _ j e i
  have h2 : FloatOps.cmpf (F := Ideal) (φ := .f32) .olt (max (x i) (-(x i))) (Ideal.ofBits FTy.f32 0x7F800000#32) = 1#1 := h1
  rw [inf_word] at h2
  exact fin_of_abs (lt_of_cmpf h2)

/-- A table of bytes none of which is a NaN's. -/
theorem codes_finite {s : Shape} {axes : List (Fin s.rank)} (x : IVec s 8) (init : IVec S_ 1) (hw : 8 < 32)
    (hb : S_.BroadcastsInDim s (![] : Fin 0 → Fin s.rank)) (h : s.ReducesTo axes S_) (hu : 0 < S_.numel) (j : S_.Idx)
    (e : Host.reduce IntOp.andi (cmpi .ne (andi (extui 32 x hw) (broadcastInDim s ![] hb (constantI S_ 32 127#32)))
      (broadcastInDim s ![] hb (constantI S_ 32 127#32))) init h hu j = 1#1)
    (i : s.Idx) : Fin' (code (x i)) := by
  have hsub : Subsingleton S_.Idx := ⟨fun a b => funext fun k => k.elim0⟩
  have h1 := Host.reduce_andi_all _ _ _ _ j e i
  have h2 : IntOp.cmpi CmpIPredicate.ne (IntOp.andi (BitVec.setWidth 32 (x i)) 127#32) 127#32 = 1#1 := h1
  exact code_finite (x i) (ne_of_cmpi h2)

theorem finite_of_pre
    (hp : Cert.Pre_finite.fn (F := Ideal) a0 a1 a2 a3 a4 a5 a6 a7 a8 a9 a10 a11 a12 a13 = (fun _ => 1#1)) (b : Fin 12) (h : Fin 4) :
    Finite ((argsOf a0 a1 a2 a3 a4 a5 a6 a7 a8 a9 a10 a11 a12 a13).seq b h)
      ∧ ∀ t, ((argsOf a0 a1 a2 a3 a4 a5 a6 a7 a8 a9 a10 a11 a12 a13).seq b h).seg t < ((128 : ℝ) : EReal) := by
  have hsub : Subsingleton S_.Idx := ⟨fun a b => funext fun k => k.elim0⟩
  have e := congrFun hp (Shape.Idx.first Cert.Pre_finite.Facts.h_S_)
  dsimp only [Cert.Pre_finite.fn, Cert.Pre_finite.fn_part1, Cert.Pre_finite.fn_part2] at e
  obtain ⟨e, hseg⟩ := IntOp.andi_eq_one.mp e
  obtain ⟨e, hgain⟩ := IntOp.andi_eq_one.mp e
  obtain ⟨e, hdec⟩ := IntOp.andi_eq_one.mp e
  obtain ⟨e, hw⟩ := IntOp.andi_eq_one.mp e
  obtain ⟨e, hvs⟩ := IntOp.andi_eq_one.mp e
  obtain ⟨e, hks⟩ := IntOp.andi_eq_one.mp e
  obtain ⟨hk, hv⟩ := IntOp.andi_eq_one.mp e
  refine ⟨⟨fun t d => codes_finite a1 _ _ _ _ _ _ hk (ix4 b h t d), fun t d => codes_finite a2 _ _ _ _ _ _ hv (ix4 b h t d),
    fun t => table_finite a9 _ _ _ _ _ hw (ix3 b h t), fun i => table_finite a4 _ _ _ _ _ hks (ix3 b h i),
    fun i => table_finite a5 _ _ _ _ _ hvs (ix3 b h i), fun i => table_finite a12 _ _ _ _ _ hdec (ix3 b h i),
    fun i => table_finite a13 _ _ _ _ _ hgain (ix3 b h i)⟩, fun t => ?_⟩
  have h1 := Host.reduce_andi_all _ _ _ _ _ hseg (ix3 b h t)
  have h2 : FloatOps.cmpf (F := Ideal) (φ := .f32) .olt (a8 (ix3 b h t)) (Ideal.ofBits FTy.f32 0x43000000#32) = 1#1 := h1
  rw [bound_word] at h2
  exact lt_of_cmpf h2

end

end Cert.Spec

end
-- ==== Proof.Value.lean ====
/-
  From the same arguments the two programs' results are the same arrays.
-/
module

public import proofs.«01_k».proof.Defs
public import proofs.«01_k».proof.Proof.KerVal
public import proofs.«01_k».proof.Proof.RefRun
public import proofs.«01_k».proof.Proof.RefIter
public import proofs.«01_k».proof.Proof.PreVal

@[expose] public section

set_option maxRecDepth 16384

noncomputable section

namespace Cert.Value

open Idealize.ShloMosaic Idealize.SL.Sem Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's states, one after the other. -/
def states (n : ℕ) : Cert.ReferenceIdeal.Step.State Ideal := Cert.ReferenceIdeal.Val.iter (Cert.ReferenceIdeal.Iter.initState m' c) n

/-- The reference's arguments, as tables. -/
def argsR : Args := argsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))

theorem states_after : Cert.ReferenceIdeal.Val.After (argsR m' c) 32 (states m' c 32) :=
  Cert.ReferenceIdeal.Val.after_iter (Cert.ReferenceIdeal.Val.after_init _ _ _ _ _ _ _ _ _ _ _ _ _ _) 32 le_rfl

/-- Both programs are given the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

theorem args_eq (hs : Same m m' c) : argsR m' c = Cert.KernelIdeal.Val.argsK m c := by
  obtain ⟨h0, h1, h2, h3, h4, h5, h6, h7, h8, h9, h10, h11, h12, h13⟩ := hs
  unfold argsR
  rw [h0, h1, h2, h3, h4, h5, h6, h7, h8, h9, h10, h11, h12, h13]
  rfl

theorem finite (hp : @Cert.Pre_KernelIdeal_finite Cert.Pre_finite.Gen.facts m) (b : Fin 12) (h : Fin 4) :
    Finite ((Cert.KernelIdeal.Val.argsK m c).seq b h) ∧ ∀ t, ((Cert.KernelIdeal.Val.argsK m c).seq b h).seg t < ((128 : ℝ) : EReal) :=
  finite_of_pre _ _ _ _ _ _ _ _ _ _ _ _ _ _ (hp c) b h

/-- The result `h`. -/
theorem h_eq (hp : @Cert.Pre_KernelIdeal_finite Cert.Pre_finite.Gen.facts m) (hs : Same m m' c)
    (X : FVec Ideal Cert.KernelIdeal.S12x4x2048x192 .bf16) (hX : X = (Cert.KernelIdeal.Val.dats m 0 c).arrAt 6 Cert.KernelIdeal.cfg0.N) :
    Cert.ReferenceIdeal.Step.R_main_v114 (states m' c 32) = X := by
  funext j
  idx_vars j
  have ht : j2 = tk ⟨j2.val / 64, by omega⟩ ⟨j2.val % 64, by omega⟩ := Fin.ext (by
    show j2.val = 64 * (j2.val / 64) + j2.val % 64
    omega)
  rw [ht, Cert.KernelIdeal.Val.kernel_h m c j0 j1 _ _ j3 (finite m c hp j0 j1).2 (finite m c hp j0 j1).1 X hX, Cert.ReferenceIdeal.Val.R_apply,
    (states_after m' c).H _ j0 j1 _ j3 (by show j2.val / 64 < 32; omega), args_eq m m' c hs]

/-- The state's matrix. -/
theorem C_eq (hs : Same m m' c)
    (X : FVec Ideal Cert.KernelIdeal.S12x4x96x192 .f32) (hX : X = (Cert.KernelIdeal.Val.dats m 0 c).arrAt 7 Cert.KernelIdeal.cfg0.N) :
    (states m' c 32).main_v112_17 = X := by
  funext j
  idx_vars j
  rw [Cert.KernelIdeal.Val.kernel_C m c j0 j1 j2 j3 X hX, (states_after m' c).C j0 j1 j2 j3, args_eq m m' c hs]

/-- The state's normaliser. -/
theorem N_eq (hs : Same m m' c)
    (X : FVec Ideal Cert.KernelIdeal.S12x4x96 .f32) (hX : X = (Cert.KernelIdeal.Val.dats m 0 c).arrAt 8 Cert.KernelIdeal.cfg0.N) :
    (states m' c 32).main_v112_18 = X := by
  funext j
  idx_vars j
  rw [Cert.KernelIdeal.Val.kernel_N m c j0 j1 j2 X hX, (states_after m' c).N j0 j1 j2, args_eq m m' c hs]

end Cert.Value

end
-- ==== Proof.GateRun.lean ====
/-
  The run of the gate stage: what its body leaves in the output's buffer, the pipeline's proof data (the output's window is idle
  after the first point), the launch, and the final array.
-/
module

public import proofs.«01_k».proof.Proof.Gen.GatesIdeal.Skeleton
public import proofs.«01_k».proof.Proof.Gen.GatesIdeal.Frame
public import Idealize.ShloMosaic.Lib.Pipeline.Value
public import Idealize.ShloMosaic.Lib.Pointwise
public import Idealize.ShloMosaic.Lib.Claim

@[expose] public section

set_option maxRecDepth 16384

noncomputable section

namespace Cert.GatesIdeal.Val

open Cert.GatesIdeal Cert.GatesIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- One batch row of a gate array, as loaded. -/
def slab (x : Vec F S12x4x2048 .f32) (b : Fin 12) : Vec F S1x4x2048 .f32 := fun j => x (ix3 b (j 1) (j 2))

/-- The input gates, and the forget gates, as rows of 128 tokens. -/
def inRows (a : Fin 12 → Vec F S1x4x2048 .f32) : FVec F S768x128 .f32 :=
  k0_pay15 (k0_pay3 (a 0)) (k0_pay4 (a 1)) (k0_pay5 (a 2)) (k0_pay6 (a 3)) (k0_pay7 (a 4)) (k0_pay8 (a 5))
    (k0_pay9 (a 6)) (k0_pay10 (a 7)) (k0_pay11 (a 8)) (k0_pay12 (a 9)) (k0_pay13 (a 10)) (k0_pay14 (a 11))
def forgetRows (a : Fin 12 → Vec F S1x4x2048 .f32) : FVec F S768x128 .f32 :=
  k0_pay24 (k0_pay16 (a 0)) (k0_pay17 (a 1)) (k0_pay18 (a 2)) (k0_pay19 (a 3)) (k0_pay20 (a 4)) (k0_pay21 (a 5))
    (k0_pay22 (a 6)) (k0_pay23 (a 7)) (a 8) (a 9) (a 10) (a 11)
/-- Where a document starts, as rows of 128 tokens. -/
def startRows (d : Vec F S12x2048 .i32) : IVec S768x128 1 := k0_pay28 (F := F) (k0_pay25 d) (k0_pay26 d) (k0_pay27 d)

/-- The width of a chunk, and the lane within its chunk. -/
def width : BitVec 32 := Scalar.select (Scalar.cmpi .eq 64#32 0#32) 1#32 64#32
def lane : IVec S768x128 32 := k0_pay30 width k0_pay29 0#32

/-- The running sums of the log forget gates, the last starts, and the running maxima within a document. -/
def sums (f : FVec F S768x128 .f32) : FVec F S768x128 .f32 := k0_pay42 lane (k0_pay35 f width k0_pay29 0#32)
def lasts (st : IVec S768x128 1) : FVec F S768x128 .f32 :=
  k0_pay44 (k0_pay40 lane (k0_pay33 st width k0_pay29 0#32) (k0_pay34 width k0_pay29 0#32) (k0_pay36 st width k0_pay29 0#32)) (k0_pay41 lane)
    (k0_pay43 lane (k0_pay33 st width k0_pay29 0#32) (k0_pay34 width k0_pay29 0#32) (k0_pay36 st width k0_pay29 0#32))
def peaks (g f : FVec F S768x128 .f32) (st : IVec S768x128 1) : FVec F S768x128 .f32 :=
  k0_pay45 g (k0_pay31 width k0_pay29 0#32)
    (k0_pay40 lane (k0_pay33 st width k0_pay29 0#32) (k0_pay34 width k0_pay29 0#32) (k0_pay36 st width k0_pay29 0#32)) (k0_pay41 lane)
    (sums f)
    (k0_pay43 lane (k0_pay33 st width k0_pay29 0#32) (k0_pay34 width k0_pay29 0#32) (k0_pay36 st width k0_pay29 0#32))

/-- The log scales after the last chunk, from the six tables of the recurrence. -/
def finish (b0 b1 c0 c1 s0 s1 : FVec F S768x128 .f32) (v337 : FVec F S48x128 .f32) (v340 : IVec S48x128 1) (v342 : FVec F S48x128 .f32) :
    FVec F S48x128 .f32 :=
  k0_pay72 b0 b1 c0 c1 s0 s1 (k0_pay69 b0 c0) (k0_pay70 s0) (k0_pay71 b0 b1 c0 c1 s0 s1 (k0_pay65 b0 c0) (k0_pay66 s0)
    (k0_pay67 b0 b1 c0 c1 s0 s1 (k0_pay61 b0 c0) (k0_pay62 s0) (k0_pay63 b0 b1 c0 c1 s0 s1 (k0_pay57 b0 c0) (k0_pay58 s0)
      (k0_pay59 b0 b1 c0 c1 s0 s1 v337 v340 v342))))

/-- The log scales after the last chunk, from the tables of the scans. -/
def lastScale (sm pk ls c0 : FVec F S768x128 .f32) : FVec F S48x128 .f32 :=
  finish (k0_pay46 sm) (k0_pay47 sm) c0 (k0_pay49 pk) (k0_pay50 ls) (k0_pay51 ls) (k0_pay53 (k0_pay46 sm) c0) (k0_pay54 ls)
    (k0_pay55 ls pk (k0_pay46 sm) (k0_pay47 sm) c0)

/-- The log scales after the last chunk, from the gates. -/
def stage (a f : Fin 12 → Vec F S1x4x2048 .f32) (d : Vec F S12x2048 .i32) : FVec F S48x128 .f32 :=
  lastScale (sums (forgetRows f)) (peaks (inRows a) (forgetRows f) (startRows d)) (lasts (startRows d))
    (k0_pay46 (peaks (inRows a) (forgetRows f) (startRows d)))

/-- One batch row of the result. -/
def row (o : ℕ) (h : S48x128.Slices ![o, 0] S4x4) (M : FVec F S48x128 .f32) : FVec F S1x4 .f32 :=
  shapeCast S1x4 (multiReduction .add [0] S4 (select (cmpi .eq (iota .tc S4x4 32 [0] iota_S4x4_d0_w32) (iota .tc S4x4 32 [1] iota_S4x4_d1_w32))
    (extractStridedSlice S4x4 ![o, 0] M h) (broadcast S4x4 (Scalar.ofBits .f32 0x00000000#32))) 0x00000000#32 reduces_S4x4_S4 (.inl rfl) rfl) shapeCasts_S4_S1x4

theorem rowSlices : ∀ b : Fin 12, S48x128.Slices ![4 * b.val, 0] S4x4 := by decide

/-- The result from the log scales. -/
def scales (M : FVec F S48x128 .f32) : Vec F S12x4 .f32 := fun j => row (4 * (j 0).val) (rowSlices (j 0)) M (ix2 0 (j 1))

theorem readX (v : View sig .tc .vmem S12x4x2048 .f32) (x : Vec F S12x4x2048 .f32) (f : v.ty.Contents (Elt F)) (hf : v.read (Elt F) f = x) (b : Fin 12)
    (q : ∀ a, (![b.val, 0, 0] : Fin 3 → ℕ) a + S1x4x2048.size a ≤ S12x4x2048.size a) :
    v.readAt (Elt F) (Rect.unit (s := S12x4x2048) ![b.val, 0, 0] S1x4x2048.size q).toLoadRect f = slab x b := by
  funext j
  rw [View.readAt_apply, hf]
  refine congrArg x (?_ : (Rect.unit (s := S12x4x2048) ![b.val, 0, 0] S1x4x2048.size q).toLoadRect.idx j = _)
  funext a
  apply Fin.ext
  fin_cases a
  · show b.val + 1 * (j 0).val = b.val
    have : (j 0).val < 1 := (j 0).isLt
    omega
  · show 0 + 1 * (j 1).val = (j 1).val
    omega
  · show 0 + 1 * (j 2).val = (j 2).val
    omega

theorem readD (v : View sig .tc .vmem S12x2048 .i32) (x : Vec F S12x2048 .i32) (f : v.ty.Contents (Elt F)) (hf : v.read (Elt F) f = x)
    (q : ∀ a, (![0, 0] : Fin 2 → ℕ) a + S12x2048.size a ≤ S12x2048.size a) :
    v.readAt (Elt F) (Rect.unit (s := S12x2048) ![0, 0] S12x2048.size q).toLoadRect f = x := by
  funext j
  rw [View.readAt_apply, hf]
  refine congrArg x (?_ : (Rect.unit (s := S12x2048) ![0, 0] S12x2048.size q).toLoadRect.idx j = _)
  funext a
  apply Fin.ext
  fin_cases a
  · show 0 + 1 * (j 0).val = (j 0).val
    omega
  · show 0 + 1 * (j 1).val = (j 1).val
    omega

theorem read_row (v : View sig .tc .vmem S12x4 .f32) (f : v.ty.Contents (Elt F)) (M : FVec F S48x128 .f32) (k : ℕ)
    (h : S48x128.Slices ![4 * k, 0] S4x4) (q : ∀ a, (![k, 0] : Fin 2 → ℕ) a + S1x4.size a ≤ S12x4.size a) (l : List (View.Piece (Elt F) S12x4 .f32)) (j : S12x4.Idx) :
    v.read (Elt F) (v.writes (Elt F) f (⟨Rect.unit (s := S12x4) ![k, 0] S1x4.size q, row (4 * k) h M⟩ :: l)) j
      = if (j 0).val = k then scales M j else v.read (Elt F) (v.writes (Elt F) f l) j := by
  by_cases e : (j 0).val = k
  · rw [if_pos e]
    have em : (Rect.unit (s := S12x4) ![k, 0] S1x4.size q).emb (ix2 0 (j 1)) = j := by
      funext a
      apply Fin.ext
      rw [Rect.emb_apply]
      fin_cases a
      · show k + 1 * 0 = (j 0).val
        omega
      · show 0 + 1 * (j 1).val = (j 1).val
        omega
    refine (View.read_writes_cons_hit v f _ _ _ _ j em).trans ?_
    subst e
    rfl
  · rw [if_neg e]
    exact View.read_writes_cons_miss_of_axis v f _ _ j 0 k 1 rfl rfl rfl (by omega)

theorem ite_to {α : Type} {p : Prop} [Decidable p] {a b : α} (h : ¬p → b = a) : ite p a b = a := by
  by_cases c : p
  · exact if_pos c
  · rw [if_neg c, h c]

/-- The twelve rows' stores. -/
theorem read_rows (v : View sig .tc .vmem S12x4 .f32) (f : v.ty.Contents (Elt F)) (M : FVec F S48x128 .f32) :
    v.read (Elt F) (v.writes (Elt F) f [
      ⟨Rect.unit (s := S12x4) ![11, 0] S1x4.size inb_S12x4_S1x4_11_0, row (4 * 11) (rowSlices 11) M⟩,
      ⟨Rect.unit (s := S12x4) ![10, 0] S1x4.size inb_S12x4_S1x4_10_0, row (4 * 10) (rowSlices 10) M⟩,
      ⟨Rect.unit (s := S12x4) ![9, 0] S1x4.size inb_S12x4_S1x4_9_0, row (4 * 9) (rowSlices 9) M⟩,
      ⟨Rect.unit (s := S12x4) ![8, 0] S1x4.size inb_S12x4_S1x4_8_0, row (4 * 8) (rowSlices 8) M⟩,
      ⟨Rect.unit (s := S12x4) ![7, 0] S1x4.size inb_S12x4_S1x4_7_0, row (4 * 7) (rowSlices 7) M⟩,
      ⟨Rect.unit (s := S12x4) ![6, 0] S1x4.size inb_S12x4_S1x4_6_0, row (4 * 6) (rowSlices 6) M⟩,
      ⟨Rect.unit (s := S12x4) ![5, 0] S1x4.size inb_S12x4_S1x4_5_0, row (4 * 5) (rowSlices 5) M⟩,
      ⟨Rect.unit (s := S12x4) ![4, 0] S1x4.size inb_S12x4_S1x4_4_0, row (4 * 4) (rowSlices 4) M⟩,
      ⟨Rect.unit (s := S12x4) ![3, 0] S1x4.size inb_S12x4_S1x4_3_0, row (4 * 3) (rowSlices 3) M⟩,
      ⟨Rect.unit (s := S12x4) ![2, 0] S1x4.size inb_S12x4_S1x4_2_0, row (4 * 2) (rowSlices 2) M⟩,
      ⟨Rect.unit (s := S12x4) ![1, 0] S1x4.size inb_S12x4_S1x4_1_0, row (4 * 1) (rowSlices 1) M⟩,
      ⟨Rect.unit (s := S12x4) ![0, 0] S1x4.size inb_S12x4_S1x4_0_0, row (4 * 0) (rowSlices 0) M⟩]) = scales M := by
  funext j
  have hj : (j 0).val < 12 := (j 0).isLt
  iterate 12 refine (read_row v f M _ _ _ _ j).trans (ite_to fun c => ?_)
  omega

/-- A batch row is within a gate array. -/
theorem inSlab (b : Fin 12) : ∀ a, (![b.val, 0, 0] : Fin 3 → ℕ) a + S1x4x2048.size a ≤ S12x4x2048.size a := by
  revert b
  decide

set_option maxHeartbeats 4000000 in
/-- The body at the first point. -/
theorem run_live (c : Dev nD) (i : grid0.Coords) (hi : k0_cond1 i = 1#1) (arg1 : Memref sig .tc .vmem S12x4x2048 .f32) (harg1 : arg1.IsWhole) (arg2 : Memref sig .tc .vmem S12x4x2048 .f32) (harg2 : arg2.IsWhole)
    (arg3 : Memref sig .tc .vmem S12x2048 .i32) (harg3 : arg3.IsWhole) (arg4 : Memref sig .tc .vmem S12x4 .f32) (harg4 : arg4.IsWhole)
    (x0 x1 : Vec F S12x4x2048 .f32) (x2 : Vec F S12x2048 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ owns (c : Thread nD τ) arg4 fullShare (scales (stage (slab x0) (slab x1) x2))) -∗ K ⟨⟩))
          ⊢ wp frame (wpE (defs₀ (F := F)) Variants.none c none) E (cc0_mlstm_chunkwise i arg1 harg1 arg2 harg2 arg3 harg3 arg4 harg4) K := by
  intro E K
  simp only [cc0_mlstm_chunkwise_eq_skeleton]; unfold cc0_mlstm_chunkwise_skel
  simp only [dif_pos hi]
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H3
  ipureintro
  have e0 : (fun b : Fin 12 => arg1.view.readAt (Elt F) (Rect.unit (s := S12x4x2048) ![b.val, 0, 0] S1x4x2048.size (inSlab b)).toLoadRect (harg1.unread x0)) = slab x0 :=
    funext fun b => readX arg1.view x0 _ hf0 b (inSlab b)
  have e1 : (fun b : Fin 12 => arg2.view.readAt (Elt F) (Rect.unit (s := S12x4x2048) ![b.val, 0, 0] S1x4x2048.size (inSlab b)).toLoadRect (harg2.unread x1)) = slab x1 :=
    funext fun b => readX arg2.view x1 _ hf1 b (inSlab b)
  have e2 := readD arg3.view x2 _ hf2 inb_S12x2048_S12x2048_0_0
  rw [← e0, ← e1]
  refine Eq.trans ?_ (congrArg (fun d => scales (stage _ _ d)) e2)
  exact read_rows arg4.view f3 _

/-- The body at a later point. -/
theorem run_idle (c : Dev nD) (i : grid0.Coords) (hi : ¬ k0_cond1 i = 1#1) (arg1 : Memref sig .tc .vmem S12x4x2048 .f32) (harg1 : arg1.IsWhole) (arg2 : Memref sig .tc .vmem S12x4x2048 .f32) (harg2 : arg2.IsWhole)
    (arg3 : Memref sig .tc .vmem S12x2048 .i32) (harg3 : arg3.IsWhole) (arg4 : Memref sig .tc .vmem S12x4 .f32) (harg4 : arg4.IsWhole) :
      ∀ (E : Set ℕ) (K : PUnit → sProp 𝕄),
        K ⟨⟩ ⊢ wp frame (wpE (defs₀ (F := F)) Variants.none c none) E (cc0_mlstm_chunkwise i arg1 harg1 arg2 harg2 arg3 harg3 arg4 harg4) K := by
  intro E K
  simp only [cc0_mlstm_chunkwise_eq_skeleton]; unfold cc0_mlstm_chunkwise_skel
  simp only [dif_neg hi]
  iintro Hk
  sl_exec
  sl_step
  iexact Hk

/-! ## The pipeline's proof data -/

variable (m : (ℓ : Loc nD τ sig) → Buf (Elt F) ℓ) (ρ : Dev nD → PrngReg)

/-- The result, from the blocks of the first point. -/
def result (c : Dev nD) : Vec F S12x4 .f32 := scales (stage (slab (iblk m c 0 t0_0)) (slab (iblk m c 1 t0_0)) (iblk m c 2 t0_0))

/-- The proof data: each input's buffer at its block, the output's at the result from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = result m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body's condition holds at the first point only. -/
theorem cond_iff : ∀ t : Fin cfg0.N, k0_cond1 (grid0.coords t) = 1#1 ↔ t.val = 0 :=
  (by decide +kernel : ∀ t : Fin grid0.N, k0_cond1 (grid0.coords t) = 1#1 ↔ t.val = 0)

theorem idle_live (t : Fin cfg0.N) (h : t.val = 0) : cfg0.idle 3 (cfg0.grid.coords t) = false := by
  show (!(k0_cond1 (grid0.coords t) == 1#1)) = false
  rw [(cond_iff t).2 h]
  rfl
theorem idle_idle (t : Fin cfg0.N) (h : t.val ≠ 0) : cfg0.idle 3 (cfg0.grid.coords t) = true := by
  show (!(k0_cond1 (grid0.coords t) == 1#1)) = true
  have : ¬ k0_cond1 (grid0.coords t) = 1#1 := fun q => h ((cond_iff t).1 q)
  simp [this]

/-- After the first point the output's buffer holds the result. -/
theorem before0_3 (c : Dev nD) : ∀ n (hn : n < cfg0.N), n ≠ 0 → ∀ d, (dats m 0 c).before 3 ⟨n, hn⟩ d = result m c := by
  have N12 : cfg0.N = 12 := N_0
  intro n
  induction n with
  | zero => exact fun _ h => absurd rfl h
  | succ n ih =>
    intro hn _ d
    rw [(dats m 0 c).before_of_pos 3 ⟨n + 1, hn⟩ (Nat.succ_ne_zero n) rfl d]
    have nf : ¬ (cfg0.win 3).flush ⟨n, Nat.lt_of_succ_lt hn⟩ = true := fun q => by
      have := (flush0_3 ⟨n, Nat.lt_of_succ_lt hn⟩).1 q
      have h : n % 12 = 11 := this
      omega
    show (if (cfg0.win 3).flush ⟨n, _⟩ = true then d else (dats m 0 c).left 3 ⟨n, _⟩ d) = _
    rw [if_neg nf]
    unfold Dat.left
    rcases Nat.eq_zero_or_pos n with z | z
    · rw [idle_live ⟨n, Nat.lt_of_succ_lt hn⟩ z]
      show (dats m 0 c).kept 3 ⟨n, _⟩ d = _
      rfl
    · rw [idle_idle ⟨n, Nat.lt_of_succ_lt hn⟩ (by show n ≠ 0; omega)]
      exact ih (Nat.lt_of_succ_lt hn) (by omega) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (match cfg0.idle 3 (cfg0.grid.coords t) with
        | true =>
          match (cfg0.win 3).flush t with
          | false => iprop(∃ d, owns (c : Thread nD τ) (st0_3 t) fullShare ((dats m 0 c).before 3 t d))
          | true => owns (c : Thread nD τ) (st0_3 t) fullShare ((dats m 0 c).after 3 t)
        | false => owns (c : Thread nD τ) (st0_3 t) fullShare ((dats m 0 c).after 3 t)))

/-- The result owned is what the obligation asks of the output's buffer, at every point. -/
theorem post3 (c : Dev nD) (t : Fin cfg0.N) : owns (c : Thread nD τ) (st0_3 t) fullShare (result m c)
    ⊢ (match cfg0.idle 3 (cfg0.grid.coords t) with
        | true =>
          match (cfg0.win 3).flush t with
          | false => iprop(∃ d, owns (c : Thread nD τ) (st0_3 t) fullShare ((dats m 0 c).before 3 t d))
          | true => owns (c : Thread nD τ) (st0_3 t) fullShare ((dats m 0 c).after 3 t)
        | false => owns (c : Thread nD τ) (st0_3 t) fullShare ((dats m 0 c).after 3 t) : sProp 𝕄) := by
  by_cases z : t.val = 0
  · rw [idle_live t z, after0_3]
  · rw [idle_idle t z, after0_3]
    show _ ⊢ (match (cfg0.win 3).flush t with | false => _ | true => _ : sProp 𝕄)
    cases (cfg0.win 3).flush t
    · iintro H
      iexists result m c
      rw [before0_3 m c t.val t.isLt z]
      iexact H
    · exact .rfl

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2]
  by_cases z : t.val = 0
  · have e : t = t0_0 := Fin.ext z
    iintro ⟨HS, Ho, ⟨%d0, H0⟩, ⟨%d1, H1⟩, ⟨%d2, H2⟩, ⟨%d3, H3⟩⟩
    iapply (run_live c (grid0.coords t) ((cond_iff t).2 z) _ _ _ _ _ _ _ _ (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HS]; · iexact HS
    isplitl [Ho]; · iexact Ho
    isplitl [H0]; · iexact H0
    isplitl [H1]; · iexact H1
    isplitl [H2]; · iexact H2
    iapply (post3 m c t)
    unfold result
    rw [← e]
    iexact H3
  · have b3 := before0_3 m c t.val t.isLt z
    have b3' : ∀ d, (dats m 0 c).before 3 t d = result m c := b3
    simp only [b3']
    iintro ⟨HS, Ho, ⟨%d0, H0⟩, ⟨%d1, H1⟩, ⟨%d2, H2⟩, ⟨%d3, H3⟩⟩
    iapply (run_idle c (grid0.coords t) (fun q => z ((cond_iff t).1 q)) _ _ _ _ _ _ _ _ Set.univ _)
    isplitl [HS]; · iexact HS
    isplitl [Ho]; · iexact Ho
    isplitl [H0]; · iexact H0
    isplitl [H1]; · iexact H1
    isplitl [H2]; · iexact H2
    have p := post3 m c t
    simp only [b3'] at p
    iapply p
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-! ## The final array -/

/-- The last point writes the result back, whole. -/
theorem arr3 (c : Dev nD) : (dats m 0 c).arrAt 3 cfg0.N = result m c := by
  have N12 : cfg0.N = 12 := N_0
  have b := (dats m 0 c).read_blk_arrAt_eq_flushed 3 (fun t t' h h' n => absurd (Fin.ext (by
      have a := (flush0_3 t).1 h
      have a' := (flush0_3 t').1 h'
      have := t.isLt
      have := t'.isLt
      omega)) n) cfg0.N t0_11 t0_11.isLt ((flush0_3 t0_11).2 (by decide))
  have e : (dats m 0 c).flushed 3 t0_11 = result m c := rfl
  funext j
  have h := congrFun (b.trans e) j
  rw [View.read_apply] at h
  refine Eq.trans (congrArg ((dats m 0 c).arrAt 3 cfg0.N) ?_) h
  funext a
  apply Fin.ext
  match a with
  | ⟨0, _⟩ => show (j 0).val = 0 * 12 + 1 * (j 0).val; omega
  | ⟨1, _⟩ => show (j 1).val = 0 * 4 + 1 * (j 1).val; omega

/-- A gate array's block is the array. -/
theorem iblk_0 (c : Dev nD) (t : Fin cfg0.N) : iblk m c 0 t = m ((c.tc : Thread nD τ).loc main_arg0) := by
  funext j
  unfold iblk
  rw [View.read_apply]
  show V m c main_arg0 _ = V m c main_arg0 j
  congr 1
  funext a
  apply Fin.ext
  match a with
  | ⟨0, _⟩ => show 0 * 12 + 1 * (j 0).val = (j 0).val; omega
  | ⟨1, _⟩ => show 0 * 4 + 1 * (j 1).val = (j 1).val; omega
  | ⟨2, _⟩ => show 0 * 2048 + 1 * (j 2).val = (j 2).val; omega

theorem iblk_1 (c : Dev nD) (t : Fin cfg0.N) : iblk m c 1 t = m ((c.tc : Thread nD τ).loc main_arg1) := by
  funext j
  unfold iblk
  rw [View.read_apply]
  show V m c main_arg1 _ = V m c main_arg1 j
  congr 1
  funext a
  apply Fin.ext
  match a with
  | ⟨0, _⟩ => show 0 * 12 + 1 * (j 0).val = (j 0).val; omega
  | ⟨1, _⟩ => show 0 * 4 + 1 * (j 1).val = (j 1).val; omega
  | ⟨2, _⟩ => show 0 * 2048 + 1 * (j 2).val = (j 2).val; omega

theorem iblk_2 (c : Dev nD) (t : Fin cfg0.N) : iblk m c 2 t = m ((c.tc : Thread nD τ).loc main_arg2) := by
  funext j
  unfold iblk
  rw [View.read_apply]
  show V m c main_arg2 _ = V m c main_arg2 j
  congr 1
  funext a
  apply Fin.ext
  match a with
  | ⟨0, _⟩ => show 0 * 12 + 1 * (j 0).val = (j 0).val; omega
  | ⟨1, _⟩ => show 0 * 2048 + 1 * (j 1).val = (j 1).val; omega

theorem result_eq (c : Dev nD) : result m c = scales (stage (slab (m ((c.tc : Thread nD τ).loc main_arg0))) (slab (m ((c.tc : Thread nD τ).loc main_arg1)))
    (m ((c.tc : Thread nD τ).loc main_arg2))) := by
  unfold result
  rw [iblk_0, iblk_1, iblk_2]

/-- The run ends quiescent, its arguments kept. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main_quiescent m ρ)

/-- Every run ends with the result and the arguments kept. -/
theorem value_run : θ_run defs (onTc (τ := τ) (main (F := F))) ⟨m, fun _ => 0, ρ⟩ (fun r => ∀ c : Dev nD,
    r.2.mem ((c.tc : Thread nD τ).loc main_v0) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 3).trans (arr3 m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.GatesIdeal.Val
-- ==== Proof.GateSpec.lean ====
/-
  The gates of one chunk as mathematics: the running sum of the log forget gates, the last start of a document, the chunk's gain,
  and the log scale after `n` chunks; and the doubling scans that compute them.
-/
module

public import Idealize.ShloMosaic.PureOps.Ideal.Laws
public import Idealize.ShloMosaic.Lib.Pointwise

@[expose] public section

noncomputable section

namespace Cert.Gate

open Idealize.ShloMosaic
open scoped Classical

/-- The logarithm of the logistic function. -/
def logSigmoid (f : EReal) : EReal :=
  -(max (-f) 0 + Ideal.log1p (Ideal.exp (-FloatOps.absf (F := Ideal) (φ := .f32) f)))

/-- The running sum over a chunk. -/
def cum (x : Fin 64 → EReal) (t : Fin 64) : EReal := ∑ s : Fin 64, if s ≤ t then x s else 0

/-- What the chunk adds to the log scale: over the tokens of its last document. -/
def gain (x ig : Fin 64 → EReal) (doc : Fin 64 → BitVec 32) : EReal :=
  Finset.univ.sup fun s : Fin 64 => if doc s = doc 63 then cum x 63 - cum x s + ig s else ⊥

/-- The log scale after `n` chunks. -/
def scale (start : Fin 32 → Prop) (bl a : Fin 32 → EReal) : (n : ℕ) → n ≤ 32 → EReal
  | 0, _ => 0
  | n + 1, p => if start ⟨n, p⟩ then a ⟨n, p⟩ else max (bl ⟨n, p⟩ + scale start bl a n (by omega)) (a ⟨n, p⟩)

/-! ## The doubling scans -/

/-- One doubling of a running sum. -/
def sumStep (d : ℕ) (y : Fin 64 → EReal) (p : Fin 64) : EReal :=
  y p + if d ≤ p.val then y ⟨p.val - d, by omega⟩ else 0

/-- One doubling of a running maximum, -1 outside. -/
def maxStep (d : ℕ) (y : Fin 64 → EReal) (p : Fin 64) : EReal :=
  max (y p) (if d ≤ p.val then y ⟨p.val - d, by omega⟩ else -1)

/-- One doubling of a running maximum within segments that start at `o`. -/
def segStep (d : ℕ) (o : Fin 64 → ℕ) (y : Fin 64 → EReal) (p : Fin 64) : EReal :=
  if o p + d ≤ p.val then max (y p) (y ⟨p.val - d, by omega⟩) else y p

/-- A sum over the last `w` tokens. -/
def window (w : ℕ) (x : Fin 64 → EReal) (p : Fin 64) : EReal :=
  ∑ s : Fin 64, if s.val ≤ p.val ∧ p.val < s.val + w then x s else 0

theorem window_one (x : Fin 64 → EReal) : window 1 x = x := by
  funext p
  unfold window
  have e : ∀ s : Fin 64, (if s.val ≤ p.val ∧ p.val < s.val + 1 then x s else 0) = if p = s then x s else 0 := fun s => by
    by_cases c : p = s
    · subst c
      rw [if_pos rfl, if_pos (by omega)]
    · rw [if_neg c, if_neg (by intro q; exact c (Fin.ext (by omega)))]
  rw [Finset.sum_congr rfl fun s _ => e s, Finset.sum_ite_eq Finset.univ p x, if_pos (Finset.mem_univ _)]

theorem window_step (d : ℕ) (x : Fin 64 → EReal) : sumStep d (window d x) = window (2 * d) x := by
  funext p
  unfold sumStep window
  by_cases h : d ≤ p.val
  · rw [if_pos h, ← Finset.sum_add_distrib]
    refine Finset.sum_congr rfl fun s _ => ?_
    by_cases a : s.val ≤ p.val ∧ p.val < s.val + d
    · rw [if_pos a, if_neg (by show ¬ (s.val ≤ p.val - d ∧ _); omega), if_pos (by omega), add_zero]
    · rw [if_neg a, zero_add]
      refine if_congr ?_ rfl rfl
      show (s.val ≤ p.val - d ∧ p.val - d < s.val + d) ↔ _
      omega
  · rw [if_neg h, add_zero]
    exact Finset.sum_congr rfl fun s _ => if_congr (by omega) rfl rfl

theorem window_full (x : Fin 64 → EReal) : window 64 x = cum x := by
  funext p
  unfold window cum
  exact Finset.sum_congr rfl fun s _ => if_congr (by rw [Fin.le_def]; omega) rfl rfl

theorem sum_scan (x : Fin 64 → EReal) : sumStep 32 (sumStep 16 (sumStep 8 (sumStep 4 (sumStep 2 (sumStep 1 x))))) = cum x := by
  rw [← window_full, ← window_step 32, ← window_step 16, ← window_step 8, ← window_step 4, ← window_step 2, ← window_step 1,
    window_one]

/-- A maximum over the last `w` tokens that are at `o` or later. -/
def peak (w : ℕ) (o : Fin 64 → ℕ) (x : Fin 64 → EReal) (p : Fin 64) : EReal :=
  Finset.univ.sup fun s : Fin 64 => if s.val ≤ p.val ∧ p.val < s.val + w ∧ o p ≤ s.val then x s else ⊥

theorem max_ite (a b : Prop) [Decidable a] [Decidable b] (x : EReal) :
    max (if a then x else ⊥) (if b then x else ⊥) = if a ∨ b then x else ⊥ := by
  by_cases ha : a <;> by_cases hb : b <;> simp [ha, hb]

theorem sup_one (x : Fin 64 → EReal) (p : Fin 64) (c : Fin 64 → Prop) [DecidablePred c] (hc : ∀ s, c s ↔ p = s) :
    (Finset.univ.sup fun s : Fin 64 => if c s then x s else ⊥) = x p := by
  refine le_antisymm (Finset.sup_le fun s _ => ?_) ?_
  · by_cases h : c s
    · rw [if_pos h, (hc s).1 h]
    · rw [if_neg h]
      exact bot_le
  · refine le_trans (le_of_eq ?_) (Finset.le_sup (f := fun s => if c s then x s else ⊥) (Finset.mem_univ p))
    exact (if_pos ((hc p).2 rfl)).symm

theorem peak_one (o : Fin 64 → ℕ) (ho : ∀ p, o p ≤ p.val) (x : Fin 64 → EReal) : peak 1 o x = x := by
  funext p
  unfold peak
  refine sup_one x p (fun s => s.val ≤ p.val ∧ p.val < s.val + 1 ∧ o p ≤ s.val) fun s => ⟨fun h => Fin.ext (by omega), fun h => ?_⟩
  subst h
  have := ho p
  omega

/-- The start of a token's segment is the start of every token's between. -/
def Segments (o : Fin 64 → ℕ) : Prop := ∀ p, o p ≤ p.val ∧ ∀ q : Fin 64, o p ≤ q.val → q.val ≤ p.val → o q = o p

theorem peak_step (d : ℕ) (o : Fin 64 → ℕ) (ho : Segments o) (x : Fin 64 → EReal) :
    segStep d o (peak d o x) = peak (2 * d) o x := by
  funext p
  unfold segStep
  by_cases h : o p + d ≤ p.val
  · rw [if_pos h]
    have e := (ho p).2 ⟨p.val - d, by omega⟩ (by show o p ≤ p.val - d; omega) (by show p.val - d ≤ p.val; omega)
    unfold peak
    rw [e]
    show max _ _ = _
    rw [← Finset.sup_sup]
    refine Finset.sup_congr rfl fun s _ => ?_
    show max (ite _ _ _) (ite _ _ _) = _
    rw [max_ite]
    refine if_congr ?_ rfl rfl
    show (_ ∨ (s.val ≤ p.val - d ∧ p.val - d < s.val + d ∧ o p ≤ s.val)) ↔ _
    omega
  · rw [if_neg h]
    exact Finset.sup_congr rfl fun s _ => if_congr (by omega) rfl rfl

theorem seg_scan (o : Fin 64 → ℕ) (ho : Segments o) (x : Fin 64 → EReal) :
    segStep 32 o (segStep 16 o (segStep 8 o (segStep 4 o (segStep 2 o (segStep 1 o x))))) = peak 64 o x := by
  have e : segStep 1 o x = peak 2 o x := by
    have := peak_step 1 o ho x
    rwa [peak_one o fun p => (ho p).1] at this
  rw [e, show segStep 2 o (peak 2 o x) = peak 4 o x from peak_step 2 o ho x, show segStep 4 o (peak 4 o x) = peak 8 o x from peak_step 4 o ho x,
    show segStep 8 o (peak 8 o x) = peak 16 o x from peak_step 8 o ho x, show segStep 16 o (peak 16 o x) = peak 32 o x from peak_step 16 o ho x]
  exact peak_step 32 o ho x

theorem max_step (d : ℕ) (x : Fin 64 → EReal) (hd : 1 ≤ d) (hx : ∀ s, -1 ≤ x s) :
    maxStep d (peak d (fun _ => 0) x) = peak (2 * d) (fun _ => 0) x := by
  funext p
  unfold maxStep
  by_cases h : d ≤ p.val
  · rw [if_pos h]
    unfold peak
    show max _ _ = _
    rw [← Finset.sup_sup]
    refine Finset.sup_congr rfl fun s _ => ?_
    show max (ite _ _ _) (ite _ _ _) = _
    rw [max_ite]
    refine if_congr ?_ rfl rfl
    show ((s.val ≤ p.val ∧ p.val < s.val + d ∧ 0 ≤ s.val) ∨ (s.val ≤ p.val - d ∧ p.val - d < s.val + d ∧ 0 ≤ s.val)) ↔ (_ ∧ _ ∧ 0 ≤ s.val)
    omega
  · rw [if_neg h, max_eq_left]
    · refine Finset.sup_congr rfl fun s _ => if_congr ?_ rfl rfl
      show (_ ∧ _ ∧ 0 ≤ s.val) ↔ (_ ∧ _ ∧ 0 ≤ s.val)
      omega
    · refine le_trans (hx p) (le_trans (le_of_eq ?_) (Finset.le_sup (f := fun s : Fin 64 => if s.val ≤ p.val ∧ p.val < s.val + d ∧ 0 ≤ s.val then x s else ⊥) (Finset.mem_univ p)))
      exact (if_pos (by omega)).symm

theorem max_scan (x : Fin 64 → EReal) (hx : ∀ s, -1 ≤ x s) :
    maxStep 32 (maxStep 16 (maxStep 8 (maxStep 4 (maxStep 2 (maxStep 1 x))))) = peak 64 (fun _ => 0) x := by
  have e : maxStep 1 x = peak 2 (fun _ => 0) x := by
    have := max_step 1 x (by omega) hx
    rwa [peak_one _ fun p => Nat.zero_le _] at this
  rw [e, show maxStep 2 (peak 2 _ x) = peak 4 _ x from max_step 2 x (by omega) hx, show maxStep 4 (peak 4 _ x) = peak 8 _ x from max_step 4 x (by omega) hx,
    show maxStep 8 (peak 8 _ x) = peak 16 _ x from max_step 8 x (by omega) hx, show maxStep 16 (peak 16 _ x) = peak 32 _ x from max_step 16 x (by omega) hx]
  exact max_step 32 x (by omega) hx

/-! ## The last start -/

/-- The last start at or before a token, 0 if there is none. -/
def origin (start : Fin 64 → Prop) (p : Fin 64) : ℕ := (Finset.univ.filter fun s : Fin 64 => s ≤ p ∧ start s).sup fun s => s.val

/-- A start's position, -1 elsewhere. -/
def mark (start : Fin 64 → Prop) (p : Fin 64) : EReal := if start p then ((p.val : ℝ) : EReal) else -1

theorem le_origin (start : Fin 64 → Prop) (p s : Fin 64) (hs : s ≤ p) (h : start s) : s.val ≤ origin start p :=
  Finset.le_sup (f := fun s : Fin 64 => s.val) (Finset.mem_filter.2 ⟨Finset.mem_univ s, hs, h⟩)

theorem origin_le (start : Fin 64 → Prop) (p : Fin 64) : origin start p ≤ p.val :=
  Finset.sup_le fun s hs => (Finset.mem_filter.1 hs).2.1

theorem origin_start (start : Fin 64 → Prop) (p : Fin 64) (h : 0 < origin start p) :
    ∃ s : Fin 64, s ≤ p ∧ start s ∧ s.val = origin start p := by
  have ne : (Finset.univ.filter fun s : Fin 64 => s ≤ p ∧ start s).Nonempty := by
    rw [Finset.nonempty_iff_ne_empty]
    intro e
    unfold origin at h
    rw [e, Finset.sup_empty] at h
    exact absurd h (lt_irrefl _)
  obtain ⟨s, hs, e⟩ := Finset.exists_mem_eq_sup _ ne fun s : Fin 64 => s.val
  exact ⟨s, (Finset.mem_filter.1 hs).2.1, (Finset.mem_filter.1 hs).2.2, e.symm⟩

theorem segments_origin (start : Fin 64 → Prop) : Segments (origin start) := fun p =>
  ⟨origin_le start p, fun q h1 h2 => le_antisymm
    (Finset.sup_mono fun s hs => Finset.mem_filter.2 ⟨Finset.mem_univ s, le_trans (Finset.mem_filter.1 hs).2.1 h2, (Finset.mem_filter.1 hs).2.2⟩)
    (Finset.sup_le fun s hs => le_origin start q s (Fin.le_def.2 (le_trans (le_origin start p s (Finset.mem_filter.1 hs).2.1 (Finset.mem_filter.1 hs).2.2) h1)) (Finset.mem_filter.1 hs).2.2)⟩

theorem neg_one_le (n : ℕ) : (-1 : EReal) ≤ ((n : ℝ) : EReal) := by
  rw [show (-1 : EReal) = ((-1 : ℝ) : EReal) from rfl, EReal.coe_le_coe_iff]
  have : (0 : ℝ) ≤ (n : ℝ) := Nat.cast_nonneg n
  linarith

theorem neg_one_le_mark (start : Fin 64 → Prop) (s : Fin 64) : -1 ≤ mark start s := by
  unfold mark
  split
  · exact neg_one_le _
  · exact le_refl _

theorem mark_le_peak (start : Fin 64 → Prop) (s p : Fin 64) (h : s ≤ p) : mark start s ≤ peak 64 (fun _ => 0) (mark start) p := by
  refine le_trans (le_of_eq ?_) (Finset.le_sup (f := fun s : Fin 64 => if s.val ≤ p.val ∧ p.val < s.val + 64 ∧ 0 ≤ s.val then mark start s else ⊥) (Finset.mem_univ s))
  have := Fin.le_def.1 h
  exact (if_pos (by omega)).symm

theorem peak_mark (start : Fin 64 → Prop) (p : Fin 64) :
    max (peak 64 (fun _ => 0) (mark start) p) 0 = ((origin start p : ℝ) : EReal) := by
  refine le_antisymm (max_le (Finset.sup_le fun s _ => ?_) ?_) ?_
  · by_cases c : s.val ≤ p.val ∧ p.val < s.val + 64 ∧ 0 ≤ s.val
    · rw [if_pos c]
      unfold mark
      split
      · next h => exact EReal.coe_le_coe_iff.2 (Nat.cast_le.2 (le_origin start p s (Fin.le_def.2 c.1) h))
      · exact neg_one_le _
    · rw [if_neg c]
      exact bot_le
  · exact EReal.coe_nonneg.2 (Nat.cast_nonneg _)
  · rcases Nat.eq_zero_or_pos (origin start p) with e | e
    · rw [e]
      exact le_max_of_le_right (le_of_eq (by simp))
    · obtain ⟨s, h1, h2, h3⟩ := origin_start start p e
      refine le_max_of_le_left (le_trans (le_of_eq ?_) (mark_le_peak start s p h1))
      unfold mark
      rw [if_pos h2, h3]

theorem peak_mark_nonneg (start : Fin 64 → Prop) : 0 ≤ peak 64 (fun _ => 0) (mark start) 63 ↔ ∃ s, start s := by
  refine ⟨fun h => ?_, fun ⟨s, hs⟩ => ?_⟩
  · by_contra c
    have : peak 64 (fun _ => 0) (mark start) 63 ≤ -1 := Finset.sup_le fun s _ => by
      split
      · unfold mark
        rw [if_neg fun q => c ⟨s, q⟩]
      · exact bot_le
    have h2 := le_trans h this
    rw [show (-1 : EReal) = ((-1 : ℝ) : EReal) from rfl, ← EReal.coe_zero, EReal.coe_le_coe_iff] at h2
    linarith
  · refine le_trans ?_ (mark_le_peak start s 63 (Fin.le_def.2 (by show s.val ≤ 63; omega)))
    unfold mark
    rw [if_pos hs]
    exact EReal.coe_nonneg.2 (Nat.cast_nonneg _)

/-- The length of a token's segment, compared. -/
theorem seglen_le (d n p : ℕ) : (((d : ℝ) : EReal) ≤ ((p : ℝ) : EReal) - ((n : ℝ) : EReal)) ↔ n + d ≤ p := by
  rw [← EReal.coe_sub, EReal.coe_le_coe_iff, le_sub_iff_add_le, ← Nat.cast_add, Nat.cast_le, Nat.add_comm]

/-! ## The chunk's last document -/

theorem last_document (doc prev : Fin 64 → BitVec 32)
    (hp : ∀ s t : Fin 64, t.val = s.val + 1 → prev t = doc s) (hd : ∀ s t : Fin 64, t.val = s.val + 1 → (doc s).toInt ≤ (doc t).toInt)
    (s : Fin 64) : doc s = doc 63 ↔ origin (fun t => doc t ≠ prev t) 63 ≤ s.val := by
  have mono : ∀ n (a : Fin 64) (q : a.val + n < 64), (doc a).toInt ≤ (doc ⟨a.val + n, q⟩).toInt := by
    intro n
    induction n with
    | zero => exact fun a q => le_refl _
    | succ n ih => exact fun a q => le_trans (ih a (by omega)) (hd ⟨a.val + n, by omega⟩ ⟨a.val + (n + 1), q⟩ rfl)
  constructor
  · intro e
    by_contra c
    obtain ⟨n, h1, h2, h3⟩ := origin_start (fun t => doc t ≠ prev t) 63 (by omega)
    have hn : 0 < n.val := by omega
    let k : Fin 64 := ⟨n.val - 1, by omega⟩
    have hk : n.val = k.val + 1 := by show n.val = n.val - 1 + 1; omega
    have e1 := hp k n hk
    have l1 := hd k n hk
    have l2 := mono (k.val - s.val) s (by omega)
    have ek : (⟨s.val + (k.val - s.val), by omega⟩ : Fin 64) = k := Fin.ext (by show s.val + (k.val - s.val) = k.val; omega)
    have l3 := mono (63 - n.val) n (by omega)
    have e63 : (⟨n.val + (63 - n.val), by omega⟩ : Fin 64) = 63 := Fin.ext (by show n.val + (63 - n.val) = 63; omega)
    rw [ek] at l2
    rw [e63, ← e] at l3
    have : (doc n).toInt = (doc k).toInt := by omega
    exact h2 (by rw [e1]; exact BitVec.eq_of_toInt_eq this)
  · intro o
    have all : ∀ n (q : s.val + n < 64), doc ⟨s.val + n, q⟩ = doc s := by
      intro n
      induction n with
      | zero => exact fun q => rfl
      | succ n ih =>
        intro q
        rw [← ih (by omega)]
        by_contra c
        have e1 := hp ⟨s.val + n, by omega⟩ ⟨s.val + (n + 1), q⟩ rfl
        have := le_origin (fun t => doc t ≠ prev t) 63 ⟨s.val + (n + 1), q⟩ (Fin.le_def.2 (by show s.val + (n + 1) ≤ 63; omega)) (by show _ ≠ _; rw [e1]; exact c)
        have h2 : s.val + (n + 1) ≤ origin (fun t => doc t ≠ prev t) 63 := this
        omega
    have := all (63 - s.val) (by omega)
    rw [← this]
    congr 1
    exact Fin.ext (by show s.val + (63 - s.val) = 63; omega)

theorem gain_eq (x ig : Fin 64 → EReal) (doc : Fin 64 → BitVec 32) (o : Fin 64 → ℕ) (ho : ∀ s, doc s = doc 63 ↔ o 63 ≤ s.val) :
    cum x 63 + peak 64 o (fun s => ig s - cum x s) 63 = gain x ig doc := by
  unfold peak gain
  have mono : Monotone fun z : EReal => cum x 63 + z := fun a b h => add_le_add (le_refl _) h
  have r := Finset.comp_sup_eq_sup_comp_of_is_total (fun z : EReal => cum x 63 + z) (s := Finset.univ)
    (f := fun s : Fin 64 => if s.val ≤ (63 : Fin 64).val ∧ (63 : Fin 64).val < s.val + 64 ∧ o 63 ≤ s.val then ig s - cum x s else ⊥)
    mono (EReal.add_bot _)
  refine r.trans (Finset.sup_congr rfl fun s _ => ?_)
  show cum x 63 + (if _ then _ else _) = _
  by_cases c : doc s = doc 63
  · rw [if_pos c, if_pos ⟨by show s.val ≤ 63; omega, by show 63 < s.val + 64; omega, (ho s).1 c⟩, sub_eq_add_neg, sub_eq_add_neg, add_comm (ig s), add_assoc]
  · rw [if_neg c, if_neg fun q => c ((ho s).2 q.2.2), EReal.add_bot]

theorem scale_succ (start : Fin 32 → Prop) (bl a : Fin 32 → EReal) (n : ℕ) (p : n + 1 ≤ 32) : scale start bl a (n + 1) p
    = if start ⟨n, p⟩ then a ⟨n, p⟩ else max (bl ⟨n, p⟩ + scale start bl a n (by omega)) (a ⟨n, p⟩) := rfl

/-! ## The log scale of a head -/

/-- Token `x` of chunk `i`. -/
def tok (i : Fin 32) (x : Fin 64) : Fin 2048 := ⟨i.val * 64 + x.val, by omega⟩

/-- The document of the token before, -1 at the first. -/
def before (d : Fin 2048 → BitVec 32) (t : Fin 2048) : BitVec 32 :=
  if t.val = 0 then 4294967295#32 else d ⟨t.val - 1, by omega⟩

/-- The log scale after the last chunk, of input gates `ig`, forget gates `fg` and documents `d`. -/
def last (ig fg : Fin 2048 → EReal) (d : Fin 2048 → BitVec 32) : EReal :=
  scale (fun i => ∃ x, d (tok i x) ≠ before d (tok i x)) (fun i => cum (fun x => logSigmoid (fg (tok i x))) 63)
    (fun i => gain (fun x => logSigmoid (fg (tok i x))) (fun x => ig (tok i x)) fun x => d (tok i x)) 32 le_rfl

end Cert.Gate

end
-- ==== Proof.GateScan.lean ====
/-
  The scans of the gate stage, on one chunk: the body's tables in steps of one doubling each, read at a chunk's tokens.
-/
module

public import proofs.«01_k».proof.Proof.GateRun
public import proofs.«01_k».proof.Proof.GateSpec
public import Idealize.ShloMosaic.Lib.Pointwise
public import Idealize.ShloMosaic.PureOps.Ideal.Laws

@[expose] public section

set_option maxRecDepth 16384

noncomputable section

namespace Cert.GatesIdeal.Val

open Idealize.ShloMosaic Idealize.ShloMosaic.TcCoe Cert.GatesIdeal Cert.GatesIdeal.Gen
open Cert.Gate (logSigmoid cum sumStep maxStep segStep peak mark origin)
open scoped Classical

/-! ## The steps -/

variable {F : FTy → Type} [FloatOps F]

/-- One doubling of the running sums, of the running maxima, and of the maxima within a document. -/
def addStep (d : BitVec 32) (x : FVec F S768x128 .f32) : FVec F S768x128 .f32 :=
  addf x (select (cmpi .sge lane (broadcast S768x128 d)) (dynamicRotate 1 d none x rotates_S768x128_d1)
    (broadcast S768x128 (Scalar.ofBits .f32 0x00000000#32)))
def topStep (d : BitVec 32) (x : FVec F S768x128 .f32) : FVec F S768x128 .f32 :=
  maximumf x (select (cmpi .sge lane (broadcast S768x128 d)) (dynamicRotate 1 d none x rotates_S768x128_d1)
    (broadcast S768x128 (Scalar.ofBits .f32 0xBF800000#32)))
def docStep (d : BitVec 32) (w : BitVec 32) (len x : FVec F S768x128 .f32) : FVec F S768x128 .f32 :=
  select (cmpf .oge len (broadcast S768x128 (Scalar.ofBits .f32 w)))
    (maximumf x (dynamicRotate 1 d none x rotates_S768x128_d1)) x

/-- The log forget gates, where the starts are marked, and the distance from the document's start. -/
def logs (f : FVec F S768x128 .f32) : FVec F S768x128 .f32 :=
  subf (broadcast S768x128 (Scalar.ofBits .f32 0x00000000#32))
    (addf (maximumf (subf (broadcast S768x128 (Scalar.ofBits .f32 0x00000000#32)) f) (broadcast S768x128 (Scalar.ofBits .f32 0x00000000#32)))
      (log1p (exp (subf (broadcast S768x128 (Scalar.ofBits .f32 0x00000000#32)) (absf f)))))
def marks (st : IVec S768x128 1) : FVec F S768x128 .f32 :=
  select st (sitofp .f32 lane) (broadcast S768x128 (Scalar.ofBits .f32 0xBF800000#32))
def lens (st : IVec S768x128 1) : FVec F S768x128 .f32 :=
  subf (sitofp .f32 lane) (maximumf (lasts st) (broadcast S768x128 (Scalar.ofBits .f32 0x00000000#32)))

set_option maxHeartbeats 1000000 in
theorem sums_steps (f : FVec F S768x128 .f32) :
    sums f = addStep 32#32 (addStep 16#32 (addStep 8#32 (addStep 4#32 (addStep 2#32 (addStep 1#32 (logs f)))))) := rfl

set_option maxHeartbeats 1000000 in
theorem lasts_steps (st : IVec S768x128 1) :
    lasts (F := F) st = topStep 32#32 (topStep 16#32 (topStep 8#32 (topStep 4#32 (topStep 2#32 (topStep 1#32 (marks st)))))) := rfl

set_option maxHeartbeats 1000000 in
theorem peaks_steps (g f : FVec F S768x128 .f32) (st : IVec S768x128 1) :
    peaks g f st = docStep 32#32 0x42000000#32 (lens st) (docStep 16#32 0x41800000#32 (lens st) (docStep 8#32 0x41000000#32 (lens st)
      (docStep 4#32 0x40800000#32 (lens st) (docStep 2#32 0x40000000#32 (lens st) (docStep 1#32 0x3F800000#32 (lens st) (subf g (sums f))))))) := rfl

/-! ## One chunk of a table -/

/-- Chunk `q` of row `r`. -/
def part (x : Vec Ideal S768x128 .f32) (r : Fin 768) (q : Fin 2) : Fin 64 → EReal := fun p => x (ix2 r ⟨64 * q.val + p.val, by omega⟩)

theorem lane_at (r : Fin 768) (l : Fin 128) : lane (ix2 r l) = BitVec.ofNat 32 (l.val % 64) := by
  have e : ∀ l : Fin 128, lane (ix2 0 l) = BitVec.ofNat 32 (l.val % 64) := by decide +kernel
  exact e l

theorem sel_prop {α : Type} (u : BitVec 1) (p : Prop) [Decidable p] (h : u = 1#1 ↔ p) (x y : α) : Scalar.select u x y = if p then x else y := by
  by_cases q : p
  · rw [if_pos q, h.2 q]
    rfl
  · rw [if_neg q]
    exact if_neg fun c => q (h.1 c)

theorem sge_lane : ∀ (d p : Fin 64), IntOp.cmpi .sge (BitVec.ofNat 32 p.val) (BitVec.ofNat 32 d.val) = 1#1 ↔ d.val ≤ p.val := by
  decide +kernel

/-- Where a rotation by `d` reads, of a token with `d` tokens before it in its chunk. -/
theorem turned (x : FVec Ideal S768x128 .f32) (r : Fin 768) (q : Fin 2) (d p : Fin 64) (h : d.val ≤ p.val)
    (k : (64 * q.val + p.val + 128 - (BitVec.ofNat 32 d.val).toNat % 128) % 128 < 128) :
    x (ix2 r ⟨(64 * q.val + p.val + 128 - (BitVec.ofNat 32 d.val).toNat % 128) % 128, k⟩) = part x r q ⟨p.val - d.val, by omega⟩ := by
  have e : (BitVec.ofNat 32 d.val).toNat = d.val := by rw [BitVec.toNat_ofNat]; omega
  exact congrArg (fun l => x (ix2 r l)) (Fin.ext (by show _ % 128 = 64 * q.val + (p.val - d.val); rw [e]; omega))

/-- The lane's test. -/
theorem test_at (r : Fin 768) (q : Fin 2) (d p : Fin 64) (k : 64 * q.val + p.val < 128) :
    IntOp.cmpi .sge (lane (ix2 r ⟨64 * q.val + p.val, k⟩)) (BitVec.ofNat 32 d.val) = 1#1 ↔ d.val ≤ p.val := by
  rw [lane_at]
  have e : (64 * q.val + p.val) % 64 = p.val := by omega
  show IntOp.cmpi .sge (BitVec.ofNat 32 ((64 * q.val + p.val) % 64)) _ = 1#1 ↔ _
  rw [e]
  exact sge_lane d p

theorem part_addStep (d : Fin 64) (x : FVec Ideal S768x128 .f32) (r : Fin 768) (q : Fin 2) :
    part (addStep (BitVec.ofNat 32 d.val) x) r q = sumStep d.val (part x r q) := by
  funext p
  unfold sumStep
  show addStep (BitVec.ofNat 32 d.val) x (ix2 r ⟨64 * q.val + p.val, _⟩) = _
  unfold addStep
  pointwise
  refine congrArg₂ (· + ·) rfl ((sel_prop _ _ (test_at r q d p _) _ _).trans ?_)
  by_cases h : d.val ≤ p.val
  · rw [if_pos h, if_pos h]
    exact turned x r q d p h _
  · rw [if_neg h, if_neg h]

theorem minus_one : Ideal.ofBits FTy.f32 3212836864#32 = (-1 : EReal) := by
  simp [Ideal.ofBits, Ideal.ieee, -EReal.coe_mul]
  norm_num

theorem part_topStep (d : Fin 64) (x : FVec Ideal S768x128 .f32) (r : Fin 768) (q : Fin 2) :
    part (topStep (BitVec.ofNat 32 d.val) x) r q = maxStep d.val (part x r q) := by
  funext p
  unfold maxStep
  show topStep (BitVec.ofNat 32 d.val) x (ix2 r ⟨64 * q.val + p.val, _⟩) = _
  unfold topStep
  pointwise
  refine congrArg₂ max rfl ((sel_prop _ _ (test_at r q d p _) _ _).trans ?_)
  by_cases h : d.val ≤ p.val
  · rw [if_pos h, if_pos h]
    exact turned x r q d p h _
  · rw [if_neg h, if_neg h]
    exact minus_one

theorem part_logs (f : FVec Ideal S768x128 .f32) (r : Fin 768) (q : Fin 2) : part (logs f) r q = fun p => logSigmoid (part f r q p) := by
  funext p
  unfold part logs logSigmoid
  pointwise
  simp only [zero_sub]

theorem lane_value (r : Fin 768) (q : Fin 2) (p : Fin 64) (k : 64 * q.val + p.val < 128) :
    FloatOps.sitofp (F := Ideal) FTy.f32 (lane (ix2 r ⟨64 * q.val + p.val, k⟩)) = ((p.val : ℝ) : EReal) := by
  rw [lane_at]
  have e : (64 * q.val + p.val) % 64 = p.val := by omega
  have t : ∀ p : Fin 64, (BitVec.ofNat 32 p.val).toInt = p.val := by decide +kernel
  show ((((BitVec.ofNat 32 ((64 * q.val + p.val) % 64)).toInt : ℤ) : ℝ) : EReal) = _
  rw [e, t]
  rfl

theorem part_marks (st : IVec S768x128 1) (r : Fin 768) (q : Fin 2) :
    part (marks (F := Ideal) st) r q = mark fun p => st (ix2 r ⟨64 * q.val + p.val, by omega⟩) = 1#1 := by
  funext p
  unfold part marks mark
  pointwise
  exact (@sel_prop _ _ _ (Classical.propDecidable _) Iff.rfl _ _).trans (by rw [lane_value, minus_one])

/-- The running sums of a chunk. -/
theorem part_sums (f : FVec Ideal S768x128 .f32) (r : Fin 768) (q : Fin 2) :
    part (sums f) r q = cum fun p => logSigmoid (part f r q p) := by
  rw [sums_steps, ← part_logs, ← Cert.Gate.sum_scan]
  exact (part_addStep 32 _ r q).trans (congrArg _ ((part_addStep 16 _ r q).trans (congrArg _ ((part_addStep 8 _ r q).trans
    (congrArg _ ((part_addStep 4 _ r q).trans (congrArg _ ((part_addStep 2 _ r q).trans (congrArg _ (part_addStep 1 _ r q))))))))))

/-- Where the document of a token starts. -/
theorem part_lasts (st : IVec S768x128 1) (r : Fin 768) (q : Fin 2) :
    part (lasts (F := Ideal) st) r q = peak 64 (fun _ => 0) (mark fun p => st (ix2 r ⟨64 * q.val + p.val, by omega⟩) = 1#1) := by
  rw [lasts_steps, ← Cert.Gate.max_scan _ (Cert.Gate.neg_one_le_mark _), ← part_marks]
  exact (part_topStep 32 _ r q).trans (congrArg _ ((part_topStep 16 _ r q).trans (congrArg _ ((part_topStep 8 _ r q).trans
    (congrArg _ ((part_topStep 4 _ r q).trans (congrArg _ ((part_topStep 2 _ r q).trans (congrArg _ (part_topStep 1 _ r q))))))))))

theorem part_lens (st : IVec S768x128 1) (r : Fin 768) (q : Fin 2) (p : Fin 64) :
    part (lens (F := Ideal) st) r q p = ((p.val : ℝ) : EReal)
      - ((origin (fun p : Fin 64 => st (ix2 r ⟨64 * q.val + p.val, by omega⟩) = 1#1) p : ℝ) : EReal) := by
  rw [← Cert.Gate.peak_mark, ← part_lasts]
  unfold part lens
  pointwise
  rw [lane_value]

theorem part_docStep (d : Fin 64) (w : BitVec 32) (hw : Ideal.ofBits FTy.f32 w = ((d.val : ℝ) : EReal)) (st : IVec S768x128 1) (x : FVec Ideal S768x128 .f32)
    (r : Fin 768) (q : Fin 2) : part (docStep (BitVec.ofNat 32 d.val) w (lens st) x) r q
      = segStep d.val (origin fun p : Fin 64 => st (ix2 r ⟨64 * q.val + p.val, by omega⟩) = 1#1) (part x r q) := by
  funext p
  have c := (Cert.Gate.seglen_le d.val (origin (fun p : Fin 64 => st (ix2 r ⟨64 * q.val + p.val, by omega⟩) = 1#1) p) p.val)
  rw [← part_lens, ← hw] at c
  unfold segStep
  show docStep (BitVec.ofNat 32 d.val) w (lens st) x (ix2 r ⟨64 * q.val + p.val, _⟩) = _
  unfold docStep
  pointwise
  by_cases h : origin (fun p : Fin 64 => st (ix2 r ⟨64 * q.val + p.val, by omega⟩) = 1#1) p + d.val ≤ p.val
  · rw [if_pos h]
    refine (if_pos (c.2 h)).trans (congrArg₂ max rfl ?_)
    exact turned x r q d p (by omega) _
  · rw [if_neg h]
    exact if_neg fun q => h (c.1 q)

theorem word_1 : Ideal.ofBits FTy.f32 0x3F800000#32 = (((1 : Fin 64).val : ℝ) : EReal) := by
  simp [Ideal.ofBits, Ideal.ieee, -EReal.coe_mul]
  norm_num
theorem word_2 : Ideal.ofBits FTy.f32 0x40000000#32 = (((2 : Fin 64).val : ℝ) : EReal) := by
  simp [Ideal.ofBits, Ideal.ieee, -EReal.coe_mul]
  norm_num
theorem word_4 : Ideal.ofBits FTy.f32 0x40800000#32 = (((4 : Fin 64).val : ℝ) : EReal) := by
  simp [Ideal.ofBits, Ideal.ieee, -EReal.coe_mul]
  norm_num
theorem word_8 : Ideal.ofBits FTy.f32 0x41000000#32 = (((8 : Fin 64).val : ℝ) : EReal) := by
  simp [Ideal.ofBits, Ideal.ieee, -EReal.coe_mul]
  norm_num
theorem word_16 : Ideal.ofBits FTy.f32 0x41800000#32 = (((16 : Fin 64).val : ℝ) : EReal) := by
  simp [Ideal.ofBits, Ideal.ieee, -EReal.coe_mul]
  norm_num
theorem word_32 : Ideal.ofBits FTy.f32 0x42000000#32 = (((32 : Fin 64).val : ℝ) : EReal) := by
  simp [Ideal.ofBits, Ideal.ieee, -EReal.coe_mul]
  norm_num

/-- The running maxima within a document. -/
theorem part_peaks (g f : FVec Ideal S768x128 .f32) (st : IVec S768x128 1) (r : Fin 768) (q : Fin 2) :
    part (peaks g f st) r q = peak 64 (origin fun p : Fin 64 => st (ix2 r ⟨64 * q.val + p.val, by omega⟩) = 1#1)
      fun s => part g r q s - cum (fun p => logSigmoid (part f r q p)) s := by
  have e : part (subf g (sums f)) r q = fun s => part g r q s - cum (fun p => logSigmoid (part f r q p)) s := by
    rw [← part_sums]
    rfl
  rw [peaks_steps, ← Cert.Gate.seg_scan _ (Cert.Gate.segments_origin _), ← e]
  exact (part_docStep 32 _ word_32 st _ r q).trans (congrArg _ ((part_docStep 16 _ word_16 st _ r q).trans (congrArg _ ((part_docStep 8 _ word_8 st _ r q).trans
    (congrArg _ ((part_docStep 4 _ word_4 st _ r q).trans (congrArg _ ((part_docStep 2 _ word_2 st _ r q).trans (congrArg _ (part_docStep 1 _ word_1 st _ r q))))))))))

end Cert.GatesIdeal.Val

end
-- ==== Proof.GateVal.lean ====
/-
  What the gate stage computes: the layout of its tables, the recurrence over the chunks, and the result as the gate specification
  (GateSpec.lean) names it.
-/
module

public import proofs.«01_k».proof.Proof.GateScan
public import Idealize.ShloMosaic.Lib.Pipeline.Value

@[expose] public section

set_option maxRecDepth 16384

noncomputable section

namespace Cert.GatesIdeal.Val

open Idealize.ShloMosaic Idealize.ShloMosaic.TcCoe Cert.GatesIdeal Cert.GatesIdeal.Gen
open Cert.Gate (logSigmoid cum peak mark origin gain scale tok before)
open scoped Classical

/-! ## The layout -/

variable {F : FTy → Type} [FloatOps F]

theorem laneSlices : ∀ j : Fin 16, S48x2048.Slices ![0, 128 * j.val] S48x128 := by decide

/-- Twelve batch rows stacked, and cut into sixteen blocks of 128 tokens. -/
def stack (a : Fin 12 → FVec F S4x2048 .f32) : FVec F S48x2048 .f32 :=
  concatenate S48x2048 0 (List.ofFn fun b : Fin 12 => (⟨S4x2048, a b⟩ : (s : Shape) × (s.Idx → F .f32))) concatenates_S4x2048_S4x2048_S4x2048_S4x2048_S4x2048_S4x2048_S4x2048_S4x2048_S4x2048_S4x2048_S4x2048_S4x2048_S48x2048_d0
def tile (a : Fin 12 → FVec F S4x2048 .f32) : FVec F S768x128 .f32 :=
  concatenate S768x128 0 (List.ofFn fun j : Fin 16 => (⟨S48x128, extractStridedSlice S48x128 ![0, 128 * j.val] (stack a) (laneSlices j)⟩ : (s : Shape) × (s.Idx → F .f32)))
    concatenates_S48x128_S48x128_S48x128_S48x128_S48x128_S48x128_S48x128_S48x128_S48x128_S48x128_S48x128_S48x128_S48x128_S48x128_S48x128_S48x128_S768x128_d0

/-- Row `h` of batch `b` within a block, and of the block `j`. -/
def head (b : Fin 12) (h : Fin 4) : Fin 48 := ⟨4 * b.val + h.val, by omega⟩
def line (j : Fin 16) (r : Fin 48) : Fin 768 := ⟨48 * j.val + r.val, by omega⟩

theorem stack_at (a : Fin 12 → FVec F S4x2048 .f32) (b : Fin 12) (h : Fin 4) (t : Fin 2048) : stack a (ix2 (head b h) t) = a b (ix2 h t) := by
  refine concatenate_ofFn_apply (t := S48x2048) (s₁ := S4x2048) 0 a _ rfl 4 rfl _ b ?_ _ ?_ ?_
  · show (4 * b.val + h.val) / 4 = b.val
    omega
  · show h.val = (4 * b.val + h.val) % 4
    omega
  · intro c hc
    fin_cases c
    · exact absurd rfl hc
    · rfl

theorem tile_stack (a : Fin 12 → FVec F S4x2048 .f32) (j : Fin 16) (r : Fin 48) (l : Fin 128) :
    tile a (ix2 (line j r) l) = stack a (ix2 r ⟨128 * j.val + l.val, by omega⟩) := by
  have e := concatenate_ofFn_apply (t := S768x128) (s₁ := S48x128) 0 (fun j : Fin 16 => extractStridedSlice S48x128 ![0, 128 * j.val] (stack a) (laneSlices j))
    concatenates_S48x128_S48x128_S48x128_S48x128_S48x128_S48x128_S48x128_S48x128_S48x128_S48x128_S48x128_S48x128_S48x128_S48x128_S48x128_S48x128_S768x128_d0 rfl 48 rfl (ix2 (line j r) l) j
    (by show (48 * j.val + r.val) / 48 = j.val; omega) (ix2 r l) (by show r.val = (48 * j.val + r.val) % 48; omega)
    (fun c hc => by
      fin_cases c
      · exact absurd rfl hc
      · rfl)
  refine Eq.trans e ?_
  generalize stack a = y
  pointwise

theorem tile_at (a : Fin 12 → FVec F S4x2048 .f32) (j : Fin 16) (b : Fin 12) (h : Fin 4) (l : Fin 128) :
    tile a (ix2 (line j (head b h)) l) = a b (ix2 h ⟨128 * j.val + l.val, by omega⟩) :=
  (tile_stack a j (head b h) l).trans (stack_at a b h _)

theorem inRows_tile (a : Fin 12 → Vec F S1x4x2048 .f32) : inRows a = tile fun b => shapeCast S4x2048 (a b) shapeCasts_S1x4x2048_S4x2048 := rfl
theorem forgetRows_tile (a : Fin 12 → Vec F S1x4x2048 .f32) : forgetRows a = tile fun b => shapeCast S4x2048 (a b) shapeCasts_S1x4x2048_S4x2048 := rfl

theorem docSlices : ∀ b : Fin 12, S12x2048.Slices ![b.val, 0] S1x2048 := by decide

theorem startRows_tile (d : Vec F S12x2048 .i32) : startRows d = cmpf .ogt (tile fun b => broadcastTo S4x2048
    (shapeCast S1x2048 (extractStridedSlice S1x2048 ![b.val, 0] (k0_pay25 d) (docSlices b)) shapeCasts_S1x2048_S1x2048) broadcasts_S1x2048_S4x2048)
    (broadcast S768x128 (Scalar.ofBits (F := F) .f32 0x3F000000#32)) := rfl

theorem inRows_at (x : Vec Ideal S12x4x2048 .f32) (i : Fin 16) (q : Fin 2) (b : Fin 12) (h : Fin 4) (p : Fin 64) :
    part (inRows (slab x)) (line i (head b h)) q p = x (ix3 b h (tok ⟨2 * i.val + q.val, by omega⟩ p)) := by
  unfold part
  rw [inRows_tile, tile_at]
  pointwise
  exact congrArg (fun t => x (ix3 b h t)) (Fin.ext (by show 128 * i.val + (64 * q.val + p.val) = (2 * i.val + q.val) * 64 + p.val; omega))

theorem forgetRows_at (x : Vec Ideal S12x4x2048 .f32) (i : Fin 16) (q : Fin 2) (b : Fin 12) (h : Fin 4) (p : Fin 64) :
    part (forgetRows (slab x)) (line i (head b h)) q p = x (ix3 b h (tok ⟨2 * i.val + q.val, by omega⟩ p)) := by
  rw [forgetRows_tile, ← inRows_tile, inRows_at]

theorem half_word : Ideal.ofBits FTy.f32 0x3F000000#32 = (((1 / 2 : ℝ)) : EReal) := by
  simp [Ideal.ofBits, Ideal.ieee, -EReal.coe_mul]
  norm_num

theorem start_at (d : Vec Ideal S12x2048 .i32) (b : Fin 12) (t : Fin 2048) : k0_pay25 (F := Ideal) d (ix2 b t)
    = if d (ix2 b t) ≠ before (fun t => d (ix2 b t)) t then 1 else 0 := by
  have ne : ∀ u v : BitVec 32, IntOp.cmpi .ne u v = 1#1 ↔ u ≠ v := fun u v => by
    show BitVec.ofBool (u != v) = 1#1 ↔ _
    cases q : (u != v) <;> simp_all
  have eq : ∀ t : Fin 2048, IntOp.cmpi .eq (BitVec.ofNat 32 t.val) 0#32 = 1#1 ↔ t.val = 0 := by decide +kernel
  unfold k0_pay25
  pointwise
  refine sel_prop _ _ ((ne _ _).trans (not_congr (Eq.congr rfl ?_))) _ _
  refine (sel_prop _ _ (eq t) _ _).trans ?_
  unfold before
  by_cases z : t.val = 0
  · rw [if_pos z, if_pos z]
  · rw [if_neg z, if_neg z]
    exact congrArg (fun t => d (ix2 b t)) (Fin.ext (by show (t.val + 2048 - 1) % 2048 = t.val - 1; omega))

/-- Where a document starts. -/
theorem startRows_at (d : Vec Ideal S12x2048 .i32) (i : Fin 16) (q : Fin 2) (b : Fin 12) (h : Fin 4) (p : Fin 64) :
    startRows (F := Ideal) d (ix2 (line i (head b h)) ⟨64 * q.val + p.val, by omega⟩) = 1#1
      ↔ d (ix2 b (tok ⟨2 * i.val + q.val, by omega⟩ p)) ≠ before (fun t => d (ix2 b t)) (tok ⟨2 * i.val + q.val, by omega⟩ p) := by
  have e : (⟨128 * i.val + (64 * q.val + p.val), by omega⟩ : Fin 2048) = tok ⟨2 * i.val + q.val, by omega⟩ p :=
    Fin.ext (by show 128 * i.val + (64 * q.val + p.val) = (2 * i.val + q.val) * 64 + p.val; omega)
  have s := start_at d b (tok ⟨2 * i.val + q.val, by omega⟩ p)
  rw [startRows_tile]
  show Ideal.cmp .ogt (tile (F := Ideal) _ (ix2 (line i (head b h)) ⟨64 * q.val + p.val, _⟩)) (Ideal.ofBits FTy.f32 0x3F000000#32) = 1#1 ↔ _
  rw [tile_at, half_word]
  generalize k0_pay25 (F := Ideal) d = y at s ⊢
  pointwise
  rw [e, s]
  have ob : ∀ (p : Prop) [Decidable p], BitVec.ofBool (decide p) = 1#1 ↔ p := fun p _ => by by_cases h : p <;> simp [h]
  rw [ob]
  by_cases c : d (ix2 b (tok ⟨2 * i.val + q.val, by omega⟩ p)) ≠ before (fun t => d (ix2 b t)) (tok ⟨2 * i.val + q.val, by omega⟩ p)
  · rw [if_pos c, ← EReal.coe_one, EReal.coe_lt_coe_iff]
    exact iff_of_true (by norm_num) c
  · rw [if_neg c, ← EReal.coe_zero, EReal.coe_lt_coe_iff]
    exact iff_of_false (by norm_num) c

/-! ## The recurrence -/

/-- One chunk of the recurrence. -/
def turn (b c s : FVec F S768x128 .f32) (o : ℕ) (h : S768x128.Slices ![o, 0] S48x128) (m : FVec F S48x128 .f32) : FVec F S48x128 .f32 :=
  select (cmpf .oge (extractStridedSlice S48x128 ![o, 0] s h) (broadcast S48x128 (Scalar.ofBits .f32 0x00000000#32)))
    (addf (extractStridedSlice S48x128 ![o, 0] b h) (extractStridedSlice S48x128 ![o, 0] c h))
    (maximumf (addf (extractStridedSlice S48x128 ![o, 0] b h) m) (addf (extractStridedSlice S48x128 ![o, 0] b h) (extractStridedSlice S48x128 ![o, 0] c h)))

theorem lineSlices : ∀ j : Fin 16, S768x128.Slices ![48 * j.val, 0] S48x128 := by decide

/-- The log scales after `2 n` chunks. -/
def turns (b0 b1 c0 c1 s0 s1 : FVec F S768x128 .f32) : (n : ℕ) → n ≤ 16 → FVec F S48x128 .f32
  | 0, _ => broadcast S48x128 (Scalar.ofBits .f32 0x00000000#32)
  | n + 1, p => turn b1 c1 s1 (48 * n) (lineSlices ⟨n, p⟩) (turn b0 c0 s0 (48 * n) (lineSlices ⟨n, p⟩) (turns b0 b1 c0 c1 s0 s1 n (by omega)))

set_option maxHeartbeats 4000000 in
theorem lastScale_turns (sm pk ls c0 : FVec F S768x128 .f32) :
    lastScale sm pk ls c0 = turns (k0_pay46 sm) (k0_pay47 sm) c0 (k0_pay49 pk) (k0_pay50 ls) (k0_pay51 ls) 16 le_rfl := rfl

theorem turn_at (b c s : FVec Ideal S768x128 .f32) (j : Fin 16) (m : FVec Ideal S48x128 .f32) (r : Fin 48) (l : Fin 128) :
    turn b c s (48 * j.val) (lineSlices j) m (ix2 r l) = if 0 ≤ s (ix2 (line j r) l) then b (ix2 (line j r) l) + c (ix2 (line j r) l)
      else max (b (ix2 (line j r) l) + m (ix2 r l)) (b (ix2 (line j r) l) + c (ix2 (line j r) l)) := by
  unfold turn
  pointwise
  rfl

theorem scales_at (M : FVec Ideal S48x128 .f32) (b : Fin 12) (h : Fin 4) : scales M (ix2 b h) = M (ix2 (head b h) ⟨h.val, by omega⟩) := by
  have eq : ∀ x h : Fin 4, IntOp.cmpi .eq (BitVec.ofNat 32 x.val) (BitVec.ofNat 32 h.val) = 1#1 ↔ h = x := by decide
  unfold scales row
  pointwise
  refine (Finset.sum_congr rfl fun x _ => sel_prop _ _ (eq x h) _ _).trans ?_
  rw [Finset.sum_ite_eq Finset.univ h, if_pos (Finset.mem_univ h)]
  rfl

theorem at_63 (x : FVec Ideal S768x128 .f32) (r : Fin 768) (l : Fin 128) : k0_pay46 x (ix2 r l) = part x r 0 63 := by
  unfold k0_pay46
  pointwise
  rfl

theorem at_127 (x : FVec Ideal S768x128 .f32) (r : Fin 768) (l : Fin 128) : k0_pay47 x (ix2 r l) = part x r 1 63 := by
  unfold k0_pay47
  pointwise
  rfl

theorem turns_at (b0 b1 c0 c1 s0 s1 : FVec Ideal S768x128 .f32) (r : Fin 48) (start : Fin 32 → Prop) (bl a : Fin 32 → EReal)
    (h0 : ∀ (j : Fin 16) (l : Fin 128), b0 (ix2 (line j r) l) = bl ⟨2 * j.val, by omega⟩ ∧ b0 (ix2 (line j r) l) + c0 (ix2 (line j r) l) = a ⟨2 * j.val, by omega⟩
      ∧ (0 ≤ s0 (ix2 (line j r) l) ↔ start ⟨2 * j.val, by omega⟩))
    (h1 : ∀ (j : Fin 16) (l : Fin 128), b1 (ix2 (line j r) l) = bl ⟨2 * j.val + 1, by omega⟩ ∧ b1 (ix2 (line j r) l) + c1 (ix2 (line j r) l) = a ⟨2 * j.val + 1, by omega⟩
      ∧ (0 ≤ s1 (ix2 (line j r) l) ↔ start ⟨2 * j.val + 1, by omega⟩))
    (n : ℕ) (hn : n ≤ 16) (l : Fin 128) : turns b0 b1 c0 c1 s0 s1 n hn (ix2 r l) = scale start bl a (2 * n) (by omega) := by
  induction n with
  | zero =>
    show Ideal.ofBits FTy.f32 0#32 = (0 : EReal)
    simp [Ideal.ofBits, Ideal.ieee]
  | succ n ih =>
    obtain ⟨e0, g0, t0⟩ := h0 ⟨n, hn⟩ l
    obtain ⟨e1, g1, t1⟩ := h1 ⟨n, hn⟩ l
    show turn b1 c1 s1 (48 * n) _ (turn b0 c0 s0 (48 * n) _ (turns b0 b1 c0 c1 s0 s1 n _)) (ix2 r l) = scale start bl a (2 * n + 1 + 1) _
    refine (turn_at b1 c1 s1 ⟨n, hn⟩ _ r l).trans ?_
    rw [Cert.Gate.scale_succ]
    refine (ite_congr (propext t1) (fun _ => g1) fun _ => ?_)
    rw [g1, e1]
    refine congrArg (fun z => max (bl ⟨2 * n + 1, _⟩ + z) (a ⟨2 * n + 1, _⟩)) ?_
    refine (turn_at b0 c0 s0 ⟨n, hn⟩ _ r l).trans ?_
    rw [Cert.Gate.scale_succ]
    refine (ite_congr (propext t0) (fun _ => g0) fun _ => ?_)
    rw [g0, e0, ih (by omega)]

/-! ## The result -/

variable (x f : Vec Ideal S12x4x2048 .f32) (d : Vec Ideal S12x2048 .i32) (b : Fin 12) (h : Fin 4)

/-- The documents of a batch row do not go down within a chunk. -/
def Ordered : Prop := ∀ (i : Fin 32) (s t : Fin 64), t.val = s.val + 1 → (d (ix2 b (tok i s))).toInt ≤ (d (ix2 b (tok i t))).toInt

/-- Within a chunk, the token before is the chunk's token before. -/
theorem before_next (i : Fin 32) (s t : Fin 64) (e : t.val = s.val + 1) : before (fun t => d (ix2 b t)) (tok i t) = d (ix2 b (tok i s)) := by
  have ht : (tok i t).val = i.val * 64 + t.val := rfl
  have hs : (tok i s).val = i.val * 64 + s.val := rfl
  have hk : (⟨(tok i t).val - 1, by omega⟩ : Fin 2048) = tok i s := Fin.ext (by show (tok i t).val - 1 = (tok i s).val; omega)
  unfold before
  rw [if_neg (by omega), hk]

/-- A chunk's gain, where its last token's document is told by the segment's origin. -/
theorem gain_at (hd : Ordered d b) (i : Fin 32) :
    cum (fun p => logSigmoid (f (ix3 b h (tok i p)))) 63
      + Cert.Gate.peak 64 (Cert.Gate.origin fun p => d (ix2 b (tok i p)) ≠ before (fun t => d (ix2 b t)) (tok i p))
          (fun p => x (ix3 b h (tok i p)) - cum (fun p => logSigmoid (f (ix3 b h (tok i p)))) p) 63
      = gain (fun p => logSigmoid (f (ix3 b h (tok i p)))) (fun p => x (ix3 b h (tok i p))) (fun p => d (ix2 b (tok i p))) :=
  Cert.Gate.gain_eq _ _ _ _ (Cert.Gate.last_document (fun p => d (ix2 b (tok i p))) (fun p => before (fun t => d (ix2 b t)) (tok i p))
    (before_next d b i) (hd i))

/-- A chunk's start, its decay and its gain, from the tables. -/
theorem chunk_at (hd : Ordered d b) (j : Fin 16) (q : Fin 2) :
    part (sums (forgetRows (slab f))) (line j (head b h)) q 63 = cum (fun p => logSigmoid (f (ix3 b h (tok ⟨2 * j.val + q.val, by omega⟩ p)))) 63
    ∧ part (sums (forgetRows (slab f))) (line j (head b h)) q 63 + part (peaks (inRows (slab x)) (forgetRows (slab f)) (startRows (F := Ideal) d)) (line j (head b h)) q 63
      = gain (fun p => logSigmoid (f (ix3 b h (tok ⟨2 * j.val + q.val, by omega⟩ p)))) (fun p => x (ix3 b h (tok ⟨2 * j.val + q.val, by omega⟩ p)))
          (fun p => d (ix2 b (tok ⟨2 * j.val + q.val, by omega⟩ p)))
    ∧ (0 ≤ part (lasts (F := Ideal) (startRows (F := Ideal) d)) (line j (head b h)) q 63
        ↔ ∃ p, d (ix2 b (tok ⟨2 * j.val + q.val, by omega⟩ p)) ≠ before (fun t => d (ix2 b t)) (tok ⟨2 * j.val + q.val, by omega⟩ p)) := by
  have es : (fun p : Fin 64 => startRows (F := Ideal) d (ix2 (line j (head b h)) ⟨64 * q.val + p.val, by omega⟩) = 1#1)
      = fun p => d (ix2 b (tok ⟨2 * j.val + q.val, by omega⟩ p)) ≠ before (fun t => d (ix2 b t)) (tok ⟨2 * j.val + q.val, by omega⟩ p) :=
    funext fun p => propext (startRows_at d j q b h p)
  have ef : part (forgetRows (slab f)) (line j (head b h)) q = fun p => f (ix3 b h (tok ⟨2 * j.val + q.val, by omega⟩ p)) :=
    funext fun p => forgetRows_at f j q b h p
  have ex : part (inRows (slab x)) (line j (head b h)) q = fun p => x (ix3 b h (tok ⟨2 * j.val + q.val, by omega⟩ p)) :=
    funext fun p => inRows_at x j q b h p
  have g := gain_at x f d b h hd ⟨2 * j.val + q.val, by omega⟩
  refine ⟨by rw [part_sums, ef], ?_, ?_⟩
  · rw [part_sums, part_peaks, es, ef, ex]
    exact g
  · rw [part_lasts, es]
    exact Cert.Gate.peak_mark_nonneg _

/-- The stage's result. -/
theorem stage_at (hd : Ordered d b) : scales (stage (slab x) (slab f) d) (ix2 b h)
    = Cert.Gate.last (fun t => x (ix3 b h t)) (fun t => f (ix3 b h t)) fun t => d (ix2 b t) := by
  rw [scales_at]
  unfold stage Cert.Gate.last
  rw [lastScale_turns]
  refine turns_at _ _ _ _ _ _ (head b h) _ _ _ (fun j l => ?_) (fun j l => ?_) 16 le_rfl ⟨h.val, by omega⟩
  · have k := chunk_at x f d b h hd j 0
    rw [← at_63 _ _ l, ← at_63 _ _ l, ← at_63 _ _ l] at k
    exact k
  · have k := chunk_at x f d b h hd j 1
    rw [← at_127 _ _ l, ← at_127 _ _ l, ← at_127 _ _ l] at k
    exact k

end Cert.GatesIdeal.Val

end
-- ==== Proof.GateRefRun.lean ====
/-
  The run of the reference for the last log scale, stated over the step of Gen/LastLogScaleIdeal/Step.lean: at a valuation that
  holds a state every value of one trip is that module's, so one application of the run's `STEP` keeps holding with `step`
  applied; the run's result is the field of `step` iterated from `init`. (The generated module of this purpose, with the
  contents before the loop closed differently.)
-/
module

public import proofs.«01_k».proof.Proof.Gen.LastLogScaleIdeal.Run
public import proofs.«01_k».proof.Proof.Gen.LastLogScaleIdeal.Step

@[expose] public section

noncomputable section

namespace Cert.LastLogScaleIdeal.Iter

open Idealize.ShloMosaic Idealize.ShloMosaic.TcCoe Idealize.SL.Sem Idealize.ShloMosaic.StableHlo
open Cert.LastLogScaleIdeal Cert.LastLogScaleIdeal.Gen Cert.LastLogScaleIdeal.Value
open Cert.LastLogScaleIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v34_4) = s.main_v34_4
  f_0 : V0 (Proc.devRef .tc main_v34_0) = s.main_v34_0
  f_1 : V0 (Proc.devRef .tc main_v34_1) = s.main_v34_1
  f_2 : V0 (Proc.devRef .tc main_v34_2) = s.main_v34_2
  n_3 : V0 (Proc.devRef .tc main_v34_3) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.LastLogScaleIdeal.Step.b0 j s := by
  unfold Cert.LastLogScaleIdeal.Step.b0
  rfl
set_option maxRecDepth 8192 in
theorem al_1 (h : Holds V0 s j) : (constantI S_ 32 0#32 : (Proc.devRef .tc main_while0b_call4_c_0 : DevRef τ sig).ty.Contents (Elt F)) = Cert.LastLogScaleIdeal.Step.b1 j s := by
  unfold Cert.LastLogScaleIdeal.Step.b1
  rfl
set_option maxRecDepth 8192 in
theorem al_2 (h : Holds V0 s j) : (Host.dynamicSlice S1x12x4 (V0 (Proc.devRef .tc main_v34_0)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x4_S1x12x4 : (Proc.devRef .tc main_while0b_call4_v0 : DevRef τ sig).ty.Contents (Elt F)) = Cert.LastLogScaleIdeal.Step.b2 j s := by
  unfold Cert.LastLogScaleIdeal.Step.b2
  rw [← al_0 h, ← al_1 h, h.f_0, h.n_3]
  try rfl
set_option maxRecDepth 8192 in
theorem al_3 (h : Holds V0 s j) : (shapeCast S12x4 (Host.dynamicSlice S1x12x4 (V0 (Proc.devRef .tc main_v34_0)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x4_S1x12x4) shapeCasts_S1x12x4_S12x4 : (Proc.devRef .tc main_while0b_v35 : DevRef τ sig).ty.Contents (Elt F)) = Cert.LastLogScaleIdeal.Step.b3 j s := by
  unfold Cert.LastLogScaleIdeal.Step.b3
  rw [← al_2 h]
  try rfl
set_option maxRecDepth 8192 in
theorem al_4 (h : Holds V0 s j) : (constantI S_ 32 0#32 : (Proc.devRef .tc main_while0b_call5_c : DevRef τ sig).ty.Contents (Elt F)) = Cert.LastLogScaleIdeal.Step.b4 j s := by
  unfold Cert.LastLogScaleIdeal.Step.b4
  rfl
set_option maxRecDepth 8192 in
theorem al_5 (h : Holds V0 s j) : (constantI S_ 32 0#32 : (Proc.devRef .tc main_while0b_call5_c_0 : DevRef τ sig).ty.Contents (Elt F)) = Cert.LastLogScaleIdeal.Step.b5 j s := by
  unfold Cert.LastLogScaleIdeal.Step.b5
  rfl
set_option maxRecDepth 8192 in
theorem al_6 (h : Holds V0 s j) : (Host.dynamicSlice S1x12x4 (V0 (Proc.devRef .tc main_v34_1)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x4_S1x12x4 : (Proc.devRef .tc main_while0b_call5_v0 : DevRef τ sig).ty.Contents (Elt F)) = Cert.LastLogScaleIdeal.Step.b6 j s := by
  unfold Cert.LastLogScaleIdeal.Step.b6
  rw [← al_4 h, ← al_5 h, h.f_1, h.n_3]
  try rfl
set_option maxRecDepth 8192 in
theorem al_7 (h : Holds V0 s j) : (res_main_while0b_v36 V0 : (Proc.devRef .tc main_while0b_v36 : DevRef τ sig).ty.Contents (Elt F)) = Cert.LastLogScaleIdeal.Step.b7 j s := by
  unfold res_main_while0b_v36 Cert.LastLogScaleIdeal.Step.b7
  rw [← al_6 h]
  try rfl
set_option maxRecDepth 8192 in
theorem al_8 (h : Holds V0 s j) : (constantI S_ 32 0#32 : (Proc.devRef .tc main_while0b_call6_c : DevRef τ sig).ty.Contents (Elt F)) = Cert.LastLogScaleIdeal.Step.b8 j s := by
  unfold Cert.LastLogScaleIdeal.Step.b8
  rfl
set_option maxRecDepth 8192 in
theorem al_9 (h : Holds V0 s j) : (constantI S_ 32 0#32 : (Proc.devRef .tc main_while0b_call6_c_0 : DevRef τ sig).ty.Contents (Elt F)) = Cert.LastLogScaleIdeal.Step.b9 j s := by
  unfold Cert.LastLogScaleIdeal.Step.b9
  rfl
set_option maxRecDepth 8192 in
theorem al_10 (h : Holds V0 s j) : (Host.dynamicSlice S1x12x1 (V0 (Proc.devRef .tc main_v34_2)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x1_S1x12x1 : (Proc.devRef .tc main_while0b_call6_v0 : DevRef τ sig).ty.Contents (Elt F)) = Cert.LastLogScaleIdeal.Step.b10 j s := by
  unfold Cert.LastLogScaleIdeal.Step.b10
  rw [← al_8 h, ← al_9 h, h.f_2, h.n_3]
  try rfl
set_option maxRecDepth 8192 in
theorem al_11 (h : Holds V0 s j) : (shapeCast S12x1 (Host.dynamicSlice S1x12x1 (V0 (Proc.devRef .tc main_v34_2)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x1_S1x12x1) shapeCasts_S1x12x1_S12x1 : (Proc.devRef .tc main_while0b_v37 : DevRef τ sig).ty.Contents (Elt F)) = Cert.LastLogScaleIdeal.Step.b11 j s := by
  unfold Cert.LastLogScaleIdeal.Step.b11
  rw [← al_10 h]
  try rfl
set_option maxRecDepth 8192 in
theorem al_12 (h : Holds V0 s j) : (addf (shapeCast S12x4 (Host.dynamicSlice S1x12x4 (V0 (Proc.devRef .tc main_v34_0)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (V0 (Proc.devRef .tc main_v34_4)) : (Proc.devRef .tc main_while0b_v38 : DevRef τ sig).ty.Contents (Elt F)) = Cert.LastLogScaleIdeal.Step.b12 j s := by
  unfold Cert.LastLogScaleIdeal.Step.b12
  rw [← al_3 h, h.f_4]
  try rfl
set_option maxRecDepth 8192 in
theorem al_13 (h : Holds V0 s j) : (maximumf (addf (shapeCast S12x4 (Host.dynamicSlice S1x12x4 (V0 (Proc.devRef .tc main_v34_0)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (V0 (Proc.devRef .tc main_v34_4))) (res_main_while0b_v36 V0) : (Proc.devRef .tc main_while0b_v39 : DevRef τ sig).ty.Contents (Elt F)) = Cert.LastLogScaleIdeal.Step.b13 j s := by
  unfold Cert.LastLogScaleIdeal.Step.b13
  rw [← al_12 h, ← al_7 h]
  try rfl
set_option maxRecDepth 8192 in
theorem al_14 (h : Holds V0 s j) : (broadcastInDim S12x4 ![0, 1] bcast_S12x1_S12x4_0_1 (shapeCast S12x1 (Host.dynamicSlice S1x12x1 (V0 (Proc.devRef .tc main_v34_2)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x1_S1x12x1) shapeCasts_S1x12x1_S12x1) : (Proc.devRef .tc main_while0b_call7_v0 : DevRef τ sig).ty.Contents (Elt F)) = Cert.LastLogScaleIdeal.Step.b14 j s := by
  unfold Cert.LastLogScaleIdeal.Step.b14
  rw [← al_11 h]
  try rfl
set_option maxRecDepth 8192 in
theorem al_15 (h : Holds V0 s j) : (select (broadcastInDim S12x4 ![0, 1] bcast_S12x1_S12x4_0_1 (shapeCast S12x1 (Host.dynamicSlice S1x12x1 (V0 (Proc.devRef .tc main_v34_2)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x1_S1x12x1) shapeCasts_S1x12x1_S12x1)) (res_main_while0b_v36 V0) (maximumf (addf (shapeCast S12x4 (Host.dynamicSlice S1x12x4 (V0 (Proc.devRef .tc main_v34_0)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (V0 (Proc.devRef .tc main_v34_4))) (res_main_while0b_v36 V0)) : (Proc.devRef .tc main_while0b_v40 : DevRef τ sig).ty.Contents (Elt F)) = Cert.LastLogScaleIdeal.Step.b15 j s := by
  unfold Cert.LastLogScaleIdeal.Step.b15
  rw [← al_14 h, ← al_7 h, ← al_13 h]
  try rfl

/-! One trip's step of the carried values is `step`, field by field; a counter steps to the next number. -/

theorem step_4 (h : Holds V0 s j) : step_main_v34_4 V0 = (step j s).main_v34_4 := by
  unfold step_main_v34_4 Cert.LastLogScaleIdeal.Step.step
  show id (select (broadcastInDim S12x4 ![0, 1] bcast_S12x1_S12x4_0_1 (shapeCast S12x1 (Host.dynamicSlice S1x12x1 (V0 (Proc.devRef .tc main_v34_2)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x1_S1x12x1) shapeCasts_S1x12x1_S12x1)) (res_main_while0b_v36 V0) (maximumf (addf (shapeCast S12x4 (Host.dynamicSlice S1x12x4 (V0 (Proc.devRef .tc main_v34_0)) (fun k => (((![V0 (Proc.devRef .tc main_v34_3), constantI S_ 32 0#32, constantI S_ 32 0#32] : Fin 3 → (⟨S_, .i32⟩ : BufTy).Contents (Elt F))) k (Shape.Idx.first h_S_)).toInt) sliceFits_S32x12x4_S1x12x4) shapeCasts_S1x12x4_S12x4) (V0 (Proc.devRef .tc main_v34_4))) (res_main_while0b_v36 V0))) = _
  rw [al_15 h]
  try rfl
theorem step_3 (h : Holds V0 s j) : step_main_v34_3 V0 = constantI S_ 32 (BitVec.ofNat 32 (j + 1)) := by
  unfold step_main_v34_3
  rw [h.n_3]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_4 := (STEP_main_v34_4 V0).trans (step_4 h)
  n_3 := (STEP_main_v34_3 V0).trans (step_3 h)
  f_0 := (STEP_main_v34_0 V0).trans h.f_0
  f_1 := (STEP_main_v34_1 V0).trans h.f_1
  f_2 := (STEP_main_v34_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor
  · simp only [entryContents, afterL_cons, afterL_nil]; after_reads_simp; rfl
  · simp only [entryContents, afterL_cons, afterL_nil]; after_reads_simp
    unfold initState init; dsimp only
    simp only [StableHlo.TRef.ofBuf, StableHlo.TRef.toBuf, id, cast_eq]
    try rfl
  · simp only [entryContents, afterL_cons, afterL_nil]; after_reads_simp
    unfold initState init; dsimp only
    simp only [StableHlo.TRef.ofBuf, StableHlo.TRef.toBuf, id, cast_eq]
    try rfl
  · simp only [entryContents, afterL_cons, afterL_nil]; after_reads_simp
    unfold initState init; dsimp only
    simp only [StableHlo.TRef.ofBuf, StableHlo.TRef.toBuf, id, cast_eq]
    try rfl
  · simp only [entryContents, afterL_cons, afterL_nil]; after_reads_simp; rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `LastLogScaleIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v34_4) = (it c 32).main_v34_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 32
    ⟨(h c).1.trans hk.f_4, (h c).2.1, (h c).2.2.1, (h c).2.2.2⟩) (Value.run m ρ)

end Cert.LastLogScaleIdeal.Iter

end
-- ==== Proof.GateRef.lean ====
/-
  The reference's log scale after the last chunk, as the gate specification (GateSpec.lean) names it.
-/
module

public import proofs.«01_k».proof.Proof.Gen.LastLogScaleIdeal.Step
public import proofs.«01_k».proof.Proof.GateRefRun
public import proofs.«01_k».proof.Proof.GateSpec
public import Idealize.ShloMosaic.Lib.Pointwise
public import Idealize.ShloMosaic.Lib.DynamicIndex
public import Idealize.ShloMosaic.Lib.Pipeline.Value

@[expose] public section

set_option maxRecDepth 16384

noncomputable section

namespace Cert.LastLogScaleIdeal.Val

open Idealize.ShloMosaic Idealize.ShloMosaic.TcCoe Cert.LastLogScaleIdeal Cert.LastLogScaleIdeal.Gen Cert.LastLogScaleIdeal.Step
open Cert.Gate (tok before logSigmoid cum gain scale)
open scoped Classical

variable (a0 a1 : (⟨S12x4x2048, .f32⟩ : BufTy).Contents (Elt Ideal)) (a2 : (⟨S12x2048, .i32⟩ : BufTy).Contents (Elt Ideal))
  (i : Fin 32) (b : Fin 12) (h : Fin 4)

theorem low_word : Ideal.ofBits FTy.f32 4286578688#32 = ⊥ := by
  simp [Ideal.ofBits, Ideal.ieee]

theorem sel_cmp {α : Type} (p : Prop) [Decidable p] (x y : α) : Scalar.select (BitVec.ofBool (decide p)) x y = if p then x else y := by
  by_cases h : p <;> simp [h, Scalar.select]

theorem sel_eq {α : Type} (u v : BitVec 32) (x y : α) : Scalar.select (IntOp.cmpi .eq u v) x y = if u = v then x else y := by
  rw [← sel_cmp (u = v) x y]
  rfl

theorem sel_sge {α : Type} (s t : Fin 64) (x y : α) :
    Scalar.select (IntOp.cmpi .sge (BitVec.ofNat 32 t.val) (BitVec.ofNat 32 s.val)) x y = if s ≤ t then x else y := by
  have e : IntOp.cmpi .sge (BitVec.ofNat 32 t.val) (BitVec.ofNat 32 s.val) = BitVec.ofBool (decide (s ≤ t)) := by
    revert s t
    decide +kernel
  rw [e, sel_cmp]

theorem fold_ori (f : Fin 64 → BitVec 1) : Finset.univ.fold IntOp.ori 0#1 f = 1#1 ↔ ∃ x, f x = 1#1 := by
  have e : ∀ s : Finset (Fin 64), s.fold IntOp.ori 0#1 f = 1#1 ↔ ∃ x ∈ s, f x = 1#1 := fun s => by
    induction s using Finset.induction_on with
    | empty => simp
    | insert a s ha ih =>
      have o : ∀ u v : BitVec 1, IntOp.ori u v = 1#1 ↔ u = 1#1 ∨ v = 1#1 := by decide
      rw [Finset.fold_insert ha, o, ih]
      simp
  simpa using e Finset.univ

theorem logf (f : EReal) : -(if -f ≠ -f then -f else max (-f) 0 + Ideal.log1p (Ideal.exp (-FloatOps.absf (F := Ideal) (φ := .f32) (-f)))) = logSigmoid f := by
  rw [if_neg (fun h => h rfl)]
  unfold logSigmoid
  rw [Ideal.absf_def, Ideal.absf_def, neg_neg, max_comm (-f) f]

theorem zero_word : id (constant (F := Ideal) S_ .f32 0#32) ix0 = (0 : EReal) := by
  show Ideal.ofBits .f32 0#32 = 0
  simp [Ideal.ofBits, Ideal.ieee]

/-- The running sum of the log of the forget gates. -/
theorem csum (f : Fin 64 → EReal) (t : Fin 64) :
    (∑ x : Fin 64, Scalar.select (IntOp.cmpi .sge (BitVec.ofNat 32 t.val) (BitVec.ofNat 32 x.val))
      (-(if -f x ≠ -f x then -f x else max (-f x) 0 + Ideal.log1p (Ideal.exp (-FloatOps.absf (F := Ideal) (φ := .f32) (-f x)))))
      (id (constant (F := Ideal) S_ .f32 0#32) ix0)) = cum (fun x => logSigmoid (f x)) t :=
  Finset.sum_congr rfl fun x _ => (sel_sge x t _ _).trans (if_congr Iff.rfl (logf _) zero_word)

theorem init_bl : (init a0 a1 a2).main_v34_0 (ix3 i b h) = cum (fun x => logSigmoid (a1 (ix3 b h (tok i x)))) 63 := by
  simp only [init, K_main_call0_cst, K_main_call0_v0, K_main_call0_v2, K_main_call0_v5, K_main_v5, K_main_v6, K_main_v7, K_main_cst, K_main_call1_v0, K_main_call1_v1, K_main_call1_v3, K_main_cst_0, K_main_c, K_main_call2_v0, K_main_c_1, K_main_cst_2, K_main_call3_v0, K_main_call3_v2, K_main_cst_3, K_main_cst_4, K_main_v29, K_main_c_5, A_main_v0, A_main_v1, A_main_call0_v1, A_main_call0_v3, A_main_call0_v4, A_main_call0_v6, A_main_call0_v7, A_main_call0_v8, A_main_call0_v9, A_main_call0_v10, A_main_call0_v11, A_main_v2, A_main_v3, A_main_v4, A_main_v8, A_main_call1_v2, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_call3_v1, A_main_v27, A_main_v28, A_main_v30, A_main_v31, A_main_v32, A_main_v33]
  pointwise
  exact csum (fun x => a1 (ix3 b h (tok i x))) 63

theorem init_gain : (init a0 a1 a2).main_v34_1 (ix3 i b h)
    = gain (fun x => logSigmoid (a1 (ix3 b h (tok i x)))) (fun x => a0 (ix3 b h (tok i x))) fun x => a2 (ix2 b (tok i x)) := by
  simp only [init, K_main_call0_cst, K_main_call0_v0, K_main_call0_v2, K_main_call0_v5, K_main_v5, K_main_v6, K_main_v7, K_main_cst, K_main_call1_v0, K_main_call1_v1, K_main_call1_v3, K_main_cst_0, K_main_c, K_main_call2_v0, K_main_c_1, K_main_cst_2, K_main_call3_v0, K_main_call3_v2, K_main_cst_3, K_main_cst_4, K_main_v29, K_main_c_5, A_main_v0, A_main_v1, A_main_call0_v1, A_main_call0_v3, A_main_call0_v4, A_main_call0_v6, A_main_call0_v7, A_main_call0_v8, A_main_call0_v9, A_main_call0_v10, A_main_call0_v11, A_main_v2, A_main_v3, A_main_v4, A_main_v8, A_main_call1_v2, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_call3_v1, A_main_v27, A_main_v28, A_main_v30, A_main_v31, A_main_v32, A_main_v33]
  pointwise
  refine (congrArg (fun z => Finset.univ.fold max z _) low_word).trans (Finset.sup_congr rfl fun x _ => ?_)
  exact (sel_eq _ _ _ _).trans (if_congr Iff.rfl (congrArg₂ (· + ·) (congrArg₂ (· - ·)
    (csum (fun x => a1 (ix3 b h (tok i x))) 63) (csum (fun x => a1 (ix3 b h (tok i x))) x)) rfl) low_word)

theorem ne_word (u v : BitVec 32) : IntOp.cmpi .ne u v = 1#1 ↔ u ≠ v := by
  show BitVec.ofBool (u != v) = 1#1 ↔ _
  cases q : (u != v) <;> simp_all

theorem prev_eq (d : Fin 2048 → BitVec 32) (t : Fin 2048) (z : BitVec 32) (hz : z = 4294967295#32) :
    (if h : 1 ≤ t.val ∧ t.val - 1 < 2047 then d ⟨t.val - 1, by omega⟩ else z) = before d t := by
  unfold before
  by_cases q : t.val = 0
  · rw [if_pos q, dif_neg (by omega), hz]
  · rw [if_neg q, dif_pos (by omega)]

theorem init_start : (init a0 a1 a2).main_v34_2 (ix3 i b 0) = 1#1 ↔ ∃ x, a2 (ix2 b (tok i x)) ≠ before (fun t => a2 (ix2 b t)) (tok i x) := by
  simp only [init, K_main_call0_cst, K_main_call0_v0, K_main_call0_v2, K_main_call0_v5, K_main_v5, K_main_v6, K_main_v7, K_main_cst, K_main_call1_v0, K_main_call1_v1, K_main_call1_v3, K_main_cst_0, K_main_c, K_main_call2_v0, K_main_c_1, K_main_cst_2, K_main_call3_v0, K_main_call3_v2, K_main_cst_3, K_main_cst_4, K_main_v29, K_main_c_5, A_main_v0, A_main_v1, A_main_call0_v1, A_main_call0_v3, A_main_call0_v4, A_main_call0_v6, A_main_call0_v7, A_main_call0_v8, A_main_call0_v9, A_main_call0_v10, A_main_call0_v11, A_main_v2, A_main_v3, A_main_v4, A_main_v8, A_main_call1_v2, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_call3_v1, A_main_v27, A_main_v28, A_main_v30, A_main_v31, A_main_v32, A_main_v33]
  pointwise
  refine (fold_ori _).trans (exists_congr fun x => ?_)
  exact (ne_word _ _).trans (not_congr (Eq.congr rfl (prev_eq (fun t => a2 (ix2 b t)) (tok i x) _ rfl)))

/-- One trip. -/
theorem step_at (n : ℕ) (hn : n < 32) (s : State Ideal) : (step n s).main_v34_4 (ix2 b h)
    = if s.main_v34_2 (ix3 ⟨n, hn⟩ b 0) = 1#1 then s.main_v34_1 (ix3 ⟨n, hn⟩ b h)
      else max (s.main_v34_0 (ix3 ⟨n, hn⟩ b h) + s.main_v34_4 (ix2 b h)) (s.main_v34_1 (ix3 ⟨n, hn⟩ b h)) := by
  rw [step_main_v34_4]
  have st : ∀ k : Fin 3, (((![(constantI S_ 32 (BitVec.ofNat 32 n) : (⟨S_, .i32⟩ : BufTy).Contents (Elt Ideal)), constantI S_ 32 0#32, constantI S_ 32 0#32] : Fin 3 → (⟨S_, .i32⟩ : BufTy).Contents (Elt Ideal))) k (Shape.Idx.first h_S_)).toInt
      = ((![n, 0, 0] : Fin 3 → ℕ) k : ℤ) := fun k => by
    fin_cases k
    · exact toInt_ofNat_of_lt (by omega)
    · rfl
    · rfl
  have s1 : S32x12x4.Slices ![n, 0, 0] S1x12x4 := ⟨rfl, fun a => by fin_cases a <;> simp <;> omega⟩
  have s2 : S32x12x1.Slices ![n, 0, 0] S1x12x1 := ⟨rfl, fun a => by fin_cases a <;> simp <;> omega⟩
  unfold b15 b14 b13 b12 b11 b7 b3 b10 b6 b2 b0 b1 b4 b5 b8 b9
  rw [Host.dynamicSlice_eq_extractStridedSlice S1x12x4 _ _ ![n, 0, 0] _ s1 st, Host.dynamicSlice_eq_extractStridedSlice S1x12x4 _ _ ![n, 0, 0] _ s1 st,
    Host.dynamicSlice_eq_extractStridedSlice S1x12x1 _ _ ![n, 0, 0] _ s2 st]
  pointwise
  rfl

/-- The states of the loop. -/
def iter : ℕ → State Ideal
  | 0 => init a0 a1 a2
  | n + 1 => step n (iter n)

theorem iter_const (n : ℕ) : (iter a0 a1 a2 n).main_v34_0 = (init a0 a1 a2).main_v34_0 ∧ (iter a0 a1 a2 n).main_v34_1 = (init a0 a1 a2).main_v34_1
    ∧ (iter a0 a1 a2 n).main_v34_2 = (init a0 a1 a2).main_v34_2 := by
  induction n with
  | zero => exact ⟨rfl, rfl, rfl⟩
  | succ n ih => exact ih

theorem iter_at (n : ℕ) (hn : n ≤ 32) : (iter a0 a1 a2 n).main_v34_4 (ix2 b h)
    = scale (fun i => ∃ x, a2 (ix2 b (tok i x)) ≠ before (fun t => a2 (ix2 b t)) (tok i x)) (fun i => cum (fun x => logSigmoid (a1 (ix3 b h (tok i x)))) 63)
      (fun i => gain (fun x => logSigmoid (a1 (ix3 b h (tok i x)))) (fun x => a0 (ix3 b h (tok i x))) fun x => a2 (ix2 b (tok i x))) n hn := by
  induction n with
  | zero => exact zero_word
  | succ n ih =>
    obtain ⟨e0, e1, e2⟩ := iter_const a0 a1 a2 n
    refine (step_at b h n hn _).trans ?_
    rw [e0, e1, e2, ih (by omega), init_bl, init_gain]
    rw [Cert.Gate.scale_succ]
    by_cases q : (init a0 a1 a2).main_v34_2 (ix3 ⟨n, hn⟩ b 0) = 1#1
    · rw [if_pos q, if_pos ((init_start a0 a1 a2 ⟨n, hn⟩ b).1 q)]
    · rw [if_neg q, if_neg fun c => q ((init_start a0 a1 a2 ⟨n, hn⟩ b).2 c)]

/-- The reference's result. -/
theorem last_at : (iter a0 a1 a2 32).main_v34_4 (ix2 b h)
    = Cert.Gate.last (fun t => a0 (ix3 b h t)) (fun t => a1 (ix3 b h t)) fun t => a2 (ix2 b t) :=
  iter_at a0 a1 a2 b h 32 le_rfl

end Cert.LastLogScaleIdeal.Val

end
-- ==== Proof.GateFrame.lean ====
/-
  The frame of the gate stage: it runs without fault, leaves its arguments and its semaphores end at zero. What the body leaves in
  its output is not named here: the ideal stage, for which it is, has its own run (GateRun.lean).
-/
module

public import proofs.«01_k».proof.Proof.Gen.Gates.Skeleton
public import proofs.«01_k».proof.Proof.Gen.Gates.Frame
public import Idealize.ShloMosaic.Lib.Claim

@[expose] public section

set_option maxRecDepth 16384

noncomputable section

namespace Cert.Gates.Keep

open Cert.Gates Cert.Gates.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, on whole buffers, the output's at anything: it hands back the inputs' as they were. -/
theorem body_kept (c : Dev nD) (i : grid0.Coords) (arg1 : Memref sig .tc .vmem S12x4x2048 .f32) (harg1 : arg1.IsWhole) (arg2 : Memref sig .tc .vmem S12x4x2048 .f32) (harg2 : arg2.IsWhole)
    (arg3 : Memref sig .tc .vmem S12x2048 .i32) (harg3 : arg3.IsWhole) (arg4 : Memref sig .tc .vmem S12x4 .f32) (harg4 : arg4.IsWhole)
    (x0 x1 : Vec F S12x4x2048 .f32) (x2 : Vec F S12x2048 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d)) -∗ K ⟨⟩))
          ⊢ wp frame (wpE (defs₀ (F := F)) Variants.none c none) E (cc0_mlstm_chunkwise i arg1 harg1 arg2 harg2 arg3 harg3 arg4 harg4) K := by
  intro E K
  simp only [cc0_mlstm_chunkwise_eq_skeleton]; unfold cc0_mlstm_chunkwise_skel
  by_cases hi : k0_cond1 i = 1#1
  · simp only [dif_pos hi]
    simp only [k0_part1_eq_skeleton, k0_part2_eq_skeleton, k0_part3_eq_skeleton, k0_part4_eq_skeleton, k0_part5_eq_skeleton, k0_part6_eq_skeleton, k0_part7_eq_skeleton,
      k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    iexists _, _; isplitr; swap; · iexact H3
    ipureintro; rfl
  · simp only [dif_neg hi]
    iintro ⟨H0, H1, H2, H3, Hk⟩
    sl_exec
    sl_step
    iapply Hk
    isplitl [H0]; · iexact H0
    isplitl [H1]; · iexact H1
    isplitl [H2]; · iexact H2
    iexact H3

/-! ## The pipeline's proof data -/

variable (m : (ℓ : Loc nD τ sig) → Buf (Elt F) ℓ) (ρ : Dev nD → PrngReg)

/-- The output's window, of which nothing is named. -/
def forgets0 : Fin 4 → Bool := fun w => w.val == 3

/-- The proof data: each input's buffer at its block, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2]
  iintro ⟨HS, Ho, ⟨%d0, H0⟩, ⟨%d1, H1⟩, ⟨%d2, H2⟩, ⟨%d3, H3⟩⟩
  iapply (body_kept c (grid0.coords t) _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, H3⟩
  isplitl [HS]; · iexact HS
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run ends quiescent, its arguments kept. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c))⟩, h.2⟩) (run_main_quiescent m ρ)

end Cert.Gates.Keep

end
-- ==== Proof.GateClaim.lean ====
/-
  The gate stage's result is its reference's, where documents are in order.
-/
module

public import proofs.«01_k».proof.Defs
public import proofs.«01_k».proof.Proof.GateVal
public import proofs.«01_k».proof.Proof.GateRef
public import proofs.«01_k».proof.Proof.GateFrame
public import proofs.«01_k».proof.Proof.Gen.Pre_in_order
public import Idealize.ShloMosaic.Lib.ReduceAll
public import Idealize.ShloMosaic.Adequacy
public import Idealize.ShloMosaic.Init

@[expose] public section

set_option maxRecDepth 16384

noncomputable section

namespace Cert.GateClaim

open Idealize.ShloMosaic Idealize.SL.Sem

attribute [local instance] Cert.Pre_in_order.Gen.facts

/-- A signed comparison that holds. -/
theorem le_of_cmpi {x y : BitVec 32} (h : IntOp.cmpi CmpIPredicate.sge x y = 1#1) : y.toInt ≤ x.toInt := by
  by_contra hn
  have : IntOp.cmpi CmpIPredicate.sge x y = 0#1 := by
    show BitVec.ofBool (y.sle x) = 0#1
    rw [show y.sle x = false from decide_eq_false hn]; rfl
  rw [this] at h
  exact absurd h (by decide)

/-- Under `in_order` the documents of a batch row do not go down within a chunk. -/
theorem ordered_of_pre (a0 a1 : FVec Ideal Cert.Pre_in_order.S12x4x2048 .f32) (a2 : IVec Cert.Pre_in_order.S12x2048 32)
    (hp : Cert.Pre_in_order.fn (F := Ideal) a0 a1 a2 = (fun _ => 1#1)) (b : Fin 12) : Cert.GatesIdeal.Val.Ordered a2 b := by
  intro i s t ht
  have hsub : Subsingleton Cert.Pre_in_order.S_.Idx := ⟨fun a b => funext fun k => k.elim0⟩
  have e := congrFun hp (Shape.Idx.first Cert.Pre_in_order.Facts.h_S_)
  dsimp only [Cert.Pre_in_order.fn] at e
  have hs : (Cert.Gate.tok i s).val = i.val * 64 + s.val := rfl
  have htt : (Cert.Gate.tok i t).val = i.val * 64 + t.val := rfl
  have h1 := Host.reduce_andi_all _ _ _ _ _ e (ix2 b (⟨(Cert.Gate.tok i s).val, by omega⟩ : Fin 2047))
  have h2 := le_of_cmpi h1
  rw [extractStridedSlice_apply (k := ix2 b (Cert.Gate.tok i s)) (hk := fun a => ?_),
    extractStridedSlice_apply (k := ix2 b (Cert.Gate.tok i t)) (hk := fun a => ?_)] at h2
  · exact h2
  · match a with
    | ⟨0, _⟩ => show b.val = 0 + b.val; omega
    | ⟨1, _⟩ => show (Cert.Gate.tok i t).val = 1 + (Cert.Gate.tok i s).val; omega
  · match a with
    | ⟨0, _⟩ => show b.val = 0 + b.val; omega
    | ⟨1, _⟩ => show (Cert.Gate.tok i s).val = 0 + (Cert.Gate.tok i s).val; omega

/-- The gate stage runs without fault, leaves its arguments, and its semaphores end at zero. -/
theorem frame_gates : @Cert.quiescent_Gates Cert.Gates.Gen.facts := fun m ρ _ => Cert.Gates.Keep.frame m ρ

/-- So does the ideal gate stage. -/
theorem frame_ideal : @Cert.quiescent_GatesIdeal Cert.GatesIdeal.Gen.facts := fun m ρ _ => Cert.GatesIdeal.Val.frame m ρ

/-- The reference runs without fault and leaves its arguments; it declares no semaphore. -/
theorem frame_reference : @Cert.quiescent_LastLogScaleIdeal Cert.LastLogScaleIdeal.Gen.facts := fun m ρ _ =>
  (θ_run Cert.LastLogScaleIdeal.defs _ _).mono (fun r h => ⟨fun c => (h c).2,
      Idealize.ShloMosaic.sem_eq_zero_of_no_sems (by decide) r.2⟩)
    (Cert.LastLogScaleIdeal.Value.run (F := Ideal) m ρ)

/-- The gate stage's result and its reference's, of the same arguments in order. -/
theorem result_eq (x f : FVec Ideal Cert.Pre_in_order.S12x4x2048 .f32) (d : IVec Cert.Pre_in_order.S12x2048 32)
    (hp : Cert.Pre_in_order.fn (F := Ideal) x f d = (fun _ => 1#1)) :
    (Cert.LastLogScaleIdeal.Val.iter x f d 32).main_v34_4
      = Cert.GatesIdeal.Val.scales (Cert.GatesIdeal.Val.stage (Cert.GatesIdeal.Val.slab x) (Cert.GatesIdeal.Val.slab f) d) := by
  funext j
  rw [show j = ix2 (j 0) (j 1) from funext fun a => match a with | ⟨0, _⟩ => rfl | ⟨1, _⟩ => rfl]
  exact (Cert.LastLogScaleIdeal.Val.last_at x f d (j 0) (j 1)).trans
    (Cert.GatesIdeal.Val.stage_at x f d (j 0) (j 1) (ordered_of_pre x f d hp (j 0))).symm

/-- Under `in_order` the gate stage's result is its reference's. -/
theorem value : @Cert.algebraic_GatesIdeal_LastLogScaleIdeal_pre_in_order Cert.GatesIdeal.Gen.facts Cert.LastLogScaleIdeal.Gen.facts
    Cert.Pre_in_order.Gen.facts := fun m ρ m' ρ' hp hs =>
  ⟨fun c => Cert.GatesIdeal.Val.result m c, Cert.GatesIdeal.Val.value_run m ρ,
    (θ_run Cert.LastLogScaleIdeal.defs _ _).mono
      (fun r h c => ⟨(h c).1.trans (by
        rw [(hs c).1, (hs c).2.1, (hs c).2.2]
        exact (result_eq _ _ _ (hp c)).trans (Cert.GatesIdeal.Val.result_eq m c).symm), (h c).2⟩)
      (Cert.LastLogScaleIdeal.Iter.run_iter m' ρ' (fun c => Cert.LastLogScaleIdeal.Val.iter
        (m' ((c.tc : Thread Cert.LastLogScaleIdeal.nD Cert.LastLogScaleIdeal.τ).loc Cert.LastLogScaleIdeal.main_arg0))
        (m' ((c.tc : Thread Cert.LastLogScaleIdeal.nD Cert.LastLogScaleIdeal.τ).loc Cert.LastLogScaleIdeal.main_arg1))
        (m' ((c.tc : Thread Cert.LastLogScaleIdeal.nD Cert.LastLogScaleIdeal.τ).loc Cert.LastLogScaleIdeal.main_arg2)))
        (fun _ => rfl) (fun _ _ => rfl))⟩

end Cert.GateClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KerFrame
public import proofs.«01_k».proof.Proof.Gen.LastLogScaleIdeal
public import proofs.«01_k».proof.Proof.Gen.Pre_in_order
public import proofs.«01_k».proof.Proof.Gen.GatesIdeal.Frame
public import proofs.«01_k».proof.Proof.Gen.GatesIdeal.Points
public import proofs.«01_k».proof.Proof.Gen.GatesIdeal.Launch
public import proofs.«01_k».proof.Proof.Gen.GatesIdeal.Skeleton
public import proofs.«01_k».proof.Proof.Gen.GatesIdeal
public import proofs.«01_k».proof.Proof.Gen.Gates.Frame
public import proofs.«01_k».proof.Proof.Gen.Gates.Points
public import proofs.«01_k».proof.Proof.Gen.Gates.Launch
public import proofs.«01_k».proof.Proof.Gen.Gates.Skeleton
public import proofs.«01_k».proof.Proof.Gen.Gates
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Value
public import proofs.«01_k».proof.Proof.GateClaim
public import Idealize.ShloMosaic.Adequacy
public import Idealize.ShloMosaic.Init

@[expose] public section

noncomputable section

namespace Cert.Proof

open Idealize.ShloMosaic Idealize.SL.Sem Cert.Kernel

attribute [local instance] Cert.Pre_finite.Gen.facts

/-- The ideal kernel runs without fault, leaves its arguments, and its semaphores end at zero. -/
theorem frame_ideal : @Cert.quiescent_KernelIdeal Cert.KernelIdeal.Gen.facts := fun m ρ _ =>
  (θ_run Cert.KernelIdeal.defs _ _).mono (fun _ h => ⟨fun c => (h.1 c).2.2.2, h.2⟩)
    (Idealize.ShloMosaic.θ_run_and (Cert.KernelIdeal.Val.run_blocks (F := Ideal) m ρ)
      ((θ_run Cert.KernelIdeal.defs _ _).mono (fun _ h => h.2) (Cert.KernelIdeal.Val.run_main_quiescent m ρ)))

/-- The reference runs without fault and leaves its arguments; it declares no semaphore. -/
theorem frame_reference : @Cert.quiescent_ReferenceIdeal Cert.ReferenceIdeal.Gen.facts := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Under `finite` the kernel's results are the reference's. -/
theorem value : @Cert.algebraic_KernelIdeal_ReferenceIdeal_pre_finite Cert.KernelIdeal.Gen.facts Cert.ReferenceIdeal.Gen.facts
    Cert.Pre_finite.Gen.facts := fun m ρ m' ρ' hp hs =>
  ⟨fun c => (Cert.KernelIdeal.Val.dats m 0 c).arrAt 6 Cert.KernelIdeal.cfg0.N, fun c => (Cert.KernelIdeal.Val.dats m 0 c).arrAt 7 Cert.KernelIdeal.cfg0.N,
    fun c => (Cert.KernelIdeal.Val.dats m 0 c).arrAt 8 Cert.KernelIdeal.cfg0.N,
    Cert.KernelIdeal.Val.run_blocks m ρ,
    (θ_run Cert.ReferenceIdeal.defs _ _).mono
      (fun r h c => ⟨(h c).1.trans (Cert.Value.h_eq m m' c hp (hs c) _ rfl), (h c).2.1.trans (Cert.Value.C_eq m m' c (hs c) _ rfl),
        (h c).2.2.1.trans (Cert.Value.N_eq m m' c (hs c) _ rfl), (h c).2.2.2⟩)
      (Cert.ReferenceIdeal.Iter.run_iter m' ρ' (Cert.Value.states m') (fun _ => rfl) (fun _ _ => rfl))⟩

theorem claim : Cert.Claim :=
  ⟨Cert.Kernel.Gen.facts, Cert.KernelIdeal.Gen.facts, Cert.ReferenceIdeal.Gen.facts, Cert.Gates.Gen.facts, Cert.GatesIdeal.Gen.facts,
    Cert.LastLogScaleIdeal.Gen.facts, Cert.Pre_finite.Gen.facts, Cert.Pre_in_order.Gen.facts,
    fun m ρ _ => Cert.Kernel.Keep.frame m ρ, frame_ideal, fun m ρ _ => frame_ideal m ρ trivial,
    frame_reference, fun m ρ _ => frame_reference m ρ trivial,
    Cert.GateClaim.frame_gates, Cert.GateClaim.frame_ideal, fun m ρ _ => Cert.GateClaim.frame_ideal m ρ trivial,
    Cert.GateClaim.frame_reference, fun m ρ _ => Cert.GateClaim.frame_reference m ρ trivial,
    IdealRules.named_const.statement Cert.KernelIdeal.κ "log2e" .f32 0x3FB8AA3B#32 _ rfl, value, trivial, Cert.GateClaim.value⟩

end Cert.Proof

end
